-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v150_0)) (v1 : (c : Dev Cert.KernelIdeal.nD) → Buf (Elt Ideal) ((c.tc : Thread Cert.KernelIdeal.nD Cert.KernelIdeal.τ).loc Cert.KernelIdeal.main_v150_1)) (v2 : (c : Dev Cert.KernelIdeal.nD) → Buf (Elt Ideal) ((c.tc : Thread Cert.KernelIdeal.nD Cert.KernelIdeal.τ).loc Cert.KernelIdeal.main_v150_2)) (v3 : (c : Dev Cert.KernelIdeal.nD) → Buf (Elt Ideal) ((c.tc : Thread Cert.KernelIdeal.nD Cert.KernelIdeal.τ).loc Cert.KernelIdeal.main_v150_3)) (v4 : (c : Dev Cert.KernelIdeal.nD) → Buf (Elt Ideal) ((c.tc : Thread Cert.KernelIdeal.nD Cert.KernelIdeal.τ).loc Cert.KernelIdeal.main_v150_4)) (v5 : (c : Dev Cert.KernelIdeal.nD) → Buf (Elt Ideal) ((c.tc : Thread Cert.KernelIdeal.nD Cert.KernelIdeal.τ).loc Cert.KernelIdeal.main_v150_5)) (v6 : (c : Dev Cert.KernelIdeal.nD) → Buf (Elt Ideal) ((c.tc : Thread Cert.KernelIdeal.nD Cert.KernelIdeal.τ).loc Cert.KernelIdeal.main_v150_6)) (v7 : (c : Dev Cert.KernelIdeal.nD) → Buf (Elt Ideal) ((c.tc : Thread Cert.KernelIdeal.nD Cert.KernelIdeal.τ).loc Cert.KernelIdeal.main_v150_7)) (v8 : (c : Dev Cert.KernelIdeal.nD) → Buf (Elt Ideal) ((c.tc : Thread Cert.KernelIdeal.nD Cert.KernelIdeal.τ).loc Cert.KernelIdeal.main_v150_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150_0) = v0 c
          ∧ r.2.mem ((c.tc : Thread Cert.KernelIdeal.nD Cert.KernelIdeal.τ).loc Cert.KernelIdeal.main_v150_1) = v1 c
          ∧ r.2.mem ((c.tc : Thread Cert.KernelIdeal.nD Cert.KernelIdeal.τ).loc Cert.KernelIdeal.main_v150_2) = v2 c
          ∧ r.2.mem ((c.tc : Thread Cert.KernelIdeal.nD Cert.KernelIdeal.τ).loc Cert.KernelIdeal.main_v150_3) = v3 c
          ∧ r.2.mem ((c.tc : Thread Cert.KernelIdeal.nD Cert.KernelIdeal.τ).loc Cert.KernelIdeal.main_v150_4) = v4 c
          ∧ r.2.mem ((c.tc : Thread Cert.KernelIdeal.nD Cert.KernelIdeal.τ).loc Cert.KernelIdeal.main_v150_5) = v5 c
          ∧ r.2.mem ((c.tc : Thread Cert.KernelIdeal.nD Cert.KernelIdeal.τ).loc Cert.KernelIdeal.main_v150_6) = v6 c
          ∧ r.2.mem ((c.tc : Thread Cert.KernelIdeal.nD Cert.KernelIdeal.τ).loc Cert.KernelIdeal.main_v150_7) = v7 c
          ∧ r.2.mem ((c.tc : Thread Cert.KernelIdeal.nD Cert.KernelIdeal.τ).loc Cert.KernelIdeal.main_v150_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_v310) = v1 c
          ∧ r.2.mem ((c.tc : Thread Cert.ReferenceIdeal.nD Cert.ReferenceIdeal.τ).loc Cert.ReferenceIdeal.main_v311) = v2 c
          ∧ r.2.mem ((c.tc : Thread Cert.ReferenceIdeal.nD Cert.ReferenceIdeal.τ).loc Cert.ReferenceIdeal.main_v312) = v3 c
          ∧ r.2.mem ((c.tc : Thread Cert.ReferenceIdeal.nD Cert.ReferenceIdeal.τ).loc Cert.ReferenceIdeal.main_v184) = v4 c
          ∧ r.2.mem ((c.tc : Thread Cert.ReferenceIdeal.nD Cert.ReferenceIdeal.τ).loc Cert.ReferenceIdeal.main_v181) = v5 c
          ∧ r.2.mem ((c.tc : Thread Cert.ReferenceIdeal.nD Cert.ReferenceIdeal.τ).loc Cert.ReferenceIdeal.main_v314) = v6 c
          ∧ r.2.mem ((c.tc : Thread Cert.ReferenceIdeal.nD Cert.ReferenceIdeal.τ).loc Cert.ReferenceIdeal.main_v316) = v7 c
          ∧ r.2.mem ((c.tc : Thread Cert.ReferenceIdeal.nD Cert.ReferenceIdeal.τ).loc Cert.ReferenceIdeal.main_v317) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)) (v6 : (c : Dev Cert.Kernel2Ideal.nD) → Buf (Elt Ideal) ((c.tc : Thread Cert.Kernel2Ideal.nD Cert.Kernel2Ideal.τ).loc Cert.Kernel2Ideal.main_v8_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_v8_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v125) = v0 c
          ∧ r.2.mem ((c.tc : Thread Cert.Reference2Ideal.nD Cert.Reference2Ideal.τ).loc Cert.Reference2Ideal.main_v126) = v1 c
          ∧ r.2.mem ((c.tc : Thread Cert.Reference2Ideal.nD Cert.Reference2Ideal.τ).loc Cert.Reference2Ideal.main_v127) = v2 c
          ∧ r.2.mem ((c.tc : Thread Cert.Reference2Ideal.nD Cert.Reference2Ideal.τ).loc Cert.Reference2Ideal.main_v130) = v3 c
          ∧ r.2.mem ((c.tc : Thread Cert.Reference2Ideal.nD Cert.Reference2Ideal.τ).loc Cert.Reference2Ideal.main_v133) = v4 c
          ∧ r.2.mem ((c.tc : Thread Cert.Reference2Ideal.nD Cert.Reference2Ideal.τ).loc Cert.Reference2Ideal.main_v136) = v5 c
          ∧ r.2.mem ((c.tc : Thread Cert.Reference2Ideal.nD Cert.Reference2Ideal.τ).loc Cert.Reference2Ideal.main_v124) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S2048x1024 : Shape := ⟨2, ![2048, 1024]⟩
abbrev S6x1024 : Shape := ⟨2, ![6, 1024]⟩
abbrev S1x1024 : Shape := ⟨2, ![1, 1024]⟩
abbrev S1024x1536 : Shape := ⟨2, ![1024, 1536]⟩
abbrev S31x512 : Shape := ⟨2, ![31, 512]⟩
abbrev S1x512 : Shape := ⟨2, ![1, 512]⟩
abbrev S512x512 : Shape := ⟨2, ![512, 512]⟩
abbrev S4x128x128 : Shape := ⟨3, ![4, 128, 128]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S31x512 : S_.BroadcastsInDim S31x512 (![] : Fin 0 → Fin S31x512.rank)
  reducesTo_S31x512_S_d0_1 : S31x512.ReducesTo [0, 1] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg11 : FVec F S1x512 .f32) (main_arg12 : FVec F S1024x1024 .f32) (main_v48 : IVec S_ 1) (main_v49 : FVec F S4x128x128 .f32) (main_v50 : FVec F S4x128x128 .f32) : IVec S_ 1 :=
  let main_v51 : IVec S4x128x128 1 := cmpf .olt main_v49 main_v50
  let main_c_19 : IVec S_ 1 := constantI S_ 1 1#1
  let main_v52 : IVec S_ 1 := (fun x v => Host.reduce IntOp.andi x v reducesTo_S4x128x128_S_d0_1_2 h_S_) main_v51 main_c_19
  let main_v53 : IVec S_ 1 := andi main_v48 main_v52
  let main_v54 : FVec F S1x512 .f32 := Host.absf main_arg11
  let main_cst_20 : FVec F S_ .f32 := constant S_ .f32 0x7F800000#32
  let main_v55 : FVec F S1x512 .f32 := broadcastInDim S1x512 ![] bcast_S_S1x512 main_cst_20
  let main_v56 : IVec S1x512 1 := cmpf .olt main_v54 main_v55
  let main_c_21 : IVec S_ 1 := constantI S_ 1 1#1
  let main_v57 : IVec S_ 1 := (fun x v => Host.reduce IntOp.andi x v reducesTo_S1x512_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  main_v63

def fn_part2 {F : FTy → Type} [FloatOps F] (main_arg7 : FVec F S1x512 .f32) (main_arg8 : FVec F S1x512 .f32) (main_arg9 : FVec F S512x512 .f32) (main_arg10 : FVec F S4x128x128 .f32) (main_arg11 : FVec F S1x512 .f32) (main_arg12 : FVec F S1024x1024 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1x512 .f32 := Host.absf main_arg8
  let main_cst_14 : FVec F S_ .f32 := constant S_ .f32 0x7F800000#32
  let main_v40 : FVec F S1x512 .f32 := broadcastInDim S1x512 ![] bcast_S_S1x512 main_cst_14
  let main_v41 : IVec S1x512 1 := cmpf .olt main_v39 main_v40
  let main_c_15 : IVec S_ 1 := constantI S_ 1 1#1
  let main_v42 : IVec S_ 1 := (fun x v => Host.reduce IntOp.andi x v reducesTo_S1x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S4x128x128 .f32 := Host.absf main_arg10
  let main_cst_18 : FVec F S_ .f32 := constant S_ .f32 0x7F800000#32
  let main_v50 : FVec F S4x128x128 .f32 := broadcastInDim S4x128x128 ![] bcast_S_S4x128x128 main_cst_18
  fn_part3 (F := F) main_arg11 main_arg12 main_v48 main_v49 main_v50

def fn_part1 {F : FTy → Type} [FloatOps F] (main_arg4 : FVec F S1024x1536 .f32) (main_arg5 : FVec F S31x512 .f32) (main_arg6 : FVec F S1x512 .f32) (main_arg7 : FVec F S1x512 .f32) (main_arg8 : FVec F S1x512 .f32) (main_arg9 : FVec F S512x512 .f32) (main_arg10 : FVec F S4x128x128 .f32) (main_arg11 : FVec F S1x512 .f32) (main_arg12 : FVec F S1024x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x1536 .f32 := Host.absf main_arg4
  let main_cst_6 : FVec F S_ .f32 := constant S_ .f32 0x7F800000#32
  let main_v20 : FVec F S1024x1536 .f32 := broadcastInDim S1024x1536 ![] bcast_S_S1024x1536 main_cst_6
  let main_v21 : IVec S1024x1536 1 := cmpf .olt main_v19 main_v20
  let main_c_7 : IVec S_ 1 := constantI S_ 1 1#1
  let main_v22 : IVec S_ 1 := (fun x v => Host.reduce IntOp.andi x v reducesTo_S1024x1536_S_d0_1 h_S_) main_v21 main_c_7
  let main_v23 : IVec S_ 1 := andi main_v18 main_v22
  let main_v24 : FVec F S31x512 .f32 := Host.absf main_arg5
  let main_cst_8 : FVec F S_ .f32 := constant S_ .f32 0x7F800000#32
  let main_v25 : FVec F S31x512 .f32 := broadcastInDim S31x512 ![] bcast_S_S31x512 main_cst_8
  let main_v26 : IVec S31x512 1 := cmpf .olt main_v24 main_v25
  let main_c_9 : IVec S_ 1 := constantI S_ 1 1#1
  let main_v27 : IVec S_ 1 := (fun x v => Host.reduce IntOp.andi x v reducesTo_S31x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x1024 .f32) (main_arg1 : FVec F S2048x1024 .f32) (main_arg2 : FVec F S6x1024 .f32) (main_arg3 : FVec F S1x1024 .f32) (main_arg4 : FVec F S1024x1536 .f32) (main_arg5 : FVec F S31x512 .f32) (main_arg6 : FVec F S1x512 .f32) (main_arg7 : FVec F S1x512 .f32) (main_arg8 : FVec F S1x512 .f32) (main_arg9 : FVec F S512x512 .f32) (main_arg10 : FVec F S4x128x128 .f32) (main_arg11 : FVec F S1x512 .f32) (main_arg12 : FVec F S1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S6x1024 .f32 := Host.absf main_arg2
  let main_cst_2 : FVec F S_ .f32 := constant S_ .f32 0x7F800000#32
  let main_v10 : FVec F S6x1024 .f32 := broadcastInDim S6x1024 ![] bcast_S_S6x1024 main_cst_2
  let main_v11 : IVec S6x1024 1 := cmpf .olt main_v9 main_v10
  let main_c_3 : IVec S_ 1 := constantI S_ 1 1#1
  let main_v12 : IVec S_ 1 := (fun x v => Host.reduce IntOp.andi x v reducesTo_S6x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_arg9 main_arg10 main_arg11 main_arg12 main_v13 main_v16
-- ==== Pre_finite2.lean ====
abbrev S2048x1024 : Shape := ⟨2, ![2048, 1024]⟩
abbrev S6x1024 : Shape := ⟨2, ![6, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S2816x1024 .f32) (main_v33 : IVec S_ 1) : IVec S_ 1 :=
  let main_v34 : FVec F S2816x1024 .f32 := Host.absf main_arg7
  let main_cst_12 : FVec F S_ .f32 := constant S_ .f32 0x7F800000#32
  let main_v35 : FVec F S2816x1024 .f32 := broadcastInDim S2816x1024 ![] bcast_S_S2816x1024 main_cst_12
  let main_v36 : IVec S2816x1024 1 := cmpf .olt main_v34 main_v35
  let main_c_13 : IVec S_ 1 := constantI S_ 1 1#1
  let main_v37 : IVec S_ 1 := (fun x v => Host.reduce IntOp.andi x v reducesTo_S2816x1024_S_d0_1 h_S_) main_v36 main_c_13
  let main_v38 : IVec S_ 1 := andi main_v33 main_v37
  main_v38

def fn_part1 {F : FTy → Type} [FloatOps F] (main_arg4 : FVec F S1x1024 .f32) (main_arg5 : FVec F S1024x2816 .f32) (main_arg6 : FVec F S1024x2816 .f32) (main_arg7 : FVec F S2816x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S1024x2816 .f32 := Host.absf main_arg6
  let main_cst_10 : FVec F S_ .f32 := constant S_ .f32 0x7F800000#32
  let main_v30 : FVec F S1024x2816 .f32 := broadcastInDim S1024x2816 ![] bcast_S_S1024x2816 main_cst_10
  let main_v31 : IVec S1024x2816 1 := cmpf .olt main_v29 main_v30
  let main_c_11 : IVec S_ 1 := constantI S_ 1 1#1
  let main_v32 : IVec S_ 1 := (fun x v => Host.reduce IntOp.andi x v reducesTo_S1024x2816_S_d0_1 h_S_) main_v31 main_c_11
  let main_v33 : IVec S_ 1 := andi main_v28 main_v32
  fn_part2 (F := F) main_arg7 main_v33

def fn {F : FTy → Type} [FloatOps F] (main_arg0 : FVec F S2048x1024 .f32) (main_arg1 : FVec F S2048x1024 .f32) (main_arg2 : FVec F S6x1024 .f32) (main_arg3 : FVec F S1x1024 .f32) (main_arg4 : FVec F S1x1024 .f32) (main_arg5 : FVec F S1024x2816 .f32) (main_arg6 : FVec F S1024x2816 .f32) (main_arg7 : FVec F S2816x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S6x1024 .f32 := Host.absf main_arg2
  let main_cst_2 : FVec F S_ .f32 := constant S_ .f32 0x7F800000#32
  let main_v10 : FVec F S6x1024 .f32 := broadcastInDim S6x1024 ![] bcast_S_S6x1024 main_cst_2
  let main_v11 : IVec S6x1024 1 := cmpf .olt main_v9 main_v10
  let main_c_3 : IVec S_ 1 := constantI S_ 1 1#1
  let main_v12 : IVec S_ 1 := (fun x v => Host.reduce IntOp.andi x v reducesTo_S6x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Kernel.lean ====
abbrev S2048x1024 : Shape := ⟨2, ![2048, 1024]⟩
abbrev S6x1024 : Shape := ⟨2, ![6, 1024]⟩
abbrev S1x1024 : Shape := ⟨2, ![1, 1024]⟩
abbrev S1024x1536 : Shape := ⟨2, ![1024, 1536]⟩
abbrev S31x512 : Shape := ⟨2, ![31, 512]⟩
abbrev S1x512 : Shape := ⟨2, ![1, 512]⟩
abbrev S512x512 : Shape := ⟨2, ![512, 512]⟩
abbrev S4x128x128 : Shape := ⟨3, ![4, 128, 128]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S2048x1536 : Shape := ⟨2, ![2048, 1536]⟩
abbrev S2048x512 : Shape := ⟨2, ![2048, 512]⟩
abbrev S31x1x512 : Shape := ⟨3, ![31, 1, 512]⟩
abbrev S30x512 : Shape := ⟨2, ![30, 512]⟩
abbrev S2078x512 : Shape := ⟨2, ![2078, 512]⟩
abbrev S31 : Shape := ⟨1, ![31]⟩
abbrev S31x1 : Shape := ⟨2, ![31, 1]⟩
abbrev S1x2048 : Shape := ⟨2, ![1, 2048]⟩
abbrev S31x2048 : Shape := ⟨2, ![31, 2048]⟩
abbrev S31x2048x1 : Shape := ⟨3, ![31, 2048, 1]⟩
abbrev S31x2048x512 : Shape := ⟨3, ![31, 2048, 512]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x4x128 : Shape := ⟨3, ![2048, 4, 128]⟩
abbrev S4x128x2048 : Shape := ⟨3, ![4, 128, 2048]⟩
abbrev S1024x4x384 : Shape := ⟨3, ![1024, 4, 384]⟩
abbrev S4x1024x384 : Shape := ⟨3, ![4, 1024, 384]⟩
abbrev S32x512 : Shape := ⟨2, ![32, 512]⟩
abbrev S8x1024 : Shape := ⟨2, ![8, 1024]⟩
abbrev S8x512 : Shape := ⟨2, ![8, 512]⟩
abbrev S256x1024 : Shape := ⟨2, ![256, 1024]⟩
abbrev S256x1536 : Shape := ⟨2, ![256, 1536]⟩
abbrev S256x512 : Shape := ⟨2, ![256, 512]⟩
abbrev S256x1 : Shape := ⟨2, ![256, 1]⟩
abbrev S288x512 : Shape := ⟨2, ![288, 512]⟩
abbrev S272x512 : Shape := ⟨2, ![272, 512]⟩
abbrev S7x280x512 : Shape := ⟨3, ![7, 280, 512]⟩
abbrev S16x512 : Shape := ⟨2, ![16, 512]⟩
abbrev S1024 : Shape := ⟨1, ![1024]⟩
abbrev S1x128x128 : Shape := ⟨3, ![1, 128, 128]⟩
abbrev S128x128 : Shape := ⟨2, ![128, 128]⟩
abbrev S256x128 : Shape := ⟨2, ![256, 128]⟩
abbrev S512 : Shape := ⟨1, ![512]⟩
abbrev S256 : Shape := ⟨1, ![256]⟩
abbrev S280x512 : Shape := ⟨2, ![280, 512]⟩
abbrev S1x280x512 : Shape := ⟨3, ![1, 280, 512]⟩
abbrev S1x256x512 : Shape := ⟨3, ![1, 256, 512]⟩
abbrev S256x384 : Shape := ⟨2, ![256, 384]⟩
abbrev S1x1024x384 : Shape := ⟨3, ![1, 1024, 384]⟩
abbrev S1024x384 : Shape := ⟨2, ![1024, 384]⟩

abbrev nBuf : Space → Nat
  | .hbm => 211
  | .vmem => 40
  | .smem => 0
  | _ => 0

abbrev hbmTy0_0 (i : Nat) : BufTy := match i % 128 with
  | 0 => ⟨S2048x1024, .f32⟩
  | 1 => ⟨S2048x1024, .f32⟩
  | 2 => ⟨S6x1024, .f32⟩
  | 3 => ⟨S1x1024, .f32⟩
  | 4 => ⟨S1024x1536, .f32⟩
  | 5 => ⟨S31x512, .f32⟩
  | 6 => ⟨S1x512, .f32⟩
  | 7 => ⟨S1x512, .f32⟩
  | 8 => ⟨S1x512, .f32⟩
  | 9 => ⟨S512x512, .f32⟩
  | 10 => ⟨S4x128x128, .f32⟩
  | 11 => ⟨S1x512, .f32⟩
  | 12 => ⟨S1024x1024, .f32⟩
  | 13 => ⟨S1x1024, .f32⟩
  | 14 => ⟨S1x1024, .f32⟩
  | 15 => ⟨S2048x1024, .f32⟩
  | 16 => ⟨S_, .f32⟩
  | 17 => ⟨S2048, .f32⟩
  | 18 => ⟨S2048x1, .f32⟩
  | 19 => ⟨S_, .f32⟩
  | 20 => ⟨S2048x1, .f32⟩
  | 21 => ⟨S2048x1, .f32⟩
  | 22 => ⟨S_, .f32⟩
  | 23 => ⟨S2048x1, .f32⟩
  | 24 => ⟨S2048x1, .f32⟩
  | 25 => ⟨S2048x1, .f32⟩
  | 26 => ⟨S2048x1024, .f32⟩
  | 27 => ⟨S2048x1024, .f32⟩
  | 28 => ⟨S2048x1024, .f32⟩
  | 29 => ⟨S2048x1024, .f32⟩
  | 30 => ⟨S_, .f32⟩
  | 31 => ⟨S1x1024, .f32⟩
  | 32 => ⟨S1x1024, .f32⟩
  | 33 => ⟨S2048x1024, .f32⟩
  | 34 => ⟨S2048x1024, .f32⟩
  | 35 => ⟨S2048x1024, .f32⟩
  | 36 => ⟨S2048x1024, .f32⟩
  | 37 => ⟨S2048x1536, .f32⟩
  | 38 => ⟨S2048x1024, .f32⟩
  | 39 => ⟨S2048x512, .f32⟩
  | 40 => ⟨S2048x512, .f32⟩
  | 41 => ⟨S2048x512, .f32⟩
  | 42 => ⟨S2048x512, .f32⟩
  | 43 => ⟨S_, .f32⟩
  | 44 => ⟨S2048x512, .f32⟩
  | 45 => ⟨S2048x512, .f32⟩
  | 46 => ⟨S_, .f32⟩
  | 47 => ⟨S2048x512, .f32⟩
  | 48 => ⟨S2048x512, .f32⟩
  | 49 => ⟨S2048x512, .f32⟩
  | 50 => ⟨S31x1x512, .f32⟩
  | 51 => ⟨S_, .f32⟩
  | 52 => ⟨S30x512, .f32⟩
  | 53 => ⟨S2078x512, .f32⟩
  | 54 => ⟨S31, .i32⟩
  | 55 => ⟨S31x1, .i32⟩
  | 56 => ⟨S2048, .i32⟩
  | 57 => ⟨S1x2048, .i32⟩
  | 58 => ⟨S31x2048, .i32⟩
  | 59 => ⟨S31x2048, .i32⟩
  | 60 => ⟨S31x2048, .i32⟩
  | 61 => ⟨S_, .i32⟩
  | 62 => ⟨S31x2048, .i32⟩
  | 63 => ⟨S31x2048, .i1⟩
  | 64 => ⟨S_, .i32⟩
  | 65 => ⟨S31x2048, .i32⟩
  | 66 => ⟨S31x2048, .i32⟩
  | 67 => ⟨S31x2048, .i32⟩
  | 68 => ⟨S31x2048x1, .i32⟩
  | 69 => ⟨S31x2048x512, .f32⟩
  | 70 => ⟨S31x2048x512, .f32⟩
  | 71 => ⟨S31x2048x512, .f32⟩
  | 72 => ⟨S_, .f32⟩
  | 73 => ⟨S2048x512, .f32⟩
  | 74 => ⟨S2048x512, .f32⟩
  | 75 => ⟨S2048x512, .f32⟩
  | 76 => ⟨S_, .f32⟩
  | 77 => ⟨S2048, .f32⟩
  | 78 => ⟨S2048x1, .f32⟩
  | 79 => ⟨S_, .f32⟩
  | 80 => ⟨S2048x1, .f32⟩
  | 81 => ⟨S2048x1, .f32⟩
  | 82 => ⟨S2048x512, .f32⟩
  | 83 => ⟨S2048x512, .f32⟩
  | 84 => ⟨S2048x512, .f32⟩
  | 85 => ⟨S_, .f32⟩
  | 86 => ⟨S2048, .f32⟩
  | 87 => ⟨S2048x1, .f32⟩
  | 88 => ⟨S_, .f32⟩
  | 89 => ⟨S2048x1, .f32⟩
  | 90 => ⟨S2048x1, .f32⟩
  | 91 => ⟨S_, .f32⟩
  | 92 => ⟨S2048x1, .f32⟩
  | 93 => ⟨S2048x1, .f32⟩
  | 94 => ⟨S2048x1, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S_, .f32⟩
  | 101 => ⟨S_, .f32⟩
  | 102 => ⟨S2048x512, .f32⟩
  | 103 => ⟨S2048, .i32⟩
  | 104 => ⟨S2048x128, .f32⟩
  | 105 => ⟨S_, .i32⟩
  | 106 => ⟨S2048, .i32⟩
  | 107 => ⟨S2048, .i32⟩
  | 108 => ⟨S_, .i32⟩
  | 109 => ⟨S2048, .i32⟩
  | 110 => ⟨S2048, .i32⟩
  | 111 => ⟨S2048, .f32⟩
  | 112 => ⟨S_, .f32⟩
  | 113 => ⟨S2x128, .f32⟩
  | 114 => ⟨S2046x128, .f32⟩
  | 115 => ⟨S2048x128, .f32⟩
  | 116 => ⟨S2048x128, .f32⟩
  | 117 => ⟨S2048x1, .f32⟩
  | 118 => ⟨S2048x128, .f32⟩
  | 119 => ⟨S2048x128, .f32⟩
  | 120 => ⟨S2048x128, .f32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S2048, .f32⟩
  | _ => ⟨S2048x1024, .f32⟩

abbrev hbmTy0_1 (i : Nat) : BufTy := match i % 128 with
  | 0 => ⟨S_, .f32⟩
  | 1 => ⟨S4x128, .f32⟩
  | 2 => ⟨S2044x128, .f32⟩
  | 3 => ⟨S2048x128, .f32⟩
  | 4 => ⟨S2048x128, .f32⟩
  | 5 => ⟨S2048x1, .f32⟩
  | 6 => ⟨S2048x128, .f32⟩
  | 7 => ⟨S2048x128, .f32⟩
  | 8 => ⟨S2048x128, .f32⟩
  | 9 => ⟨S_, .i32⟩
  | 10 => ⟨S2048, .i32⟩
  | 11 => ⟨S2048, .i32⟩
  | 12 => ⟨S_, .i32⟩
  | 13 => ⟨S2048, .i32⟩
  | 14 => ⟨S2048, .i32⟩
  | 15 => ⟨S2048, .f32⟩
  | 16 => ⟨S_, .f32⟩
  | 17 => ⟨S8x128, .f32⟩
  | 18 => ⟨S2040x128, .f32⟩
  | 19 => ⟨S2048x128, .f32⟩
  | 20 => ⟨S2048x128, .f32⟩
  | 21 => ⟨S2048x1, .f32⟩
  | 22 => ⟨S2048x128, .f32⟩
  | 23 => ⟨S2048x128, .f32⟩
  | 24 => ⟨S2048x128, .f32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S2048, .f32⟩
  | 32 => ⟨S_, .f32⟩
  | 33 => ⟨S16x128, .f32⟩
  | 34 => ⟨S2032x128, .f32⟩
  | 35 => ⟨S2048x128, .f32⟩
  | 36 => ⟨S2048x128, .f32⟩
  | 37 => ⟨S2048x1, .f32⟩
  | 38 => ⟨S2048x128, .f32⟩
  | 39 => ⟨S2048x128, .f32⟩
  | 40 => ⟨S2048x512, .f32⟩
  | 41 => ⟨S2048x512, .f32⟩
  | 42 => ⟨S2048x512, .f32⟩
  | 43 => ⟨S2048x512, .f32⟩
  | 44 => ⟨S2048x512, .f32⟩
  | 45 => ⟨S2048x512, .f32⟩
  | 46 => ⟨S2048x512, .f32⟩
  | 47 => ⟨S2048x512, .f32⟩
  | 48 => ⟨S_, .f32⟩
  | 49 => ⟨S2048x512, .f32⟩
  | 50 => ⟨S2048x512, .f32⟩
  | 51 => ⟨S_, .f32⟩
  | 52 => ⟨S2048x512, .f32⟩
  | 53 => ⟨S2048x512, .f32⟩
  | 54 => ⟨S2048x512, .f32⟩
  | 55 => ⟨S2048x512, .f32⟩
  | 56 => ⟨S2048x4x128, .f32⟩
  | 57 => ⟨S4x128x2048, .f32⟩
  | 58 => ⟨S2048x4x128, .f32⟩
  | 59 => ⟨S2048x512, .f32⟩
  | 60 => ⟨S2048x512, .f32⟩
  | 61 => ⟨S2048x512, .f32⟩
  | 62 => ⟨S2048x1024, .f32⟩
  | 63 => ⟨S2048x1024, .f32⟩
  | 64 => ⟨S1024x1536, .bf16⟩
  | 65 => ⟨S1024x4x384, .bf16⟩
  | 66 => ⟨S4x1024x384, .bf16⟩
  | 67 => ⟨S_, .i32⟩
  | 68 => ⟨S_, .f32⟩
  | 69 => ⟨S32x512, .f32⟩
  | 70 => ⟨S2048x512, .bf16⟩
  | 71 => ⟨S512x512, .bf16⟩
  | 72 => ⟨S4x128x128, .bf16⟩
  | 73 => ⟨S1024x1024, .bf16⟩
  | 74 => ⟨S2048x1024, .f32⟩
  | 75 => ⟨S2048x1024, .bf16⟩
  | 76 => ⟨S2048x1536, .bf16⟩
  | 77 => ⟨S2048x1024, .bf16⟩
  | 78 => ⟨S512x512, .f32⟩
  | 79 => ⟨S4x128x128, .f32⟩
  | 80 => ⟨S8x1024, .f32⟩
  | 81 => ⟨S8x512, .f32⟩
  | 82 => ⟨S32x512, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1536, .f32⟩
  | .local _ .vmem, ⟨7, _⟩ => ⟨S256x1536, .f32⟩
  | .local _ .vmem, ⟨8, _⟩ => ⟨S256x512, .f32⟩
  | .local _ .vmem, ⟨9, _⟩ => ⟨S256x512, .f32⟩
  | .local _ .vmem, ⟨10, _⟩ => ⟨S256x1, .f32⟩
  | .local _ .vmem, ⟨11, _⟩ => ⟨S256x1, .f32⟩
  | .local _ .vmem, ⟨12, _⟩ => ⟨S256x512, .bf16⟩
  | .local _ .vmem, ⟨13, _⟩ => ⟨S256x512, .bf16⟩
  | .local _ .vmem, ⟨14, _⟩ => ⟨S6x1024, .f32⟩
  | .local _ .vmem, ⟨15, _⟩ => ⟨S1x1024, .f32⟩
  | .local _ .vmem, ⟨16, _⟩ => ⟨S4x1024x384, .bf16⟩
  | .local _ .vmem, ⟨17, _⟩ => ⟨S32x512, .f32⟩
  | .local _ .vmem, ⟨18, _⟩ => ⟨S1x512, .f32⟩
  | .local _ .vmem, ⟨19, _⟩ => ⟨S1x512, .f32⟩
  | .local _ .vmem, ⟨20, _⟩ => ⟨S512x512, .bf16⟩
  | .local _ .vmem, ⟨21, _⟩ => ⟨S4x128x128, .bf16⟩
  | .local _ .vmem, ⟨22, _⟩ => ⟨S1x512, .f32⟩
  | .local _ .vmem, ⟨23, _⟩ => ⟨S1024x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x1536, .bf16⟩
  | .local _ .vmem, ⟨29, _⟩ => ⟨S256x1536, .bf16⟩
  | .local _ .vmem, ⟨30, _⟩ => ⟨S256x1024, .bf16⟩
  | .local _ .vmem, ⟨31, _⟩ => ⟨S256x1024, .bf16⟩
  | .local _ .vmem, ⟨32, _⟩ => ⟨S512x512, .f32⟩
  | .local _ .vmem, ⟨33, _⟩ => ⟨S4x128x128, .f32⟩
  | .local _ .vmem, ⟨34, _⟩ => ⟨S8x1024, .f32⟩
  | .local _ .vmem, ⟨35, _⟩ => ⟨S8x512, .f32⟩
  | .local _ .vmem, ⟨36, _⟩ => ⟨S32x512, .f32⟩
  | .local _ .vmem, ⟨37, _⟩ => ⟨S288x512, .f32⟩
  | .local _ .vmem, ⟨38, _⟩ => ⟨S272x512, .f32⟩
  | .local _ .vmem, ⟨39, _⟩ => ⟨S7x280x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c : Ref sig .tc := ⟨.hbm, 61, rfl⟩
abbrev main_v41 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call0_call0_cst : Ref sig .tc := ⟨.hbm, 100, rfl⟩
abbrev main_call0_call0_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_13 : Ref sig .tc := ⟨.hbm, 105, rfl⟩
abbrev main_v75 : Ref sig .tc := ⟨.hbm, 106, rfl⟩
abbrev main_v76 : Ref sig .tc := ⟨.hbm, 107, rfl⟩
abbrev main_c_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_16 : Ref sig .tc := ⟨.hbm, 121, rfl⟩
abbrev main_v88 : Ref sig .tc := ⟨.hbm, 122, rfl⟩
abbrev main_v89 : Ref sig .tc := ⟨.hbm, 123, rfl⟩
abbrev main_c_17 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_18 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_19 : Ref sig .tc := ⟨.hbm, 137, rfl⟩
abbrev main_v101 : Ref sig .tc := ⟨.hbm, 138, rfl⟩
abbrev main_v102 : Ref sig .tc := ⟨.hbm, 139, rfl⟩
abbrev main_c_20 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_21 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_22 : Ref sig .tc := ⟨.hbm, 153, rfl⟩
abbrev main_v114 : Ref sig .tc := ⟨.hbm, 154, rfl⟩
abbrev main_v115 : Ref sig .tc := ⟨.hbm, 155, rfl⟩
abbrev main_c_23 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_24 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_call1_v0 : Ref sig .tc := ⟨.hbm, 174, rfl⟩
abbrev main_call1_v1 : Ref sig .tc := ⟨.hbm, 175, rfl⟩
abbrev main_call1_cst : Ref sig .tc := ⟨.hbm, 176, rfl⟩
abbrev main_call1_v2 : Ref sig .tc := ⟨.hbm, 177, rfl⟩
abbrev main_call1_v3 : Ref sig .tc := ⟨.hbm, 178, rfl⟩
abbrev main_call1_cst_0 : Ref sig .tc := ⟨.hbm, 179, rfl⟩
abbrev main_call1_v4 : Ref sig .tc := ⟨.hbm, 180, rfl⟩
abbrev main_call1_v5 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_c_25 : Ref sig .tc := ⟨.hbm, 195, rfl⟩
abbrev main_call2_v0 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150_0 : Ref sig .tc := ⟨.hbm, 202, rfl⟩
abbrev main_v150_1 : Ref sig .tc := ⟨.hbm, 203, rfl⟩
abbrev main_v150_2 : Ref sig .tc := ⟨.hbm, 204, rfl⟩
abbrev main_v150_3 : Ref sig .tc := ⟨.hbm, 205, rfl⟩
abbrev main_v150_4 : Ref sig .tc := ⟨.hbm, 206, rfl⟩
abbrev main_v150_5 : Ref sig .tc := ⟨.hbm, 207, rfl⟩
abbrev main_v150_6 : Ref sig .tc := ⟨.hbm, 208, rfl⟩
abbrev main_v150_7 : Ref sig .tc := ⟨.hbm, 209, rfl⟩
abbrev main_v150_8 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem25_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1536 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S512x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S32x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S2048x1024 : Shape := ⟨2, ![2048, 1024]⟩
abbrev S6x1024 : Shape := ⟨2, ![6, 1024]⟩
abbrev S1x1024 : Shape := ⟨2, ![1, 1024]⟩
abbrev S1024x1536 : Shape := ⟨2, ![1024, 1536]⟩
abbrev S31x512 : Shape := ⟨2, ![31, 512]⟩
abbrev S1x512 : Shape := ⟨2, ![1, 512]⟩
abbrev S512x512 : Shape := ⟨2, ![512, 512]⟩
abbrev S4x128x128 : Shape := ⟨3, ![4, 128, 128]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S2048x1536 : Shape := ⟨2, ![2048, 1536]⟩
abbrev S2048x512 : Shape := ⟨2, ![2048, 512]⟩
abbrev S31x1x512 : Shape := ⟨3, ![31, 1, 512]⟩
abbrev S30x512 : Shape := ⟨2, ![30, 512]⟩
abbrev S2078x512 : Shape := ⟨2, ![2078, 512]⟩
abbrev S31 : Shape := ⟨1, ![31]⟩
abbrev S31x1 : Shape := ⟨2, ![31, 1]⟩
abbrev S1x2048 : Shape := ⟨2, ![1, 2048]⟩
abbrev S31x2048 : Shape := ⟨2, ![31, 2048]⟩
abbrev S31x2048x1 : Shape := ⟨3, ![31, 2048, 1]⟩
abbrev S31x2048x512 : Shape := ⟨3, ![31, 2048, 512]⟩
abbrev S2048x128 : Shape := ⟨2, ![2048, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x4x128 : Shape := ⟨3, ![2048, 4, 128]⟩
abbrev S4x128x2048 : Shape := ⟨3, ![4, 128, 2048]⟩
abbrev S1024 : Shape := ⟨1, ![1024]⟩
abbrev S512 : Shape := ⟨1, ![512]⟩
abbrev S4x2048x128 : Shape := ⟨3, ![4, 2048, 128]⟩
abbrev S4x1024 : Shape := ⟨2, ![4, 1024]⟩
abbrev S8x1024 : Shape := ⟨2, ![8, 1024]⟩
abbrev S4x512 : Shape := ⟨2, ![4, 512]⟩
abbrev S8x512 : Shape := ⟨2, ![8, 512]⟩
abbrev S32x512 : Shape := ⟨2, ![32, 512]⟩

abbrev nBuf : Space → Nat
  | .hbm => 423
  | .vmem => 0
  | .smem => 0
  | _ => 0

abbrev hbmTy0_0 (i : Nat) : BufTy := match i % 128 with
  | 0 => ⟨S2048x1024, .f32⟩
  | 1 => ⟨S2048x1024, .f32⟩
  | 2 => ⟨S6x1024, .f32⟩
  | 3 => ⟨S1x1024, .f32⟩
  | 4 => ⟨S1024x1536, .f32⟩
  | 5 => ⟨S31x512, .f32⟩
  | 6 => ⟨S1x512, .f32⟩
  | 7 => ⟨S1x512, .f32⟩
  | 8 => ⟨S1x512, .f32⟩
  | 9 => ⟨S512x512, .f32⟩
  | 10 => ⟨S4x128x128, .f32⟩
  | 11 => ⟨S1x512, .f32⟩
  | 12 => ⟨S1024x1024, .f32⟩
  | 13 => ⟨S1x1024, .f32⟩
  | 14 => ⟨S1x1024, .f32⟩
  | 15 => ⟨S1x1024, .f32⟩
  | 16 => ⟨S2048x1024, .f32⟩
  | 17 => ⟨S_, .f32⟩
  | 18 => ⟨S2048, .f32⟩
  | 19 => ⟨S2048x1, .f32⟩
  | 20 => ⟨S_, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1, .f32⟩
  | 27 => ⟨S2048x1, .f32⟩
  | 28 => ⟨S_, .f32⟩
  | 29 => ⟨S2048x1, .f32⟩
  | 30 => ⟨S2048x1, .f32⟩
  | 31 => ⟨S2048x1024, .f32⟩
  | 32 => ⟨S2048x1024, .f32⟩
  | 33 => ⟨S2048x1024, .f32⟩
  | 34 => ⟨S2048x1024, .f32⟩
  | 35 => ⟨S_, .f32⟩
  | 36 => ⟨S1x1024, .f32⟩
  | 37 => ⟨S1x1024, .f32⟩
  | 38 => ⟨S2048x1024, .f32⟩
  | 39 => ⟨S2048x1024, .f32⟩
  | 40 => ⟨S2048x1024, .f32⟩
  | 41 => ⟨S2048x1024, .f32⟩
  | 42 => ⟨S2048x1536, .f32⟩
  | 43 => ⟨S2048x1024, .f32⟩
  | 44 => ⟨S2048x512, .f32⟩
  | 45 => ⟨S2048x512, .f32⟩
  | 46 => ⟨S2048x512, .f32⟩
  | 47 => ⟨S2048x512, .f32⟩
  | 48 => ⟨S_, .f32⟩
  | 49 => ⟨S2048x512, .f32⟩
  | 50 => ⟨S2048x512, .f32⟩
  | 51 => ⟨S_, .f32⟩
  | 52 => ⟨S2048x512, .f32⟩
  | 53 => ⟨S2048x512, .f32⟩
  | 54 => ⟨S_, .f32⟩
  | 55 => ⟨S2048x512, .f32⟩
  | 56 => ⟨S2048x512, .f32⟩
  | 57 => ⟨S2048x512, .f32⟩
  | 58 => ⟨S2048x512, .f32⟩
  | 59 => ⟨S31x1x512, .f32⟩
  | 60 => ⟨S_, .f32⟩
  | 61 => ⟨S30x512, .f32⟩
  | 62 => ⟨S2078x512, .f32⟩
  | 63 => ⟨S_, .f32⟩
  | 64 => ⟨S30x512, .f32⟩
  | 65 => ⟨S31, .i32⟩
  | 66 => ⟨S31x1, .i32⟩
  | 67 => ⟨S2048, .i32⟩
  | 68 => ⟨S1x2048, .i32⟩
  | 69 => ⟨S31x2048, .i32⟩
  | 70 => ⟨S31x2048, .i32⟩
  | 71 => ⟨S31x2048, .i32⟩
  | 72 => ⟨S_, .i32⟩
  | 73 => ⟨S31x2048, .i32⟩
  | 74 => ⟨S31x2048, .i1⟩
  | 75 => ⟨S_, .i32⟩
  | 76 => ⟨S31x2048, .i32⟩
  | 77 => ⟨S31x2048, .i32⟩
  | 78 => ⟨S31x2048, .i32⟩
  | 79 => ⟨S31x2048x1, .i32⟩
  | 80 => ⟨S31x2048x512, .f32⟩
  | 81 => ⟨S31x2048x512, .f32⟩
  | 82 => ⟨S31x2048x512, .f32⟩
  | 83 => ⟨S_, .f32⟩
  | 84 => ⟨S2048x512, .f32⟩
  | 85 => ⟨S2048x512, .f32⟩
  | 86 => ⟨S2048x512, .f32⟩
  | 87 => ⟨S_, .f32⟩
  | 88 => ⟨S2048, .f32⟩
  | 89 => ⟨S2048x1, .f32⟩
  | 90 => ⟨S_, .f32⟩
  | 91 => ⟨S2048x1, .f32⟩
  | 92 => ⟨S2048x1, .f32⟩
  | 93 => ⟨S2048x512, .f32⟩
  | 94 => ⟨S2048x512, .f32⟩
  | 95 => ⟨S2048x512, .f32⟩
  | 96 => ⟨S_, .f32⟩
  | 97 => ⟨S2048x512, .f32⟩
  | 98 => ⟨S2048x512, .f32⟩
  | 99 => ⟨S_, .f32⟩
  | 100 => ⟨S2048, .f32⟩
  | 101 => ⟨S2048x1, .f32⟩
  | 102 => ⟨S_, .f32⟩
  | 103 => ⟨S2048x1, .f32⟩
  | 104 => ⟨S2048x1, .f32⟩
  | 105 => ⟨S_, .f32⟩
  | 106 => ⟨S2048x1, .f32⟩
  | 107 => ⟨S2048x1, .f32⟩
  | 108 => ⟨S2048x1, .f32⟩
  | 109 => ⟨S2048x1, .f32⟩
  | 110 => ⟨S_, .f32⟩
  | 111 => ⟨S2048x1, .f32⟩
  | 112 => ⟨S2048x1, .f32⟩
  | 113 => ⟨S2048x512, .f32⟩
  | 114 => ⟨S2048x512, .f32⟩
  | 115 => ⟨S2048x512, .f32⟩
  | 116 => ⟨S2048x512, .f32⟩
  | 117 => ⟨S2048x512, .f32⟩
  | 118 => ⟨S_, .f32⟩
  | 119 => ⟨S_, .f32⟩
  | 120 => ⟨S2048x512, .f32⟩
  | 121 => ⟨S2048, .i32⟩
  | 122 => ⟨S2048x128, .f32⟩
  | 123 => ⟨S_, .i32⟩
  | 124 => ⟨S2048, .i32⟩
  | 125 => ⟨S2048, .i32⟩
  | 126 => ⟨S_, .i32⟩
  | 127 => ⟨S2048, .i32⟩
  | _ => ⟨S2048x1024, .f32⟩

abbrev hbmTy0_1 (i : Nat) : BufTy := match i % 128 with
  | 0 => ⟨S2048, .i32⟩
  | 1 => ⟨S2048, .f32⟩
  | 2 => ⟨S_, .f32⟩
  | 3 => ⟨S2x128, .f32⟩
  | 4 => ⟨S2046x128, .f32⟩
  | 5 => ⟨S2048x128, .f32⟩
  | 6 => ⟨S_, .f32⟩
  | 7 => ⟨S2x128, .f32⟩
  | 8 => ⟨S2048x128, .f32⟩
  | 9 => ⟨S2048x1, .f32⟩
  | 10 => ⟨S2048x128, .f32⟩
  | 11 => ⟨S2048x128, .f32⟩
  | 12 => ⟨S2048x128, .f32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S2048, .f32⟩
  | 20 => ⟨S_, .f32⟩
  | 21 => ⟨S4x128, .f32⟩
  | 22 => ⟨S2044x128, .f32⟩
  | 23 => ⟨S2048x128, .f32⟩
  | 24 => ⟨S_, .f32⟩
  | 25 => ⟨S4x128, .f32⟩
  | 26 => ⟨S2048x128, .f32⟩
  | 27 => ⟨S2048x1, .f32⟩
  | 28 => ⟨S2048x128, .f32⟩
  | 29 => ⟨S2048x128, .f32⟩
  | 30 => ⟨S2048x128, .f32⟩
  | 31 => ⟨S_, .i32⟩
  | 32 => ⟨S2048, .i32⟩
  | 33 => ⟨S2048, .i32⟩
  | 34 => ⟨S_, .i32⟩
  | 35 => ⟨S2048, .i32⟩
  | 36 => ⟨S2048, .i32⟩
  | 37 => ⟨S2048, .f32⟩
  | 38 => ⟨S_, .f32⟩
  | 39 => ⟨S8x128, .f32⟩
  | 40 => ⟨S2040x128, .f32⟩
  | 41 => ⟨S2048x128, .f32⟩
  | 42 => ⟨S_, .f32⟩
  | 43 => ⟨S8x128, .f32⟩
  | 44 => ⟨S2048x128, .f32⟩
  | 45 => ⟨S2048x1, .f32⟩
  | 46 => ⟨S2048x128, .f32⟩
  | 47 => ⟨S2048x128, .f32⟩
  | 48 => ⟨S2048x128, .f32⟩
  | 49 => ⟨S_, .i32⟩
  | 50 => ⟨S2048, .i32⟩
  | 51 => ⟨S2048, .i32⟩
  | 52 => ⟨S_, .i32⟩
  | 53 => ⟨S2048, .i32⟩
  | 54 => ⟨S2048, .i32⟩
  | 55 => ⟨S2048, .f32⟩
  | 56 => ⟨S_, .f32⟩
  | 57 => ⟨S16x128, .f32⟩
  | 58 => ⟨S2032x128, .f32⟩
  | 59 => ⟨S2048x128, .f32⟩
  | 60 => ⟨S_, .f32⟩
  | 61 => ⟨S16x128, .f32⟩
  | 62 => ⟨S2048x128, .f32⟩
  | 63 => ⟨S2048x1, .f32⟩
  | 64 => ⟨S2048x128, .f32⟩
  | 65 => ⟨S2048x128, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S_, .f32⟩
  | 75 => ⟨S2048x512, .f32⟩
  | 76 => ⟨S2048x512, .f32⟩
  | 77 => ⟨S_, .f32⟩
  | 78 => ⟨S2048x512, .f32⟩
  | 79 => ⟨S2048x512, .f32⟩
  | 80 => ⟨S_, .f32⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S2048x4x128, .f32⟩
  | 87 => ⟨S4x128x2048, .f32⟩
  | 88 => ⟨S2048x4x128, .f32⟩
  | 89 => ⟨S2048x512, .f32⟩
  | 90 => ⟨S2048x512, .f32⟩
  | 91 => ⟨S2048x512, .f32⟩
  | 92 => ⟨S2048x1024, .f32⟩
  | 93 => ⟨S2048x1024, .f32⟩
  | 94 => ⟨S2048x1024, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S2048x1024, .f32⟩
  | 101 => ⟨S_, .f32⟩
  | 102 => ⟨S1024, .f32⟩
  | 103 => ⟨S1x1024, .f32⟩
  | 104 => ⟨S2048x1024, .f32⟩
  | 105 => ⟨S2048x512, .f32⟩
  | 106 => ⟨S2048x512, .f32⟩
  | 107 => ⟨S2048x512, .f32⟩
  | 108 => ⟨S_, .f32⟩
  | 109 => ⟨S512, .f32⟩
  | 110 => ⟨S1x512, .f32⟩
  | 111 => ⟨S2048x512, .f32⟩
  | 112 => ⟨S2048x512, .f32⟩
  | 113 => ⟨S2048x4x128, .f32⟩
  | 114 => ⟨S4x128x2048, .f32⟩
  | 115 => ⟨S4x2048x128, .f32⟩
  | 116 => ⟨S2048x4x128, .f32⟩
  | 117 => ⟨S4x128x128, .f32⟩
  | 118 => ⟨S4x128x128, .f32⟩
  | 119 => ⟨S2048x512, .f32⟩
  | 120 => ⟨S512x512, .f32⟩
  | 121 => ⟨S512x512, .f32⟩
  | 122 => ⟨S2048x512, .f32⟩
  | 123 => ⟨S2048x512, .f32⟩
  | 124 => ⟨S2048x512, .f32⟩
  | 125 => ⟨S2048x512, .f32⟩
  | 126 => ⟨S2048x512, .f32⟩
  | 127 => ⟨S_, .f32⟩
  | _ => ⟨S2048x1024, .f32⟩

abbrev hbmTy0_2 (i : Nat) : BufTy := match i % 128 with
  | 0 => ⟨S512, .f32⟩
  | 1 => ⟨S1x512, .f32⟩
  | 2 => ⟨S2048x512, .f32⟩
  | 3 => ⟨S_, .f32⟩
  | 4 => ⟨S512, .f32⟩
  | 5 => ⟨S1x512, .f32⟩
  | 6 => ⟨S2048x512, .f32⟩
  | 7 => ⟨S2048x512, .f32⟩
  | 8 => ⟨S2048x512, .f32⟩
  | 9 => ⟨S2048x128, .f32⟩
  | 10 => ⟨S2048x128, .f32⟩
  | 11 => ⟨S2048x128, .f32⟩
  | 12 => ⟨S2048x128, .f32⟩
  | 13 => ⟨S2048x128, .f32⟩
  | 14 => ⟨S2048x128, .f32⟩
  | 15 => ⟨S2048x128, .f32⟩
  | 16 => ⟨S16x128, .f32⟩
  | 17 => ⟨S2032x128, .f32⟩
  | 18 => ⟨S_, .f32⟩
  | 19 => ⟨S2048x128, .f32⟩
  | 20 => ⟨S2048x128, .f32⟩
  | 21 => ⟨S_, .f32⟩
  | 22 => ⟨S2048x512, .f32⟩
  | 23 => ⟨S2048x128, .f32⟩
  | 24 => ⟨S2048x128, .f32⟩
  | 25 => ⟨S2048x128, .f32⟩
  | 26 => ⟨S8x128, .f32⟩
  | 27 => ⟨S2040x128, .f32⟩
  | 28 => ⟨S_, .f32⟩
  | 29 => ⟨S2048x128, .f32⟩
  | 30 => ⟨S2048x128, .f32⟩
  | 31 => ⟨S_, .f32⟩
  | 32 => ⟨S2048x512, .f32⟩
  | 33 => ⟨S2048x512, .f32⟩
  | 34 => ⟨S2048x128, .f32⟩
  | 35 => ⟨S2048x128, .f32⟩
  | 36 => ⟨S2048x128, .f32⟩
  | 37 => ⟨S4x128, .f32⟩
  | 38 => ⟨S2044x128, .f32⟩
  | 39 => ⟨S_, .f32⟩
  | 40 => ⟨S2048x128, .f32⟩
  | 41 => ⟨S2048x128, .f32⟩
  | 42 => ⟨S_, .f32⟩
  | 43 => ⟨S2048x512, .f32⟩
  | 44 => ⟨S2048x512, .f32⟩
  | 45 => ⟨S2048x128, .f32⟩
  | 46 => ⟨S2048x128, .f32⟩
  | 47 => ⟨S2048x128, .f32⟩
  | 48 => ⟨S2x128, .f32⟩
  | 49 => ⟨S2046x128, .f32⟩
  | 50 => ⟨S_, .f32⟩
  | 51 => ⟨S2048x128, .f32⟩
  | 52 => ⟨S2048x128, .f32⟩
  | 53 => ⟨S_, .f32⟩
  | 54 => ⟨S2048x512, .f32⟩
  | 55 => ⟨S2048x512, .f32⟩
  | 56 => ⟨S_, .f32⟩
  | 57 => ⟨S_, .f32⟩
  | 58 => ⟨S2048x512, .f32⟩
  | 59 => ⟨S2048x512, .f32⟩
  | 60 => ⟨S_, .f32⟩
  | 61 => ⟨S2048x1536, .f32⟩
  | 62 => ⟨S2048x512, .f32⟩
  | 63 => ⟨S_, .f32⟩
  | 64 => ⟨S2048, .f32⟩
  | 65 => ⟨S2048x1, .f32⟩
  | 66 => ⟨S2048x512, .f32⟩
  | 67 => ⟨S2048x512, .f32⟩
  | 68 => ⟨S2048x512, .f32⟩
  | 69 => ⟨S_, .f32⟩
  | 70 => ⟨S2048, .f32⟩
  | 71 => ⟨S2048x1, .f32⟩
  | 72 => ⟨S2048x1, .f32⟩
  | 73 => ⟨S_, .f32⟩
  | 74 => ⟨S2048x1, .f32⟩
  | 75 => ⟨S2048x1, .f32⟩
  | 76 => ⟨S_, .f32⟩
  | 77 => ⟨S2048, .f32⟩
  | 78 => ⟨S2048x512, .f32⟩
  | 79 => ⟨S2048x512, .f32⟩
  | 80 => ⟨S2048x512, .f32⟩
  | 81 => ⟨S_, .f32⟩
  | 82 => ⟨S2048, .f32⟩
  | 83 => ⟨S2048x1, .f32⟩
  | 84 => ⟨S2048x512, .f32⟩
  | 85 => ⟨S2048x1, .f32⟩
  | 86 => ⟨S_, .f32⟩
  | 87 => ⟨S2048x1, .f32⟩
  | 88 => ⟨S2048x1, .f32⟩
  | 89 => ⟨S_, .f32⟩
  | 90 => ⟨S2048, .f32⟩
  | 91 => ⟨S2048x512, .f32⟩
  | 92 => ⟨S2048x512, .f32⟩
  | 93 => ⟨S_, .f32⟩
  | 94 => ⟨S512, .f32⟩
  | 95 => ⟨S1x512, .f32⟩
  | 96 => ⟨S31x2048x512, .f32⟩
  | 97 => ⟨S31x2048x512, .f32⟩
  | 98 => ⟨S31x2048x512, .f32⟩
  | 99 => ⟨S31x2048x512, .f32⟩
  | 100 => ⟨S_, .f32⟩
  | 101 => ⟨S31x512, .f32⟩
  | 102 => ⟨S31x1x512, .f32⟩
  | 103 => ⟨S_, .f32⟩
  | 104 => ⟨S2078x512, .f32⟩
  | 105 => ⟨S2078x512, .f32⟩
  | 106 => ⟨S30x512, .f32⟩
  | 107 => ⟨S2048x512, .f32⟩
  | 108 => ⟨S_, .f32⟩
  | 109 => ⟨S31x512, .f32⟩
  | 110 => ⟨S2048x512, .f32⟩
  | 111 => ⟨S2048x512, .f32⟩
  | 112 => ⟨S2048x512, .f32⟩
  | 113 => ⟨S_, .f32⟩
  | 114 => ⟨S2048x1024, .f32⟩
  | 115 => ⟨S_, .f32⟩
  | 116 => ⟨S2048x1024, .f32⟩
  | 117 => ⟨S2048x1024, .f32⟩
  | 118 => ⟨S_, .f32⟩
  | 119 => ⟨S2048x1536, .f32⟩
  | 120 => ⟨S2048x1536, .f32⟩
  | 121 => ⟨S2048x1024, .f32⟩
  | 122 => ⟨S_, .f32⟩
  | 123 => ⟨S1024, .f32⟩
  | 124 => ⟨S1x1024, .f32⟩
  | 125 => ⟨S2048x1024, .f32⟩
  | 126 => ⟨S_, .f32⟩
  | 127 => ⟨S1024, .f32⟩
  | _ => ⟨S2048x1024, .f32⟩

abbrev hbmTy0_3 (i : Nat) : BufTy := match i % 128 with
  | 0 => ⟨S1x1024, .f32⟩
  | 1 => ⟨S2048x1024, .f32⟩
  | 2 => ⟨S2048x1024, .f32⟩
  | 3 => ⟨S2048x1024, .f32⟩
  | 4 => ⟨S_, .f32⟩
  | 5 => ⟨S1024, .f32⟩
  | 6 => ⟨S1x1024, .f32⟩
  | 7 => ⟨S2048x1024, .f32⟩
  | 8 => ⟨S2048x1024, .f32⟩
  | 9 => ⟨S2048x1024, .f32⟩
  | 10 => ⟨S_, .f32⟩
  | 11 => ⟨S2048, .f32⟩
  | 12 => ⟨S2048x1, .f32⟩
  | 13 => ⟨S2048x1024, .f32⟩
  | 14 => ⟨S2048x1024, .f32⟩
  | 15 => ⟨S2048x1, .f32⟩
  | 16 => ⟨S_, .f32⟩
  | 17 => ⟨S2048x1, .f32⟩
  | 18 => ⟨S2048x1, .f32⟩
  | 19 => ⟨S_, .f32⟩
  | 20 => ⟨S2048, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .bf16⟩
  | 28 => ⟨S2048x1536, .bf16⟩
  | 29 => ⟨S2048x1024, .bf16⟩
  | 30 => ⟨S_, .f32⟩
  | 31 => ⟨S4x1024, .f32⟩
  | 32 => ⟨S8x1024, .f32⟩
  | 33 => ⟨S_, .f32⟩
  | 34 => ⟨S4x512, .f32⟩
  | 35 => ⟨S8x512, .f32⟩
  | 36 => ⟨S_, .i32⟩
  | 37 => ⟨S_, .f32⟩
  | 38 => ⟨S32x512, .f32⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call0_call0_cst : Ref sig .tc := ⟨.hbm, 118, rfl⟩
abbrev main_call0_call0_v0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_18 : Ref sig .tc := ⟨.hbm, 123, rfl⟩
abbrev main_v88 : Ref sig .tc := ⟨.hbm, 124, rfl⟩
abbrev main_v89 : Ref sig .tc := ⟨.hbm, 125, rfl⟩
abbrev main_c_19 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_20 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_21 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_22 : Ref sig .tc := ⟨.hbm, 141, rfl⟩
abbrev main_v102 : Ref sig .tc := ⟨.hbm, 142, rfl⟩
abbrev main_v103 : Ref sig .tc := ⟨.hbm, 143, rfl⟩
abbrev main_c_23 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_24 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_25 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_c_26 : Ref sig .tc := ⟨.hbm, 159, rfl⟩
abbrev main_v116 : Ref sig .tc := ⟨.hbm, 160, rfl⟩
abbrev main_v117 : Ref sig .tc := ⟨.hbm, 161, rfl⟩
abbrev main_c_27 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_28 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_29 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_c_30 : Ref sig .tc := ⟨.hbm, 177, rfl⟩
abbrev main_v130 : Ref sig .tc := ⟨.hbm, 178, rfl⟩
abbrev main_v131 : Ref sig .tc := ⟨.hbm, 179, rfl⟩
abbrev main_c_31 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_32 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_33 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_call1_v0 : Ref sig .tc := ⟨.hbm, 200, rfl⟩
abbrev main_call1_v1 : Ref sig .tc := ⟨.hbm, 201, rfl⟩
abbrev main_call1_cst : Ref sig .tc := ⟨.hbm, 202, rfl⟩
abbrev main_call1_v2 : Ref sig .tc := ⟨.hbm, 203, rfl⟩
abbrev main_call1_v3 : Ref sig .tc := ⟨.hbm, 204, rfl⟩
abbrev main_call1_cst_0 : Ref sig .tc := ⟨.hbm, 205, rfl⟩
abbrev main_call1_v4 : Ref sig .tc := ⟨.hbm, 206, rfl⟩
abbrev main_v149_2 : Ref sig .tc := ⟨.hbm, 207, rfl⟩
abbrev main_call1_cst_1 : Ref sig .tc := ⟨.hbm, 208, rfl⟩
abbrev main_call1_v6 : Ref sig .tc := ⟨.hbm, 209, rfl⟩
abbrev main_call1_v7 : Ref sig .tc := ⟨.hbm, 210, rfl⟩
abbrev main_v149_1 : Ref sig .tc := ⟨.hbm, 211, rfl⟩
abbrev main_v149_0 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_cst_34 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_cst_35 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_call2_v0 : Ref sig .tc := ⟨.hbm, 251, rfl⟩
abbrev main_call2_v1 : Ref sig .tc := ⟨.hbm, 252, rfl⟩
abbrev main_call2_v2 : Ref sig .tc := ⟨.hbm, 253, rfl⟩
abbrev main_v186 : Ref sig .tc := ⟨.hbm, 254, rfl⟩
abbrev main_cst_36 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_cst_37 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_cst_38 : Ref sig .tc := ⟨.hbm, 274, rfl⟩
abbrev main_v204 : Ref sig .tc := ⟨.hbm, 275, rfl⟩
abbrev main_v205 : Ref sig .tc := ⟨.hbm, 276, rfl⟩
abbrev main_cst_39 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_cst_40 : Ref sig .tc := ⟨.hbm, 284, rfl⟩
abbrev main_v212 : Ref sig .tc := ⟨.hbm, 285, rfl⟩
abbrev main_v213 : Ref sig .tc := ⟨.hbm, 286, rfl⟩
abbrev main_cst_41 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_cst_42 : Ref sig .tc := ⟨.hbm, 295, rfl⟩
abbrev main_v221 : Ref sig .tc := ⟨.hbm, 296, rfl⟩
abbrev main_v222 : Ref sig .tc := ⟨.hbm, 297, rfl⟩
abbrev main_cst_43 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_cst_44 : Ref sig .tc := ⟨.hbm, 306, rfl⟩
abbrev main_v230 : Ref sig .tc := ⟨.hbm, 307, rfl⟩
abbrev main_v231 : Ref sig .tc := ⟨.hbm, 308, rfl⟩
abbrev main_cst_45 : Ref sig .tc := ⟨.hbm, 309, rfl⟩
abbrev main_v232 : Ref sig .tc := ⟨.hbm, 310, rfl⟩
abbrev main_v233 : Ref sig .tc := ⟨.hbm, 311, rfl⟩
abbrev main_call3_call0_cst : Ref sig .tc := ⟨.hbm, 312, rfl⟩
abbrev main_call3_call0_v0 : Ref sig .tc := ⟨.hbm, 313, rfl⟩
abbrev main_v234 : Ref sig .tc := ⟨.hbm, 314, rfl⟩
abbrev main_v235 : Ref sig .tc := ⟨.hbm, 315, rfl⟩
abbrev main_cst_46 : Ref sig .tc := ⟨.hbm, 316, rfl⟩
abbrev main_v236 : Ref sig .tc := ⟨.hbm, 317, rfl⟩
abbrev main_v237 : Ref sig .tc := ⟨.hbm, 318, rfl⟩
abbrev main_cst_47 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_cst_48 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_cst_49 : Ref sig .tc := ⟨.hbm, 329, rfl⟩
abbrev main_v246 : Ref sig .tc := ⟨.hbm, 330, rfl⟩
abbrev main_v247 : Ref sig .tc := ⟨.hbm, 331, rfl⟩
abbrev main_cst_50 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_cst_51 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_cst_52 : Ref sig .tc := ⟨.hbm, 342, rfl⟩
abbrev main_v256 : Ref sig .tc := ⟨.hbm, 343, rfl⟩
abbrev main_v257 : Ref sig .tc := ⟨.hbm, 344, rfl⟩
abbrev main_cst_53 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_cst_54 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_cst_55 : Ref sig .tc := ⟨.hbm, 356, rfl⟩
abbrev main_v267 : Ref sig .tc := ⟨.hbm, 357, rfl⟩
abbrev main_v268 : Ref sig .tc := ⟨.hbm, 358, rfl⟩
abbrev main_cst_56 : Ref sig .tc := ⟨.hbm, 359, rfl⟩
abbrev main_v269 : Ref sig .tc := ⟨.hbm, 360, rfl⟩
abbrev main_v270 : Ref sig .tc := ⟨.hbm, 361, rfl⟩
abbrev main_v271 : Ref sig .tc := ⟨.hbm, 362, rfl⟩
abbrev main_v272 : Ref sig .tc := ⟨.hbm, 363, rfl⟩
abbrev main_cst_57 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_cst_58 : Ref sig .tc := ⟨.hbm, 369, rfl⟩
abbrev main_v277 : Ref sig .tc := ⟨.hbm, 370, rfl⟩
abbrev main_cst_59 : Ref sig .tc := ⟨.hbm, 371, rfl⟩
abbrev main_v278 : Ref sig .tc := ⟨.hbm, 372, rfl⟩
abbrev main_v279 : Ref sig .tc := ⟨.hbm, 373, rfl⟩
abbrev main_cst_60 : Ref sig .tc := ⟨.hbm, 374, rfl⟩
abbrev main_v280 : Ref sig .tc := ⟨.hbm, 375, rfl⟩
abbrev main_v281 : Ref sig .tc := ⟨.hbm, 376, rfl⟩
abbrev main_v282 : Ref sig .tc := ⟨.hbm, 377, rfl⟩
abbrev main_cst_61 : Ref sig .tc := ⟨.hbm, 378, rfl⟩
abbrev main_v283 : Ref sig .tc := ⟨.hbm, 379, rfl⟩
abbrev main_v284 : Ref sig .tc := ⟨.hbm, 380, rfl⟩
abbrev main_v285 : Ref sig .tc := ⟨.hbm, 381, rfl⟩
abbrev main_cst_62 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_cst_63 : Ref sig .tc := ⟨.hbm, 388, rfl⟩
abbrev main_v291 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_cst_64 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_v299 : Ref sig .tc := ⟨.hbm, 398, rfl⟩
abbrev main_v300 : Ref sig .tc := ⟨.hbm, 399, rfl⟩
abbrev main_cst_65 : Ref sig .tc := ⟨.hbm, 400, rfl⟩
abbrev main_v301 : Ref sig .tc := ⟨.hbm, 401, rfl⟩
abbrev main_v302 : Ref sig .tc := ⟨.hbm, 402, rfl⟩
abbrev main_cst_66 : Ref sig .tc := ⟨.hbm, 403, rfl⟩
abbrev main_v303 : Ref sig .tc := ⟨.hbm, 404, rfl⟩
abbrev main_v304 : Ref sig .tc := ⟨.hbm, 405, rfl⟩
abbrev main_v305 : Ref sig .tc := ⟨.hbm, 406, rfl⟩
abbrev main_v306 : Ref sig .tc := ⟨.hbm, 407, rfl⟩
abbrev main_v307 : Ref sig .tc := ⟨.hbm, 408, rfl⟩
abbrev main_v308 : Ref sig .tc := ⟨.hbm, 409, rfl⟩
abbrev main_v309 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_cst_67 : Ref sig .tc := ⟨.hbm, 414, rfl⟩
abbrev main_v313 : Ref sig .tc := ⟨.hbm, 415, rfl⟩
abbrev main_v314 : Ref sig .tc := ⟨.hbm, 416, rfl⟩
abbrev main_cst_68 : Ref sig .tc := ⟨.hbm, 417, rfl⟩
abbrev main_v315 : Ref sig .tc := ⟨.hbm, 418, rfl⟩
abbrev main_v316 : Ref sig .tc := ⟨.hbm, 419, rfl⟩
abbrev main_c_69 : Ref sig .tc := ⟨.hbm, 420, rfl⟩
abbrev main_call4_v0 : Ref sig .tc := ⟨.hbm, 421, rfl⟩
abbrev main_v317 : Ref sig .tc := ⟨.hbm, 422, rfl⟩

abbrev nD : Nat := 1
abbrev τ : Topo := Topo.v7x

variable {F : FTy → Type} [FloatOps F]
-- ==== Kernel2.lean ====
abbrev S2048x1024 : Shape := ⟨2, ![2048, 1024]⟩
abbrev S6x1024 : Shape := ⟨2, ![6, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2048x704 : Shape := ⟨3, ![4, 2048, 704]⟩
abbrev S8x1024 : Shape := ⟨2, ![8, 1024]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1024 : Shape := ⟨1, ![1024]⟩

abbrev nBuf : Space → Nat
  | .hbm => 23
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S6x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2816x1024, .f32⟩
  | .hbm, ⟨9, _⟩ => ⟨S2816x1024, .bf16⟩
  | .hbm, ⟨10, _⟩ => ⟨S4x704x1024, .bf16⟩
  | .hbm, ⟨11, _⟩ => ⟨S2816x1024, .f32⟩
  | .hbm, ⟨12, _⟩ => ⟨S2816x1024, .bf16⟩
  | .hbm, ⟨13, _⟩ => ⟨S4x704x1024, .bf16⟩
  | .hbm, ⟨14, _⟩ => ⟨S2816x1024, .bf16⟩
  | .hbm, ⟨15, _⟩ => ⟨S4x704x1024, .bf16⟩
  | .hbm, ⟨16, _⟩ => ⟨S2048x1024, .f32⟩
  | .hbm, ⟨17, _⟩ => ⟨S2048x1024, .bf16⟩
  | .hbm, ⟨18, _⟩ => ⟨S2048x1024, .bf16⟩
  | .hbm, ⟨19, _⟩ => ⟨S4x2048x704, .bf16⟩
  | .hbm, ⟨20, _⟩ => ⟨S4x2048x704, .bf16⟩
  | .hbm, ⟨21, _⟩ => ⟨S4x2048x704, .bf16⟩
  | .hbm, ⟨22, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S6x1024, .f32⟩
  | .local _ .vmem, ⟨5, _⟩ => ⟨S1x1024, .f32⟩
  | .local _ .vmem, ⟨6, _⟩ => ⟨S1x1024, .f32⟩
  | .local _ .vmem, ⟨7, _⟩ => ⟨S4x704x1024, .bf16⟩
  | .local _ .vmem, ⟨8, _⟩ => ⟨S4x704x1024, .bf16⟩
  | .local _ .vmem, ⟨9, _⟩ => ⟨S4x704x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S4x256x704, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S8x1024, .f32⟩
  | .local _ .vmem, ⟨23, _⟩ => ⟨S4x256x704, .f32⟩
  | .local _ .vmem, ⟨24, _⟩ => ⟨S4x256x704, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S2048x1024 : Shape := ⟨2, ![2048, 1024]⟩
abbrev S6x1024 : Shape := ⟨2, ![6, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S1024 : Shape := ⟨1, ![1024]⟩
abbrev S2x1024 : Shape := ⟨2, ![2, 1024]⟩
abbrev S8x1024 : Shape := ⟨2, ![8, 1024]⟩
abbrev S2048x4x704 : Shape := ⟨3, ![2048, 4, 704]⟩
abbrev S4x2048x704 : Shape := ⟨3, ![4, 2048, 704]⟩

abbrev nBuf : Space → Nat
  | .hbm => 190
  | .vmem => 0
  | .smem => 0
  | _ => 0

abbrev hbmTy0_0 (i : Nat) : BufTy := match i % 128 with
  | 0 => ⟨S2048x1024, .f32⟩
  | 1 => ⟨S2048x1024, .f32⟩
  | 2 => ⟨S6x1024, .f32⟩
  | 3 => ⟨S1x1024, .f32⟩
  | 4 => ⟨S1x1024, .f32⟩
  | 5 => ⟨S1024x2816, .f32⟩
  | 6 => ⟨S1024x2816, .f32⟩
  | 7 => ⟨S2816x1024, .f32⟩
  | 8 => ⟨S1x1024, .f32⟩
  | 9 => ⟨S1x1024, .f32⟩
  | 10 => ⟨S1x1024, .f32⟩
  | 11 => ⟨S2048x1024, .f32⟩
  | 12 => ⟨S_, .f32⟩
  | 13 => ⟨S2048, .f32⟩
  | 14 => ⟨S2048x1, .f32⟩
  | 15 => ⟨S_, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1024, .f32⟩
  | 27 => ⟨S2048x1024, .f32⟩
  | 28 => ⟨S2048x1024, .f32⟩
  | 29 => ⟨S2048x1024, .f32⟩
  | 30 => ⟨S_, .f32⟩
  | 31 => ⟨S1x1024, .f32⟩
  | 32 => ⟨S1x1024, .f32⟩
  | 33 => ⟨S2048x1024, .f32⟩
  | 34 => ⟨S2048x1024, .f32⟩
  | 35 => ⟨S2048x1024, .f32⟩
  | 36 => ⟨S2048x1024, .f32⟩
  | 37 => ⟨S2048x2816, .f32⟩
  | 38 => ⟨S2048x2816, .f32⟩
  | 39 => ⟨S2048x2816, .f32⟩
  | 40 => ⟨S2048x2816, .f32⟩
  | 41 => ⟨S_, .f32⟩
  | 42 => ⟨S2048x2816, .f32⟩
  | 43 => ⟨S2048x2816, .f32⟩
  | 44 => ⟨S_, .f32⟩
  | 45 => ⟨S2048x2816, .f32⟩
  | 46 => ⟨S2048x2816, .f32⟩
  | 47 => ⟨S_, .f32⟩
  | 48 => ⟨S2048x2816, .f32⟩
  | 49 => ⟨S2048x2816, .f32⟩
  | 50 => ⟨S2048x2816, .f32⟩
  | 51 => ⟨S2048x2816, .f32⟩
  | 52 => ⟨S2048x2816, .f32⟩
  | 53 => ⟨S2048x1024, .f32⟩
  | 54 => ⟨S2048x1024, .f32⟩
  | 55 => ⟨S2048x1024, .f32⟩
  | 56 => ⟨S2048x1024, .f32⟩
  | 57 => ⟨S2048x1024, .f32⟩
  | 58 => ⟨S_, .f32⟩
  | 59 => ⟨S2048, .f32⟩
  | 60 => ⟨S2048x1, .f32⟩
  | 61 => ⟨S_, .f32⟩
  | 62 => ⟨S2048x1, .f32⟩
  | 63 => ⟨S2048x1, .f32⟩
  | 64 => ⟨S_, .f32⟩
  | 65 => ⟨S2048x1, .f32⟩
  | 66 => ⟨S2048x1, .f32⟩
  | 67 => ⟨S2048x1, .f32⟩
  | 68 => ⟨S2048x1, .f32⟩
  | 69 => ⟨S_, .f32⟩
  | 70 => ⟨S2048x1, .f32⟩
  | 71 => ⟨S2048x1, .f32⟩
  | 72 => ⟨S2048x1024, .f32⟩
  | 73 => ⟨S2048x1024, .f32⟩
  | 74 => ⟨S2048x1024, .f32⟩
  | 75 => ⟨S2048x1024, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S_, .f32⟩
  | 82 => ⟨S2048, .f32⟩
  | 83 => ⟨S_, .f32⟩
  | 84 => ⟨S2048, .f32⟩
  | 85 => ⟨S2048, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S2048, .f32⟩
  | 94 => ⟨S_, .f32⟩
  | 95 => ⟨S2048, .f32⟩
  | 96 => ⟨S2048, .f32⟩
  | 97 => ⟨S2048x1024, .f32⟩
  | 98 => ⟨S2048x1024, .f32⟩
  | 99 => ⟨S2048x1024, .f32⟩
  | 100 => ⟨S_, .f32⟩
  | 101 => ⟨S1024, .f32⟩
  | 102 => ⟨S1x1024, .f32⟩
  | 103 => ⟨S2048x1024, .f32⟩
  | 104 => ⟨S2048x1024, .f32⟩
  | 105 => ⟨S2048x1024, .f32⟩
  | 106 => ⟨S_, .f32⟩
  | 107 => ⟨S2048, .f32⟩
  | 108 => ⟨S2048x1, .f32⟩
  | 109 => ⟨S2048x1024, .f32⟩
  | 110 => ⟨S2048x1024, .f32⟩
  | 111 => ⟨S2048x1, .f32⟩
  | 112 => ⟨S_, .f32⟩
  | 113 => ⟨S2048x1, .f32⟩
  | 114 => ⟨S2048x1, .f32⟩
  | 115 => ⟨S_, .f32⟩
  | 116 => ⟨S2048, .f32⟩
  | 117 => ⟨S2048x1024, .f32⟩
  | 118 => ⟨S2048x1024, .f32⟩
  | 119 => ⟨S2048x1024, .f32⟩
  | 120 => ⟨S2048x1024, .f32⟩
  | 121 => ⟨S2048x1024, .f32⟩
  | 122 => ⟨S2048x1024, .f32⟩
  | 123 => ⟨S2048x1024, .f32⟩
  | 124 => ⟨S2048x1024, .f32⟩
  | 125 => ⟨S_, .f32⟩
  | 126 => ⟨S1024, .f32⟩
  | 127 => ⟨S1x1024, .f32⟩
  | _ => ⟨S2048x1024, .f32⟩

abbrev hbmTy0_1 (i : Nat) : BufTy := match i % 128 with
  | 0 => ⟨S2048x2816, .f32⟩
  | 1 => ⟨S2048x2816, .f32⟩
  | 2 => ⟨S2048x2816, .f32⟩
  | 3 => ⟨S2048x2816, .f32⟩
  | 4 => ⟨S2048x2816, .f32⟩
  | 5 => ⟨S2048x2816, .f32⟩
  | 6 => ⟨S2048x2816, .f32⟩
  | 7 => ⟨S2048x1024, .f32⟩
  | 8 => ⟨S2048x1024, .f32⟩
  | 9 => ⟨S2048x1024, .f32⟩
  | 10 => ⟨S_, .f32⟩
  | 11 => ⟨S1024, .f32⟩
  | 12 => ⟨S1x1024, .f32⟩
  | 13 => ⟨S2048x1024, .f32⟩
  | 14 => ⟨S_, .f32⟩
  | 15 => ⟨S1024, .f32⟩
  | 16 => ⟨S1x1024, .f32⟩
  | 17 => ⟨S2048x1024, .f32⟩
  | 18 => ⟨S2048x1024, .f32⟩
  | 19 => ⟨S2048x1024, .f32⟩
  | 20 => ⟨S_, .f32⟩
  | 21 => ⟨S1024, .f32⟩
  | 22 => ⟨S1x1024, .f32⟩
  | 23 => ⟨S2048x1024, .f32⟩
  | 24 => ⟨S2048x1024, .f32⟩
  | 25 => ⟨S2048x1024, .f32⟩
  | 26 => ⟨S_, .f32⟩
  | 27 => ⟨S2048, .f32⟩
  | 28 => ⟨S2048x1, .f32⟩
  | 29 => ⟨S2048x1024, .f32⟩
  | 30 => ⟨S2048x1024, .f32⟩
  | 31 => ⟨S2048x1, .f32⟩
  | 32 => ⟨S_, .f32⟩
  | 33 => ⟨S2048x1, .f32⟩
  | 34 => ⟨S2048x1, .f32⟩
  | 35 => ⟨S_, .f32⟩
  | 36 => ⟨S2048, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S_, .f32⟩
  | 45 => ⟨S1024, .f32⟩
  | 46 => ⟨S1x1024, .f32⟩
  | 47 => ⟨S_, .f32⟩
  | 48 => ⟨S2x1024, .f32⟩
  | 49 => ⟨S8x1024, .f32⟩
  | 50 => ⟨S2048x1024, .f32⟩
  | 51 => ⟨S2048x1024, .bf16⟩
  | 52 => ⟨S2048x1024, .bf16⟩
  | 53 => ⟨S2048x2816, .bf16⟩
  | 54 => ⟨S2048x4x704, .bf16⟩
  | 55 => ⟨S4x2048x704, .bf16⟩
  | 56 => ⟨S2048x2816, .bf16⟩
  | 57 => ⟨S2048x4x704, .bf16⟩
  | 58 => ⟨S4x2048x704, .bf16⟩
  | 59 => ⟨S2048x2816, .bf16⟩
  | 60 => ⟨S2048x4x704, .bf16⟩
  | 61 => ⟨S4x2048x704, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v26_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v26_1 : Ref sig .tc := ⟨.hbm, 50, rfl⟩
abbrev main_v26_0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_cst_13 : Ref sig .tc := ⟨.hbm, 90, rfl⟩
abbrev main_cst_14 : Ref sig .tc := ⟨.hbm, 91, rfl⟩
abbrev main_v56 : Ref sig .tc := ⟨.hbm, 92, rfl⟩
abbrev main_v57 : Ref sig .tc := ⟨.hbm, 93, rfl⟩
abbrev main_cst_15 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_16 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_17 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_18 : Ref sig .tc := ⟨.hbm, 112, rfl⟩
abbrev main_v73 : Ref sig .tc := ⟨.hbm, 113, rfl⟩
abbrev main_v74 : Ref sig .tc := ⟨.hbm, 114, rfl⟩
abbrev main_cst_19 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_20 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_21 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_22 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_23 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_24 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_25 : Ref sig .tc := ⟨.hbm, 160, rfl⟩
abbrev main_v111 : Ref sig .tc := ⟨.hbm, 161, rfl⟩
abbrev main_v112 : Ref sig .tc := ⟨.hbm, 162, rfl⟩
abbrev main_cst_26 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_27 : Ref sig .tc := ⟨.hbm, 172, rfl⟩
abbrev main_v121 : Ref sig .tc := ⟨.hbm, 173, rfl⟩
abbrev main_v122 : Ref sig .tc := ⟨.hbm, 174, rfl⟩
abbrev main_cst_28 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩

abbrev nD : Nat := 1
abbrev τ : Topo := Topo.v7x

variable {F : FTy → Type} [FloatOps F]
-- ==== Proof.Mean.lean ====
/-
  ARRAYS OF REAL NUMBERS as ideal values: `up1`, `up2`, `up3` write a real function of naturals as an array of extended
  reals, and one lemma for every operation says what it does to such an array.
-/
module

public import Idealize.ShloMosaic.Lib.Pipeline.ValueKit

@[expose] public section

set_option maxRecDepth 16384

noncomputable section

open Idealize.ShloMosaic Idealize.ShloMosaic.ValueIdx
open scoped BigOperators

namespace Cert.Proof

/-! ## arrays from functions of naturals -/

def up1 {n : ℕ} (A : ℕ → ℝ) : (⟨1, ![n]⟩ : Shape).Idx → EReal := fun i => (A (i 0).val : EReal)
def up2 {n m : ℕ} (A : ℕ → ℕ → ℝ) : (⟨2, ![n, m]⟩ : Shape).Idx → EReal := fun i => (A (i 0).val (i 1).val : EReal)
def up3 {l n m : ℕ} (A : ℕ → ℕ → ℕ → ℝ) : (⟨3, ![l, n, m]⟩ : Shape).Idx → EReal :=
  fun i => (A (i 0).val (i 1).val (i 2).val : EReal)
def ui1 {n : ℕ} (A : ℕ → BitVec 32) : (⟨1, ![n]⟩ : Shape).Idx → BitVec 32 := fun i => A (i 0).val
def ui2 {n m : ℕ} (A : ℕ → ℕ → BitVec 32) : (⟨2, ![n, m]⟩ : Shape).Idx → BitVec 32 := fun i => A (i 0).val (i 1).val
def ui3 {l n m : ℕ} (A : ℕ → ℕ → ℕ → BitVec 32) : (⟨3, ![l, n, m]⟩ : Shape).Idx → BitVec 32 :=
  fun i => A (i 0).val (i 1).val (i 2).val

theorem up1_congr {n : ℕ} {A B : ℕ → ℝ} (h : ∀ i < n, A i = B i) : up1 (n := n) A = up1 B :=
  funext fun i => by unfold up1; rw [h _ (i 0).isLt]
theorem up2_congr {n m : ℕ} {A B : ℕ → ℕ → ℝ} (h : ∀ i < n, ∀ j < m, A i j = B i j) : up2 (n := n) (m := m) A = up2 B :=
  funext fun i => by unfold up2; rw [h _ (i 0).isLt _ (i 1).isLt]
theorem up3_congr {l n m : ℕ} {A B : ℕ → ℕ → ℕ → ℝ} (h : ∀ k < l, ∀ i < n, ∀ j < m, A k i j = B k i j) :
    up3 (l := l) (n := n) (m := m) A = up3 B :=
  funext fun i => by unfold up3; rw [h _ (i 0).isLt _ (i 1).isLt _ (i 2).isLt]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum_fin (n : ℕ) (f : ℕ → ℝ) : ∑ k : Fin n, (f k.val : EReal) = ((∑ k ∈ Finset.range n, f k : ℝ) : EReal) := by
  rw [coe_sum, Finset.sum_range]

/-! ## constants -/

theorem bits_zero : Ideal.ofBits .f32 0x00000000#32 = ((0 : ℝ) : EReal) := by
  rw [Ideal.ofBits_zero_f32]; rfl
theorem bits_one : Ideal.ofBits .f32 0x3F800000#32 = ((1 : ℝ) : EReal) := by
  simp [Ideal.ofBits, Ideal.ieee]; rw [← EReal.coe_mul]; norm_num
theorem bits_two : Ideal.ofBits .f32 0x40000000#32 = ((2 : ℝ) : EReal) := by
  simp [Ideal.ofBits, Ideal.ieee]; rw [← EReal.coe_mul]; norm_num
theorem bits_512 : Ideal.ofBits .f32 0x44000000#32 = ((512 : ℝ) : EReal) := by
  simp [Ideal.ofBits, Ideal.ieee]; rw [← EReal.coe_mul]; norm_num
theorem bits_1024 : Ideal.ofBits .f32 0x44800000#32 = ((1024 : ℝ) : EReal) := by
  simp [Ideal.ofBits, Ideal.ieee]; rw [← EReal.coe_mul]; norm_num
theorem bits_mhalf : Ideal.ofBits .f32 0xBF000000#32 = ((-(1 / 2) : ℝ) : EReal) := by
  simp [Ideal.ofBits, Ideal.ieee]; rw [← EReal.coe_mul]; norm_num
/-- The rounded `1e-6` of the two normalisations. -/
def eps : ℝ := 8796093 / 2 ^ 43
theorem bits_eps : Ideal.ofBits .f32 0x358637BD#32 = ((eps : ℝ) : EReal) := by
  simp [Ideal.ofBits, Ideal.ieee, eps]; rw [← EReal.coe_mul]; norm_num

theorem eps_pos : 0 < eps := by unfold eps; positivity

/-! ## entrywise operations, rank 1 -/

section
variable {n : ℕ} {φ ψ : FTy} (A B : ℕ → ℝ)
theorem addf_up1 : addf (F := Ideal) (s := ⟨1, ![n]⟩) (φ := φ) (up1 A) (up1 B) = up1 fun i => A i + B i :=
  funext fun i => (EReal.coe_add _ _).symm
theorem subf_up1 : subf (F := Ideal) (s := ⟨1, ![n]⟩) (φ := φ) (up1 A) (up1 B) = up1 fun i => A i - B i :=
  funext fun i => (EReal.coe_sub _ _).symm
theorem mulf_up1 : mulf (F := Ideal) (s := ⟨1, ![n]⟩) (φ := φ) (up1 A) (up1 B) = up1 fun i => A i * B i :=
  funext fun i => (EReal.coe_mul _ _).symm
theorem negf_up1 : Host.negf (F := Ideal) (s := ⟨1, ![n]⟩) (φ := φ) (up1 A) = up1 fun i => -A i :=
  funext fun i => (EReal.coe_neg _).symm
theorem exp_up1 : exp (F := Ideal) (s := ⟨1, ![n]⟩) (φ := φ) (up1 A) = up1 fun i => Real.exp (A i) :=
  funext fun i => Ideal.exp_coe _
theorem hexp_up1 : Host.exp (F := Ideal) (s := ⟨1, ![n]⟩) (φ := φ) (up1 A) = up1 fun i => Real.exp (A i) :=
  funext fun i => Ideal.exp_coe _
theorem divf_up1 (h : ∀ i < n, B i ≠ 0) : divf (F := Ideal) (s := ⟨1, ![n]⟩) (φ := φ) (up1 A) (up1 B) = up1 fun i => A i / B i := by
  funext i
  show Ideal.div (A (i 0).val : EReal) (B (i 0).val : EReal) = ((A (i 0).val / B (i 0).val : ℝ) : EReal)
  rw [Ideal.div_coe (h _ (i 0).isLt), ← EReal.coe_mul, mul_one_div]
theorem hdivf_up1 (h : ∀ i < n, B i ≠ 0) : Host.divf (F := Ideal) (s := ⟨1, ![n]⟩) (φ := φ) (up1 A) (up1 B) = up1 fun i => A i / B i := by
  funext i
  show Ideal.div (A (i 0).val : EReal) (B (i 0).val : EReal) = ((A (i 0).val / B (i 0).val : ℝ) : EReal)
  rw [Ideal.div_coe (h _ (i 0).isLt), ← EReal.coe_mul, mul_one_div]
theorem rsqrt_up1 (h : ∀ i < n, 0 < A i) : rsqrt (F := Ideal) (s := ⟨1, ![n]⟩) (φ := φ) (up1 A) = up1 fun i => (√(A i))⁻¹ := by
  funext i
  show Ideal.rsqrt (A (i 0).val : EReal) = _
  have h0 := h _ (i 0).isLt
  rw [Ideal.rsqrt_coe, if_neg (not_lt.2 h0.le), if_neg h0.ne']
  rfl
theorem hrsqrt_up1 (h : ∀ i < n, 0 < A i) : Host.rsqrt (F := Ideal) (s := ⟨1, ![n]⟩) (φ := φ) (up1 A) = up1 fun i => (√(A i))⁻¹ := by
  funext i
  show Ideal.rsqrt (A (i 0).val : EReal) = _
  have h0 := h _ (i 0).isLt
  rw [Ideal.rsqrt_coe, if_neg (not_lt.2 h0.le), if_neg h0.ne']
  rfl
theorem truncf_up1 (h : ψ.bits < φ.bits) : truncf (F := Ideal) (s := ⟨1, ![n]⟩) (φ := φ) ψ (up1 A) h = up1 A := rfl
theorem extf_up1 (h : φ.bits < ψ.bits) : extf (F := Ideal) (s := ⟨1, ![n]⟩) (φ := φ) ψ (up1 A) h = up1 A := rfl
theorem sitofp_up1 (W : ℕ → BitVec 32) : sitofp (F := Ideal) (s := ⟨1, ![n]⟩) φ (ui1 W) = up1 fun i => ((W i).toInt : ℝ) := rfl
theorem addi_ui1 (V W : ℕ → BitVec 32) : addi (s := ⟨1, ![n]⟩) (ui1 V) (ui1 W) = ui1 fun i => IntOp.addi (V i) (W i) := rfl
theorem minsi_ui1 (V W : ℕ → BitVec 32) : minsi (s := ⟨1, ![n]⟩) (ui1 V) (ui1 W) = ui1 fun i => IntOp.minsi (V i) (W i) := rfl
theorem constant_up1 (b : BitVec 32) (c : ℝ) (h : Ideal.ofBits .f32 b = (c : EReal)) : constant (F := Ideal) ⟨1, ![n]⟩ .f32 b = up1 fun _ => c :=
  funext fun i => h
theorem const_zero_up1 : constant (F := Ideal) ⟨1, ![n]⟩ .f32 0x00000000#32 = up1 fun _ => (0 : ℝ) := constant_up1 _ _ bits_zero
theorem splat_zero_up1 : broadcast ⟨1, ![n]⟩ (Scalar.ofBits (F := Ideal) .f32 0x00000000#32) = up1 fun _ => (0 : ℝ) := constant_up1 _ _ bits_zero
theorem const_one_up1 : constant (F := Ideal) ⟨1, ![n]⟩ .f32 0x3F800000#32 = up1 fun _ => (1 : ℝ) := constant_up1 _ _ bits_one
theorem splat_one_up1 : broadcast ⟨1, ![n]⟩ (Scalar.ofBits (F := Ideal) .f32 0x3F800000#32) = up1 fun _ => (1 : ℝ) := constant_up1 _ _ bits_one
theorem const_two_up1 : constant (F := Ideal) ⟨1, ![n]⟩ .f32 0x40000000#32 = up1 fun _ => (2 : ℝ) := constant_up1 _ _ bits_two
theorem splat_two_up1 : broadcast ⟨1, ![n]⟩ (Scalar.ofBits (F := Ideal) .f32 0x40000000#32) = up1 fun _ => (2 : ℝ) := constant_up1 _ _ bits_two
theorem const_512_up1 : constant (F := Ideal) ⟨1, ![n]⟩ .f32 0x44000000#32 = up1 fun _ => (512 : ℝ) := constant_up1 _ _ bits_512
theorem splat_512_up1 : broadcast ⟨1, ![n]⟩ (Scalar.ofBits (F := Ideal) .f32 0x44000000#32) = up1 fun _ => (512 : ℝ) := constant_up1 _ _ bits_512
theorem const_1024_up1 : constant (F := Ideal) ⟨1, ![n]⟩ .f32 0x44800000#32 = up1 fun _ => (1024 : ℝ) := constant_up1 _ _ bits_1024
theorem splat_1024_up1 : broadcast ⟨1, ![n]⟩ (Scalar.ofBits (F := Ideal) .f32 0x44800000#32) = up1 fun _ => (1024 : ℝ) := constant_up1 _ _ bits_1024
theorem const_mhalf_up1 : constant (F := Ideal) ⟨1, ![n]⟩ .f32 0xBF000000#32 = up1 fun _ => (-(1 / 2) : ℝ) := constant_up1 _ _ bits_mhalf
theorem splat_mhalf_up1 : broadcast ⟨1, ![n]⟩ (Scalar.ofBits (F := Ideal) .f32 0xBF000000#32) = up1 fun _ => (-(1 / 2) : ℝ) := constant_up1 _ _ bits_mhalf
theorem const_eps_up1 : constant (F := Ideal) ⟨1, ![n]⟩ .f32 0x358637BD#32 = up1 fun _ => (eps : ℝ) := constant_up1 _ _ bits_eps
theorem splat_eps_up1 : broadcast ⟨1, ![n]⟩ (Scalar.ofBits (F := Ideal) .f32 0x358637BD#32) = up1 fun _ => (eps : ℝ) := constant_up1 _ _ bits_eps
theorem splat_ui1 (b : BitVec 32) : broadcast ⟨1, ![n]⟩ b = ui1 fun _ => b := rfl
theorem constantI_ui1 (b : BitVec 32) : constantI ⟨1, ![n]⟩ 32 b = ui1 fun _ => b := rfl
end

/-! ## entrywise operations, rank 2 -/

section
variable {n m : ℕ} {φ ψ : FTy} (A B : ℕ → ℕ → ℝ)
theorem addf_up2 : addf (F := Ideal) (s := ⟨2, ![n, m]⟩) (φ := φ) (up2 A) (up2 B) = up2 fun i j => A i j + B i j :=
  funext fun i => (EReal.coe_add _ _).symm
theorem subf_up2 : subf (F := Ideal) (s := ⟨2, ![n, m]⟩) (φ := φ) (up2 A) (up2 B) = up2 fun i j => A i j - B i j :=
  funext fun i => (EReal.coe_sub _ _).symm
theorem mulf_up2 : mulf (F := Ideal) (s := ⟨2, ![n, m]⟩) (φ := φ) (up2 A) (up2 B) = up2 fun i j => A i j * B i j :=
  funext fun i => (EReal.coe_mul _ _).symm
theorem negf_up2 : Host.negf (F := Ideal) (s := ⟨2, ![n, m]⟩) (φ := φ) (up2 A) = up2 fun i j => -A i j :=
  funext fun i => (EReal.coe_neg _).symm
theorem exp_up2 : exp (F := Ideal) (s := ⟨2, ![n, m]⟩) (φ := φ) (up2 A) = up2 fun i j => Real.exp (A i j) :=
  funext fun i => Ideal.exp_coe _
theorem hexp_up2 : Host.exp (F := Ideal) (s := ⟨2, ![n, m]⟩) (φ := φ) (up2 A) = up2 fun i j => Real.exp (A i j) :=
  funext fun i => Ideal.exp_coe _
theorem divf_up2 (h : ∀ i < n, ∀ j < m, B i j ≠ 0) : divf (F := Ideal) (s := ⟨2, ![n, m]⟩) (φ := φ) (up2 A) (up2 B) = up2 fun i j => A i j / B i j := by
  funext i
  show Ideal.div (A (i 0).val (i 1).val : EReal) (B (i 0).val (i 1).val : EReal) = ((A (i 0).val (i 1).val / B (i 0).val (i 1).val : ℝ) : EReal)
  rw [Ideal.div_coe (h _ (i 0).isLt _ (i 1).isLt), ← EReal.coe_mul, mul_one_div]
theorem hdivf_up2 (h : ∀ i < n, ∀ j < m, B i j ≠ 0) : Host.divf (F := Ideal) (s := ⟨2, ![n, m]⟩) (φ := φ) (up2 A) (up2 B) = up2 fun i j => A i j / B i j := by
  funext i
  show Ideal.div (A (i 0).val (i 1).val : EReal) (B (i 0).val (i 1).val : EReal) = ((A (i 0).val (i 1).val / B (i 0).val (i 1).val : ℝ) : EReal)
  rw [Ideal.div_coe (h _ (i 0).isLt _ (i 1).isLt), ← EReal.coe_mul, mul_one_div]
theorem rsqrt_up2 (h : ∀ i < n, ∀ j < m, 0 < A i j) : rsqrt (F := Ideal) (s := ⟨2, ![n, m]⟩) (φ := φ) (up2 A) = up2 fun i j => (√(A i j))⁻¹ := by
  funext i
  show Ideal.rsqrt (A (i 0).val (i 1).val : EReal) = _
  have h0 := h _ (i 0).isLt _ (i 1).isLt
  rw [Ideal.rsqrt_coe, if_neg (not_lt.2 h0.le), if_neg h0.ne']
  rfl
theorem hrsqrt_up2 (h : ∀ i < n, ∀ j < m, 0 < A i j) : Host.rsqrt (F := Ideal) (s := ⟨2, ![n, m]⟩) (φ := φ) (up2 A) = up2 fun i j => (√(A i j))⁻¹ := by
  funext i
  show Ideal.rsqrt (A (i 0).val (i 1).val : EReal) = _
  have h0 := h _ (i 0).isLt _ (i 1).isLt
  rw [Ideal.rsqrt_coe, if_neg (not_lt.2 h0.le), if_neg h0.ne']
  rfl
theorem truncf_up2 (h : ψ.bits < φ.bits) : truncf (F := Ideal) (s := ⟨2, ![n, m]⟩) (φ := φ) ψ (up2 A) h = up2 A := rfl
theorem extf_up2 (h : φ.bits < ψ.bits) : extf (F := Ideal) (s := ⟨2, ![n, m]⟩) (φ := φ) ψ (up2 A) h = up2 A := rfl
theorem sitofp_up2 (W : ℕ → ℕ → BitVec 32) : sitofp (F := Ideal) (s := ⟨2, ![n, m]⟩) φ (ui2 W) = up2 fun i j => ((W i j).toInt : ℝ) := rfl
theorem addi_ui2 (V W : ℕ → ℕ → BitVec 32) : addi (s := ⟨2, ![n, m]⟩) (ui2 V) (ui2 W) = ui2 fun i j => IntOp.addi (V i j) (W i j) := rfl
theorem minsi_ui2 (V W : ℕ → ℕ → BitVec 32) : minsi (s := ⟨2, ![n, m]⟩) (ui2 V) (ui2 W) = ui2 fun i j => IntOp.minsi (V i j) (W i j) := rfl
theorem constant_up2 (b : BitVec 32) (c : ℝ) (h : Ideal.ofBits .f32 b = (c : EReal)) : constant (F := Ideal) ⟨2, ![n, m]⟩ .f32 b = up2 fun _ _ => c :=
  funext fun i => h
theorem const_zero_up2 : constant (F := Ideal) ⟨2, ![n, m]⟩ .f32 0x00000000#32 = up2 fun _ _ => (0 : ℝ) := constant_up2 _ _ bits_zero
theorem splat_zero_up2 : broadcast ⟨2, ![n, m]⟩ (Scalar.ofBits (F := Ideal) .f32 0x00000000#32) = up2 fun _ _ => (0 : ℝ) := constant_up2 _ _ bits_zero
theorem const_one_up2 : constant (F := Ideal) ⟨2, ![n, m]⟩ .f32 0x3F800000#32 = up2 fun _ _ => (1 : ℝ) := constant_up2 _ _ bits_one
theorem splat_one_up2 : broadcast ⟨2, ![n, m]⟩ (Scalar.ofBits (F := Ideal) .f32 0x3F800000#32) = up2 fun _ _ => (1 : ℝ) := constant_up2 _ _ bits_one
theorem const_two_up2 : constant (F := Ideal) ⟨2, ![n, m]⟩ .f32 0x40000000#32 = up2 fun _ _ => (2 : ℝ) := constant_up2 _ _ bits_two
theorem splat_two_up2 : broadcast ⟨2, ![n, m]⟩ (Scalar.ofBits (F := Ideal) .f32 0x40000000#32) = up2 fun _ _ => (2 : ℝ) := constant_up2 _ _ bits_two
theorem const_512_up2 : constant (F := Ideal) ⟨2, ![n, m]⟩ .f32 0x44000000#32 = up2 fun _ _ => (512 : ℝ) := constant_up2 _ _ bits_512
theorem splat_512_up2 : broadcast ⟨2, ![n, m]⟩ (Scalar.ofBits (F := Ideal) .f32 0x44000000#32) = up2 fun _ _ => (512 : ℝ) := constant_up2 _ _ bits_512
theorem const_1024_up2 : constant (F := Ideal) ⟨2, ![n, m]⟩ .f32 0x44800000#32 = up2 fun _ _ => (1024 : ℝ) := constant_up2 _ _ bits_1024
theorem splat_1024_up2 : broadcast ⟨2, ![n, m]⟩ (Scalar.ofBits (F := Ideal) .f32 0x44800000#32) = up2 fun _ _ => (1024 : ℝ) := constant_up2 _ _ bits_1024
theorem const_mhalf_up2 : constant (F := Ideal) ⟨2, ![n, m]⟩ .f32 0xBF000000#32 = up2 fun _ _ => (-(1 / 2) : ℝ) := constant_up2 _ _ bits_mhalf
theorem splat_mhalf_up2 : broadcast ⟨2, ![n, m]⟩ (Scalar.ofBits (F := Ideal) .f32 0xBF000000#32) = up2 fun _ _ => (-(1 / 2) : ℝ) := constant_up2 _ _ bits_mhalf
theorem const_eps_up2 : constant (F := Ideal) ⟨2, ![n, m]⟩ .f32 0x358637BD#32 = up2 fun _ _ => (eps : ℝ) := constant_up2 _ _ bits_eps
theorem splat_eps_up2 : broadcast ⟨2, ![n, m]⟩ (Scalar.ofBits (F := Ideal) .f32 0x358637BD#32) = up2 fun _ _ => (eps : ℝ) := constant_up2 _ _ bits_eps
theorem splat_ui2 (b : BitVec 32) : broadcast ⟨2, ![n, m]⟩ b = ui2 fun _ _ => b := rfl
theorem constantI_ui2 (b : BitVec 32) : constantI ⟨2, ![n, m]⟩ 32 b = ui2 fun _ _ => b := rfl
end

/-! ## entrywise operations, rank 3 -/

section
variable {l n m : ℕ} {φ ψ : FTy} (A B : ℕ → ℕ → ℕ → ℝ)
theorem addf_up3 : addf (F := Ideal) (s := ⟨3, ![l, n, m]⟩) (φ := φ) (up3 A) (up3 B) = up3 fun i j k => A i j k + B i j k :=
  funext fun i => (EReal.coe_add _ _).symm
theorem subf_up3 : subf (F := Ideal) (s := ⟨3, ![l, n, m]⟩) (φ := φ) (up3 A) (up3 B) = up3 fun i j k => A i j k - B i j k :=
  funext fun i => (EReal.coe_sub _ _).symm
theorem mulf_up3 : mulf (F := Ideal) (s := ⟨3, ![l, n, m]⟩) (φ := φ) (up3 A) (up3 B) = up3 fun i j k => A i j k * B i j k :=
  funext fun i => (EReal.coe_mul _ _).symm
theorem negf_up3 : Host.negf (F := Ideal) (s := ⟨3, ![l, n, m]⟩) (φ := φ) (up3 A) = up3 fun i j k => -A i j k :=
  funext fun i => (EReal.coe_neg _).symm
theorem exp_up3 : exp (F := Ideal) (s := ⟨3, ![l, n, m]⟩) (φ := φ) (up3 A) = up3 fun i j k => Real.exp (A i j k) :=
  funext fun i => Ideal.exp_coe _
theorem hexp_up3 : Host.exp (F := Ideal) (s := ⟨3, ![l, n, m]⟩) (φ := φ) (up3 A) = up3 fun i j k => Real.exp (A i j k) :=
  funext fun i => Ideal.exp_coe _
theorem divf_up3 (h : ∀ i < l, ∀ j < n, ∀ k < m, B i j k ≠ 0) : divf (F := Ideal) (s := ⟨3, ![l, n, m]⟩) (φ := φ) (up3 A) (up3 B) = up3 fun i j k => A i j k / B i j k := by
  funext i
  show Ideal.div (A (i 0).val (i 1).val (i 2).val : EReal) (B (i 0).val (i 1).val (i 2).val : EReal) = ((A (i 0).val (i 1).val (i 2).val / B (i 0).val (i 1).val (i 2).val : ℝ) : EReal)
  rw [Ideal.div_coe (h _ (i 0).isLt _ (i 1).isLt _ (i 2).isLt), ← EReal.coe_mul, mul_one_div]
theorem hdivf_up3 (h : ∀ i < l, ∀ j < n, ∀ k < m, B i j k ≠ 0) : Host.divf (F := Ideal) (s := ⟨3, ![l, n, m]⟩) (φ := φ) (up3 A) (up3 B) = up3 fun i j k => A i j k / B i j k := by
  funext i
  show Ideal.div (A (i 0).val (i 1).val (i 2).val : EReal) (B (i 0).val (i 1).val (i 2).val : EReal) = ((A (i 0).val (i 1).val (i 2).val / B (i 0).val (i 1).val (i 2).val : ℝ) : EReal)
  rw [Ideal.div_coe (h _ (i 0).isLt _ (i 1).isLt _ (i 2).isLt), ← EReal.coe_mul, mul_one_div]
theorem rsqrt_up3 (h : ∀ i < l, ∀ j < n, ∀ k < m, 0 < A i j k) : rsqrt (F := Ideal) (s := ⟨3, ![l, n, m]⟩) (φ := φ) (up3 A) = up3 fun i j k => (√(A i j k))⁻¹ := by
  funext i
  show Ideal.rsqrt (A (i 0).val (i 1).val (i 2).val : EReal) = _
  have h0 := h _ (i 0).isLt _ (i 1).isLt _ (i 2).isLt
  rw [Ideal.rsqrt_coe, if_neg (not_lt.2 h0.le), if_neg h0.ne']
  rfl
theorem hrsqrt_up3 (h : ∀ i < l, ∀ j < n, ∀ k < m, 0 < A i j k) : Host.rsqrt (F := Ideal) (s := ⟨3, ![l, n, m]⟩) (φ := φ) (up3 A) = up3 fun i j k => (√(A i j k))⁻¹ := by
  funext i
  show Ideal.rsqrt (A (i 0).val (i 1).val (i 2).val : EReal) = _
  have h0 := h _ (i 0).isLt _ (i 1).isLt _ (i 2).isLt
  rw [Ideal.rsqrt_coe, if_neg (not_lt.2 h0.le), if_neg h0.ne']
  rfl
theorem truncf_up3 (h : ψ.bits < φ.bits) : truncf (F := Ideal) (s := ⟨3, ![l, n, m]⟩) (φ := φ) ψ (up3 A) h = up3 A := rfl
theorem extf_up3 (h : φ.bits < ψ.bits) : extf (F := Ideal) (s := ⟨3, ![l, n, m]⟩) (φ := φ) ψ (up3 A) h = up3 A := rfl
theorem sitofp_up3 (W : ℕ → ℕ → ℕ → BitVec 32) : sitofp (F := Ideal) (s := ⟨3, ![l, n, m]⟩) φ (ui3 W) = up3 fun i j k => ((W i j k).toInt : ℝ) := rfl
theorem addi_ui3 (V W : ℕ → ℕ → ℕ → BitVec 32) : addi (s := ⟨3, ![l, n, m]⟩) (ui3 V) (ui3 W) = ui3 fun i j k => IntOp.addi (V i j k) (W i j k) := rfl
theorem minsi_ui3 (V W : ℕ → ℕ → ℕ → BitVec 32) : minsi (s := ⟨3, ![l, n, m]⟩) (ui3 V) (ui3 W) = ui3 fun i j k => IntOp.minsi (V i j k) (W i j k) := rfl
theorem constant_up3 (b : BitVec 32) (c : ℝ) (h : Ideal.ofBits .f32 b = (c : EReal)) : constant (F := Ideal) ⟨3, ![l, n, m]⟩ .f32 b = up3 fun _ _ _ => c :=
  funext fun i => h
theorem const_zero_up3 : constant (F := Ideal) ⟨3, ![l, n, m]⟩ .f32 0x00000000#32 = up3 fun _ _ _ => (0 : ℝ) := constant_up3 _ _ bits_zero
theorem splat_zero_up3 : broadcast ⟨3, ![l, n, m]⟩ (Scalar.ofBits (F := Ideal) .f32 0x00000000#32) = up3 fun _ _ _ => (0 : ℝ) := constant_up3 _ _ bits_zero
theorem const_one_up3 : constant (F := Ideal) ⟨3, ![l, n, m]⟩ .f32 0x3F800000#32 = up3 fun _ _ _ => (1 : ℝ) := constant_up3 _ _ bits_one
theorem splat_one_up3 : broadcast ⟨3, ![l, n, m]⟩ (Scalar.ofBits (F := Ideal) .f32 0x3F800000#32) = up3 fun _ _ _ => (1 : ℝ) := constant_up3 _ _ bits_one
theorem const_two_up3 : constant (F := Ideal) ⟨3, ![l, n, m]⟩ .f32 0x40000000#32 = up3 fun _ _ _ => (2 : ℝ) := constant_up3 _ _ bits_two
theorem splat_two_up3 : broadcast ⟨3, ![l, n, m]⟩ (Scalar.ofBits (F := Ideal) .f32 0x40000000#32) = up3 fun _ _ _ => (2 : ℝ) := constant_up3 _ _ bits_two
theorem const_512_up3 : constant (F := Ideal) ⟨3, ![l, n, m]⟩ .f32 0x44000000#32 = up3 fun _ _ _ => (512 : ℝ) := constant_up3 _ _ bits_512
theorem splat_512_up3 : broadcast ⟨3, ![l, n, m]⟩ (Scalar.ofBits (F := Ideal) .f32 0x44000000#32) = up3 fun _ _ _ => (512 : ℝ) := constant_up3 _ _ bits_512
theorem const_1024_up3 : constant (F := Ideal) ⟨3, ![l, n, m]⟩ .f32 0x44800000#32 = up3 fun _ _ _ => (1024 : ℝ) := constant_up3 _ _ bits_1024
theorem splat_1024_up3 : broadcast ⟨3, ![l, n, m]⟩ (Scalar.ofBits (F := Ideal) .f32 0x44800000#32) = up3 fun _ _ _ => (1024 : ℝ) := constant_up3 _ _ bits_1024
theorem const_mhalf_up3 : constant (F := Ideal) ⟨3, ![l, n, m]⟩ .f32 0xBF000000#32 = up3 fun _ _ _ => (-(1 / 2) : ℝ) := constant_up3 _ _ bits_mhalf
theorem splat_mhalf_up3 : broadcast ⟨3, ![l, n, m]⟩ (Scalar.ofBits (F := Ideal) .f32 0xBF000000#32) = up3 fun _ _ _ => (-(1 / 2) : ℝ) := constant_up3 _ _ bits_mhalf
theorem const_eps_up3 : constant (F := Ideal) ⟨3, ![l, n, m]⟩ .f32 0x358637BD#32 = up3 fun _ _ _ => (eps : ℝ) := constant_up3 _ _ bits_eps
theorem splat_eps_up3 : broadcast ⟨3, ![l, n, m]⟩ (Scalar.ofBits (F := Ideal) .f32 0x358637BD#32) = up3 fun _ _ _ => (eps : ℝ) := constant_up3 _ _ bits_eps
theorem splat_ui3 (b : BitVec 32) : broadcast ⟨3, ![l, n, m]⟩ b = ui3 fun _ _ _ => b := rfl
theorem constantI_ui3 (b : BitVec 32) : constantI ⟨3, ![l, n, m]⟩ 32 b = ui3 fun _ _ _ => b := rfl
end

end Cert.Proof
-- ==== Proof.MeanOps.lean ====
/-
  ARRAYS OF REAL NUMBERS, the operations that move, sum or contract: slices, broadcasts, casts, transposes, joins,
  paddings, sums over an axis and products of matrices.
-/
module

public import proofs.«01_k».proof.Proof.Mean

@[expose] public section

set_option maxRecDepth 16384

noncomputable section

open Idealize.ShloMosaic Idealize.ShloMosaic.ValueIdx
open scoped BigOperators

namespace Cert.Proof

/-! ## slices -/

theorem slice_up2 {n m n' m' : ℕ} (a b : ℕ) (A : ℕ → ℕ → ℝ) (h : (⟨2, ![n, m]⟩ : Shape).Slices ![a, b] ⟨2, ![n', m']⟩) :
    extractStridedSlice ⟨2, ![n', m']⟩ ![a, b] (up2 A) h = up2 fun i j => A (a + i) (b + j) := rfl

/-! ## broadcasts of the vector unit -/

theorem bcast_row_up2 {n m : ℕ} (A : ℕ → ℕ → ℝ) (h : (⟨2, ![1, m]⟩ : Shape).Broadcasts ⟨2, ![n, m]⟩) :
    broadcastTo ⟨2, ![n, m]⟩ (up2 A) h = up2 fun _ j => A 0 j := by
  funext j
  refine (broadcastTo_apply (up2 A) h j (ValueIdx.ix2 ⟨0, Nat.one_pos⟩ ⟨(j 1).val, (j 1).isLt⟩) fun a => ?_).trans rfl
  match a with
  | ⟨0, _⟩ => rfl
  | ⟨1, _⟩ =>
    show (j 1).val = if m = 1 then 0 else (j 1).val
    have : (j 1).val < m := (j 1).isLt
    split_ifs <;> omega

theorem bcast_col_up2 {n m : ℕ} (A : ℕ → ℕ → ℝ) (h : (⟨2, ![n, 1]⟩ : Shape).Broadcasts ⟨2, ![n, m]⟩) :
    broadcastTo ⟨2, ![n, m]⟩ (up2 A) h = up2 fun i _ => A i 0 := by
  funext j
  refine (broadcastTo_apply (up2 A) h j (ValueIdx.ix2 ⟨(j 0).val, (j 0).isLt⟩ ⟨0, Nat.one_pos⟩) fun a => ?_).trans rfl
  match a with
  | ⟨1, _⟩ => rfl
  | ⟨0, _⟩ =>
    show (j 0).val = if n = 1 then 0 else (j 0).val
    have : (j 0).val < n := (j 0).isLt
    split_ifs <;> omega

/-! ## broadcasts on the host -/

theorem bcast_const {F : FTy → Type} [FloatOps F] {s t : Shape} {φ : FTy} (b : BitVec φ.bits) (dims : Fin s.rank → Fin t.rank)
    (h : s.BroadcastsInDim t dims) : broadcastInDim t dims h (constant (F := F) s φ b) = constant t φ b := rfl
theorem bcast_constI {s t : Shape} {w : ℕ} (b : BitVec w) (dims : Fin s.rank → Fin t.rank)
    (h : s.BroadcastsInDim t dims) : broadcastInDim t dims h (constantI s w b) = constantI t w b := rfl

theorem bid_1_2_0 {n m : ℕ} (A : ℕ → ℝ) (h : (⟨1, ![n]⟩ : Shape).BroadcastsInDim ⟨2, ![n, m]⟩ ![0]) :
    broadcastInDim ⟨2, ![n, m]⟩ ![0] h (up1 A) = up2 fun i _ => A i := by
  funext j
  refine (broadcastInDim_apply _ h (up1 A) j (ValueIdx.ix1 ⟨(j 0).val, (j 0).isLt⟩) fun a => ?_).trans rfl
  match a with
  | ⟨0, _⟩ =>
    show (j 0).val = if n = 1 then 0 else (j 0).val
    have : (j 0).val < n := (j 0).isLt
    split_ifs <;> omega

theorem bidi_1_2_0 {n m : ℕ} (A : ℕ → BitVec 32) (h : (⟨1, ![n]⟩ : Shape).BroadcastsInDim ⟨2, ![n, m]⟩ ![0]) :
    broadcastInDim ⟨2, ![n, m]⟩ ![0] h (ui1 A) = ui2 fun i _ => A i := by
  funext j
  refine (broadcastInDim_apply _ h (ui1 A) j (ValueIdx.ix1 ⟨(j 0).val, (j 0).isLt⟩) fun a => ?_).trans rfl
  match a with
  | ⟨0, _⟩ =>
    show (j 0).val = if n = 1 then 0 else (j 0).val
    have : (j 0).val < n := (j 0).isLt
    split_ifs <;> omega

theorem bidi_1_2_1 {n m : ℕ} (A : ℕ → BitVec 32) (h : (⟨1, ![m]⟩ : Shape).BroadcastsInDim ⟨2, ![n, m]⟩ ![1]) :
    broadcastInDim ⟨2, ![n, m]⟩ ![1] h (ui1 A) = ui2 fun _ j => A j := by
  funext j
  refine (broadcastInDim_apply _ h (ui1 A) j (ValueIdx.ix1 ⟨(j 1).val, (j 1).isLt⟩) fun a => ?_).trans rfl
  match a with
  | ⟨0, _⟩ =>
    show (j 1).val = if m = 1 then 0 else (j 1).val
    have : (j 1).val < m := (j 1).isLt
    split_ifs <;> omega

theorem bid_row {n m : ℕ} (A : ℕ → ℕ → ℝ) (h : (⟨2, ![1, m]⟩ : Shape).BroadcastsInDim ⟨2, ![n, m]⟩ ![0, 1]) :
    broadcastInDim ⟨2, ![n, m]⟩ ![0, 1] h (up2 A) = up2 fun _ j => A 0 j := by
  funext j
  refine (broadcastInDim_apply _ h (up2 A) j (ValueIdx.ix2 ⟨0, Nat.one_pos⟩ ⟨(j 1).val, (j 1).isLt⟩) fun a => ?_).trans rfl
  match a with
  | ⟨0, _⟩ => rfl
  | ⟨1, _⟩ =>
    show (j 1).val = if m = 1 then 0 else (j 1).val
    have : (j 1).val < m := (j 1).isLt
    split_ifs <;> omega

theorem bidi_row {n m : ℕ} (A : ℕ → ℕ → BitVec 32) (h : (⟨2, ![1, m]⟩ : Shape).BroadcastsInDim ⟨2, ![n, m]⟩ ![0, 1]) :
    broadcastInDim ⟨2, ![n, m]⟩ ![0, 1] h (ui2 A) = ui2 fun _ j => A 0 j := by
  funext j
  refine (broadcastInDim_apply _ h (ui2 A) j (ValueIdx.ix2 ⟨0, Nat.one_pos⟩ ⟨(j 1).val, (j 1).isLt⟩) fun a => ?_).trans rfl
  match a with
  | ⟨0, _⟩ => rfl
  | ⟨1, _⟩ =>
    show (j 1).val = if m = 1 then 0 else (j 1).val
    have : (j 1).val < m := (j 1).isLt
    split_ifs <;> omega

theorem bid_col {n m : ℕ} (A : ℕ → ℕ → ℝ) (h : (⟨2, ![n, 1]⟩ : Shape).BroadcastsInDim ⟨2, ![n, m]⟩ ![0, 1]) :
    broadcastInDim ⟨2, ![n, m]⟩ ![0, 1] h (up2 A) = up2 fun i _ => A i 0 := by
  funext j
  refine (broadcastInDim_apply _ h (up2 A) j (ValueIdx.ix2 ⟨(j 0).val, (j 0).isLt⟩ ⟨0, Nat.one_pos⟩) fun a => ?_).trans rfl
  match a with
  | ⟨1, _⟩ => rfl
  | ⟨0, _⟩ =>
    show (j 0).val = if n = 1 then 0 else (j 0).val
    have : (j 0).val < n := (j 0).isLt
    split_ifs <;> omega

theorem bidi_col {n m : ℕ} (A : ℕ → ℕ → BitVec 32) (h : (⟨2, ![n, 1]⟩ : Shape).BroadcastsInDim ⟨2, ![n, m]⟩ ![0, 1]) :
    broadcastInDim ⟨2, ![n, m]⟩ ![0, 1] h (ui2 A) = ui2 fun i _ => A i 0 := by
  funext j
  refine (broadcastInDim_apply _ h (ui2 A) j (ValueIdx.ix2 ⟨(j 0).val, (j 0).isLt⟩ ⟨0, Nat.one_pos⟩) fun a => ?_).trans rfl
  match a with
  | ⟨1, _⟩ => rfl
  | ⟨0, _⟩ =>
    show (j 0).val = if n = 1 then 0 else (j 0).val
    have : (j 0).val < n := (j 0).isLt
    split_ifs <;> omega

theorem bid_2_3_02 {l m : ℕ} (A : ℕ → ℕ → ℝ) (h : (⟨2, ![l, m]⟩ : Shape).BroadcastsInDim ⟨3, ![l, 1, m]⟩ ![0, 2]) :
    broadcastInDim ⟨3, ![l, 1, m]⟩ ![0, 2] h (up2 A) = up3 fun k _ j => A k j := by
  funext j
  refine (broadcastInDim_apply _ h (up2 A) j (ValueIdx.ix2 ⟨(j 0).val, (j 0).isLt⟩ ⟨(j 2).val, (j 2).isLt⟩) fun a => ?_).trans rfl
  match a with
  | ⟨0, _⟩ =>
    show (j 0).val = if l = 1 then 0 else (j 0).val
    have : (j 0).val < l := (j 0).isLt
    split_ifs <;> omega
  | ⟨1, _⟩ =>
    show (j 2).val = if m = 1 then 0 else (j 2).val
    have : (j 2).val < m := (j 2).isLt
    split_ifs <;> omega

theorem bidi_2_3_01 {l m : ℕ} (A : ℕ → ℕ → BitVec 32) (h : (⟨2, ![l, m]⟩ : Shape).BroadcastsInDim ⟨3, ![l, m, 1]⟩ ![0, 1]) :
    broadcastInDim ⟨3, ![l, m, 1]⟩ ![0, 1] h (ui2 A) = ui3 fun k j _ => A k j := by
  funext j
  refine (broadcastInDim_apply _ h (ui2 A) j (ValueIdx.ix2 ⟨(j 0).val, (j 0).isLt⟩ ⟨(j 1).val, (j 1).isLt⟩) fun a => ?_).trans rfl
  match a with
  | ⟨0, _⟩ =>
    show (j 0).val = if l = 1 then 0 else (j 0).val
    have : (j 0).val < l := (j 0).isLt
    split_ifs <;> omega
  | ⟨1, _⟩ =>
    show (j 1).val = if m = 1 then 0 else (j 1).val
    have : (j 1).val < m := (j 1).isLt
    split_ifs <;> omega

theorem bid_2_3_12 {l n m : ℕ} (A : ℕ → ℕ → ℝ) (h : (⟨2, ![n, m]⟩ : Shape).BroadcastsInDim ⟨3, ![l, n, m]⟩ ![1, 2]) :
    broadcastInDim ⟨3, ![l, n, m]⟩ ![1, 2] h (up2 A) = up3 fun _ i j => A i j := by
  funext j
  refine (broadcastInDim_apply _ h (up2 A) j (ValueIdx.ix2 ⟨(j 1).val, (j 1).isLt⟩ ⟨(j 2).val, (j 2).isLt⟩) fun a => ?_).trans rfl
  match a with
  | ⟨0, _⟩ =>
    show (j 1).val = if n = 1 then 0 else (j 1).val
    have : (j 1).val < n := (j 1).isLt
    split_ifs <;> omega
  | ⟨1, _⟩ =>
    show (j 2).val = if m = 1 then 0 else (j 2).val
    have : (j 2).val < m := (j 2).isLt
    split_ifs <;> omega

theorem bid_mid {l n m : ℕ} (A : ℕ → ℕ → ℕ → ℝ) (h : (⟨3, ![l, 1, m]⟩ : Shape).BroadcastsInDim ⟨3, ![l, n, m]⟩ ![0, 1, 2]) :
    broadcastInDim ⟨3, ![l, n, m]⟩ ![0, 1, 2] h (up3 A) = up3 fun k _ j => A k 0 j := by
  funext j
  refine (broadcastInDim_apply _ h (up3 A) j (ValueIdx.ix3 ⟨(j 0).val, (j 0).isLt⟩ ⟨0, Nat.one_pos⟩ ⟨(j 2).val, (j 2).isLt⟩)
    fun a => ?_).trans rfl
  match a with
  | ⟨0, _⟩ =>
    show (j 0).val = if l = 1 then 0 else (j 0).val
    have : (j 0).val < l := (j 0).isLt
    split_ifs <;> omega
  | ⟨1, _⟩ => rfl
  | ⟨2, _⟩ =>
    show (j 2).val = if m = 1 then 0 else (j 2).val
    have : (j 2).val < m := (j 2).isLt
    split_ifs <;> omega

/-! ## counting -/

theorem iota_ui1 (n : ℕ) : iotaInDim ⟨1, ![n]⟩ 32 0 = ui1 fun i => BitVec.ofNat 32 i := rfl
theorem iota_ui2 {κ : Kind} (n m : ℕ) (h : (⟨2, ![n, m]⟩ : Shape).Iotas κ 32 [0]) :
    iota κ ⟨2, ![n, m]⟩ 32 [0] h = ui2 fun i _ => BitVec.ofNat 32 i := by
  funext i
  show BitVec.ofNat 32 (0 * _ + (i 0).val) = _
  rw [Nat.zero_mul, Nat.zero_add]; rfl

/-! ## casts of a shape -/

theorem cast_self {s : Shape} {α : Type} (v : s.Idx → α) (h : s.ShapeCasts s) : shapeCast s v h = v := shapeCast_self v h

theorem cast_1_row {m : ℕ} (A : ℕ → ℝ) (h : (⟨1, ![m]⟩ : Shape).ShapeCasts ⟨2, ![1, m]⟩) :
    shapeCast ⟨2, ![1, m]⟩ (up1 A) h = up2 fun _ j => A j := by
  funext j
  refine (shapeCast_apply (up1 A) h j (ValueIdx.ix1 ⟨(j 1).val, (j 1).isLt⟩) ?_).trans rfl
  rw [Shape.rowMajor_val_one, Shape.rowMajor_val_two]
  have : (j 0).val < 1 := (j 0).isLt
  show (j 1).val = (j 0).val * m + (j 1).val
  have : (j 0).val = 0 := by omega
  rw [this, Nat.zero_mul, Nat.zero_add]

theorem cast_row_1 {m : ℕ} (A : ℕ → ℕ → ℝ) (h : (⟨2, ![1, m]⟩ : Shape).ShapeCasts ⟨1, ![m]⟩) :
    shapeCast ⟨1, ![m]⟩ (up2 A) h = up1 fun j => A 0 j := by
  funext j
  refine (shapeCast_apply (up2 A) h j (ValueIdx.ix2 ⟨0, Nat.one_pos⟩ ⟨(j 0).val, (j 0).isLt⟩) ?_).trans rfl
  rw [Shape.rowMajor_val_one, Shape.rowMajor_val_two]
  show 0 * m + (j 0).val = (j 0).val
  rw [Nat.zero_mul, Nat.zero_add]

theorem cast_1_col {n : ℕ} (A : ℕ → ℝ) (h : (⟨1, ![n]⟩ : Shape).ShapeCasts ⟨2, ![n, 1]⟩) :
    shapeCast ⟨2, ![n, 1]⟩ (up1 A) h = up2 fun i _ => A i := by
  funext j
  refine (shapeCast_apply (up1 A) h j (ValueIdx.ix1 ⟨(j 0).val, (j 0).isLt⟩) ?_).trans rfl
  rw [Shape.rowMajor_val_one, Shape.rowMajor_val_two]
  have : (j 1).val < 1 := (j 1).isLt
  show (j 0).val = (j 0).val * 1 + (j 1).val
  omega

theorem cast_drop {n m : ℕ} (A : ℕ → ℕ → ℕ → ℝ) (h : (⟨3, ![1, n, m]⟩ : Shape).ShapeCasts ⟨2, ![n, m]⟩) :
    shapeCast ⟨2, ![n, m]⟩ (up3 A) h = up2 fun i j => A 0 i j := by
  funext j
  refine (shapeCast_apply (up3 A) h j (ValueIdx.ix3 ⟨0, Nat.one_pos⟩ ⟨(j 0).val, (j 0).isLt⟩ ⟨(j 1).val, (j 1).isLt⟩) ?_).trans rfl
  rw [Shape.rowMajor_val_two, Shape.rowMajor_val_three]
  show (0 * n + (j 0).val) * m + (j 1).val = (j 0).val * m + (j 1).val
  rw [Nat.zero_mul, Nat.zero_add]

theorem cast_add {n m : ℕ} (A : ℕ → ℕ → ℝ) (h : (⟨2, ![n, m]⟩ : Shape).ShapeCasts ⟨3, ![1, n, m]⟩) :
    shapeCast ⟨3, ![1, n, m]⟩ (up2 A) h = up3 fun _ i j => A i j := by
  funext j
  refine (shapeCast_apply (up2 A) h j (ValueIdx.ix2 ⟨(j 1).val, (j 1).isLt⟩ ⟨(j 2).val, (j 2).isLt⟩) ?_).trans rfl
  rw [Shape.rowMajor_val_two, Shape.rowMajor_val_three]
  have : (j 0).val < 1 := (j 0).isLt
  have h0 : (j 0).val = 0 := by omega
  show (j 1).val * m + (j 2).val = ((j 0).val * n + (j 1).val) * m + (j 2).val
  rw [h0, Nat.zero_mul, Nat.zero_add]

/-- A row of `4 · 128` columns cut into its four groups. -/
theorem cast_groups {n w g m : ℕ} (hm : w = g * m) (A : ℕ → ℕ → ℝ) (h : (⟨2, ![n, w]⟩ : Shape).ShapeCasts ⟨3, ![n, g, m]⟩) :
    shapeCast ⟨3, ![n, g, m]⟩ (up2 A) h = up3 fun i q j => A i (q * m + j) := by
  funext j
  have h1 : (j 1).val < g := (j 1).isLt
  have h2 : (j 2).val < m := (j 2).isLt
  have hlt : (j 1).val * m + (j 2).val < w := by
    rw [hm]
    calc (j 1).val * m + (j 2).val < (j 1).val * m + m := by omega
      _ = ((j 1).val + 1) * m := by ring
      _ ≤ g * m := Nat.mul_le_mul_right _ h1
  refine (shapeCast_apply (up2 A) h j (ValueIdx.ix2 ⟨(j 0).val, (j 0).isLt⟩ ⟨(j 1).val * m + (j 2).val, hlt⟩) ?_).trans rfl
  rw [Shape.rowMajor_val_two, Shape.rowMajor_val_three]
  show (j 0).val * w + ((j 1).val * m + (j 2).val) = ((j 0).val * g + (j 1).val) * m + (j 2).val
  rw [hm]; ring

/-- The four groups put side by side. -/
theorem cast_ungroup {n w g m : ℕ} (hm : w = g * m) (A : ℕ → ℕ → ℕ → ℝ) (h : (⟨3, ![n, g, m]⟩ : Shape).ShapeCasts ⟨2, ![n, w]⟩) :
    shapeCast ⟨2, ![n, w]⟩ (up3 A) h = up2 fun i j => A i (j / m) (j % m) := by
  funext j
  have hj : (j 1).val < w := (j 1).isLt
  have hj' : (j 1).val < g * m := lt_of_lt_of_eq hj hm
  have hmp : 0 < m := by
    rcases Nat.eq_zero_or_pos m with h0 | h0
    · rw [h0, Nat.mul_zero] at hj'; omega
    · exact h0
  have h1 : (j 1).val / m < g := by rw [Nat.div_lt_iff_lt_mul hmp]; exact hj'
  refine (shapeCast_apply (up3 A) h j (ValueIdx.ix3 ⟨(j 0).val, (j 0).isLt⟩ ⟨(j 1).val / m, h1⟩ ⟨(j 1).val % m, Nat.mod_lt _ hmp⟩) ?_).trans rfl
  rw [Shape.rowMajor_val_two, Shape.rowMajor_val_three]
  show ((j 0).val * g + (j 1).val / m) * m + (j 1).val % m = (j 0).val * w + (j 1).val
  have e : ∀ a b : ℕ, (a * g + b / m) * m + b % m = a * w + b := fun a b => by
    have hb := Nat.div_add_mod b m
    calc (a * g + b / m) * m + b % m = a * (g * m) + (m * (b / m) + b % m) := by ring
      _ = a * w + b := by rw [hb, hm]
  exact e _ _

/-! ## transposes -/

theorem tr_10 {n m : ℕ} (A : ℕ → ℕ → ℝ) (h : (⟨2, ![n, m]⟩ : Shape).Transposes [1, 0] ⟨2, ![m, n]⟩) :
    transpose ⟨2, ![m, n]⟩ [1, 0] (up2 A) h = up2 fun i j => A j i := rfl
theorem tr_102 {a b c : ℕ} (A : ℕ → ℕ → ℕ → ℝ) (h : (⟨3, ![a, b, c]⟩ : Shape).Transposes [1, 0, 2] ⟨3, ![b, a, c]⟩) :
    transpose ⟨3, ![b, a, c]⟩ [1, 0, 2] (up3 A) h = up3 fun i j k => A j i k := rfl
theorem tr_201 {a b c : ℕ} (A : ℕ → ℕ → ℕ → ℝ) (h : (⟨3, ![a, b, c]⟩ : Shape).Transposes [2, 0, 1] ⟨3, ![c, a, b]⟩) :
    transpose ⟨3, ![c, a, b]⟩ [2, 0, 1] (up3 A) h = up3 fun i j k => A j k i := rfl
theorem tr_021 {a b c : ℕ} (A : ℕ → ℕ → ℕ → ℝ) (h : (⟨3, ![a, b, c]⟩ : Shape).Transposes [0, 2, 1] ⟨3, ![a, c, b]⟩) :
    transpose ⟨3, ![a, c, b]⟩ [0, 2, 1] (up3 A) h = up3 fun i j k => A i k j := rfl
theorem tr_120 {a b c : ℕ} (A : ℕ → ℕ → ℕ → ℝ) (h : (⟨3, ![a, b, c]⟩ : Shape).Transposes [1, 2, 0] ⟨3, ![b, c, a]⟩) :
    transpose ⟨3, ![b, c, a]⟩ [1, 2, 0] (up3 A) h = up3 fun i j k => A k i j := rfl

/-! ## paddings -/

theorem pad_up2 {n m n' m' : ℕ} (a b c d : ℕ) (A : ℕ → ℕ → ℝ) {u : Shape} (v : u.Idx → EReal) (z : ℝ)
    (h : (⟨2, ![n, m]⟩ : Shape).Pads ![a, b] ![c, d] ![0, 0] ⟨2, ![n', m']⟩) (hu : 0 < u.numel)
    (hv : v (Shape.Idx.first hu) = (z : EReal)) :
    pad ⟨2, ![n', m']⟩ ![a, b] ![c, d] ![0, 0] (up2 A) v h hu =
      up2 fun i j => if a ≤ i ∧ i - a < n ∧ b ≤ j ∧ j - b < m then A (i - a) (j - b) else z := by
  funext j
  unfold pad
  by_cases hc : a ≤ (j 0).val ∧ (j 0).val - a < n ∧ b ≤ (j 1).val ∧ (j 1).val - b < m
  · rw [dif_pos]
    · show ((A (((j 0).val - a) / (0 + 1)) (((j 1).val - b) / (0 + 1)) : ℝ) : EReal) = ((if _ then _ else _ : ℝ) : EReal)
      rw [if_pos hc]; simp
    · intro q
      match q with
      | ⟨0, _⟩ => exact ⟨hc.1, by show ((j 0).val - a) % (0 + 1) = 0; omega, by show ((j 0).val - a) / (0 + 1) < n; omega⟩
      | ⟨1, _⟩ => exact ⟨hc.2.2.1, by show ((j 1).val - b) % (0 + 1) = 0; omega, by show ((j 1).val - b) / (0 + 1) < m; omega⟩
  · rw [dif_neg, hv]
    · show (z : EReal) = ((if _ then _ else _ : ℝ) : EReal)
      rw [if_neg hc]
    · intro hin
      have h0 := hin 0
      have h1 := hin 1
      change a ≤ (j 0).val ∧ ((j 0).val - a) % (0 + 1) = 0 ∧ ((j 0).val - a) / (0 + 1) < n at h0
      change b ≤ (j 1).val ∧ ((j 1).val - b) % (0 + 1) = 0 ∧ ((j 1).val - b) / (0 + 1) < m at h1
      exact hc ⟨h0.1, by omega, h1.1, by omega⟩

theorem pad_zero_up2 {n m n' m' : ℕ} (a b c d : ℕ) (A : ℕ → ℕ → ℝ)
    (h : (⟨2, ![n, m]⟩ : Shape).Pads ![a, b] ![c, d] ![0, 0] ⟨2, ![n', m']⟩) (hu : 0 < (⟨0, ![]⟩ : Shape).numel) :
    pad ⟨2, ![n', m']⟩ ![a, b] ![c, d] ![0, 0] (up2 A) (constant (F := Ideal) ⟨0, ![]⟩ .f32 0x00000000#32) h hu =
      up2 fun i j => if a ≤ i ∧ i - a < n ∧ b ≤ j ∧ j - b < m then A (i - a) (j - b) else 0 :=
  pad_up2 a b c d A _ 0 h hu bits_zero

/-! ## sums over one axis -/

theorem sum_rows_up2 {n m : ℕ} (A : ℕ → ℕ → ℝ) (acc : BitVec 32) (h : (⟨2, ![n, m]⟩ : Shape).Reduces [0] ⟨1, ![m]⟩)
    (hφ : FKind.Formats .f32) (ha : acc = FKind.add.neutral .f32 hφ) :
    multiReduction (F := Ideal) (φ := .f32) .add [0] ⟨1, ![m]⟩ (up2 A) acc h hφ ha = up1 fun j => ∑ i ∈ Finset.range n, A i j := by
  funext j
  rw [Ideal.multiReduction_add_single (φ := .f32) (up2 A) acc h hφ ha j]
  exact coe_sum_fin n fun i => A i (j 0).val

theorem sum_cols_up2 {n m : ℕ} (A : ℕ → ℕ → ℝ) (acc : BitVec 32) (h : (⟨2, ![n, m]⟩ : Shape).Reduces [1] ⟨1, ![n]⟩)
    (hφ : FKind.Formats .f32) (ha : acc = FKind.add.neutral .f32 hφ) :
    multiReduction (F := Ideal) (φ := .f32) .add [1] ⟨1, ![n]⟩ (up2 A) acc h hφ ha = up1 fun i => ∑ j ∈ Finset.range m, A i j := by
  funext j
  rw [Ideal.multiReduction_add_single (φ := .f32) (up2 A) acc h hφ ha j]
  exact coe_sum_fin m fun i => A (j 0).val i

theorem hsum_rows_up2 {n m : ℕ} (A : ℕ → ℕ → ℝ) (h : (⟨2, ![n, m]⟩ : Shape).ReducesTo [0] ⟨1, ![m]⟩)
    (hu : 0 < (⟨0, ![]⟩ : Shape).numel) :
    Host.reduceAdd (F := Ideal) (φ := .f32) (up2 A) (constant (F := Ideal) ⟨0, ![]⟩ .f32 0x00000000#32) h hu =
      up1 fun j => ∑ i ∈ Finset.range n, A i j := by
  funext j
  simp only [Host.reduceAdd, Ideal.hostReduceAdd_def]
  rw [Ideal.hostReduceAdd_single h ⟨h.1, Nat.one_pos, h.2⟩]
  show Ideal.ofBits .f32 0x00000000#32 + _ = _
  rw [Ideal.ofBits_zero_f32, zero_add]
  exact coe_sum_fin n fun i => A i (j 0).val

theorem hsum_cols_up2 {n m : ℕ} (A : ℕ → ℕ → ℝ) (h : (⟨2, ![n, m]⟩ : Shape).ReducesTo [1] ⟨1, ![n]⟩)
    (hu : 0 < (⟨0, ![]⟩ : Shape).numel) :
    Host.reduceAdd (F := Ideal) (φ := .f32) (up2 A) (constant (F := Ideal) ⟨0, ![]⟩ .f32 0x00000000#32) h hu =
      up1 fun i => ∑ j ∈ Finset.range m, A i j := by
  funext j
  simp only [Host.reduceAdd, Ideal.hostReduceAdd_def]
  rw [Ideal.hostReduceAdd_single h ⟨h.1, Nat.one_pos, h.2⟩]
  show Ideal.ofBits .f32 0x00000000#32 + _ = _
  rw [Ideal.ofBits_zero_f32, zero_add]
  exact coe_sum_fin m fun i => A (j 0).val i

theorem hsum_outer_up3 {l n m : ℕ} (A : ℕ → ℕ → ℕ → ℝ) (h : (⟨3, ![l, n, m]⟩ : Shape).ReducesTo [0] ⟨2, ![n, m]⟩)
    (hu : 0 < (⟨0, ![]⟩ : Shape).numel) :
    Host.reduceAdd (F := Ideal) (φ := .f32) (up3 A) (constant (F := Ideal) ⟨0, ![]⟩ .f32 0x00000000#32) h hu =
      up2 fun i j => ∑ k ∈ Finset.range l, A k i j := by
  funext j
  simp only [Host.reduceAdd, Ideal.hostReduceAdd_def]
  rw [Ideal.hostReduceAdd_single h ⟨h.1, Nat.succ_pos _, h.2⟩]
  show Ideal.ofBits .f32 0x00000000#32 + _ = _
  rw [Ideal.ofBits_zero_f32, zero_add]
  exact coe_sum_fin l fun k => A k (j 0).val (j 1).val

theorem hsum_mid_up3 {l n m : ℕ} (A : ℕ → ℕ → ℕ → ℝ) (h : (⟨3, ![l, n, m]⟩ : Shape).ReducesTo [1] ⟨2, ![l, m]⟩)
    (hu : 0 < (⟨0, ![]⟩ : Shape).numel) :
    Host.reduceAdd (F := Ideal) (φ := .f32) (up3 A) (constant (F := Ideal) ⟨0, ![]⟩ .f32 0x00000000#32) h hu =
      up2 fun k j => ∑ i ∈ Finset.range n, A k i j := by
  funext j
  simp only [Host.reduceAdd, Ideal.hostReduceAdd_def]
  rw [Ideal.hostReduceAdd_single h ⟨h.1, Nat.succ_pos _, h.2⟩]
  show Ideal.ofBits .f32 0x00000000#32 + _ = _
  rw [Ideal.ofBits_zero_f32, zero_add]
  exact coe_sum_fin n fun i => A (j 0).val i (j 1).val

/-! ## products of matrices -/

theorem dot_nn {n m K : ℕ} (A : ℕ → ℕ → ℝ) (B : ℕ → ℕ → ℝ)
    (wf : DotDims.WF ⟨2, ![n, K]⟩ ⟨2, ![K, m]⟩ ⟨2, ![n, m]⟩ [1] [0] [0] [1] [] []) :
    (fun j => ∑ q : (⟨[1], [0], [0], [1], [], [], wf⟩ : DotDims ⟨2, ![n, K]⟩ ⟨2, ![K, m]⟩ ⟨2, ![n, m]⟩).contr.Idx, (up2 A : (⟨2, ![n, K]⟩ : Shape).Idx → EReal) ((⟨[1], [0], [0], [1], [], [], wf⟩ : DotDims ⟨2, ![n, K]⟩ ⟨2, ![K, m]⟩ ⟨2, ![n, m]⟩).lhsIdx j q) * (up2 B : (⟨2, ![K, m]⟩ : Shape).Idx → EReal) ((⟨[1], [0], [0], [1], [], [], wf⟩ : DotDims ⟨2, ![n, K]⟩ ⟨2, ![K, m]⟩ ⟨2, ![n, m]⟩).rhsIdx j q)) =
      up2 fun i j => ∑ k ∈ Finset.range K, A i k * B k j := by
  funext j
  rw [← Equiv.sum_comp (contrEquiv1 (⟨[1], [0], [0], [1], [], [], wf⟩ : DotDims ⟨2, ![n, K]⟩ ⟨2, ![K, m]⟩ ⟨2, ![n, m]⟩) K rfl rfl).symm]
  refine (Finset.sum_congr rfl fun k _ => ?_).trans (coe_sum_fin K fun k => A (j 0).val k * B k (j 1).val)
  have ck := contrEquiv1_symm_val (⟨[1], [0], [0], [1], [], [], wf⟩ : DotDims ⟨2, ![n, K]⟩ ⟨2, ![K, m]⟩ ⟨2, ![n, m]⟩) K rfl rfl k
  rw [EReal.coe_mul]
  refine congrArg₂ (· * ·) ?_ ?_
  · show ((A ((⟨[1], [0], [0], [1], [], [], wf⟩ : DotDims ⟨2, ![n, K]⟩ ⟨2, ![K, m]⟩ ⟨2, ![n, m]⟩).lhsIdx j ((contrEquiv1 (⟨[1], [0], [0], [1], [], [], wf⟩ : DotDims ⟨2, ![n, K]⟩ ⟨2, ![K, m]⟩ ⟨2, ![n, m]⟩) K rfl rfl).symm k) 0).val ((⟨[1], [0], [0], [1], [], [], wf⟩ : DotDims ⟨2, ![n, K]⟩ ⟨2, ![K, m]⟩ ⟨2, ![n, m]⟩).lhsIdx j ((contrEquiv1 (⟨[1], [0], [0], [1], [], [], wf⟩ : DotDims ⟨2, ![n, K]⟩ ⟨2, ![K, m]⟩ ⟨2, ![n, m]⟩) K rfl rfl).symm k) 1).val : ℝ) : EReal) = _
    have h0 : ((⟨[1], [0], [0], [1], [], [], wf⟩ : DotDims ⟨2, ![n, K]⟩ ⟨2, ![K, m]⟩ ⟨2, ![n, m]⟩).lhsIdx j ((contrEquiv1 (⟨[1], [0], [0], [1], [], [], wf⟩ : DotDims ⟨2, ![n, K]⟩ ⟨2, ![K, m]⟩ ⟨2, ![n, m]⟩) K rfl rfl).symm k) 0).val = (j 0).val := by simp [DotDims.lhsIdx]; rfl
    have h1 : ((⟨[1], [0], [0], [1], [], [], wf⟩ : DotDims ⟨2, ![n, K]⟩ ⟨2, ![K, m]⟩ ⟨2, ![n, m]⟩).lhsIdx j ((contrEquiv1 (⟨[1], [0], [0], [1], [], [], wf⟩ : DotDims ⟨2, ![n, K]⟩ ⟨2, ![K, m]⟩ ⟨2, ![n, m]⟩) K rfl rfl).symm k) 1).val = k.val := by simp [DotDims.lhsIdx]; exact ck
    rw [h0, h1]
  · show ((B ((⟨[1], [0], [0], [1], [], [], wf⟩ : DotDims ⟨2, ![n, K]⟩ ⟨2, ![K, m]⟩ ⟨2, ![n, m]⟩).rhsIdx j ((contrEquiv1 (⟨[1], [0], [0], [1], [], [], wf⟩ : DotDims ⟨2, ![n, K]⟩ ⟨2, ![K, m]⟩ ⟨2, ![n, m]⟩) K rfl rfl).symm k) 0).val ((⟨[1], [0], [0], [1], [], [], wf⟩ : DotDims ⟨2, ![n, K]⟩ ⟨2, ![K, m]⟩ ⟨2, ![n, m]⟩).rhsIdx j ((contrEquiv1 (⟨[1], [0], [0], [1], [], [], wf⟩ : DotDims ⟨2, ![n, K]⟩ ⟨2, ![K, m]⟩ ⟨2, ![n, m]⟩) K rfl rfl).symm k) 1).val : ℝ) : EReal) = _
    have h0 : ((⟨[1], [0], [0], [1], [], [], wf⟩ : DotDims ⟨2, ![n, K]⟩ ⟨2, ![K, m]⟩ ⟨2, ![n, m]⟩).rhsIdx j ((contrEquiv1 (⟨[1], [0], [0], [1], [], [], wf⟩ : DotDims ⟨2, ![n, K]⟩ ⟨2, ![K, m]⟩ ⟨2, ![n, m]⟩) K rfl rfl).symm k) 0).val = k.val := by simp [DotDims.rhsIdx]; exact ck
    have h1 : ((⟨[1], [0], [0], [1], [], [], wf⟩ : DotDims ⟨2, ![n, K]⟩ ⟨2, ![K, m]⟩ ⟨2, ![n, m]⟩).rhsIdx j ((contrEquiv1 (⟨[1], [0], [0], [1], [], [], wf⟩ : DotDims ⟨2, ![n, K]⟩ ⟨2, ![K, m]⟩ ⟨2, ![n, m]⟩) K rfl rfl).symm k) 1).val = (j 1).val := by simp [DotDims.rhsIdx]; rfl
    rw [h0, h1]

theorem hdot_nn {n m K : ℕ} {φ₁ φ₂ : FTy} (prec : Option ContractPrecision) (A : ℕ → ℕ → ℝ) (B : ℕ → ℕ → ℝ)
    (wf : DotDims.WF ⟨2, ![n, K]⟩ ⟨2, ![K, m]⟩ ⟨2, ![n, m]⟩ [1] [0] [0] [1] [] []) :
    Host.dotGeneral (F := Ideal) (φ₁ := φ₁) (φ₂ := φ₂) (⟨[1], [0], [0], [1], [], [], wf⟩ : DotDims ⟨2, ![n, K]⟩ ⟨2, ![K, m]⟩ ⟨2, ![n, m]⟩) prec (up2 A) (up2 B) = up2 fun i j => ∑ k ∈ Finset.range K, A i k * B k j := by
  rw [← dot_nn A B wf]
  funext j
  simp only [Host.dotGeneral]
  exact Ideal.dotGeneral_apply (φ₁ := φ₁) (φ₂ := φ₂) _ _ _ _ _ _

theorem mdot_nn {n m K : ℕ} {φ₁ φ₂ : FTy} (prec : Option ContractPrecision) (A : ℕ → ℕ → ℝ) (B : ℕ → ℕ → ℝ)
    (wf : DotDims.WF ⟨2, ![n, K]⟩ ⟨2, ![K, m]⟩ ⟨2, ![n, m]⟩ [1] [0] [0] [1] [] []) :
    matmul (F := Ideal) (φ₁ := φ₁) (φ₂ := φ₂) (⟨[1], [0], [0], [1], [], [], wf⟩ : DotDims ⟨2, ![n, K]⟩ ⟨2, ![K, m]⟩ ⟨2, ![n, m]⟩) prec (up2 A) (up2 B) (constant (F := Ideal) ⟨2, ![n, m]⟩ .f32 0x00000000#32) =
      up2 fun i j => ∑ k ∈ Finset.range K, A i k * B k j := by
  rw [← dot_nn A B wf]
  funext j
  exact Ideal.matmul_constant_zero_apply (φ₁ := φ₁) (φ₂ := φ₂) _ _ _ _ _

theorem dot_nt {n m K : ℕ} (A : ℕ → ℕ → ℝ) (B : ℕ → ℕ → ℝ)
    (wf : DotDims.WF ⟨2, ![n, K]⟩ ⟨2, ![m, K]⟩ ⟨2, ![n, m]⟩ [1] [1] [0] [0] [] []) :
    (fun j => ∑ q : (⟨[1], [1], [0], [0], [], [], wf⟩ : DotDims ⟨2, ![n, K]⟩ ⟨2, ![m, K]⟩ ⟨2, ![n, m]⟩).contr.Idx, (up2 A : (⟨2, ![n, K]⟩ : Shape).Idx → EReal) ((⟨[1], [1], [0], [0], [], [], wf⟩ : DotDims ⟨2, ![n, K]⟩ ⟨2, ![m, K]⟩ ⟨2, ![n, m]⟩).lhsIdx j q) * (up2 B : (⟨2, ![m, K]⟩ : Shape).Idx → EReal) ((⟨[1], [1], [0], [0], [], [], wf⟩ : DotDims ⟨2, ![n, K]⟩ ⟨2, ![m, K]⟩ ⟨2, ![n, m]⟩).rhsIdx j q)) =
      up2 fun i j => ∑ k ∈ Finset.range K, A i k * B j k := by
  funext j
  rw [← Equiv.sum_comp (contrEquiv1 (⟨[1], [1], [0], [0], [], [], wf⟩ : DotDims ⟨2, ![n, K]⟩ ⟨2, ![m, K]⟩ ⟨2, ![n, m]⟩) K rfl rfl).symm]
  refine (Finset.sum_congr rfl fun k _ => ?_).trans (coe_sum_fin K fun k => A (j 0).val k * B (j 1).val k)
  have ck := contrEquiv1_symm_val (⟨[1], [1], [0], [0], [], [], wf⟩ : DotDims ⟨2, ![n, K]⟩ ⟨2, ![m, K]⟩ ⟨2, ![n, m]⟩) K rfl rfl k
  rw [EReal.coe_mul]
  refine congrArg₂ (· * ·) ?_ ?_
  · show ((A ((⟨[1], [1], [0], [0], [], [], wf⟩ : DotDims ⟨2, ![n, K]⟩ ⟨2, ![m, K]⟩ ⟨2, ![n, m]⟩).lhsIdx j ((contrEquiv1 (⟨[1], [1], [0], [0], [], [], wf⟩ : DotDims ⟨2, ![n, K]⟩ ⟨2, ![m, K]⟩ ⟨2, ![n, m]⟩) K rfl rfl).symm k) 0).val ((⟨[1], [1], [0], [0], [], [], wf⟩ : DotDims ⟨2, ![n, K]⟩ ⟨2, ![m, K]⟩ ⟨2, ![n, m]⟩).lhsIdx j ((contrEquiv1 (⟨[1], [1], [0], [0], [], [], wf⟩ : DotDims ⟨2, ![n, K]⟩ ⟨2, ![m, K]⟩ ⟨2, ![n, m]⟩) K rfl rfl).symm k) 1).val : ℝ) : EReal) = _
    have h0 : ((⟨[1], [1], [0], [0], [], [], wf⟩ : DotDims ⟨2, ![n, K]⟩ ⟨2, ![m, K]⟩ ⟨2, ![n, m]⟩).lhsIdx j ((contrEquiv1 (⟨[1], [1], [0], [0], [], [], wf⟩ : DotDims ⟨2, ![n, K]⟩ ⟨2, ![m, K]⟩ ⟨2, ![n, m]⟩) K rfl rfl).symm k) 0).val = (j 0).val := by simp [DotDims.lhsIdx]; rfl
    have h1 : ((⟨[1], [1], [0], [0], [], [], wf⟩ : DotDims ⟨2, ![n, K]⟩ ⟨2, ![m, K]⟩ ⟨2, ![n, m]⟩).lhsIdx j ((contrEquiv1 (⟨[1], [1], [0], [0], [], [], wf⟩ : DotDims ⟨2, ![n, K]⟩ ⟨2, ![m, K]⟩ ⟨2, ![n, m]⟩) K rfl rfl).symm k) 1).val = k.val := by simp [DotDims.lhsIdx]; exact ck
    rw [h0, h1]
  · show ((B ((⟨[1], [1], [0], [0], [], [], wf⟩ : DotDims ⟨2, ![n, K]⟩ ⟨2, ![m, K]⟩ ⟨2, ![n, m]⟩).rhsIdx j ((contrEquiv1 (⟨[1], [1], [0], [0], [], [], wf⟩ : DotDims ⟨2, ![n, K]⟩ ⟨2, ![m, K]⟩ ⟨2, ![n, m]⟩) K rfl rfl).symm k) 0).val ((⟨[1], [1], [0], [0], [], [], wf⟩ : DotDims ⟨2, ![n, K]⟩ ⟨2, ![m, K]⟩ ⟨2, ![n, m]⟩).rhsIdx j ((contrEquiv1 (⟨[1], [1], [0], [0], [], [], wf⟩ : DotDims ⟨2, ![n, K]⟩ ⟨2, ![m, K]⟩ ⟨2, ![n, m]⟩) K rfl rfl).symm k) 1).val : ℝ) : EReal) = _
    have h0 : ((⟨[1], [1], [0], [0], [], [], wf⟩ : DotDims ⟨2, ![n, K]⟩ ⟨2, ![m, K]⟩ ⟨2, ![n, m]⟩).rhsIdx j ((contrEquiv1 (⟨[1], [1], [0], [0], [], [], wf⟩ : DotDims ⟨2, ![n, K]⟩ ⟨2, ![m, K]⟩ ⟨2, ![n, m]⟩) K rfl rfl).symm k) 0).val = (j 1).val := by simp [DotDims.rhsIdx]; rfl
    have h1 : ((⟨[1], [1], [0], [0], [], [], wf⟩ : DotDims ⟨2, ![n, K]⟩ ⟨2, ![m, K]⟩ ⟨2, ![n, m]⟩).rhsIdx j ((contrEquiv1 (⟨[1], [1], [0], [0], [], [], wf⟩ : DotDims ⟨2, ![n, K]⟩ ⟨2, ![m, K]⟩ ⟨2, ![n, m]⟩) K rfl rfl).symm k) 1).val = k.val := by simp [DotDims.rhsIdx]; exact ck
    rw [h0, h1]

theorem hdot_nt {n m K : ℕ} {φ₁ φ₂ : FTy} (prec : Option ContractPrecision) (A : ℕ → ℕ → ℝ) (B : ℕ → ℕ → ℝ)
    (wf : DotDims.WF ⟨2, ![n, K]⟩ ⟨2, ![m, K]⟩ ⟨2, ![n, m]⟩ [1] [1] [0] [0] [] []) :
    Host.dotGeneral (F := Ideal) (φ₁ := φ₁) (φ₂ := φ₂) (⟨[1], [1], [0], [0], [], [], wf⟩ : DotDims ⟨2, ![n, K]⟩ ⟨2, ![m, K]⟩ ⟨2, ![n, m]⟩) prec (up2 A) (up2 B) = up2 fun i j => ∑ k ∈ Finset.range K, A i k * B j k := by
  rw [← dot_nt A B wf]
  funext j
  simp only [Host.dotGeneral]
  exact Ideal.dotGeneral_apply (φ₁ := φ₁) (φ₂ := φ₂) _ _ _ _ _ _

theorem mdot_nt {n m K : ℕ} {φ₁ φ₂ : FTy} (prec : Option ContractPrecision) (A : ℕ → ℕ → ℝ) (B : ℕ → ℕ → ℝ)
    (wf : DotDims.WF ⟨2, ![n, K]⟩ ⟨2, ![m, K]⟩ ⟨2, ![n, m]⟩ [1] [1] [0] [0] [] []) :
    matmul (F := Ideal) (φ₁ := φ₁) (φ₂ := φ₂) (⟨[1], [1], [0], [0], [], [], wf⟩ : DotDims ⟨2, ![n, K]⟩ ⟨2, ![m, K]⟩ ⟨2, ![n, m]⟩) prec (up2 A) (up2 B) (constant (F := Ideal) ⟨2, ![n, m]⟩ .f32 0x00000000#32) =
      up2 fun i j => ∑ k ∈ Finset.range K, A i k * B j k := by
  rw [← dot_nt A B wf]
  funext j
  exact Ideal.matmul_constant_zero_apply (φ₁ := φ₁) (φ₂ := φ₂) _ _ _ _ _

theorem dot_tn {n m K : ℕ} (A : ℕ → ℕ → ℝ) (B : ℕ → ℕ → ℝ)
    (wf : DotDims.WF ⟨2, ![K, n]⟩ ⟨2, ![K, m]⟩ ⟨2, ![n, m]⟩ [0] [0] [1] [1] [] []) :
    (fun j => ∑ q : (⟨[0], [0], [1], [1], [], [], wf⟩ : DotDims ⟨2, ![K, n]⟩ ⟨2, ![K, m]⟩ ⟨2, ![n, m]⟩).contr.Idx, (up2 A : (⟨2, ![K, n]⟩ : Shape).Idx → EReal) ((⟨[0], [0], [1], [1], [], [], wf⟩ : DotDims ⟨2, ![K, n]⟩ ⟨2, ![K, m]⟩ ⟨2, ![n, m]⟩).lhsIdx j q) * (up2 B : (⟨2, ![K, m]⟩ : Shape).Idx → EReal) ((⟨[0], [0], [1], [1], [], [], wf⟩ : DotDims ⟨2, ![K, n]⟩ ⟨2, ![K, m]⟩ ⟨2, ![n, m]⟩).rhsIdx j q)) =
      up2 fun i j => ∑ k ∈ Finset.range K, A k i * B k j := by
  funext j
  rw [← Equiv.sum_comp (contrEquiv1 (⟨[0], [0], [1], [1], [], [], wf⟩ : DotDims ⟨2, ![K, n]⟩ ⟨2, ![K, m]⟩ ⟨2, ![n, m]⟩) K rfl rfl).symm]
  refine (Finset.sum_congr rfl fun k _ => ?_).trans (coe_sum_fin K fun k => A k (j 0).val * B k (j 1).val)
  have ck := contrEquiv1_symm_val (⟨[0], [0], [1], [1], [], [], wf⟩ : DotDims ⟨2, ![K, n]⟩ ⟨2, ![K, m]⟩ ⟨2, ![n, m]⟩) K rfl rfl k
  rw [EReal.coe_mul]
  refine congrArg₂ (· * ·) ?_ ?_
  · show ((A ((⟨[0], [0], [1], [1], [], [], wf⟩ : DotDims ⟨2, ![K, n]⟩ ⟨2, ![K, m]⟩ ⟨2, ![n, m]⟩).lhsIdx j ((contrEquiv1 (⟨[0], [0], [1], [1], [], [], wf⟩ : DotDims ⟨2, ![K, n]⟩ ⟨2, ![K, m]⟩ ⟨2, ![n, m]⟩) K rfl rfl).symm k) 0).val ((⟨[0], [0], [1], [1], [], [], wf⟩ : DotDims ⟨2, ![K, n]⟩ ⟨2, ![K, m]⟩ ⟨2, ![n, m]⟩).lhsIdx j ((contrEquiv1 (⟨[0], [0], [1], [1], [], [], wf⟩ : DotDims ⟨2, ![K, n]⟩ ⟨2, ![K, m]⟩ ⟨2, ![n, m]⟩) K rfl rfl).symm k) 1).val : ℝ) : EReal) = _
    have h0 : ((⟨[0], [0], [1], [1], [], [], wf⟩ : DotDims ⟨2, ![K, n]⟩ ⟨2, ![K, m]⟩ ⟨2, ![n, m]⟩).lhsIdx j ((contrEquiv1 (⟨[0], [0], [1], [1], [], [], wf⟩ : DotDims ⟨2, ![K, n]⟩ ⟨2, ![K, m]⟩ ⟨2, ![n, m]⟩) K rfl rfl).symm k) 0).val = k.val := by simp [DotDims.lhsIdx]; exact ck
    have h1 : ((⟨[0], [0], [1], [1], [], [], wf⟩ : DotDims ⟨2, ![K, n]⟩ ⟨2, ![K, m]⟩ ⟨2, ![n, m]⟩).lhsIdx j ((contrEquiv1 (⟨[0], [0], [1], [1], [], [], wf⟩ : DotDims ⟨2, ![K, n]⟩ ⟨2, ![K, m]⟩ ⟨2, ![n, m]⟩) K rfl rfl).symm k) 1).val = (j 0).val := by simp [DotDims.lhsIdx]; rfl
    rw [h0, h1]
  · show ((B ((⟨[0], [0], [1], [1], [], [], wf⟩ : DotDims ⟨2, ![K, n]⟩ ⟨2, ![K, m]⟩ ⟨2, ![n, m]⟩).rhsIdx j ((contrEquiv1 (⟨[0], [0], [1], [1], [], [], wf⟩ : DotDims ⟨2, ![K, n]⟩ ⟨2, ![K, m]⟩ ⟨2, ![n, m]⟩) K rfl rfl).symm k) 0).val ((⟨[0], [0], [1], [1], [], [], wf⟩ : DotDims ⟨2, ![K, n]⟩ ⟨2, ![K, m]⟩ ⟨2, ![n, m]⟩).rhsIdx j ((contrEquiv1 (⟨[0], [0], [1], [1], [], [], wf⟩ : DotDims ⟨2, ![K, n]⟩ ⟨2, ![K, m]⟩ ⟨2, ![n, m]⟩) K rfl rfl).symm k) 1).val : ℝ) : EReal) = _
    have h0 : ((⟨[0], [0], [1], [1], [], [], wf⟩ : DotDims ⟨2, ![K, n]⟩ ⟨2, ![K, m]⟩ ⟨2, ![n, m]⟩).rhsIdx j ((contrEquiv1 (⟨[0], [0], [1], [1], [], [], wf⟩ : DotDims ⟨2, ![K, n]⟩ ⟨2, ![K, m]⟩ ⟨2, ![n, m]⟩) K rfl rfl).symm k) 0).val = k.val := by simp [DotDims.rhsIdx]; exact ck
    have h1 : ((⟨[0], [0], [1], [1], [], [], wf⟩ : DotDims ⟨2, ![K, n]⟩ ⟨2, ![K, m]⟩ ⟨2, ![n, m]⟩).rhsIdx j ((contrEquiv1 (⟨[0], [0], [1], [1], [], [], wf⟩ : DotDims ⟨2, ![K, n]⟩ ⟨2, ![K, m]⟩ ⟨2, ![n, m]⟩) K rfl rfl).symm k) 1).val = (j 1).val := by simp [DotDims.rhsIdx]; rfl
    rw [h0, h1]

theorem hdot_tn {n m K : ℕ} {φ₁ φ₂ : FTy} (prec : Option ContractPrecision) (A : ℕ → ℕ → ℝ) (B : ℕ → ℕ → ℝ)
    (wf : DotDims.WF ⟨2, ![K, n]⟩ ⟨2, ![K, m]⟩ ⟨2, ![n, m]⟩ [0] [0] [1] [1] [] []) :
    Host.dotGeneral (F := Ideal) (φ₁ := φ₁) (φ₂ := φ₂) (⟨[0], [0], [1], [1], [], [], wf⟩ : DotDims ⟨2, ![K, n]⟩ ⟨2, ![K, m]⟩ ⟨2, ![n, m]⟩) prec (up2 A) (up2 B) = up2 fun i j => ∑ k ∈ Finset.range K, A k i * B k j := by
  rw [← dot_tn A B wf]
  funext j
  simp only [Host.dotGeneral]
  exact Ideal.dotGeneral_apply (φ₁ := φ₁) (φ₂ := φ₂) _ _ _ _ _ _

theorem mdot_tn {n m K : ℕ} {φ₁ φ₂ : FTy} (prec : Option ContractPrecision) (A : ℕ → ℕ → ℝ) (B : ℕ → ℕ → ℝ)
    (wf : DotDims.WF ⟨2, ![K, n]⟩ ⟨2, ![K, m]⟩ ⟨2, ![n, m]⟩ [0] [0] [1] [1] [] []) :
    matmul (F := Ideal) (φ₁ := φ₁) (φ₂ := φ₂) (⟨[0], [0], [1], [1], [], [], wf⟩ : DotDims ⟨2, ![K, n]⟩ ⟨2, ![K, m]⟩ ⟨2, ![n, m]⟩) prec (up2 A) (up2 B) (constant (F := Ideal) ⟨2, ![n, m]⟩ .f32 0x00000000#32) =
      up2 fun i j => ∑ k ∈ Finset.range K, A k i * B k j := by
  rw [← dot_tn A B wf]
  funext j
  exact Ideal.matmul_constant_zero_apply (φ₁ := φ₁) (φ₂ := φ₂) _ _ _ _ _

theorem dot_b1 {g n m K : ℕ} (A : ℕ → ℕ → ℕ → ℝ) (B : ℕ → ℕ → ℕ → ℝ)
    (wf : DotDims.WF ⟨3, ![g, K, n]⟩ ⟨3, ![m, g, K]⟩ ⟨3, ![g, n, m]⟩ [1] [2] [2] [0] [0] [1]) :
    (fun j => ∑ q : (⟨[1], [2], [2], [0], [0], [1], wf⟩ : DotDims ⟨3, ![g, K, n]⟩ ⟨3, ![m, g, K]⟩ ⟨3, ![g, n, m]⟩).contr.Idx, (up3 A : (⟨3, ![g, K, n]⟩ : Shape).Idx → EReal) ((⟨[1], [2], [2], [0], [0], [1], wf⟩ : DotDims ⟨3, ![g, K, n]⟩ ⟨3, ![m, g, K]⟩ ⟨3, ![g, n, m]⟩).lhsIdx j q) * (up3 B : (⟨3, ![m, g, K]⟩ : Shape).Idx → EReal) ((⟨[1], [2], [2], [0], [0], [1], wf⟩ : DotDims ⟨3, ![g, K, n]⟩ ⟨3, ![m, g, K]⟩ ⟨3, ![g, n, m]⟩).rhsIdx j q)) =
      up3 fun b i j => ∑ k ∈ Finset.range K, A b k i * B j b k := by
  funext j
  rw [← Equiv.sum_comp (contrEquiv1 (⟨[1], [2], [2], [0], [0], [1], wf⟩ : DotDims ⟨3, ![g, K, n]⟩ ⟨3, ![m, g, K]⟩ ⟨3, ![g, n, m]⟩) K rfl rfl).symm]
  refine (Finset.sum_congr rfl fun k _ => ?_).trans (coe_sum_fin K fun k => A (j 0).val k (j 1).val * B (j 2).val (j 0).val k)
  have ck := contrEquiv1_symm_val (⟨[1], [2], [2], [0], [0], [1], wf⟩ : DotDims ⟨3, ![g, K, n]⟩ ⟨3, ![m, g, K]⟩ ⟨3, ![g, n, m]⟩) K rfl rfl k
  rw [EReal.coe_mul]
  refine congrArg₂ (· * ·) ?_ ?_
  · show ((A ((⟨[1], [2], [2], [0], [0], [1], wf⟩ : DotDims ⟨3, ![g, K, n]⟩ ⟨3, ![m, g, K]⟩ ⟨3, ![g, n, m]⟩).lhsIdx j ((contrEquiv1 (⟨[1], [2], [2], [0], [0], [1], wf⟩ : DotDims ⟨3, ![g, K, n]⟩ ⟨3, ![m, g, K]⟩ ⟨3, ![g, n, m]⟩) K rfl rfl).symm k) 0).val ((⟨[1], [2], [2], [0], [0], [1], wf⟩ : DotDims ⟨3, ![g, K, n]⟩ ⟨3, ![m, g, K]⟩ ⟨3, ![g, n, m]⟩).lhsIdx j ((contrEquiv1 (⟨[1], [2], [2], [0], [0], [1], wf⟩ : DotDims ⟨3, ![g, K, n]⟩ ⟨3, ![m, g, K]⟩ ⟨3, ![g, n, m]⟩) K rfl rfl).symm k) 1).val ((⟨[1], [2], [2], [0], [0], [1], wf⟩ : DotDims ⟨3, ![g, K, n]⟩ ⟨3, ![m, g, K]⟩ ⟨3, ![g, n, m]⟩).lhsIdx j ((contrEquiv1 (⟨[1], [2], [2], [0], [0], [1], wf⟩ : DotDims ⟨3, ![g, K, n]⟩ ⟨3, ![m, g, K]⟩ ⟨3, ![g, n, m]⟩) K rfl rfl).symm k) 2).val : ℝ) : EReal) = _
    have h0 : ((⟨[1], [2], [2], [0], [0], [1], wf⟩ : DotDims ⟨3, ![g, K, n]⟩ ⟨3, ![m, g, K]⟩ ⟨3, ![g, n, m]⟩).lhsIdx j ((contrEquiv1 (⟨[1], [2], [2], [0], [0], [1], wf⟩ : DotDims ⟨3, ![g, K, n]⟩ ⟨3, ![m, g, K]⟩ ⟨3, ![g, n, m]⟩) K rfl rfl).symm k) 0).val = (j 0).val := by simp [DotDims.lhsIdx]; rfl
    have h1 : ((⟨[1], [2], [2], [0], [0], [1], wf⟩ : DotDims ⟨3, ![g, K, n]⟩ ⟨3, ![m, g, K]⟩ ⟨3, ![g, n, m]⟩).lhsIdx j ((contrEquiv1 (⟨[1], [2], [2], [0], [0], [1], wf⟩ : DotDims ⟨3, ![g, K, n]⟩ ⟨3, ![m, g, K]⟩ ⟨3, ![g, n, m]⟩) K rfl rfl).symm k) 1).val = k.val := by simp [DotDims.lhsIdx]; exact ck
    have h2 : ((⟨[1], [2], [2], [0], [0], [1], wf⟩ : DotDims ⟨3, ![g, K, n]⟩ ⟨3, ![m, g, K]⟩ ⟨3, ![g, n, m]⟩).lhsIdx j ((contrEquiv1 (⟨[1], [2], [2], [0], [0], [1], wf⟩ : DotDims ⟨3, ![g, K, n]⟩ ⟨3, ![m, g, K]⟩ ⟨3, ![g, n, m]⟩) K rfl rfl).symm k) 2).val = (j 1).val := by simp [DotDims.lhsIdx]; rfl
    rw [h0, h1, h2]
  · show ((B ((⟨[1], [2], [2], [0], [0], [1], wf⟩ : DotDims ⟨3, ![g, K, n]⟩ ⟨3, ![m, g, K]⟩ ⟨3, ![g, n, m]⟩).rhsIdx j ((contrEquiv1 (⟨[1], [2], [2], [0], [0], [1], wf⟩ : DotDims ⟨3, ![g, K, n]⟩ ⟨3, ![m, g, K]⟩ ⟨3, ![g, n, m]⟩) K rfl rfl).symm k) 0).val ((⟨[1], [2], [2], [0], [0], [1], wf⟩ : DotDims ⟨3, ![g, K, n]⟩ ⟨3, ![m, g, K]⟩ ⟨3, ![g, n, m]⟩).rhsIdx j ((contrEquiv1 (⟨[1], [2], [2], [0], [0], [1], wf⟩ : DotDims ⟨3, ![g, K, n]⟩ ⟨3, ![m, g, K]⟩ ⟨3, ![g, n, m]⟩) K rfl rfl).symm k) 1).val ((⟨[1], [2], [2], [0], [0], [1], wf⟩ : DotDims ⟨3, ![g, K, n]⟩ ⟨3, ![m, g, K]⟩ ⟨3, ![g, n, m]⟩).rhsIdx j ((contrEquiv1 (⟨[1], [2], [2], [0], [0], [1], wf⟩ : DotDims ⟨3, ![g, K, n]⟩ ⟨3, ![m, g, K]⟩ ⟨3, ![g, n, m]⟩) K rfl rfl).symm k) 2).val : ℝ) : EReal) = _
    have h0 : ((⟨[1], [2], [2], [0], [0], [1], wf⟩ : DotDims ⟨3, ![g, K, n]⟩ ⟨3, ![m, g, K]⟩ ⟨3, ![g, n, m]⟩).rhsIdx j ((contrEquiv1 (⟨[1], [2], [2], [0], [0], [1], wf⟩ : DotDims ⟨3, ![g, K, n]⟩ ⟨3, ![m, g, K]⟩ ⟨3, ![g, n, m]⟩) K rfl rfl).symm k) 0).val = (j 2).val := by simp [DotDims.rhsIdx]; rfl
    have h1 : ((⟨[1], [2], [2], [0], [0], [1], wf⟩ : DotDims ⟨3, ![g, K, n]⟩ ⟨3, ![m, g, K]⟩ ⟨3, ![g, n, m]⟩).rhsIdx j ((contrEquiv1 (⟨[1], [2], [2], [0], [0], [1], wf⟩ : DotDims ⟨3, ![g, K, n]⟩ ⟨3, ![m, g, K]⟩ ⟨3, ![g, n, m]⟩) K rfl rfl).symm k) 1).val = (j 0).val := by simp [DotDims.rhsIdx]; rfl
    have h2 : ((⟨[1], [2], [2], [0], [0], [1], wf⟩ : DotDims ⟨3, ![g, K, n]⟩ ⟨3, ![m, g, K]⟩ ⟨3, ![g, n, m]⟩).rhsIdx j ((contrEquiv1 (⟨[1], [2], [2], [0], [0], [1], wf⟩ : DotDims ⟨3, ![g, K, n]⟩ ⟨3, ![m, g, K]⟩ ⟨3, ![g, n, m]⟩) K rfl rfl).symm k) 2).val = k.val := by simp [DotDims.rhsIdx]; exact ck
    rw [h0, h1, h2]

theorem hdot_b1 {g n m K : ℕ} {φ₁ φ₂ : FTy} (prec : Option ContractPrecision) (A : ℕ → ℕ → ℕ → ℝ) (B : ℕ → ℕ → ℕ → ℝ)
    (wf : DotDims.WF ⟨3, ![g, K, n]⟩ ⟨3, ![m, g, K]⟩ ⟨3, ![g, n, m]⟩ [1] [2] [2] [0] [0] [1]) :
    Host.dotGeneral (F := Ideal) (φ₁ := φ₁) (φ₂ := φ₂) (⟨[1], [2], [2], [0], [0], [1], wf⟩ : DotDims ⟨3, ![g, K, n]⟩ ⟨3, ![m, g, K]⟩ ⟨3, ![g, n, m]⟩) prec (up3 A) (up3 B) = up3 fun b i j => ∑ k ∈ Finset.range K, A b k i * B j b k := by
  rw [← dot_b1 A B wf]
  funext j
  simp only [Host.dotGeneral]
  exact Ideal.dotGeneral_apply (φ₁ := φ₁) (φ₂ := φ₂) _ _ _ _ _ _

theorem dot_b2 {g n m K : ℕ} (A : ℕ → ℕ → ℕ → ℝ) (B : ℕ → ℕ → ℕ → ℝ)
    (wf : DotDims.WF ⟨3, ![g, n, K]⟩ ⟨3, ![K, g, m]⟩ ⟨3, ![g, n, m]⟩ [2] [0] [1] [2] [0] [1]) :
    (fun j => ∑ q : (⟨[2], [0], [1], [2], [0], [1], wf⟩ : DotDims ⟨3, ![g, n, K]⟩ ⟨3, ![K, g, m]⟩ ⟨3, ![g, n, m]⟩).contr.Idx, (up3 A : (⟨3, ![g, n, K]⟩ : Shape).Idx → EReal) ((⟨[2], [0], [1], [2], [0], [1], wf⟩ : DotDims ⟨3, ![g, n, K]⟩ ⟨3, ![K, g, m]⟩ ⟨3, ![g, n, m]⟩).lhsIdx j q) * (up3 B : (⟨3, ![K, g, m]⟩ : Shape).Idx → EReal) ((⟨[2], [0], [1], [2], [0], [1], wf⟩ : DotDims ⟨3, ![g, n, K]⟩ ⟨3, ![K, g, m]⟩ ⟨3, ![g, n, m]⟩).rhsIdx j q)) =
      up3 fun b i j => ∑ k ∈ Finset.range K, A b i k * B k b j := by
  funext j
  rw [← Equiv.sum_comp (contrEquiv1 (⟨[2], [0], [1], [2], [0], [1], wf⟩ : DotDims ⟨3, ![g, n, K]⟩ ⟨3, ![K, g, m]⟩ ⟨3, ![g, n, m]⟩) K rfl rfl).symm]
  refine (Finset.sum_congr rfl fun k _ => ?_).trans (coe_sum_fin K fun k => A (j 0).val (j 1).val k * B k (j 0).val (j 2).val)
  have ck := contrEquiv1_symm_val (⟨[2], [0], [1], [2], [0], [1], wf⟩ : DotDims ⟨3, ![g, n, K]⟩ ⟨3, ![K, g, m]⟩ ⟨3, ![g, n, m]⟩) K rfl rfl k
  rw [EReal.coe_mul]
  refine congrArg₂ (· * ·) ?_ ?_
  · show ((A ((⟨[2], [0], [1], [2], [0], [1], wf⟩ : DotDims ⟨3, ![g, n, K]⟩ ⟨3, ![K, g, m]⟩ ⟨3, ![g, n, m]⟩).lhsIdx j ((contrEquiv1 (⟨[2], [0], [1], [2], [0], [1], wf⟩ : DotDims ⟨3, ![g, n, K]⟩ ⟨3, ![K, g, m]⟩ ⟨3, ![g, n, m]⟩) K rfl rfl).symm k) 0).val ((⟨[2], [0], [1], [2], [0], [1], wf⟩ : DotDims ⟨3, ![g, n, K]⟩ ⟨3, ![K, g, m]⟩ ⟨3, ![g, n, m]⟩).lhsIdx j ((contrEquiv1 (⟨[2], [0], [1], [2], [0], [1], wf⟩ : DotDims ⟨3, ![g, n, K]⟩ ⟨3, ![K, g, m]⟩ ⟨3, ![g, n, m]⟩) K rfl rfl).symm k) 1).val ((⟨[2], [0], [1], [2], [0], [1], wf⟩ : DotDims ⟨3, ![g, n, K]⟩ ⟨3, ![K, g, m]⟩ ⟨3, ![g, n, m]⟩).lhsIdx j ((contrEquiv1 (⟨[2], [0], [1], [2], [0], [1], wf⟩ : DotDims ⟨3, ![g, n, K]⟩ ⟨3, ![K, g, m]⟩ ⟨3, ![g, n, m]⟩) K rfl rfl).symm k) 2).val : ℝ) : EReal) = _
    have h0 : ((⟨[2], [0], [1], [2], [0], [1], wf⟩ : DotDims ⟨3, ![g, n, K]⟩ ⟨3, ![K, g, m]⟩ ⟨3, ![g, n, m]⟩).lhsIdx j ((contrEquiv1 (⟨[2], [0], [1], [2], [0], [1], wf⟩ : DotDims ⟨3, ![g, n, K]⟩ ⟨3, ![K, g, m]⟩ ⟨3, ![g, n, m]⟩) K rfl rfl).symm k) 0).val = (j 0).val := by simp [DotDims.lhsIdx]; rfl
    have h1 : ((⟨[2], [0], [1], [2], [0], [1], wf⟩ : DotDims ⟨3, ![g, n, K]⟩ ⟨3, ![K, g, m]⟩ ⟨3, ![g, n, m]⟩).lhsIdx j ((contrEquiv1 (⟨[2], [0], [1], [2], [0], [1], wf⟩ : DotDims ⟨3, ![g, n, K]⟩ ⟨3, ![K, g, m]⟩ ⟨3, ![g, n, m]⟩) K rfl rfl).symm k) 1).val = (j 1).val := by simp [DotDims.lhsIdx]; rfl
    have h2 : ((⟨[2], [0], [1], [2], [0], [1], wf⟩ : DotDims ⟨3, ![g, n, K]⟩ ⟨3, ![K, g, m]⟩ ⟨3, ![g, n, m]⟩).lhsIdx j ((contrEquiv1 (⟨[2], [0], [1], [2], [0], [1], wf⟩ : DotDims ⟨3, ![g, n, K]⟩ ⟨3, ![K, g, m]⟩ ⟨3, ![g, n, m]⟩) K rfl rfl).symm k) 2).val = k.val := by simp [DotDims.lhsIdx]; exact ck
    rw [h0, h1, h2]
  · show ((B ((⟨[2], [0], [1], [2], [0], [1], wf⟩ : DotDims ⟨3, ![g, n, K]⟩ ⟨3, ![K, g, m]⟩ ⟨3, ![g, n, m]⟩).rhsIdx j ((contrEquiv1 (⟨[2], [0], [1], [2], [0], [1], wf⟩ : DotDims ⟨3, ![g, n, K]⟩ ⟨3, ![K, g, m]⟩ ⟨3, ![g, n, m]⟩) K rfl rfl).symm k) 0).val ((⟨[2], [0], [1], [2], [0], [1], wf⟩ : DotDims ⟨3, ![g, n, K]⟩ ⟨3, ![K, g, m]⟩ ⟨3, ![g, n, m]⟩).rhsIdx j ((contrEquiv1 (⟨[2], [0], [1], [2], [0], [1], wf⟩ : DotDims ⟨3, ![g, n, K]⟩ ⟨3, ![K, g, m]⟩ ⟨3, ![g, n, m]⟩) K rfl rfl).symm k) 1).val ((⟨[2], [0], [1], [2], [0], [1], wf⟩ : DotDims ⟨3, ![g, n, K]⟩ ⟨3, ![K, g, m]⟩ ⟨3, ![g, n, m]⟩).rhsIdx j ((contrEquiv1 (⟨[2], [0], [1], [2], [0], [1], wf⟩ : DotDims ⟨3, ![g, n, K]⟩ ⟨3, ![K, g, m]⟩ ⟨3, ![g, n, m]⟩) K rfl rfl).symm k) 2).val : ℝ) : EReal) = _
    have h0 : ((⟨[2], [0], [1], [2], [0], [1], wf⟩ : DotDims ⟨3, ![g, n, K]⟩ ⟨3, ![K, g, m]⟩ ⟨3, ![g, n, m]⟩).rhsIdx j ((contrEquiv1 (⟨[2], [0], [1], [2], [0], [1], wf⟩ : DotDims ⟨3, ![g, n, K]⟩ ⟨3, ![K, g, m]⟩ ⟨3, ![g, n, m]⟩) K rfl rfl).symm k) 0).val = k.val := by simp [DotDims.rhsIdx]; exact ck
    have h1 : ((⟨[2], [0], [1], [2], [0], [1], wf⟩ : DotDims ⟨3, ![g, n, K]⟩ ⟨3, ![K, g, m]⟩ ⟨3, ![g, n, m]⟩).rhsIdx j ((contrEquiv1 (⟨[2], [0], [1], [2], [0], [1], wf⟩ : DotDims ⟨3, ![g, n, K]⟩ ⟨3, ![K, g, m]⟩ ⟨3, ![g, n, m]⟩) K rfl rfl).symm k) 1).val = (j 0).val := by simp [DotDims.rhsIdx]; rfl
    have h2 : ((⟨[2], [0], [1], [2], [0], [1], wf⟩ : DotDims ⟨3, ![g, n, K]⟩ ⟨3, ![K, g, m]⟩ ⟨3, ![g, n, m]⟩).rhsIdx j ((contrEquiv1 (⟨[2], [0], [1], [2], [0], [1], wf⟩ : DotDims ⟨3, ![g, n, K]⟩ ⟨3, ![K, g, m]⟩ ⟨3, ![g, n, m]⟩) K rfl rfl).symm k) 2).val = (j 2).val := by simp [DotDims.rhsIdx]; rfl
    rw [h0, h1, h2]

theorem hdot_b2 {g n m K : ℕ} {φ₁ φ₂ : FTy} (prec : Option ContractPrecision) (A : ℕ → ℕ → ℕ → ℝ) (B : ℕ → ℕ → ℕ → ℝ)
    (wf : DotDims.WF ⟨3, ![g, n, K]⟩ ⟨3, ![K, g, m]⟩ ⟨3, ![g, n, m]⟩ [2] [0] [1] [2] [0] [1]) :
    Host.dotGeneral (F := Ideal) (φ₁ := φ₁) (φ₂ := φ₂) (⟨[2], [0], [1], [2], [0], [1], wf⟩ : DotDims ⟨3, ![g, n, K]⟩ ⟨3, ![K, g, m]⟩ ⟨3, ![g, n, m]⟩) prec (up3 A) (up3 B) = up3 fun b i j => ∑ k ∈ Finset.range K, A b i k * B k b j := by
  rw [← dot_b2 A B wf]
  funext j
  simp only [Host.dotGeneral]
  exact Ideal.dotGeneral_apply (φ₁ := φ₁) (φ₂ := φ₂) _ _ _ _ _ _

theorem dot_b3 {g n m K : ℕ} (A : ℕ → ℕ → ℕ → ℝ) (B : ℕ → ℕ → ℕ → ℝ)
    (wf : DotDims.WF ⟨3, ![g, K, n]⟩ ⟨3, ![g, m, K]⟩ ⟨3, ![g, n, m]⟩ [1] [2] [2] [1] [0] [0]) :
    (fun j => ∑ q : (⟨[1], [2], [2], [1], [0], [0], wf⟩ : DotDims ⟨3, ![g, K, n]⟩ ⟨3, ![g, m, K]⟩ ⟨3, ![g, n, m]⟩).contr.Idx, (up3 A : (⟨3, ![g, K, n]⟩ : Shape).Idx → EReal) ((⟨[1], [2], [2], [1], [0], [0], wf⟩ : DotDims ⟨3, ![g, K, n]⟩ ⟨3, ![g, m, K]⟩ ⟨3, ![g, n, m]⟩).lhsIdx j q) * (up3 B : (⟨3, ![g, m, K]⟩ : Shape).Idx → EReal) ((⟨[1], [2], [2], [1], [0], [0], wf⟩ : DotDims ⟨3, ![g, K, n]⟩ ⟨3, ![g, m, K]⟩ ⟨3, ![g, n, m]⟩).rhsIdx j q)) =
      up3 fun b i j => ∑ k ∈ Finset.range K, A b k i * B b j k := by
  funext j
  rw [← Equiv.sum_comp (contrEquiv1 (⟨[1], [2], [2], [1], [0], [0], wf⟩ : DotDims ⟨3, ![g, K, n]⟩ ⟨3, ![g, m, K]⟩ ⟨3, ![g, n, m]⟩) K rfl rfl).symm]
  refine (Finset.sum_congr rfl fun k _ => ?_).trans (coe_sum_fin K fun k => A (j 0).val k (j 1).val * B (j 0).val (j 2).val k)
  have ck := contrEquiv1_symm_val (⟨[1], [2], [2], [1], [0], [0], wf⟩ : DotDims ⟨3, ![g, K, n]⟩ ⟨3, ![g, m, K]⟩ ⟨3, ![g, n, m]⟩) K rfl rfl k
  rw [EReal.coe_mul]
  refine congrArg₂ (· * ·) ?_ ?_
  · show ((A ((⟨[1], [2], [2], [1], [0], [0], wf⟩ : DotDims ⟨3, ![g, K, n]⟩ ⟨3, ![g, m, K]⟩ ⟨3, ![g, n, m]⟩).lhsIdx j ((contrEquiv1 (⟨[1], [2], [2], [1], [0], [0], wf⟩ : DotDims ⟨3, ![g, K, n]⟩ ⟨3, ![g, m, K]⟩ ⟨3, ![g, n, m]⟩) K rfl rfl).symm k) 0).val ((⟨[1], [2], [2], [1], [0], [0], wf⟩ : DotDims ⟨3, ![g, K, n]⟩ ⟨3, ![g, m, K]⟩ ⟨3, ![g, n, m]⟩).lhsIdx j ((contrEquiv1 (⟨[1], [2], [2], [1], [0], [0], wf⟩ : DotDims ⟨3, ![g, K, n]⟩ ⟨3, ![g, m, K]⟩ ⟨3, ![g, n, m]⟩) K rfl rfl).symm k) 1).val ((⟨[1], [2], [2], [1], [0], [0], wf⟩ : DotDims ⟨3, ![g, K, n]⟩ ⟨3, ![g, m, K]⟩ ⟨3, ![g, n, m]⟩).lhsIdx j ((contrEquiv1 (⟨[1], [2], [2], [1], [0], [0], wf⟩ : DotDims ⟨3, ![g, K, n]⟩ ⟨3, ![g, m, K]⟩ ⟨3, ![g, n, m]⟩) K rfl rfl).symm k) 2).val : ℝ) : EReal) = _
    have h0 : ((⟨[1], [2], [2], [1], [0], [0], wf⟩ : DotDims ⟨3, ![g, K, n]⟩ ⟨3, ![g, m, K]⟩ ⟨3, ![g, n, m]⟩).lhsIdx j ((contrEquiv1 (⟨[1], [2], [2], [1], [0], [0], wf⟩ : DotDims ⟨3, ![g, K, n]⟩ ⟨3, ![g, m, K]⟩ ⟨3, ![g, n, m]⟩) K rfl rfl).symm k) 0).val = (j 0).val := by simp [DotDims.lhsIdx]; rfl
    have h1 : ((⟨[1], [2], [2], [1], [0], [0], wf⟩ : DotDims ⟨3, ![g, K, n]⟩ ⟨3, ![g, m, K]⟩ ⟨3, ![g, n, m]⟩).lhsIdx j ((contrEquiv1 (⟨[1], [2], [2], [1], [0], [0], wf⟩ : DotDims ⟨3, ![g, K, n]⟩ ⟨3, ![g, m, K]⟩ ⟨3, ![g, n, m]⟩) K rfl rfl).symm k) 1).val = k.val := by simp [DotDims.lhsIdx]; exact ck
    have h2 : ((⟨[1], [2], [2], [1], [0], [0], wf⟩ : DotDims ⟨3, ![g, K, n]⟩ ⟨3, ![g, m, K]⟩ ⟨3, ![g, n, m]⟩).lhsIdx j ((contrEquiv1 (⟨[1], [2], [2], [1], [0], [0], wf⟩ : DotDims ⟨3, ![g, K, n]⟩ ⟨3, ![g, m, K]⟩ ⟨3, ![g, n, m]⟩) K rfl rfl).symm k) 2).val = (j 1).val := by simp [DotDims.lhsIdx]; rfl
    rw [h0, h1, h2]
  · show ((B ((⟨[1], [2], [2], [1], [0], [0], wf⟩ : DotDims ⟨3, ![g, K, n]⟩ ⟨3, ![g, m, K]⟩ ⟨3, ![g, n, m]⟩).rhsIdx j ((contrEquiv1 (⟨[1], [2], [2], [1], [0], [0], wf⟩ : DotDims ⟨3, ![g, K, n]⟩ ⟨3, ![g, m, K]⟩ ⟨3, ![g, n, m]⟩) K rfl rfl).symm k) 0).val ((⟨[1], [2], [2], [1], [0], [0], wf⟩ : DotDims ⟨3, ![g, K, n]⟩ ⟨3, ![g, m, K]⟩ ⟨3, ![g, n, m]⟩).rhsIdx j ((contrEquiv1 (⟨[1], [2], [2], [1], [0], [0], wf⟩ : DotDims ⟨3, ![g, K, n]⟩ ⟨3, ![g, m, K]⟩ ⟨3, ![g, n, m]⟩) K rfl rfl).symm k) 1).val ((⟨[1], [2], [2], [1], [0], [0], wf⟩ : DotDims ⟨3, ![g, K, n]⟩ ⟨3, ![g, m, K]⟩ ⟨3, ![g, n, m]⟩).rhsIdx j ((contrEquiv1 (⟨[1], [2], [2], [1], [0], [0], wf⟩ : DotDims ⟨3, ![g, K, n]⟩ ⟨3, ![g, m, K]⟩ ⟨3, ![g, n, m]⟩) K rfl rfl).symm k) 2).val : ℝ) : EReal) = _
    have h0 : ((⟨[1], [2], [2], [1], [0], [0], wf⟩ : DotDims ⟨3, ![g, K, n]⟩ ⟨3, ![g, m, K]⟩ ⟨3, ![g, n, m]⟩).rhsIdx j ((contrEquiv1 (⟨[1], [2], [2], [1], [0], [0], wf⟩ : DotDims ⟨3, ![g, K, n]⟩ ⟨3, ![g, m, K]⟩ ⟨3, ![g, n, m]⟩) K rfl rfl).symm k) 0).val = (j 0).val := by simp [DotDims.rhsIdx]; rfl
    have h1 : ((⟨[1], [2], [2], [1], [0], [0], wf⟩ : DotDims ⟨3, ![g, K, n]⟩ ⟨3, ![g, m, K]⟩ ⟨3, ![g, n, m]⟩).rhsIdx j ((contrEquiv1 (⟨[1], [2], [2], [1], [0], [0], wf⟩ : DotDims ⟨3, ![g, K, n]⟩ ⟨3, ![g, m, K]⟩ ⟨3, ![g, n, m]⟩) K rfl rfl).symm k) 1).val = (j 2).val := by simp [DotDims.rhsIdx]; rfl
    have h2 : ((⟨[1], [2], [2], [1], [0], [0], wf⟩ : DotDims ⟨3, ![g, K, n]⟩ ⟨3, ![g, m, K]⟩ ⟨3, ![g, n, m]⟩).rhsIdx j ((contrEquiv1 (⟨[1], [2], [2], [1], [0], [0], wf⟩ : DotDims ⟨3, ![g, K, n]⟩ ⟨3, ![g, m, K]⟩ ⟨3, ![g, n, m]⟩) K rfl rfl).symm k) 2).val = k.val := by simp [DotDims.rhsIdx]; exact ck
    rw [h0, h1, h2]

theorem hdot_b3 {g n m K : ℕ} {φ₁ φ₂ : FTy} (prec : Option ContractPrecision) (A : ℕ → ℕ → ℕ → ℝ) (B : ℕ → ℕ → ℕ → ℝ)
    (wf : DotDims.WF ⟨3, ![g, K, n]⟩ ⟨3, ![g, m, K]⟩ ⟨3, ![g, n, m]⟩ [1] [2] [2] [1] [0] [0]) :
    Host.dotGeneral (F := Ideal) (φ₁ := φ₁) (φ₂ := φ₂) (⟨[1], [2], [2], [1], [0], [0], wf⟩ : DotDims ⟨3, ![g, K, n]⟩ ⟨3, ![g, m, K]⟩ ⟨3, ![g, n, m]⟩) prec (up3 A) (up3 B) = up3 fun b i j => ∑ k ∈ Finset.range K, A b k i * B b j k := by
  rw [← dot_b3 A B wf]
  funext j
  simp only [Host.dotGeneral]
  exact Ideal.dotGeneral_apply (φ₁ := φ₁) (φ₂ := φ₂) _ _ _ _ _ _

theorem bid_1_2_0_at {n m : ℕ} (A : ℕ → ℝ) (d : Fin 1 → Fin 2) (h : (⟨1, ![n]⟩ : Shape).BroadcastsInDim ⟨2, ![n, m]⟩ d) (h0 : d 0 = 0) :
    broadcastInDim ⟨2, ![n, m]⟩ d h (up1 A) = up2 fun i _ => A i := by
  have hd : d = ![0] := funext fun i => match i with
    | ⟨0, _⟩ => h0
  subst hd
  exact bid_1_2_0 A h

theorem bidi_1_2_0_at {n m : ℕ} (A : ℕ → BitVec 32) (d : Fin 1 → Fin 2) (h : (⟨1, ![n]⟩ : Shape).BroadcastsInDim ⟨2, ![n, m]⟩ d) (h0 : d 0 = 0) :
    broadcastInDim ⟨2, ![n, m]⟩ d h (ui1 A) = ui2 fun i _ => A i := by
  have hd : d = ![0] := funext fun i => match i with
    | ⟨0, _⟩ => h0
  subst hd
  exact bidi_1_2_0 A h

theorem bidi_1_2_1_at {n m : ℕ} (A : ℕ → BitVec 32) (d : Fin 1 → Fin 2) (h : (⟨1, ![m]⟩ : Shape).BroadcastsInDim ⟨2, ![n, m]⟩ d) (h0 : d 0 = 1) :
    broadcastInDim ⟨2, ![n, m]⟩ d h (ui1 A) = ui2 fun _ j => A j := by
  have hd : d = ![1] := funext fun i => match i with
    | ⟨0, _⟩ => h0
  subst hd
  exact bidi_1_2_1 A h

theorem bid_row_at {n m : ℕ} (A : ℕ → ℕ → ℝ) (d : Fin 2 → Fin 2) (h : (⟨2, ![1, m]⟩ : Shape).BroadcastsInDim ⟨2, ![n, m]⟩ d) (h0 : d 0 = 0) (h1 : d 1 = 1) :
    broadcastInDim ⟨2, ![n, m]⟩ d h (up2 A) = up2 fun _ j => A 0 j := by
  have hd : d = ![0, 1] := funext fun i => match i with
    | ⟨0, _⟩ => h0
    | ⟨1, _⟩ => h1
  subst hd
  exact bid_row A h

theorem bidi_row_at {n m : ℕ} (A : ℕ → ℕ → BitVec 32) (d : Fin 2 → Fin 2) (h : (⟨2, ![1, m]⟩ : Shape).BroadcastsInDim ⟨2, ![n, m]⟩ d) (h0 : d 0 = 0) (h1 : d 1 = 1) :
    broadcastInDim ⟨2, ![n, m]⟩ d h (ui2 A) = ui2 fun _ j => A 0 j := by
  have hd : d = ![0, 1] := funext fun i => match i with
    | ⟨0, _⟩ => h0
    | ⟨1, _⟩ => h1
  subst hd
  exact bidi_row A h

theorem bid_col_at {n m : ℕ} (A : ℕ → ℕ → ℝ) (d : Fin 2 → Fin 2) (h : (⟨2, ![n, 1]⟩ : Shape).BroadcastsInDim ⟨2, ![n, m]⟩ d) (h0 : d 0 = 0) (h1 : d 1 = 1) :
    broadcastInDim ⟨2, ![n, m]⟩ d h (up2 A) = up2 fun i _ => A i 0 := by
  have hd : d = ![0, 1] := funext fun i => match i with
    | ⟨0, _⟩ => h0
    | ⟨1, _⟩ => h1
  subst hd
  exact bid_col A h

theorem bidi_col_at {n m : ℕ} (A : ℕ → ℕ → BitVec 32) (d : Fin 2 → Fin 2) (h : (⟨2, ![n, 1]⟩ : Shape).BroadcastsInDim ⟨2, ![n, m]⟩ d) (h0 : d 0 = 0) (h1 : d 1 = 1) :
    broadcastInDim ⟨2, ![n, m]⟩ d h (ui2 A) = ui2 fun i _ => A i 0 := by
  have hd : d = ![0, 1] := funext fun i => match i with
    | ⟨0, _⟩ => h0
    | ⟨1, _⟩ => h1
  subst hd
  exact bidi_col A h

theorem bid_2_3_02_at {l m : ℕ} (A : ℕ → ℕ → ℝ) (d : Fin 2 → Fin 3) (h : (⟨2, ![l, m]⟩ : Shape).BroadcastsInDim ⟨3, ![l, 1, m]⟩ d) (h0 : d 0 = 0) (h1 : d 1 = 2) :
    broadcastInDim ⟨3, ![l, 1, m]⟩ d h (up2 A) = up3 fun k _ j => A k j := by
  have hd : d = ![0, 2] := funext fun i => match i with
    | ⟨0, _⟩ => h0
    | ⟨1, _⟩ => h1
  subst hd
  exact bid_2_3_02 A h

theorem bidi_2_3_01_at {l m : ℕ} (A : ℕ → ℕ → BitVec 32) (d : Fin 2 → Fin 3) (h : (⟨2, ![l, m]⟩ : Shape).BroadcastsInDim ⟨3, ![l, m, 1]⟩ d) (h0 : d 0 = 0) (h1 : d 1 = 1) :
    broadcastInDim ⟨3, ![l, m, 1]⟩ d h (ui2 A) = ui3 fun k j _ => A k j := by
  have hd : d = ![0, 1] := funext fun i => match i with
    | ⟨0, _⟩ => h0
    | ⟨1, _⟩ => h1
  subst hd
  exact bidi_2_3_01 A h

theorem bid_2_3_12_at {l n m : ℕ} (A : ℕ → ℕ → ℝ) (d : Fin 2 → Fin 3) (h : (⟨2, ![n, m]⟩ : Shape).BroadcastsInDim ⟨3, ![l, n, m]⟩ d) (h0 : d 0 = 1) (h1 : d 1 = 2) :
    broadcastInDim ⟨3, ![l, n, m]⟩ d h (up2 A) = up3 fun _ i j => A i j := by
  have hd : d = ![1, 2] := funext fun i => match i with
    | ⟨0, _⟩ => h0
    | ⟨1, _⟩ => h1
  subst hd
  exact bid_2_3_12 A h

theorem bid_mid_at {l n m : ℕ} (A : ℕ → ℕ → ℕ → ℝ) (d : Fin 3 → Fin 3) (h : (⟨3, ![l, 1, m]⟩ : Shape).BroadcastsInDim ⟨3, ![l, n, m]⟩ d) (h0 : d 0 = 0) (h1 : d 1 = 1) (h2 : d 2 = 2) :
    broadcastInDim ⟨3, ![l, n, m]⟩ d h (up3 A) = up3 fun k _ j => A k 0 j := by
  have hd : d = ![0, 1, 2] := funext fun i => match i with
    | ⟨0, _⟩ => h0
    | ⟨1, _⟩ => h1
    | ⟨2, _⟩ => h2
  subst hd
  exact bid_mid A h

end Cert.Proof
-- ==== Proof.MeanJoin.lean ====
/-
  ARRAYS OF REAL NUMBERS, the operations that join arrays, and those whose reads depend on index arrays or windows.
-/
module

public import proofs.«01_k».proof.Proof.MeanOps

@[expose] public section

set_option maxRecDepth 16384

noncomputable section

open Idealize.ShloMosaic Idealize.ShloMosaic.ValueIdx
open scoped BigOperators

namespace Cert.Proof

theorem cat0_2 {m w p0 p1 : ℕ} (A0 A1 : ℕ → ℕ → ℝ)
    (h : Shape.Concatenates [⟨2, ![p0, m]⟩, ⟨2, ![p1, m]⟩] ⟨2, ![w, m]⟩ 0) :
    concatenate ⟨2, ![w, m]⟩ 0 [⟨⟨2, ![p0, m]⟩, up2 A0⟩, ⟨⟨2, ![p1, m]⟩, up2 A1⟩] h = up2 fun i j =>
      if i < p0 then A0 i j else A1 (i - (p0)) j := by
  funext j
  have hw : p0 + p1 = w := by have := h.2.2; simpa [Nat.add_assoc] using this
  have hj : (j 0).val < w := (j 0).isLt
  change _ = (((fun i j => if i < p0 then A0 i j else A1 (i - (p0)) j) (j 0).val (j 1).val : ℝ) : EReal)
  beta_reduce
  by_cases h0 : (j 0).val < p0
  · rw [if_pos h0]
    have hb : (j 0).val < p0 := by omega
    refine (concatenate_apply_piece 0 [⟨⟨2, ![p0, m]⟩, up2 A0⟩, ⟨⟨2, ![p1, m]⟩, up2 A1⟩] h j 0 (by simp) ⟨2, ![p0, m]⟩ (up2 A0) rfl rfl (0) (by simp [Nat.add_assoc]) (ValueIdx.ix2 ⟨(j 0).val, hb⟩ ⟨(j 1).val, (j 1).isLt⟩) (fun b hb' => ?_) ?_).trans rfl
    · match b with
      | ⟨0, _⟩ => exact absurd rfl hb'
      | ⟨1, _⟩ => rfl
    · show 0 + ((j 0).val) = (j 0).val
      omega
  rw [if_neg h0]
  have hb : (j 0).val - (p0) < p1 := by omega
  refine (concatenate_apply_piece 0 [⟨⟨2, ![p0, m]⟩, up2 A0⟩, ⟨⟨2, ![p1, m]⟩, up2 A1⟩] h j 1 (by simp) ⟨2, ![p1, m]⟩ (up2 A1) rfl rfl (p0) (by simp [Nat.add_assoc]) (ValueIdx.ix2 ⟨(j 0).val - (p0), hb⟩ ⟨(j 1).val, (j 1).isLt⟩) (fun b hb' => ?_) ?_).trans rfl
  · match b with
    | ⟨0, _⟩ => exact absurd rfl hb'
    | ⟨1, _⟩ => rfl
  · show p0 + ((j 0).val - (p0)) = (j 0).val
    omega

theorem cat1_2 {n w p0 p1 : ℕ} (A0 A1 : ℕ → ℕ → ℝ)
    (h : Shape.Concatenates [⟨2, ![n, p0]⟩, ⟨2, ![n, p1]⟩] ⟨2, ![n, w]⟩ 1) :
    concatenate ⟨2, ![n, w]⟩ 1 [⟨⟨2, ![n, p0]⟩, up2 A0⟩, ⟨⟨2, ![n, p1]⟩, up2 A1⟩] h = up2 fun i j =>
      if j < p0 then A0 i j else A1 i (j - (p0)) := by
  funext j
  have hw : p0 + p1 = w := by have := h.2.2; simpa [Nat.add_assoc] using this
  have hj : (j 1).val < w := (j 1).isLt
  change _ = (((fun i j => if j < p0 then A0 i j else A1 i (j - (p0))) (j 0).val (j 1).val : ℝ) : EReal)
  beta_reduce
  by_cases h0 : (j 1).val < p0
  · rw [if_pos h0]
    have hb : (j 1).val < p0 := by omega
    refine (concatenate_apply_piece 1 [⟨⟨2, ![n, p0]⟩, up2 A0⟩, ⟨⟨2, ![n, p1]⟩, up2 A1⟩] h j 0 (by simp) ⟨2, ![n, p0]⟩ (up2 A0) rfl rfl (0) (by simp [Nat.add_assoc]) (ValueIdx.ix2 ⟨(j 0).val, (j 0).isLt⟩ ⟨(j 1).val, hb⟩) (fun b hb' => ?_) ?_).trans rfl
    · match b with
      | ⟨1, _⟩ => exact absurd rfl hb'
      | ⟨0, _⟩ => rfl
    · show 0 + ((j 1).val) = (j 1).val
      omega
  rw [if_neg h0]
  have hb : (j 1).val - (p0) < p1 := by omega
  refine (concatenate_apply_piece 1 [⟨⟨2, ![n, p0]⟩, up2 A0⟩, ⟨⟨2, ![n, p1]⟩, up2 A1⟩] h j 1 (by simp) ⟨2, ![n, p1]⟩ (up2 A1) rfl rfl (p0) (by simp [Nat.add_assoc]) (ValueIdx.ix2 ⟨(j 0).val, (j 0).isLt⟩ ⟨(j 1).val - (p0), hb⟩) (fun b hb' => ?_) ?_).trans rfl
  · match b with
    | ⟨1, _⟩ => exact absurd rfl hb'
    | ⟨0, _⟩ => rfl
  · show p0 + ((j 1).val - (p0)) = (j 1).val
    omega

theorem cat1_3 {n w p0 p1 p2 : ℕ} (A0 A1 A2 : ℕ → ℕ → ℝ)
    (h : Shape.Concatenates [⟨2, ![n, p0]⟩, ⟨2, ![n, p1]⟩, ⟨2, ![n, p2]⟩] ⟨2, ![n, w]⟩ 1) :
    concatenate ⟨2, ![n, w]⟩ 1 [⟨⟨2, ![n, p0]⟩, up2 A0⟩, ⟨⟨2, ![n, p1]⟩, up2 A1⟩, ⟨⟨2, ![n, p2]⟩, up2 A2⟩] h = up2 fun i j =>
      if j < p0 then A0 i j else if j < p0 + p1 then A1 i (j - (p0)) else A2 i (j - (p0 + p1)) := by
  funext j
  have hw : p0 + p1 + p2 = w := by have := h.2.2; simpa [Nat.add_assoc] using this
  have hj : (j 1).val < w := (j 1).isLt
  change _ = (((fun i j => if j < p0 then A0 i j else if j < p0 + p1 then A1 i (j - (p0)) else A2 i (j - (p0 + p1))) (j 0).val (j 1).val : ℝ) : EReal)
  beta_reduce
  by_cases h0 : (j 1).val < p0
  · rw [if_pos h0]
    have hb : (j 1).val < p0 := by omega
    refine (concatenate_apply_piece 1 [⟨⟨2, ![n, p0]⟩, up2 A0⟩, ⟨⟨2, ![n, p1]⟩, up2 A1⟩, ⟨⟨2, ![n, p2]⟩, up2 A2⟩] h j 0 (by simp) ⟨2, ![n, p0]⟩ (up2 A0) rfl rfl (0) (by simp [Nat.add_assoc]) (ValueIdx.ix2 ⟨(j 0).val, (j 0).isLt⟩ ⟨(j 1).val, hb⟩) (fun b hb' => ?_) ?_).trans rfl
    · match b with
      | ⟨1, _⟩ => exact absurd rfl hb'
      | ⟨0, _⟩ => rfl
    · show 0 + ((j 1).val) = (j 1).val
      omega
  rw [if_neg h0]
  by_cases h1 : (j 1).val < p0 + p1
  · rw [if_pos h1]
    have hb : (j 1).val - (p0) < p1 := by omega
    refine (concatenate_apply_piece 1 [⟨⟨2, ![n, p0]⟩, up2 A0⟩, ⟨⟨2, ![n, p1]⟩, up2 A1⟩, ⟨⟨2, ![n, p2]⟩, up2 A2⟩] h j 1 (by simp) ⟨2, ![n, p1]⟩ (up2 A1) rfl rfl (p0) (by simp [Nat.add_assoc]) (ValueIdx.ix2 ⟨(j 0).val, (j 0).isLt⟩ ⟨(j 1).val - (p0), hb⟩) (fun b hb' => ?_) ?_).trans rfl
    · match b with
      | ⟨1, _⟩ => exact absurd rfl hb'
      | ⟨0, _⟩ => rfl
    · show p0 + ((j 1).val - (p0)) = (j 1).val
      omega
  rw [if_neg h1]
  have hb : (j 1).val - (p0 + p1) < p2 := by omega
  refine (concatenate_apply_piece 1 [⟨⟨2, ![n, p0]⟩, up2 A0⟩, ⟨⟨2, ![n, p1]⟩, up2 A1⟩, ⟨⟨2, ![n, p2]⟩, up2 A2⟩] h j 2 (by simp) ⟨2, ![n, p2]⟩ (up2 A2) rfl rfl (p0 + p1) (by simp [Nat.add_assoc]) (ValueIdx.ix2 ⟨(j 0).val, (j 0).isLt⟩ ⟨(j 1).val - (p0 + p1), hb⟩) (fun b hb' => ?_) ?_).trans rfl
  · match b with
    | ⟨1, _⟩ => exact absurd rfl hb'
    | ⟨0, _⟩ => rfl
  · show p0 + p1 + ((j 1).val - (p0 + p1)) = (j 1).val
    omega

theorem cat1_4 {n w p0 p1 p2 p3 : ℕ} (A0 A1 A2 A3 : ℕ → ℕ → ℝ)
    (h : Shape.Concatenates [⟨2, ![n, p0]⟩, ⟨2, ![n, p1]⟩, ⟨2, ![n, p2]⟩, ⟨2, ![n, p3]⟩] ⟨2, ![n, w]⟩ 1) :
    concatenate ⟨2, ![n, w]⟩ 1 [⟨⟨2, ![n, p0]⟩, up2 A0⟩, ⟨⟨2, ![n, p1]⟩, up2 A1⟩, ⟨⟨2, ![n, p2]⟩, up2 A2⟩, ⟨⟨2, ![n, p3]⟩, up2 A3⟩] h = up2 fun i j =>
      if j < p0 then A0 i j else if j < p0 + p1 then A1 i (j - (p0)) else if j < p0 + p1 + p2 then A2 i (j - (p0 + p1)) else A3 i (j - (p0 + p1 + p2)) := by
  funext j
  have hw : p0 + p1 + p2 + p3 = w := by have := h.2.2; simpa [Nat.add_assoc] using this
  have hj : (j 1).val < w := (j 1).isLt
  change _ = (((fun i j => if j < p0 then A0 i j else if j < p0 + p1 then A1 i (j - (p0)) else if j < p0 + p1 + p2 then A2 i (j - (p0 + p1)) else A3 i (j - (p0 + p1 + p2))) (j 0).val (j 1).val : ℝ) : EReal)
  beta_reduce
  by_cases h0 : (j 1).val < p0
  · rw [if_pos h0]
    have hb : (j 1).val < p0 := by omega
    refine (concatenate_apply_piece 1 [⟨⟨2, ![n, p0]⟩, up2 A0⟩, ⟨⟨2, ![n, p1]⟩, up2 A1⟩, ⟨⟨2, ![n, p2]⟩, up2 A2⟩, ⟨⟨2, ![n, p3]⟩, up2 A3⟩] h j 0 (by simp) ⟨2, ![n, p0]⟩ (up2 A0) rfl rfl (0) (by simp [Nat.add_assoc]) (ValueIdx.ix2 ⟨(j 0).val, (j 0).isLt⟩ ⟨(j 1).val, hb⟩) (fun b hb' => ?_) ?_).trans rfl
    · match b with
      | ⟨1, _⟩ => exact absurd rfl hb'
      | ⟨0, _⟩ => rfl
    · show 0 + ((j 1).val) = (j 1).val
      omega
  rw [if_neg h0]
  by_cases h1 : (j 1).val < p0 + p1
  · rw [if_pos h1]
    have hb : (j 1).val - (p0) < p1 := by omega
    refine (concatenate_apply_piece 1 [⟨⟨2, ![n, p0]⟩, up2 A0⟩, ⟨⟨2, ![n, p1]⟩, up2 A1⟩, ⟨⟨2, ![n, p2]⟩, up2 A2⟩, ⟨⟨2, ![n, p3]⟩, up2 A3⟩] h j 1 (by simp) ⟨2, ![n, p1]⟩ (up2 A1) rfl rfl (p0) (by simp [Nat.add_assoc]) (ValueIdx.ix2 ⟨(j 0).val, (j 0).isLt⟩ ⟨(j 1).val - (p0), hb⟩) (fun b hb' => ?_) ?_).trans rfl
    · match b with
      | ⟨1, _⟩ => exact absurd rfl hb'
      | ⟨0, _⟩ => rfl
    · show p0 + ((j 1).val - (p0)) = (j 1).val
      omega
  rw [if_neg h1]
  by_cases h2 : (j 1).val < p0 + p1 + p2
  · rw [if_pos h2]
    have hb : (j 1).val - (p0 + p1) < p2 := by omega
    refine (concatenate_apply_piece 1 [⟨⟨2, ![n, p0]⟩, up2 A0⟩, ⟨⟨2, ![n, p1]⟩, up2 A1⟩, ⟨⟨2, ![n, p2]⟩, up2 A2⟩, ⟨⟨2, ![n, p3]⟩, up2 A3⟩] h j 2 (by simp) ⟨2, ![n, p2]⟩ (up2 A2) rfl rfl (p0 + p1) (by simp [Nat.add_assoc]) (ValueIdx.ix2 ⟨(j 0).val, (j 0).isLt⟩ ⟨(j 1).val - (p0 + p1), hb⟩) (fun b hb' => ?_) ?_).trans rfl
    · match b with
      | ⟨1, _⟩ => exact absurd rfl hb'
      | ⟨0, _⟩ => rfl
    · show p0 + p1 + ((j 1).val - (p0 + p1)) = (j 1).val
      omega
  rw [if_neg h2]
  have hb : (j 1).val - (p0 + p1 + p2) < p3 := by omega
  refine (concatenate_apply_piece 1 [⟨⟨2, ![n, p0]⟩, up2 A0⟩, ⟨⟨2, ![n, p1]⟩, up2 A1⟩, ⟨⟨2, ![n, p2]⟩, up2 A2⟩, ⟨⟨2, ![n, p3]⟩, up2 A3⟩] h j 3 (by simp) ⟨2, ![n, p3]⟩ (up2 A3) rfl rfl (p0 + p1 + p2) (by simp [Nat.add_assoc]) (ValueIdx.ix2 ⟨(j 0).val, (j 0).isLt⟩ ⟨(j 1).val - (p0 + p1 + p2), hb⟩) (fun b hb' => ?_) ?_).trans rfl
  · match b with
    | ⟨1, _⟩ => exact absurd rfl hb'
    | ⟨0, _⟩ => rfl
  · show p0 + p1 + p2 + ((j 1).val - (p0 + p1 + p2)) = (j 1).val
    omega

theorem cat0_5 {m w p0 p1 p2 p3 p4 : ℕ} (A0 A1 A2 A3 A4 : ℕ → ℕ → ℝ)
    (h : Shape.Concatenates [⟨2, ![p0, m]⟩, ⟨2, ![p1, m]⟩, ⟨2, ![p2, m]⟩, ⟨2, ![p3, m]⟩, ⟨2, ![p4, m]⟩] ⟨2, ![w, m]⟩ 0) :
    concatenate ⟨2, ![w, m]⟩ 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩] h = up2 fun i j =>
      if i < p0 then A0 i j else if i < p0 + p1 then A1 (i - (p0)) j else if i < p0 + p1 + p2 then A2 (i - (p0 + p1)) j else if i < p0 + p1 + p2 + p3 then A3 (i - (p0 + p1 + p2)) j else A4 (i - (p0 + p1 + p2 + p3)) j := by
  funext j
  have hw : p0 + p1 + p2 + p3 + p4 = w := by have := h.2.2; simpa [Nat.add_assoc] using this
  have hj : (j 0).val < w := (j 0).isLt
  change _ = (((fun i j => if i < p0 then A0 i j else if i < p0 + p1 then A1 (i - (p0)) j else if i < p0 + p1 + p2 then A2 (i - (p0 + p1)) j else if i < p0 + p1 + p2 + p3 then A3 (i - (p0 + p1 + p2)) j else A4 (i - (p0 + p1 + p2 + p3)) j) (j 0).val (j 1).val : ℝ) : EReal)
  beta_reduce
  by_cases h0 : (j 0).val < p0
  · rw [if_pos h0]
    have hb : (j 0).val < p0 := by omega
    refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩] h j 0 (by simp) ⟨2, ![p0, m]⟩ (up2 A0) rfl rfl (0) (by simp [Nat.add_assoc]) (ValueIdx.ix2 ⟨(j 0).val, hb⟩ ⟨(j 1).val, (j 1).isLt⟩) (fun b hb' => ?_) ?_).trans rfl
    · match b with
      | ⟨0, _⟩ => exact absurd rfl hb'
      | ⟨1, _⟩ => rfl
    · show 0 + ((j 0).val) = (j 0).val
      omega
  rw [if_neg h0]
  by_cases h1 : (j 0).val < p0 + p1
  · rw [if_pos h1]
    have hb : (j 0).val - (p0) < p1 := by omega
    refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩] h j 1 (by simp) ⟨2, ![p1, m]⟩ (up2 A1) rfl rfl (p0) (by simp [Nat.add_assoc]) (ValueIdx.ix2 ⟨(j 0).val - (p0), hb⟩ ⟨(j 1).val, (j 1).isLt⟩) (fun b hb' => ?_) ?_).trans rfl
    · match b with
      | ⟨0, _⟩ => exact absurd rfl hb'
      | ⟨1, _⟩ => rfl
    · show p0 + ((j 0).val - (p0)) = (j 0).val
      omega
  rw [if_neg h1]
  by_cases h2 : (j 0).val < p0 + p1 + p2
  · rw [if_pos h2]
    have hb : (j 0).val - (p0 + p1) < p2 := by omega
    refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩] h j 2 (by simp) ⟨2, ![p2, m]⟩ (up2 A2) rfl rfl (p0 + p1) (by simp [Nat.add_assoc]) (ValueIdx.ix2 ⟨(j 0).val - (p0 + p1), hb⟩ ⟨(j 1).val, (j 1).isLt⟩) (fun b hb' => ?_) ?_).trans rfl
    · match b with
      | ⟨0, _⟩ => exact absurd rfl hb'
      | ⟨1, _⟩ => rfl
    · show p0 + p1 + ((j 0).val - (p0 + p1)) = (j 0).val
      omega
  rw [if_neg h2]
  by_cases h3 : (j 0).val < p0 + p1 + p2 + p3
  · rw [if_pos h3]
    have hb : (j 0).val - (p0 + p1 + p2) < p3 := by omega
    refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩] h j 3 (by simp) ⟨2, ![p3, m]⟩ (up2 A3) rfl rfl (p0 + p1 + p2) (by simp [Nat.add_assoc]) (ValueIdx.ix2 ⟨(j 0).val - (p0 + p1 + p2), hb⟩ ⟨(j 1).val, (j 1).isLt⟩) (fun b hb' => ?_) ?_).trans rfl
    · match b with
      | ⟨0, _⟩ => exact absurd rfl hb'
      | ⟨1, _⟩ => rfl
    · show p0 + p1 + p2 + ((j 0).val - (p0 + p1 + p2)) = (j 0).val
      omega
  rw [if_neg h3]
  have hb : (j 0).val - (p0 + p1 + p2 + p3) < p4 := by omega
  refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩] h j 4 (by simp) ⟨2, ![p4, m]⟩ (up2 A4) rfl rfl (p0 + p1 + p2 + p3) (by simp [Nat.add_assoc]) (ValueIdx.ix2 ⟨(j 0).val - (p0 + p1 + p2 + p3), hb⟩ ⟨(j 1).val, (j 1).isLt⟩) (fun b hb' => ?_) ?_).trans rfl
  · match b with
    | ⟨0, _⟩ => exact absurd rfl hb'
    | ⟨1, _⟩ => rfl
  · show p0 + p1 + p2 + p3 + ((j 0).val - (p0 + p1 + p2 + p3)) = (j 0).val
    omega

end Cert.Proof
-- ==== Proof.MeanRows.lean ====
/-
  ARRAYS OF REAL NUMBERS: rows taken by an index array, rows added at an index array, and sums over a sliding window.
-/
module

public import proofs.«01_k».proof.Proof.MeanJoin

@[expose] public section

set_option maxRecDepth 16384

noncomputable section

open Idealize.ShloMosaic Idealize.ShloMosaic.ValueIdx
open scoped BigOperators

namespace Cert.Proof

/-! ## rows taken at an index array -/

theorem gather_rows_up2 {N C K T : ℕ}
    (wf : GatherDims.WF ⟨2, ![N, C]⟩ ⟨3, ![K, T, 1]⟩ ⟨3, ![K, T, C]⟩ [2] [0] [] [0] [] 2 ![1, C])
    (A : ℕ → ℕ → ℝ) (W : ℕ → ℕ → ℕ → BitVec 32) :
    Host.gather (⟨[2], [0], [], [], [0], 2, ![1, C], wf⟩ : GatherDims ⟨2, ![N, C]⟩ ⟨3, ![K, T, 1]⟩ ⟨3, ![K, T, C]⟩) (up2 A) (ui3 W) =
      up3 fun k t c => A (min (W k t 0).toInt.toNat (N - 1)) c := by
  funext y
  set d : GatherDims ⟨2, ![N, C]⟩ ⟨3, ![K, T, 1]⟩ ⟨3, ![K, T, C]⟩ := ⟨[2], [0], [], [], [0], 2, ![1, C], wf⟩ with hd
  unfold Host.gather
  have e0 : (d.operandIdx y (ui3 W) 0).val = min (W (y 0).val (y 1).val 0).toInt.toNat (N - 1) := by
    show d.start y (ui3 W) 0 + d.batchCoord y 0 + d.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    rfl
  have e1 : (d.operandIdx y (ui3 W) 1).val = (y 2).val := by
    show d.start y (ui3 W) 1 + d.batchCoord y 1 + d.offCoord y 1 = _
    rw [GatherDims.batchCoord_eq_zero _ _ _ List.not_mem_nil]
    unfold GatherDims.start
    rw [dif_neg (show ¬ (1 : Fin 2) ∈ d.startIndexMap from fun h => by simp [hd] at h)]
    simp only [Nat.zero_add]
    unfold GatherDims.offCoord
    rw [dif_pos ((GatherDims.mem_sKept _ _).mpr ⟨fun h => by simp [hd] at h, List.not_mem_nil⟩)]
    rfl
  show ((A (d.operandIdx y (ui3 W) 0).val (d.operandIdx y (ui3 W) 1).val : ℝ) : EReal) = _
  rw [e0, e1]; rfl

/-! ## rows added at an index array -/

theorem scatter_rows_up2 {N C K T : ℕ}
    (wf : ScatterDims.WF ⟨2, ![N, C]⟩ ⟨3, ![K, T, 1]⟩ ⟨3, ![K, T, C]⟩ [2] [0] [0] 2)
    (A : ℕ → ℕ → ℝ) (B : ℕ → ℕ → ℕ → ℝ) (W : ℕ → ℕ → ℕ → BitVec 32) (g : ℕ → ℕ → ℕ)
    (hg : ∀ k < K, ∀ t < T, (W k t 0).toInt = (g k t : ℤ)) :
    Host.scatterAdd (F := Ideal) (φ := .f32)
      (⟨[2], [0], [0], 2, wf⟩ : ScatterDims ⟨2, ![N, C]⟩ ⟨3, ![K, T, 1]⟩ ⟨3, ![K, T, C]⟩) (up2 A) (ui3 W) (up3 B) =
      up2 fun r c => A r c + ∑ k ∈ Finset.range K, ∑ t ∈ Finset.range T, if g k t = r then B k t c else 0 := by
  funext i
  set d : ScatterDims ⟨2, ![N, C]⟩ ⟨3, ![K, T, 1]⟩ ⟨3, ![K, T, C]⟩ := ⟨[2], [0], [0], 2, wf⟩ with hd
  have hs0 : ∀ j, d.start j (ui3 W) 0 = (g (j 0).val (j 1).val : ℤ) := fun j => by
    unfold ScatterDims.start
    rw [dif_pos (show (0 : Fin 2) ∈ d.scatterDimsToOperandDims from List.mem_singleton.mpr rfl)]
    exact hg _ (j 0).isLt _ (j 1).isLt
  have hs1 : ∀ j, d.start j (ui3 W) 1 = 0 := fun j => by
    unfold ScatterDims.start
    rw [dif_neg (show ¬ (1 : Fin 2) ∈ d.scatterDimsToOperandDims from fun h => by simp [hd] at h)]
  have hw0 : ∀ j, d.window j 0 = 0 := fun j => by
    unfold ScatterDims.window
    rw [dif_neg (show ¬ (0 : Fin 2) ∈ d.sKept from fun h => (of_decide_eq_true (List.mem_filter.1 h).2) (List.mem_singleton.2 rfl))]
  have hw1 : ∀ j, d.window j 1 = (j 2).val := fun j => by
    unfold ScatterDims.window
    rw [dif_pos (show (1 : Fin 2) ∈ d.sKept from List.mem_filter.2 ⟨List.mem_finRange _, decide_eq_true (fun h => by simp [hd] at h)⟩)]
    rfl
  have lands : ∀ j, d.resultIdx? j (ui3 W) = some i ↔ g (j 0).val (j 1).val = (i 0).val ∧ (j 2).val = (i 1).val := fun j => by
    have hi0 : (i 0).val < N := (i 0).isLt
    have hi1 : (i 1).val < C := (i 1).isLt
    have hj2 : (j 2).val < C := (j 2).isLt
    unfold ScatterDims.resultIdx?
    constructor
    · intro e
      split at e
      · next h =>
        have e' := Option.some.inj e
        have a0 := congrArg Fin.val (congrFun e' 0)
        have a1 := congrArg Fin.val (congrFun e' 1)
        change (d.start j (ui3 W) 0 + (d.window j 0 : ℤ)).toNat = (i 0).val at a0
        change (d.start j (ui3 W) 1 + (d.window j 1 : ℤ)).toNat = (i 1).val at a1
        rw [hs0, hw0] at a0
        rw [hs1, hw1] at a1
        exact ⟨by omega, by omega⟩
      · cases e
    · rintro ⟨a0, a1⟩
      rw [dif_pos]
      · refine congrArg some (funext fun a => Fin.ext ?_)
        match a with
        | ⟨0, _⟩ =>
          show (d.start j (ui3 W) 0 + (d.window j 0 : ℤ)).toNat = (i 0).val
          rw [hs0, hw0]; omega
        | ⟨1, _⟩ =>
          show (d.start j (ui3 W) 1 + (d.window j 1 : ℤ)).toNat = (i 1).val
          rw [hs1, hw1]; omega
      · intro a
        match a with
        | ⟨0, _⟩ =>
          show 0 ≤ d.start j (ui3 W) 0 + (d.window j 0 : ℤ) ∧ d.start j (ui3 W) 0 + (d.window j 0 : ℤ) < (N : ℤ)
          rw [hs0, hw0]; omega
        | ⟨1, _⟩ =>
          show 0 ≤ d.start j (ui3 W) 1 + (d.window j 1 : ℤ) ∧ d.start j (ui3 W) 1 + (d.window j 1 : ℤ) < (C : ℤ)
          rw [hs1, hw1]; omega
  simp only [Host.scatterAdd, Ideal.hostScatterAdd_def, Ideal.hostScatterAdd]
  show (A (i 0).val (i 1).val : EReal) + _ = ((A (i 0).val (i 1).val + _ : ℝ) : EReal)
  rw [EReal.coe_add]
  congr 1
  rw [Finset.sum_filter, Idealize.ShloMosaic.sum_idx3]
  have hi1 : (i 1).val < C := (i 1).isLt
  rw [coe_sum, Finset.sum_range]
  refine Finset.sum_congr rfl fun k _ => ?_
  rw [coe_sum, Finset.sum_range]
  refine Finset.sum_congr rfl fun t _ => ?_
  have hstep : ∀ c : Fin C, (if d.resultIdx? (Idealize.ShloMosaic.ix3 k t c) (ui3 W) = some i then (up3 B : (⟨3, ![K, T, C]⟩ : Shape).Idx → EReal) (Idealize.ShloMosaic.ix3 k t c) else 0)
      = if c = (⟨(i 1).val, hi1⟩ : Fin C) then (if g k.val t.val = (i 0).val then (B k.val t.val (i 1).val : EReal) else 0) else 0 := fun c => by
    by_cases hc : c = (⟨(i 1).val, hi1⟩ : Fin C)
    · subst hc
      rw [if_pos rfl]
      by_cases hgk : g k.val t.val = (i 0).val
      · rw [if_pos ((lands _).2 ⟨hgk, rfl⟩), if_pos hgk]; rfl
      · rw [if_neg fun h => hgk ((lands _).1 h).1, if_neg hgk]
    · rw [if_neg hc, if_neg fun h => hc (Fin.ext ((lands _).1 h).2)]
  rw [Finset.sum_congr rfl fun c _ => hstep c, Finset.sum_ite_eq' Finset.univ, if_pos (Finset.mem_univ _)]
  split_ifs <;> rfl

/-! ## sums over a sliding window of rows -/

theorem foldl_add {ι : Type} (f : ι → EReal) (l : List ι) : ∀ v : EReal, l.foldl (fun r n => r + f n) v = v + (l.map f).sum := by
  induction l with
  | nil => intro v; simp
  | cons a l ih => intro v; rw [List.foldl_cons, ih, List.map_cons, List.sum_cons, add_assoc]

theorem window_rows_up2 {n m w lo hi : ℕ} (A : ℕ → ℕ → ℝ)
    (h : (⟨2, ![n, m]⟩ : Shape).ReduceWindows ![w, 1] ![1, 1] ![lo, 0] ![hi, 0] ⟨2, ![n, m]⟩) {u : Shape} (v : u.Idx → EReal) (hu : 0 < u.numel)
    (hv : v (Shape.Idx.first hu) = ((0 : ℝ) : EReal)) :
    Host.reduceWindowAdd (F := Ideal) (φ := .f32) ![w, 1] ![1, 1] ![lo, 0] ![hi, 0] (up2 A) v h hu =
      up2 fun t c => ∑ k ∈ Finset.range w, if lo ≤ t + k ∧ t + k - lo < n then A (t + k - lo) c else 0 := by
  funext j
  simp only [Host.reduceWindowAdd, Ideal.hostReduceWindowAdd_def, Ideal.hostReduceWindowAdd, Host.reduceWindow]
  rw [hv, foldl_add, EReal.coe_zero, zero_add, ← Fin.sum_univ_def]
  have hj1 : (j 1).val < m := (j 1).isLt
  rw [← Equiv.sum_comp (Shape.rowMajor ⟨2, ![w, 1]⟩), Idealize.ShloMosaic.sum_idx2]
  show _ = ((∑ k ∈ Finset.range w, _ : ℝ) : EReal)
  rw [coe_sum, Finset.sum_range]
  refine Finset.sum_congr rfl fun k _ => ?_
  rw [Fin.sum_univ_one]
  simp only [Equiv.symm_apply_apply]
  by_cases hc : lo ≤ (j 0).val + k.val ∧ (j 0).val + k.val - lo < n
  · rw [if_pos hc, dif_pos]
    · show ((A ((j 0).val * 1 + k.val - lo) ((j 1).val * 1 + 0 - 0) : ℝ) : EReal) = _
      simp
    · intro a
      match a with
      | ⟨0, _⟩ => exact ⟨by show lo ≤ (j 0).val * 1 + k.val; omega, by show (j 0).val * 1 + k.val - lo < n; omega⟩
      | ⟨1, _⟩ => exact ⟨Nat.zero_le _, by show (j 1).val * 1 + 0 - 0 < m; omega⟩
  · rw [if_neg hc, dif_neg]
    · rfl
    · intro hin
      have h0 := hin 0
      change lo ≤ (j 0).val * 1 + k.val ∧ (j 0).val * 1 + k.val - lo < n at h0
      exact hc ⟨by omega, by omega⟩

end Cert.Proof
-- ==== Proof.Model.lean ====
/-
  THE REAL MODEL of the mixer's forward values and of its gradients: every name is a function of row and column.
-/
module

public import proofs.«01_k».proof.Proof.MeanRows

@[expose] public section

set_option maxRecDepth 16384

noncomputable section

open Idealize.ShloMosaic Idealize.ShloMosaic.ValueIdx
open scoped BigOperators

namespace Cert.Proof

/-- The thirteen arguments as real arrays. -/
structure Arr where
  dx2 : ℕ → ℕ → ℝ
  x : ℕ → ℕ → ℝ
  md : ℕ → ℕ → ℝ
  g1 : ℕ → ℕ → ℝ
  win : ℕ → ℕ → ℝ
  dww : ℕ → ℕ → ℝ
  dwb : ℕ → ℕ → ℝ
  lng : ℕ → ℕ → ℝ
  lnb : ℕ → ℕ → ℝ
  wpw : ℕ → ℕ → ℝ
  wg : ℕ → ℕ → ℕ → ℝ
  psc : ℕ → ℕ → ℝ
  wout : ℕ → ℕ → ℝ

namespace Arr

variable (a : Arr)

/-! ## forward -/

def ms (t : ℕ) : ℝ := (∑ j ∈ Finset.range 1024, a.x t j * a.x t j) / 1024 + eps
def r1 (t : ℕ) : ℝ := (√(a.ms t))⁻¹
def xh (t j : ℕ) : ℝ := a.x t j * a.r1 t
def n1 (t j : ℕ) : ℝ := a.xh t j * a.g1 0 j
def h (t j : ℕ) : ℝ := a.n1 t j * (1 + a.md 1 j) + a.md 0 j
def u (t j : ℕ) : ℝ := ∑ k ∈ Finset.range 1024, a.h t k * a.win k j
/-- The gate's sigmoid. -/
def sgg (t j : ℕ) : ℝ := 1 / (1 + Real.exp (-a.u t (512 + j)))
def glu (t j : ℕ) : ℝ := a.u t j * a.sgg t j
/-- `glu` at `t - 30 + k`, nothing before the start. -/
def tap (k t j : ℕ) : ℝ := if t + k < 30 then 0 else a.glu (t + k - 30) j
def cv (t j : ℕ) : ℝ := (∑ k ∈ Finset.range 31, a.dww k j * a.tap k t j) + a.dwb 0 j
def mu (t : ℕ) : ℝ := (∑ j ∈ Finset.range 512, a.cv t j) / 512
def cen (t j : ℕ) : ℝ := a.cv t j - a.mu t
def vr (t : ℕ) : ℝ := (∑ j ∈ Finset.range 512, a.cen t j * a.cen t j) / 512 + eps
def rstd (t : ℕ) : ℝ := (√(a.vr t))⁻¹
def z (t j : ℕ) : ℝ := a.cen t j * a.rstd t
def v (t j : ℕ) : ℝ := a.u t (1024 + j)
/-- The running sum of the rows up to `t`. -/
def cs (t j : ℕ) : ℝ := ∑ k ∈ Finset.range 2048, if 2047 ≤ t + k ∧ t + k - 2047 < 2048 then a.v (t + k - 2047) j else 0
/-- The number of positions a window of `w` holds at `t`. -/
def cnt (w t : ℕ) : ℝ := ((min (t + 1) w : ℕ) : ℝ)
/-- The window's difference of running sums over its count, column `j`. -/
def win1 (w t j : ℕ) : ℝ := (a.cs t j - if t < w then 0 else a.cs (t - w) j) / cnt w t
/-- The window of a column's group. -/
def wof (j : ℕ) : ℕ := if j < 128 then 2 else if j < 256 then 4 else if j < 384 then 8 else 16
def p (t j : ℕ) : ℝ := a.win1 (wof j) t j - a.v t j
def ln (t j : ℕ) : ℝ := a.z t j * a.lng 0 j + a.lnb 0 j
def sg (t j : ℕ) : ℝ := 1 / (1 + Real.exp (-a.ln t j))
def sw (t j : ℕ) : ℝ := a.ln t j * a.sg t j
def ypre (t j : ℕ) : ℝ := ∑ c ∈ Finset.range 128, a.p t (j / 128 * 128 + c) * a.wg (j / 128) c (j % 128)
def ycat (t j : ℕ) : ℝ :=
  if j < 512 then ∑ k ∈ Finset.range 512, a.sw t k * a.wpw k j else a.ypre t (j - 512) * a.psc 0 (j - 512)
def y (t j : ℕ) : ℝ := ∑ k ∈ Finset.range 1024, a.ycat t k * a.wout k j

/-! ## backward -/

def dy (t j : ℕ) : ℝ := a.dx2 t j * a.md 2 j
def dycat (t j : ℕ) : ℝ := ∑ k ∈ Finset.range 1024, a.dy t k * a.wout j k
def dypool (t j : ℕ) : ℝ := a.dycat t (512 + j)
def dyps (t j : ℕ) : ℝ := a.dypool t j * a.psc 0 j
def dp (t j : ℕ) : ℝ := ∑ d ∈ Finset.range 128, a.dyps t (j / 128 * 128 + d) * a.wg (j / 128) (j % 128) d
/-- The pool gradient over the count of its window, nothing after the end. -/
def dpc (t j : ℕ) : ℝ := if t < 2048 then a.dp t j / cnt (wof j) t else 0
def dv (t j : ℕ) : ℝ := (∑ d ∈ Finset.range (wof j), a.dpc (t + d) j) - a.dp t j
def dsw (t j : ℕ) : ℝ := ∑ k ∈ Finset.range 512, a.dycat t k * a.wpw j k
def dln (t j : ℕ) : ℝ := a.dsw t j * (a.sg t j * (1 + a.ln t j * (1 - a.sg t j)))
def dz (t j : ℕ) : ℝ := a.dln t j * a.lng 0 j
def dzm (t : ℕ) : ℝ := (∑ j ∈ Finset.range 512, a.dz t j) / 512
def dzz (t : ℕ) : ℝ := (∑ j ∈ Finset.range 512, a.dz t j * a.z t j) / 512
def dcv (t j : ℕ) : ℝ := if t < 2048 then a.rstd t * (a.dz t j - a.dzm t - a.z t j * a.dzz t) else 0
def dglu (t j : ℕ) : ℝ := ∑ k ∈ Finset.range 31, a.dww k j * a.dcv (t + (30 - k)) j
def da (t j : ℕ) : ℝ := a.dglu t j * a.sgg t j
def dg (t j : ℕ) : ℝ := a.dglu t j * a.u t j * a.sgg t j * (1 - a.sgg t j)
def du (t j : ℕ) : ℝ := if j < 512 then a.da t j else if j < 1024 then a.dg t (j - 512) else a.dv t (j - 1024)
def dh (t j : ℕ) : ℝ := ∑ k ∈ Finset.range 1536, a.du t k * a.win j k
def dn1 (t j : ℕ) : ℝ := a.dh t j * (1 + a.md 1 j)
def dxh (t j : ℕ) : ℝ := a.dn1 t j * a.g1 0 j
def dxm (t : ℕ) : ℝ := (∑ j ∈ Finset.range 1024, a.dxh t j * a.xh t j) / 1024
def gx (t j : ℕ) : ℝ := a.dx2 t j + a.r1 t * (a.dxh t j - a.xh t j * a.dxm t)

/-! ## sums over the rows -/

def gpw (i j : ℕ) : ℝ := ∑ t ∈ Finset.range 2048, a.sw t i * a.dycat t j
def gwg (g i j : ℕ) : ℝ := ∑ t ∈ Finset.range 2048, a.p t (g * 128 + i) * a.dyps t (g * 128 + j)
def vd (r j : ℕ) : ℝ :=
  if r = 0 then ∑ t ∈ Finset.range 2048, a.dx2 t j * a.y t j
  else if r = 1 then ∑ t ∈ Finset.range 2048, a.dh t j
  else if r = 2 then ∑ t ∈ Finset.range 2048, a.dh t j * a.n1 t j
  else if r = 3 then ∑ t ∈ Finset.range 2048, a.dn1 t j * a.xh t j else 0
def vc (r j : ℕ) : ℝ :=
  if r = 0 then ∑ t ∈ Finset.range 2048, a.dypool t j * a.ypre t j
  else if r = 1 then ∑ t ∈ Finset.range 2048, a.dln t j * a.z t j
  else if r = 2 then ∑ t ∈ Finset.range 2048, a.dln t j
  else if r = 3 then ∑ t ∈ Finset.range 2048, a.dcv t j else 0
def ddw (k j : ℕ) : ℝ := if k < 31 then ∑ t ∈ Finset.range 2048, a.glu t j * a.dcv (t + (30 - k)) j else 0

theorem ms_pos (t : ℕ) : 0 < a.ms t := by
  unfold ms
  have := eps_pos
  have h0 : 0 ≤ ∑ j ∈ Finset.range 1024, a.x t j * a.x t j := Finset.sum_nonneg fun j _ => mul_self_nonneg _
  positivity
theorem vr_pos (t : ℕ) : 0 < a.vr t := by
  unfold vr
  have := eps_pos
  have h0 : 0 ≤ ∑ j ∈ Finset.range 512, a.cen t j * a.cen t j := Finset.sum_nonneg fun j _ => mul_self_nonneg _
  positivity
theorem cnt_ne (w t : ℕ) (hw : 0 < w) : cnt w t ≠ 0 := by
  unfold cnt
  have : 0 < min (t + 1) w := by omega
  exact_mod_cast this.ne'
theorem den_ne (r : ℝ) : 1 + Real.exp r ≠ 0 := by positivity

end Arr

end Cert.Proof
-- ==== Proof.RefA.lean ====
/-
  THE REFERENCE'S FORWARD VALUES, up to the normalised convolution, are the real model's.
-/
module

public import proofs.«01_k».proof.Proof.Model
public import proofs.«01_k».proof.Proof.Gen.ReferenceIdeal.Read

@[expose] public section

set_option maxRecDepth 16384

noncomputable section

open Idealize.ShloMosaic Idealize.ShloMosaic.ValueIdx Cert.ReferenceIdeal Cert.ReferenceIdeal.Read
open scoped BigOperators

namespace Cert.Proof

variable (a : Arr)

theorem ref_v9 : val_main_v9 (F := Ideal) (up2 (n := 2048) (m := 1024) a.x) = up2 (n := 2048) (m := 1) fun t _ => a.ms t := by
  simp (config := {implicitDefEqProofs := false}) only [val_main_v9, val_main_v7, val_main_v5, val_main_v4, val_main_v3, val_main_cst, val_main_v6, val_main_cst_0, val_main_v8, val_main_cst_1, addf_up2, mulf_up2, const_1024_up2, const_eps_up2, bcast_const, hsum_cols_up2, bid_1_2_0_at, Matrix.cons_val_zero, ne_eq, OfNat.ofNat_ne_zero, not_false_eq_true, implies_true, hdivf_up2]
  rfl

theorem ref_v10 : val_main_v10 (F := Ideal) (up2 (n := 2048) (m := 1024) a.x) = up2 (n := 2048) (m := 1) fun t _ => a.r1 t := by
  simp (config := {implicitDefEqProofs := false}) only [val_main_v10, ref_v9 a, hrsqrt_up2 (fun t _ => a.ms t) fun t _ _ _ => a.ms_pos t]
  rfl

theorem ref_v15 : val_main_v15 (F := Ideal) (up2 (n := 2048) (m := 1024) a.x) = up2 (n := 2048) (m := 1024) a.xh := by
  simp (config := {implicitDefEqProofs := false}) only [val_main_v15, val_main_v14, ref_v10 a, mulf_up2, bid_col_at, Matrix.cons_val_zero, Matrix.cons_val_one]
  rfl

theorem ref_v17 : val_main_v17 (F := Ideal) (up2 (n := 2048) (m := 1024) a.x) (up2 (n := 1) (m := 1024) a.g1) = up2 (n := 2048) (m := 1024) a.n1 := by
  simp (config := {implicitDefEqProofs := false}) only [val_main_v17, val_main_v16, ref_v15 a, mulf_up2, bid_row_at, Matrix.cons_val_zero, Matrix.cons_val_one]
  rfl

theorem ref_v19 : val_main_v19 (F := Ideal) (up2 (n := 6) (m := 1024) a.md) = up2 (n := 1) (m := 1024) fun _ j => 1 + a.md 1 j := by
  simp (config := {implicitDefEqProofs := false}) only [val_main_v19, val_main_v18, val_main_cst_3, val_main_v1, addf_up2, const_one_up2, slice_up2, bcast_const, zero_add]
  exact up2_congr fun i hi j hj => by rw [show i = 0 by omega]

theorem ref_v23 : val_main_v23 (F := Ideal) (up2 (n := 2048) (m := 1024) a.x) (up2 (n := 6) (m := 1024) a.md) (up2 (n := 1) (m := 1024) a.g1) = up2 (n := 2048) (m := 1024) a.h := by
  simp (config := {implicitDefEqProofs := false}) only [val_main_v23, val_main_v21, val_main_v20, val_main_v22, val_main_v0, ref_v17 a, ref_v19 a, addf_up2, mulf_up2, slice_up2, bid_row_at, Matrix.cons_val_zero, Matrix.cons_val_one, zero_add]
  rfl

theorem ref_v24 : val_main_v24 (F := Ideal) (up2 (n := 2048) (m := 1024) a.x) (up2 (n := 6) (m := 1024) a.md) (up2 (n := 1) (m := 1024) a.g1) (up2 (n := 1024) (m := 1536) a.win) = up2 (n := 2048) (m := 1536) a.u := by
  simp (config := {implicitDefEqProofs := false}) only [val_main_v24, ref_v23 a, dot_S2048x1024_S1024x1536_S2048x1536_1_0_0_1_n_n]
  exact hdot_nn _ _ _ _

theorem ref_v26 : val_main_v26 (F := Ideal) (up2 (n := 2048) (m := 1024) a.x) (up2 (n := 6) (m := 1024) a.md) (up2 (n := 1) (m := 1024) a.g1) (up2 (n := 1024) (m := 1536) a.win) = up2 (n := 2048) (m := 512) a.u := by
  simp (config := {implicitDefEqProofs := false}) only [val_main_v26, val_main_v25, ref_v24 a, slice_up2, zero_add]

theorem ref_v27 : val_main_v27 (F := Ideal) (up2 (n := 2048) (m := 1024) a.x) (up2 (n := 6) (m := 1024) a.md) (up2 (n := 1) (m := 1024) a.g1) (up2 (n := 1024) (m := 1536) a.win) = up2 (n := 2048) (m := 512) fun t j => a.u t (512 + j) := by
  simp (config := {implicitDefEqProofs := false}) only [val_main_v27, val_main_v25, ref_v24 a, slice_up2, zero_add]

theorem ref_v33 : val_main_v33 (F := Ideal) (up2 (n := 2048) (m := 1024) a.x) (up2 (n := 6) (m := 1024) a.md) (up2 (n := 1) (m := 1024) a.g1) (up2 (n := 1024) (m := 1536) a.win) = up2 (n := 2048) (m := 512) a.sgg := by
  simp (config := {implicitDefEqProofs := false}) only [val_main_v33, val_main_v32, val_main_cst_5, val_main_v31, val_main_v30, val_main_cst_4, val_main_v29, val_main_v28, ref_v27 a, addf_up2, negf_up2, hexp_up2, const_one_up2, bcast_const, ne_eq, not_false_eq_true, implies_true, hdivf_up2, Arr.den_ne]
  rfl

theorem ref_v37 : val_main_v37 (F := Ideal) (up2 (n := 2048) (m := 1024) a.x) (up2 (n := 6) (m := 1024) a.md) (up2 (n := 1) (m := 1024) a.g1) (up2 (n := 1024) (m := 1536) a.win) = up2 (n := 2048) (m := 512) a.glu := by
  simp (config := {implicitDefEqProofs := false}) only [val_main_v37, ref_v26 a, ref_v33 a, mulf_up2]
  rfl

theorem ref_v39 : val_main_v39 (F := Ideal)  = up2 (n := 30) (m := 512) fun _ _ => 0 := by
  simp (config := {implicitDefEqProofs := false}) only [val_main_v39, val_main_cst_7, const_zero_up2, bcast_const]

theorem ref_v40 : val_main_v40 (F := Ideal) (up2 (n := 2048) (m := 1024) a.x) (up2 (n := 6) (m := 1024) a.md) (up2 (n := 1) (m := 1024) a.g1) (up2 (n := 1024) (m := 1536) a.win) = up2 (n := 2078) (m := 512) fun t j => if t < 30 then 0 else a.glu (t - 30) j := by
  unfold val_main_v40
  rw [ref_v39, ref_v37 a]
  exact cat0_2 (fun _ _ => 0) a.glu _

theorem toInt_small {b : BitVec 32} {n : ℕ} (h : b.toNat = n) (hn : n < 2 ^ 31) : b.toInt = (n : ℤ) := by
  rw [BitVec.toInt_eq_toNat_of_lt (by omega), h]

theorem row_toNat {k t : ℕ} (hk : k < 31) (ht : t < 2048) : (IntOp.addi (BitVec.ofNat 32 k) (BitVec.ofNat 32 t)).toNat = k + t := by
  show (BitVec.ofNat 32 k + BitVec.ofNat 32 t).toNat = _
  rw [BitVec.toNat_add, BitVec.toNat_ofNat, BitVec.toNat_ofNat]; omega

theorem row_toInt {k t : ℕ} (hk : k < 31) (ht : t < 2048) : (IntOp.addi (BitVec.ofNat 32 k) (BitVec.ofNat 32 t)).toInt = ((k + t : ℕ) : ℤ) :=
  toInt_small (row_toNat hk ht) (by omega)

theorem ref_v48 : val_main_v48 (F := Ideal)  = ui2 (n := 31) (m := 2048) fun k t => IntOp.addi (BitVec.ofNat 32 k) (BitVec.ofNat 32 t) := by
  simp (config := {implicitDefEqProofs := false}) only [val_main_v48, val_main_v46, val_main_v43, val_main_v42, val_main_v47, val_main_v45, val_main_v44, addi_ui2, iota_ui1, bidi_1_2_0_at, bidi_1_2_1_at, bidi_row_at, bidi_col_at, Matrix.cons_val_zero, Matrix.cons_val_one]

theorem ref_v53 : val_main_v53 (F := Ideal) = ui2 (n := 31) (m := 2048) fun k t => IntOp.addi (BitVec.ofNat 32 k) (BitVec.ofNat 32 t) := by
  simp only [val_main_v53, val_main_v50, val_main_v49, val_main_v51, val_main_v52, val_main_c, val_main_c_9, ref_v48, bcast_constI, constantI_ui2, addi_ui2]
  funext i
  have h0 : (i 0).val < 31 := (i 0).isLt
  have h1 : (i 1).val < 2048 := (i 1).isLt
  have h2 := row_toInt h0 h1
  have h3 : ((IntOp.addi (BitVec.ofNat 32 (i 0).val) (BitVec.ofNat 32 (i 1).val)).slt 0#32) = false := by
    rw [BitVec.slt, h2, decide_eq_false_iff_not, BitVec.toInt_zero, not_lt]; positivity
  simp only [select, cmpi, ui2, IntOp.cmpi, h3]
  rfl

theorem ref_v54 : val_main_v54 (F := Ideal)  = ui3 (l := 31) (n := 2048) (m := 1) fun k t _ => IntOp.addi (BitVec.ofNat 32 k) (BitVec.ofNat 32 t) := by
  simp (config := {implicitDefEqProofs := false}) only [val_main_v54, ref_v53, bidi_2_3_01_at, Matrix.cons_val_zero, Matrix.cons_val_one]

theorem ref_v55 : val_main_v55 (F := Ideal) (up2 (n := 2048) (m := 1024) a.x) (up2 (n := 6) (m := 1024) a.md) (up2 (n := 1) (m := 1024) a.g1) (up2 (n := 1024) (m := 1536) a.win) = up3 (l := 31) (n := 2048) (m := 512) a.tap := by
  simp (config := {implicitDefEqProofs := false}) only [val_main_v55, ref_v40 a, ref_v54, gather_S2078x512_S31x2048x1_S31x2048x512_2_0_n_n_0_2_1512]
  refine (gather_rows_up2 _ _ _).trans (up3_congr fun k hk t ht j hj => ?_)
  rw [row_toInt hk ht, Int.toNat_natCast, Nat.min_eq_left (by omega)]
  unfold Arr.tap
  rw [Nat.add_comm k t]

theorem ref_v60 : val_main_v60 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) = up2 (n := 2048) (m := 512) a.cv := by
  simp (config := {implicitDefEqProofs := false}) only [val_main_v60, val_main_v58, val_main_v57, val_main_v56, val_main_v38, val_main_cst_10, val_main_v59, ref_v55 a, addf_up2, mulf_up3, hsum_outer_up3, bid_row_at, bid_2_3_02_at, bid_mid_at, Matrix.cons_val_zero, Matrix.cons_val_one, Matrix.cons_val_two, Matrix.tail_cons, Matrix.head_cons]
  rfl

theorem ref_v64 : val_main_v64 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) = up2 (n := 2048) (m := 1) fun t _ => a.mu t := by
  simp (config := {implicitDefEqProofs := false}) only [val_main_v64, val_main_v62, val_main_v61, val_main_cst_11, val_main_v63, val_main_cst_12, ref_v60 a, const_512_up2, bcast_const, hsum_cols_up2, bid_1_2_0_at, Matrix.cons_val_zero, ne_eq, OfNat.ofNat_ne_zero, not_false_eq_true, implies_true, hdivf_up2]
  rfl

theorem ref_v66 : val_main_v66 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) = up2 (n := 2048) (m := 512) a.cen := by
  simp (config := {implicitDefEqProofs := false}) only [val_main_v66, val_main_v65, ref_v60 a, ref_v64 a, subf_up2, bid_col_at, Matrix.cons_val_zero, Matrix.cons_val_one]
  rfl

theorem ref_v81 : val_main_v81 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) = up2 (n := 2048) (m := 512) a.cen := by
  simp (config := {implicitDefEqProofs := false}) only [val_main_v81, val_main_v80, ref_v60 a, ref_v64 a, subf_up2, bid_col_at, Matrix.cons_val_zero, Matrix.cons_val_one]
  rfl

theorem ref_v75 : val_main_v75 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) = up2 (n := 2048) (m := 1) fun t _ => a.vr t := by
  simp (config := {implicitDefEqProofs := false}) only [val_main_v75, val_main_v73, val_main_v71, val_main_v70, val_main_v67, val_main_cst_14, val_main_v72, val_main_cst_15, val_main_v74, val_main_cst_16, ref_v66 a, addf_up2, mulf_up2, const_512_up2, const_eps_up2, bcast_const, hsum_cols_up2, bid_1_2_0_at, Matrix.cons_val_zero, ne_eq, OfNat.ofNat_ne_zero, not_false_eq_true, implies_true, hdivf_up2]
  rfl

theorem ref_v76 : val_main_v76 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) = up2 (n := 2048) (m := 1) fun t _ => a.rstd t := by
  simp (config := {implicitDefEqProofs := false}) only [val_main_v76, ref_v75 a, hrsqrt_up2 (fun t _ => a.vr t) fun t _ _ _ => a.vr_pos t]
  rfl

theorem ref_v83 : val_main_v83 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) = up2 (n := 2048) (m := 512) a.z := by
  simp (config := {implicitDefEqProofs := false}) only [val_main_v83, val_main_v82, ref_v81 a, ref_v76 a, mulf_up2, bid_col_at, Matrix.cons_val_zero, Matrix.cons_val_one]
  rfl

theorem ref_v84 : val_main_v84 (F := Ideal) (up2 (n := 2048) (m := 1024) a.x) (up2 (n := 6) (m := 1024) a.md) (up2 (n := 1) (m := 1024) a.g1) (up2 (n := 1024) (m := 1536) a.win) = up2 (n := 2048) (m := 512) a.v := by
  simp (config := {implicitDefEqProofs := false}) only [val_main_v84, ref_v24 a, slice_up2, zero_add]
  rfl

end Cert.Proof
-- ==== Proof.RefB.lean ====
/-
  THE REFERENCE'S FORWARD VALUES, the pooling and the output product, are the real model's.
-/
module

public import proofs.«01_k».proof.Proof.RefA

@[expose] public section

set_option maxRecDepth 16384

noncomputable section

open Idealize.ShloMosaic Idealize.ShloMosaic.ValueIdx Cert.ReferenceIdeal Cert.ReferenceIdeal.Read
open scoped BigOperators

namespace Cert.Proof

variable (a : Arr)

theorem first_zero (h : 0 < (⟨0, ![]⟩ : Shape).numel) :
    (broadcastInDim (⟨0, ![]⟩ : Shape) ![] Gen.bcast_S_S_ (constant (F := Ideal) ⟨0, ![]⟩ .f32 0x00000000#32)) (Shape.Idx.first h) = ((0 : ℝ) : EReal) :=
  bits_zero

theorem ref_v85 : val_main_v85 (F := Ideal) (up2 (n := 2048) (m := 1024) a.x) (up2 (n := 6) (m := 1024) a.md) (up2 (n := 1) (m := 1024) a.g1) (up2 (n := 1024) (m := 1536) a.win) = up2 (n := 2048) (m := 512) a.cs := by
  simp only [val_main_v85, ref_v84 a, val_main_call0_call0_v0, val_main_call0_call0_cst]
  exact window_rows_up2 _ _ _ _ (first_zero _)

theorem min_toInt {t w : ℕ} (ht : t < 2048) (hw : w < 2048) :
    (IntOp.minsi (IntOp.addi (BitVec.ofNat 32 t) 1#32) (BitVec.ofNat 32 w)).toInt = ((min (t + 1) w : ℕ) : ℤ) := by
  have h1 : (IntOp.addi (BitVec.ofNat 32 t) 1#32).toInt = ((t + 1 : ℕ) : ℤ) := by
    refine toInt_small ?_ (by omega)
    show (BitVec.ofNat 32 t + 1#32).toNat = _
    rw [BitVec.toNat_add, BitVec.toNat_ofNat, BitVec.toNat_ofNat]; omega
  have h2 : (BitVec.ofNat 32 w).toInt = (w : ℤ) := toInt_small (by rw [BitVec.toNat_ofNat]; omega) (by omega)
  unfold IntOp.minsi
  split_ifs with h
  · rw [BitVec.slt, h1, h2] at h
    rw [h1]; have := of_decide_eq_true h; congr 1; omega
  · rw [BitVec.slt, h1, h2] at h
    rw [h2]
    have h' : ¬((t + 1 : ℕ) : ℤ) < (w : ℤ) := fun hh => h (decide_eq_true hh)
    congr 1; omega

theorem ref_v98 : val_main_v98 (F := Ideal)  = up2 (n := 2048) (m := 1) fun t _ => Arr.cnt 2 t := by
  simp (config := {implicitDefEqProofs := false}) only [val_main_v98, val_main_v92, val_main_v91, val_main_v89, val_main_v86, val_main_v88, val_main_c_18, val_main_v90, val_main_c_19, sitofp_up1, addi_ui1, minsi_ui1, constantI_ui1, bcast_constI, iota_ui1, bid_1_2_0_at, Matrix.cons_val_zero]
  refine up2_congr fun t ht j hj => ?_
  rw [min_toInt ht (w := 2) (by norm_num)]; unfold Arr.cnt; push_cast; rfl

theorem ref_v112 : val_main_v112 (F := Ideal)  = up2 (n := 2048) (m := 1) fun t _ => Arr.cnt 4 t := by
  simp (config := {implicitDefEqProofs := false}) only [val_main_v112, val_main_v106, val_main_v105, val_main_v103, val_main_v86, val_main_v102, val_main_c_22, val_main_v104, val_main_c_23, sitofp_up1, addi_ui1, minsi_ui1, constantI_ui1, bcast_constI, iota_ui1, bid_1_2_0_at, Matrix.cons_val_zero]
  refine up2_congr fun t ht j hj => ?_
  rw [min_toInt ht (w := 4) (by norm_num)]; unfold Arr.cnt; push_cast; rfl

theorem ref_v126 : val_main_v126 (F := Ideal)  = up2 (n := 2048) (m := 1) fun t _ => Arr.cnt 8 t := by
  simp (config := {implicitDefEqProofs := false}) only [val_main_v126, val_main_v120, val_main_v119, val_main_v117, val_main_v86, val_main_v116, val_main_c_26, val_main_v118, val_main_c_27, sitofp_up1, addi_ui1, minsi_ui1, constantI_ui1, bcast_constI, iota_ui1, bid_1_2_0_at, Matrix.cons_val_zero]
  refine up2_congr fun t ht j hj => ?_
  rw [min_toInt ht (w := 8) (by norm_num)]; unfold Arr.cnt; push_cast; rfl

theorem ref_v140 : val_main_v140 (F := Ideal)  = up2 (n := 2048) (m := 1) fun t _ => Arr.cnt 16 t := by
  simp (config := {implicitDefEqProofs := false}) only [val_main_v140, val_main_v134, val_main_v133, val_main_v131, val_main_v86, val_main_v130, val_main_c_30, val_main_v132, val_main_c_31, sitofp_up1, addi_ui1, minsi_ui1, constantI_ui1, bcast_constI, iota_ui1, bid_1_2_0_at, Matrix.cons_val_zero]
  refine up2_congr fun t ht j hj => ?_
  rw [min_toInt ht (w := 16) (by norm_num)]; unfold Arr.cnt; push_cast; rfl

theorem ref_v87 : val_main_v87 (F := Ideal) (up2 (n := 2048) (m := 1024) a.x) (up2 (n := 6) (m := 1024) a.md) (up2 (n := 1) (m := 1024) a.g1) (up2 (n := 1024) (m := 1536) a.win) = up2 (n := 2048) (m := 128) fun t j => a.cs t (0 + j) := by
  simp (config := {implicitDefEqProofs := false}) only [val_main_v87, ref_v85 a, slice_up2, zero_add]

theorem ref_v93 : val_main_v93 (F := Ideal)  = up2 (n := 2) (m := 128) fun _ _ => 0 := by
  simp (config := {implicitDefEqProofs := false}) only [val_main_v93, val_main_cst_20, const_zero_up2, bcast_const]

theorem ref_v94 : val_main_v94 (F := Ideal) (up2 (n := 2048) (m := 1024) a.x) (up2 (n := 6) (m := 1024) a.md) (up2 (n := 1) (m := 1024) a.g1) (up2 (n := 1024) (m := 1536) a.win) = up2 (n := 2046) (m := 128) fun t j => a.cs t (0 + j) := by
  simp (config := {implicitDefEqProofs := false}) only [val_main_v94, ref_v87 a, slice_up2, zero_add]

theorem ref_v95 : val_main_v95 (F := Ideal) (up2 (n := 2048) (m := 1024) a.x) (up2 (n := 6) (m := 1024) a.md) (up2 (n := 1) (m := 1024) a.g1) (up2 (n := 1024) (m := 1536) a.win) = up2 (n := 2048) (m := 128) fun t j => if t < 2 then 0 else a.cs (t - 2) (0 + j) := by
  unfold val_main_v95
  rw [ref_v93, ref_v94 a]
  exact cat0_2 (fun _ _ => 0) (fun t j => a.cs t (0 + j)) _

theorem ref_v100 : val_main_v100 (F := Ideal) (up2 (n := 2048) (m := 1024) a.x) (up2 (n := 6) (m := 1024) a.md) (up2 (n := 1) (m := 1024) a.g1) (up2 (n := 1024) (m := 1536) a.win) = up2 (n := 2048) (m := 128) fun t j => a.win1 2 t (0 + j) := by
  simp (config := {implicitDefEqProofs := false}) only [val_main_v100, val_main_v97, val_main_v99, ref_v98, ref_v87 a, ref_v95 a, subf_up2, bid_col_at, Matrix.cons_val_zero, Matrix.cons_val_one, zero_add]
  rw [hdivf_up2 _ _ fun t _ _ _ => Arr.cnt_ne 2 t (by norm_num)]
  rfl

theorem ref_v101 : val_main_v101 (F := Ideal) (up2 (n := 2048) (m := 1024) a.x) (up2 (n := 6) (m := 1024) a.md) (up2 (n := 1) (m := 1024) a.g1) (up2 (n := 1024) (m := 1536) a.win) = up2 (n := 2048) (m := 128) fun t j => a.cs t (128 + j) := by
  simp (config := {implicitDefEqProofs := false}) only [val_main_v101, ref_v85 a, slice_up2, zero_add]

theorem ref_v107 : val_main_v107 (F := Ideal)  = up2 (n := 4) (m := 128) fun _ _ => 0 := by
  simp (config := {implicitDefEqProofs := false}) only [val_main_v107, val_main_cst_24, const_zero_up2, bcast_const]

theorem ref_v108 : val_main_v108 (F := Ideal) (up2 (n := 2048) (m := 1024) a.x) (up2 (n := 6) (m := 1024) a.md) (up2 (n := 1) (m := 1024) a.g1) (up2 (n := 1024) (m := 1536) a.win) = up2 (n := 2044) (m := 128) fun t j => a.cs t (128 + j) := by
  simp (config := {implicitDefEqProofs := false}) only [val_main_v108, ref_v101 a, slice_up2, zero_add]

theorem ref_v109 : val_main_v109 (F := Ideal) (up2 (n := 2048) (m := 1024) a.x) (up2 (n := 6) (m := 1024) a.md) (up2 (n := 1) (m := 1024) a.g1) (up2 (n := 1024) (m := 1536) a.win) = up2 (n := 2048) (m := 128) fun t j => if t < 4 then 0 else a.cs (t - 4) (128 + j) := by
  unfold val_main_v109
  rw [ref_v107, ref_v108 a]
  exact cat0_2 (fun _ _ => 0) (fun t j => a.cs t (128 + j)) _

theorem ref_v114 : val_main_v114 (F := Ideal) (up2 (n := 2048) (m := 1024) a.x) (up2 (n := 6) (m := 1024) a.md) (up2 (n := 1) (m := 1024) a.g1) (up2 (n := 1024) (m := 1536) a.win) = up2 (n := 2048) (m := 128) fun t j => a.win1 4 t (128 + j) := by
  simp (config := {implicitDefEqProofs := false}) only [val_main_v114, val_main_v111, val_main_v113, ref_v112, ref_v101 a, ref_v109 a, subf_up2, bid_col_at, Matrix.cons_val_zero, Matrix.cons_val_one]
  rw [hdivf_up2 _ _ fun t _ _ _ => Arr.cnt_ne 4 t (by norm_num)]
  rfl

theorem ref_v115 : val_main_v115 (F := Ideal) (up2 (n := 2048) (m := 1024) a.x) (up2 (n := 6) (m := 1024) a.md) (up2 (n := 1) (m := 1024) a.g1) (up2 (n := 1024) (m := 1536) a.win) = up2 (n := 2048) (m := 128) fun t j => a.cs t (256 + j) := by
  simp (config := {implicitDefEqProofs := false}) only [val_main_v115, ref_v85 a, slice_up2, zero_add]

theorem ref_v121 : val_main_v121 (F := Ideal)  = up2 (n := 8) (m := 128) fun _ _ => 0 := by
  simp (config := {implicitDefEqProofs := false}) only [val_main_v121, val_main_cst_28, const_zero_up2, bcast_const]

theorem ref_v122 : val_main_v122 (F := Ideal) (up2 (n := 2048) (m := 1024) a.x) (up2 (n := 6) (m := 1024) a.md) (up2 (n := 1) (m := 1024) a.g1) (up2 (n := 1024) (m := 1536) a.win) = up2 (n := 2040) (m := 128) fun t j => a.cs t (256 + j) := by
  simp (config := {implicitDefEqProofs := false}) only [val_main_v122, ref_v115 a, slice_up2, zero_add]

theorem ref_v123 : val_main_v123 (F := Ideal) (up2 (n := 2048) (m := 1024) a.x) (up2 (n := 6) (m := 1024) a.md) (up2 (n := 1) (m := 1024) a.g1) (up2 (n := 1024) (m := 1536) a.win) = up2 (n := 2048) (m := 128) fun t j => if t < 8 then 0 else a.cs (t - 8) (256 + j) := by
  unfold val_main_v123
  rw [ref_v121, ref_v122 a]
  exact cat0_2 (fun _ _ => 0) (fun t j => a.cs t (256 + j)) _

theorem ref_v128 : val_main_v128 (F := Ideal) (up2 (n := 2048) (m := 1024) a.x) (up2 (n := 6) (m := 1024) a.md) (up2 (n := 1) (m := 1024) a.g1) (up2 (n := 1024) (m := 1536) a.win) = up2 (n := 2048) (m := 128) fun t j => a.win1 8 t (256 + j) := by
  simp (config := {implicitDefEqProofs := false}) only [val_main_v128, val_main_v125, val_main_v127, ref_v126, ref_v115 a, ref_v123 a, subf_up2, bid_col_at, Matrix.cons_val_zero, Matrix.cons_val_one]
  rw [hdivf_up2 _ _ fun t _ _ _ => Arr.cnt_ne 8 t (by norm_num)]
  rfl

theorem ref_v129 : val_main_v129 (F := Ideal) (up2 (n := 2048) (m := 1024) a.x) (up2 (n := 6) (m := 1024) a.md) (up2 (n := 1) (m := 1024) a.g1) (up2 (n := 1024) (m := 1536) a.win) = up2 (n := 2048) (m := 128) fun t j => a.cs t (384 + j) := by
  simp (config := {implicitDefEqProofs := false}) only [val_main_v129, ref_v85 a, slice_up2, zero_add]

theorem ref_v135 : val_main_v135 (F := Ideal)  = up2 (n := 16) (m := 128) fun _ _ => 0 := by
  simp (config := {implicitDefEqProofs := false}) only [val_main_v135, val_main_cst_32, const_zero_up2, bcast_const]

theorem ref_v136 : val_main_v136 (F := Ideal) (up2 (n := 2048) (m := 1024) a.x) (up2 (n := 6) (m := 1024) a.md) (up2 (n := 1) (m := 1024) a.g1) (up2 (n := 1024) (m := 1536) a.win) = up2 (n := 2032) (m := 128) fun t j => a.cs t (384 + j) := by
  simp (config := {implicitDefEqProofs := false}) only [val_main_v136, ref_v129 a, slice_up2, zero_add]

theorem ref_v137 : val_main_v137 (F := Ideal) (up2 (n := 2048) (m := 1024) a.x) (up2 (n := 6) (m := 1024) a.md) (up2 (n := 1) (m := 1024) a.g1) (up2 (n := 1024) (m := 1536) a.win) = up2 (n := 2048) (m := 128) fun t j => if t < 16 then 0 else a.cs (t - 16) (384 + j) := by
  unfold val_main_v137
  rw [ref_v135, ref_v136 a]
  exact cat0_2 (fun _ _ => 0) (fun t j => a.cs t (384 + j)) _

theorem ref_v142 : val_main_v142 (F := Ideal) (up2 (n := 2048) (m := 1024) a.x) (up2 (n := 6) (m := 1024) a.md) (up2 (n := 1) (m := 1024) a.g1) (up2 (n := 1024) (m := 1536) a.win) = up2 (n := 2048) (m := 128) fun t j => a.win1 16 t (384 + j) := by
  simp (config := {implicitDefEqProofs := false}) only [val_main_v142, val_main_v139, val_main_v141, ref_v140, ref_v129 a, ref_v137 a, subf_up2, bid_col_at, Matrix.cons_val_zero, Matrix.cons_val_one]
  rw [hdivf_up2 _ _ fun t _ _ _ => Arr.cnt_ne 16 t (by norm_num)]
  rfl

theorem ref_v143 : val_main_v143 (F := Ideal) (up2 (n := 2048) (m := 1024) a.x) (up2 (n := 6) (m := 1024) a.md) (up2 (n := 1) (m := 1024) a.g1) (up2 (n := 1024) (m := 1536) a.win) = up2 (n := 2048) (m := 512) fun t j => a.win1 (Arr.wof j) t j := by
  unfold val_main_v143
  rw [ref_v100 a, ref_v114 a, ref_v128 a, ref_v142 a]
  refine (cat1_4 (fun t j => a.win1 2 t (0 + j)) (fun t j => a.win1 4 t (128 + j)) (fun t j => a.win1 8 t (256 + j)) (fun t j => a.win1 16 t (384 + j)) _).trans ?_
  refine up2_congr fun t ht j hj => ?_
  unfold Arr.wof
  split_ifs <;> first | rfl | omega | (congr 1; omega)

theorem ref_v144 : val_main_v144 (F := Ideal) (up2 (n := 2048) (m := 1024) a.x) (up2 (n := 6) (m := 1024) a.md) (up2 (n := 1) (m := 1024) a.g1) (up2 (n := 1024) (m := 1536) a.win) = up2 (n := 2048) (m := 512) a.p := by
  simp (config := {implicitDefEqProofs := false}) only [val_main_v144, ref_v84 a, ref_v143 a, subf_up2]
  rfl

theorem ref_v148 : val_main_v148 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) = up2 (n := 2048) (m := 512) a.ln := by
  simp (config := {implicitDefEqProofs := false}) only [val_main_v148, val_main_v146, val_main_v145, val_main_v147, ref_v83 a, addf_up2, mulf_up2, bid_row_at, Matrix.cons_val_zero, Matrix.cons_val_one]
  rfl

theorem ref_v149_2 : val_main_v149_2 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) = up2 (n := 2048) (m := 512) a.sg := by
  simp (config := {implicitDefEqProofs := false}) only [val_main_v149_2, val_main_call1_v4, val_main_call1_cst_0, val_main_call1_v3, val_main_call1_v2, val_main_call1_cst, val_main_call1_v1, val_main_call1_v0, ref_v148 a, addf_up2, negf_up2, hexp_up2, const_one_up2, bcast_const, ne_eq, not_false_eq_true, implies_true, hdivf_up2, Arr.den_ne]
  rfl

theorem ref_v149_0 : val_main_v149_0 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) = up2 (n := 2048) (m := 512) a.sw := by
  simp (config := {implicitDefEqProofs := false}) only [val_main_v149_0, ref_v148 a, ref_v149_2 a, mulf_up2]
  rfl

theorem ref_v150 : val_main_v150 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) = up2 (n := 2048) (m := 512) fun t j => ∑ k ∈ Finset.range 512, a.sw t k * a.wpw k j := by
  simp (config := {implicitDefEqProofs := false}) only [val_main_v150, ref_v149_0 a, dot_S2048x512_S512x512_S2048x512_1_0_0_1_n_n]
  exact hdot_nn _ _ _ _

theorem ref_v151 : val_main_v151 (F := Ideal) (up2 (n := 2048) (m := 1024) a.x) (up2 (n := 6) (m := 1024) a.md) (up2 (n := 1) (m := 1024) a.g1) (up2 (n := 1024) (m := 1536) a.win) = up3 (l := 2048) (n := 4) (m := 128) fun t g c => a.p t (g * 128 + c) := by
  simp only [val_main_v151, ref_v144 a]
  exact cast_groups (by norm_num) _ _

theorem ref_v152 : val_main_v152 (F := Ideal) (up2 (n := 2048) (m := 1024) a.x) (up2 (n := 6) (m := 1024) a.md) (up2 (n := 1) (m := 1024) a.g1) (up2 (n := 1024) (m := 1536) a.win) (up3 (l := 4) (n := 128) (m := 128) a.wg) = up3 (l := 4) (n := 128) (m := 2048) fun g d t => ∑ c ∈ Finset.range 128, a.wg g c d * a.p t (g * 128 + c) := by
  simp only [val_main_v152, ref_v151 a, dot_S4x128x128_S2048x4x128_S4x128x2048_1_2_2_0_0_1]
  exact hdot_b1 _ _ _ _

theorem ref_v154 : val_main_v154 (F := Ideal) (up2 (n := 2048) (m := 1024) a.x) (up2 (n := 6) (m := 1024) a.md) (up2 (n := 1) (m := 1024) a.g1) (up2 (n := 1024) (m := 1536) a.win) (up3 (l := 4) (n := 128) (m := 128) a.wg) = up2 (n := 2048) (m := 512) a.ypre := by
  simp only [val_main_v154, val_main_v153, ref_v152 a]
  rw [show transpose S2048x4x128 [2, 0, 1] (up3 (l := 4) (n := 128) (m := 2048) fun g d t => ∑ c ∈ Finset.range 128, a.wg g c d * a.p t (g * 128 + c)) Gen.transposes_S4x128x2048_S2048x4x128_2_0_1 = up3 fun t g d => ∑ c ∈ Finset.range 128, a.wg g c d * a.p t (g * 128 + c) from rfl]
  refine (cast_ungroup (by norm_num) _ _).trans (up2_congr fun t ht j hj => ?_)
  unfold Arr.ypre
  exact Finset.sum_congr rfl fun c _ => mul_comm _ _

theorem ref_v156 : val_main_v156 (F := Ideal) (up2 (n := 2048) (m := 1024) a.x) (up2 (n := 6) (m := 1024) a.md) (up2 (n := 1) (m := 1024) a.g1) (up2 (n := 1024) (m := 1536) a.win) (up3 (l := 4) (n := 128) (m := 128) a.wg) (up2 (n := 1) (m := 512) a.psc) = up2 (n := 2048) (m := 512) fun t j => a.ypre t j * a.psc 0 j := by
  simp (config := {implicitDefEqProofs := false}) only [val_main_v156, val_main_v155, ref_v154 a, mulf_up2, bid_row_at, Matrix.cons_val_zero, Matrix.cons_val_one]

theorem ref_v157 : val_main_v157 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) = up2 (n := 2048) (m := 1024) a.ycat := by
  unfold val_main_v157
  rw [ref_v150 a, ref_v156 a]
  exact cat1_2 (fun t j => ∑ k ∈ Finset.range 512, a.sw t k * a.wpw k j) (fun t j => a.ypre t j * a.psc 0 j) _

theorem ref_v158 : val_main_v158 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 2048) (m := 1024) a.y := by
  simp (config := {implicitDefEqProofs := false}) only [val_main_v158, ref_v157 a, dot_S2048x1024_S1024x1024_S2048x1024_1_0_0_1_n_n]
  exact hdot_nn _ _ _ _

end Cert.Proof
-- ==== Proof.RefC.lean ====
/-
  THE REFERENCE'S GRADIENTS through the output product, the point-wise product and the pooling are the real model's.
-/
module

public import proofs.«01_k».proof.Proof.RefB

@[expose] public section

set_option maxRecDepth 16384

noncomputable section

open Idealize.ShloMosaic Idealize.ShloMosaic.ValueIdx Cert.ReferenceIdeal Cert.ReferenceIdeal.Read
open scoped BigOperators

namespace Cert.Proof

variable (a : Arr)

theorem ref_v162 : val_main_v162 (F := Ideal) (up2 (n := 2048) (m := 1024) a.dx2) = up2 (n := 2048) (m := 1024) a.dx2 := by
  simp (config := {implicitDefEqProofs := false}) only [val_main_v162, cast_self]

theorem ref_v164 : val_main_v164 (F := Ideal) (up2 (n := 2048) (m := 1024) a.dx2) (up2 (n := 6) (m := 1024) a.md) = up2 (n := 2048) (m := 1024) a.dy := by
  simp (config := {implicitDefEqProofs := false}) only [val_main_v164, val_main_v163, val_main_v2, ref_v162 a, mulf_up2, slice_up2, bid_row_at, Matrix.cons_val_zero, Matrix.cons_val_one, zero_add]
  refine up2_congr fun t ht j hj => ?_
  unfold Arr.dy; exact mul_comm _ _

theorem ref_v167 : val_main_v167 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 1) (m := 1024) fun _ j => ∑ t ∈ Finset.range 2048, a.dx2 t j * a.y t j := by
  simp (config := {implicitDefEqProofs := false}) only [val_main_v167, val_main_v166, val_main_v165, val_main_cst_34, ref_v158 a, ref_v162 a, mulf_up2, cast_1_row, hsum_rows_up2]

theorem ref_v168 : val_main_v168 (F := Ideal) (up2 (n := 2048) (m := 1024) a.dx2) (up2 (n := 6) (m := 1024) a.md) (up2 (n := 1024) (m := 1024) a.wout) = up2 (n := 2048) (m := 1024) a.dycat := by
  simp (config := {implicitDefEqProofs := false}) only [val_main_v168, ref_v164 a, dot_S2048x1024_S1024x1024_S2048x1024_1_1_0_0_n_n]
  exact hdot_nt _ _ _ _

theorem ref_v169 : val_main_v169 (F := Ideal) (up2 (n := 2048) (m := 1024) a.dx2) (up2 (n := 6) (m := 1024) a.md) (up2 (n := 1024) (m := 1024) a.wout) = up2 (n := 2048) (m := 512) a.dycat := by
  simp (config := {implicitDefEqProofs := false}) only [val_main_v169, ref_v168 a, slice_up2, zero_add]

theorem ref_v170 : val_main_v170 (F := Ideal) (up2 (n := 2048) (m := 1024) a.dx2) (up2 (n := 6) (m := 1024) a.md) (up2 (n := 1024) (m := 1024) a.wout) = up2 (n := 2048) (m := 512) a.dypool := by
  simp (config := {implicitDefEqProofs := false}) only [val_main_v170, ref_v168 a, slice_up2, zero_add]
  rfl

theorem ref_v173 : val_main_v173 (F := Ideal) (up2 (n := 2048) (m := 1024) a.dx2) (up2 (n := 2048) (m := 1024) a.x) (up2 (n := 6) (m := 1024) a.md) (up2 (n := 1) (m := 1024) a.g1) (up2 (n := 1024) (m := 1536) a.win) (up3 (l := 4) (n := 128) (m := 128) a.wg) (up2 (n := 1024) (m := 1024) a.wout) = up2 (n := 1) (m := 512) fun _ j => ∑ t ∈ Finset.range 2048, a.dypool t j * a.ypre t j := by
  simp (config := {implicitDefEqProofs := false}) only [val_main_v173, val_main_v172, val_main_v171, val_main_cst_35, ref_v154 a, ref_v170 a, mulf_up2, cast_1_row, hsum_rows_up2]
  refine up2_congr fun t ht j hj => ?_
  exact Finset.sum_congr rfl fun k _ => mul_comm _ _

theorem ref_v175 : val_main_v175 (F := Ideal) (up2 (n := 2048) (m := 1024) a.dx2) (up2 (n := 6) (m := 1024) a.md) (up2 (n := 1) (m := 512) a.psc) (up2 (n := 1024) (m := 1024) a.wout) = up2 (n := 2048) (m := 512) a.dyps := by
  simp (config := {implicitDefEqProofs := false}) only [val_main_v175, val_main_v174, ref_v170 a, mulf_up2, bid_row_at, Matrix.cons_val_zero, Matrix.cons_val_one]
  rfl

theorem ref_v177 : val_main_v177 (F := Ideal) (up2 (n := 2048) (m := 1024) a.dx2) (up2 (n := 6) (m := 1024) a.md) (up2 (n := 1) (m := 512) a.psc) (up2 (n := 1024) (m := 1024) a.wout) = up3 (l := 4) (n := 128) (m := 2048) fun g d t => a.dyps t (g * 128 + d) := by
  simp only [val_main_v177, val_main_v176, ref_v175 a]
  rw [show shapeCast S2048x4x128 (up2 (n := 2048) (m := 512) a.dyps) Gen.shapeCasts_S2048x512_S2048x4x128 = up3 fun t g d => a.dyps t (g * 128 + d) from cast_groups (by norm_num) _ _]
  rfl

theorem ref_v178 : val_main_v178 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up3 (l := 4) (n := 2048) (m := 128) fun g t c => ∑ d ∈ Finset.range 128, a.dyps t (g * 128 + d) * a.wg g c d := by
  simp only [val_main_v178, ref_v177 a, dot_S4x128x2048_S4x128x128_S4x2048x128_1_2_2_1_0_0]
  exact hdot_b3 _ _ _ _

theorem ref_v182 : val_main_v182 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 512) a.dp := by
  simp only [val_main_v182, val_main_v179, ref_v178 a]
  rw [show transpose S2048x4x128 [1, 0, 2] (up3 (l := 4) (n := 2048) (m := 128) fun g t c => ∑ d ∈ Finset.range 128, a.dyps t (g * 128 + d) * a.wg g c d) Gen.transposes_S4x2048x128_S2048x4x128_1_0_2 = up3 fun t g c => ∑ d ∈ Finset.range 128, a.dyps t (g * 128 + d) * a.wg g c d from rfl]
  exact cast_ungroup (by norm_num) _ _

theorem ref_v180 : val_main_v180 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 1) (m := 512) a.psc) (up2 (n := 1024) (m := 1024) a.wout) = up3 (l := 4) (n := 128) (m := 128) fun g d c => ∑ t ∈ Finset.range 2048, a.dyps t (g * 128 + d) * a.p t (g * 128 + c) := by
  simp only [val_main_v180, ref_v177 a, ref_v151 a, dot_S4x128x2048_S2048x4x128_S4x128x128_2_0_1_2_0_1]
  exact hdot_b2 _ _ _ _

theorem ref_v181 : val_main_v181 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 1) (m := 512) a.psc) (up2 (n := 1024) (m := 1024) a.wout) = up3 (l := 4) (n := 128) (m := 128) a.gwg := by
  simp only [val_main_v181, ref_v180 a]
  rw [show transpose S4x128x128 [0, 2, 1] (up3 (l := 4) (n := 128) (m := 128) fun g d c => ∑ t ∈ Finset.range 2048, a.dyps t (g * 128 + d) * a.p t (g * 128 + c)) Gen.transposes_S4x128x128_S4x128x128_0_2_1 = up3 fun g c d => ∑ t ∈ Finset.range 2048, a.dyps t (g * 128 + d) * a.p t (g * 128 + c) from rfl]
  exact up3_congr fun g hg i hi j hj => Finset.sum_congr rfl fun k _ => mul_comm _ _

theorem ref_v183 : val_main_v183 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 1024) (m := 1024) a.wout) = up2 (n := 512) (m := 512) fun i j => ∑ t ∈ Finset.range 2048, a.dycat t i * a.sw t j := by
  simp only [val_main_v183, ref_v169 a, ref_v149_0 a, dot_S2048x512_S2048x512_S512x512_0_0_1_1_n_n]
  exact hdot_tn _ _ _ _

theorem ref_v184 : val_main_v184 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 1024) (m := 1024) a.wout) = up2 (n := 512) (m := 512) a.gpw := by
  simp only [val_main_v184, ref_v183 a]
  rw [show transpose S512x512 [1, 0] (up2 (n := 512) (m := 512) fun i j => ∑ t ∈ Finset.range 2048, a.dycat t i * a.sw t j) Gen.transposes_S512x512_S512x512_1_0 = up2 fun i j => ∑ t ∈ Finset.range 2048, a.dycat t j * a.sw t i from rfl]
  exact up2_congr fun i hi j hj => Finset.sum_congr rfl fun k _ => mul_comm _ _

theorem ref_v185 : val_main_v185 (F := Ideal) (up2 (n := 2048) (m := 1024) a.dx2) (up2 (n := 6) (m := 1024) a.md) (up2 (n := 512) (m := 512) a.wpw) (up2 (n := 1024) (m := 1024) a.wout) = up2 (n := 2048) (m := 512) a.dsw := by
  simp (config := {implicitDefEqProofs := false}) only [val_main_v185, ref_v169 a, dot_S2048x512_S512x512_S2048x512_1_1_0_0_n_n]
  exact hdot_nt _ _ _ _

theorem ref_v186 : val_main_v186 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2048) (m := 512) a.dln := by
  simp (config := {implicitDefEqProofs := false}) only [val_main_v186, val_main_call2_v1, val_main_call2_v2, val_main_call2_v0, val_main_v149_1, val_main_call1_v7, val_main_call1_v6, val_main_call1_cst_1, ref_v148 a, ref_v149_2 a, ref_v185 a, addf_up2, subf_up2, mulf_up2, const_one_up2, bcast_const]
  refine up2_congr fun t ht j hj => ?_
  unfold Arr.dln; ring

theorem ref_v188 : val_main_v188 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 1) (m := 512) fun _ j => ∑ t ∈ Finset.range 2048, a.dln t j := by
  simp (config := {implicitDefEqProofs := false}) only [val_main_v188, val_main_v187, val_main_cst_36, ref_v186 a, cast_1_row, hsum_rows_up2]

theorem ref_v191 : val_main_v191 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 1) (m := 512) fun _ j => ∑ t ∈ Finset.range 2048, a.dln t j * a.z t j := by
  simp (config := {implicitDefEqProofs := false}) only [val_main_v191, val_main_v190, val_main_v189, val_main_cst_37, ref_v83 a, ref_v186 a, mulf_up2, cast_1_row, hsum_rows_up2]
  refine up2_congr fun t ht j hj => ?_
  exact Finset.sum_congr rfl fun k _ => mul_comm _ _

theorem ref_v193 : val_main_v193 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2048) (m := 512) a.dz := by
  simp (config := {implicitDefEqProofs := false}) only [val_main_v193, val_main_v192, ref_v186 a, mulf_up2, bid_row_at, Matrix.cons_val_zero, Matrix.cons_val_one]
  rfl

theorem ref_v200 : val_main_v200 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 128) fun t j => a.dp t (384 + j) / Arr.cnt 16 t := by
  simp (config := {implicitDefEqProofs := false}) only [val_main_v200, val_main_v198, val_main_v199, ref_v140, ref_v182 a, slice_up2, bid_col_at, Matrix.cons_val_zero, Matrix.cons_val_one, zero_add]
  rw [hdivf_up2 _ _ fun t _ _ _ => Arr.cnt_ne 16 t (by norm_num)]

theorem ref_v205 : val_main_v205 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 128) fun t j => a.dpc t (384 + j) - a.dpc (t + 16) (384 + j) := by
  simp (config := {implicitDefEqProofs := false}) only [val_main_v205, val_main_v204, val_main_v203, val_main_v201, val_main_cst_38, ref_v200 a, addf_up2, negf_up2, slice_up2, pad_zero_up2, zero_add]
  refine up2_congr fun t ht j hj => ?_
  have hw : Arr.wof (384 + j) = 16 := by unfold Arr.wof; split_ifs <;> omega
  unfold Arr.dpc
  rw [hw, if_pos ht, Nat.sub_zero, Nat.sub_zero]
  by_cases h : t + 16 < 2048
  · rw [if_pos ⟨Nat.zero_le _, by omega, Nat.zero_le _, hj⟩, if_pos h, Nat.add_comm 16 t]; ring
  · rw [if_neg fun hh => h (by omega), if_neg h]; ring

theorem ref_v208 : val_main_v208 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 128) fun t j => a.dp t (256 + j) / Arr.cnt 8 t := by
  simp (config := {implicitDefEqProofs := false}) only [val_main_v208, val_main_v197, val_main_v207, ref_v126, ref_v182 a, slice_up2, bid_col_at, Matrix.cons_val_zero, Matrix.cons_val_one, zero_add]
  rw [hdivf_up2 _ _ fun t _ _ _ => Arr.cnt_ne 8 t (by norm_num)]

theorem ref_v213 : val_main_v213 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 128) fun t j => a.dpc t (256 + j) - a.dpc (t + 8) (256 + j) := by
  simp (config := {implicitDefEqProofs := false}) only [val_main_v213, val_main_v212, val_main_v211, val_main_v209, val_main_cst_40, ref_v208 a, addf_up2, negf_up2, slice_up2, pad_zero_up2, zero_add]
  refine up2_congr fun t ht j hj => ?_
  have hw : Arr.wof (256 + j) = 8 := by unfold Arr.wof; split_ifs <;> omega
  unfold Arr.dpc
  rw [hw, if_pos ht, Nat.sub_zero, Nat.sub_zero]
  by_cases h : t + 8 < 2048
  · rw [if_pos ⟨Nat.zero_le _, by omega, Nat.zero_le _, hj⟩, if_pos h, Nat.add_comm 8 t]; ring
  · rw [if_neg fun hh => h (by omega), if_neg h]; ring

theorem ref_v217 : val_main_v217 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 128) fun t j => a.dp t (128 + j) / Arr.cnt 4 t := by
  simp (config := {implicitDefEqProofs := false}) only [val_main_v217, val_main_v196, val_main_v216, ref_v112, ref_v182 a, slice_up2, bid_col_at, Matrix.cons_val_zero, Matrix.cons_val_one, zero_add]
  rw [hdivf_up2 _ _ fun t _ _ _ => Arr.cnt_ne 4 t (by norm_num)]

theorem ref_v222 : val_main_v222 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 128) fun t j => a.dpc t (128 + j) - a.dpc (t + 4) (128 + j) := by
  simp (config := {implicitDefEqProofs := false}) only [val_main_v222, val_main_v221, val_main_v220, val_main_v218, val_main_cst_42, ref_v217 a, addf_up2, negf_up2, slice_up2, pad_zero_up2, zero_add]
  refine up2_congr fun t ht j hj => ?_
  have hw : Arr.wof (128 + j) = 4 := by unfold Arr.wof; split_ifs <;> omega
  unfold Arr.dpc
  rw [hw, if_pos ht, Nat.sub_zero, Nat.sub_zero]
  by_cases h : t + 4 < 2048
  · rw [if_pos ⟨Nat.zero_le _, by omega, Nat.zero_le _, hj⟩, if_pos h, Nat.add_comm 4 t]; ring
  · rw [if_neg fun hh => h (by omega), if_neg h]; ring

theorem ref_v226 : val_main_v226 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 128) fun t j => a.dp t (0 + j) / Arr.cnt 2 t := by
  simp (config := {implicitDefEqProofs := false}) only [val_main_v226, val_main_v195, val_main_v225, ref_v98, ref_v182 a, slice_up2, bid_col_at, Matrix.cons_val_zero, Matrix.cons_val_one, zero_add]
  rw [hdivf_up2 _ _ fun t _ _ _ => Arr.cnt_ne 2 t (by norm_num)]

theorem ref_v231 : val_main_v231 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 128) fun t j => a.dpc t (0 + j) - a.dpc (t + 2) (0 + j) := by
  simp (config := {implicitDefEqProofs := false}) only [val_main_v231, val_main_v230, val_main_v229, val_main_v227, val_main_cst_44, ref_v226 a, addf_up2, negf_up2, slice_up2, pad_zero_up2, zero_add]
  refine up2_congr fun t ht j hj => ?_
  have hw : Arr.wof j = 2 := by unfold Arr.wof; split_ifs <;> omega
  unfold Arr.dpc
  rw [hw, if_pos ht, Nat.sub_zero, Nat.sub_zero]
  by_cases h : t + 2 < 2048
  · rw [if_pos ⟨Nat.zero_le _, by omega, Nat.zero_le _, hj⟩, if_pos h, Nat.add_comm 2 t]; ring
  · rw [if_neg fun hh => h (by omega), if_neg h]; ring

theorem ref_v233 : val_main_v233 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 512) fun t j => a.dpc t j - a.dpc (t + Arr.wof j) j := by
  simp (config := {implicitDefEqProofs := false}) only [val_main_v233, val_main_v224, val_main_v215, val_main_v206, val_main_cst_39, val_main_v214, val_main_cst_41, val_main_v223, val_main_cst_43, val_main_v232, val_main_cst_45, ref_v205 a, ref_v213 a, ref_v222 a, ref_v231 a, addf_up2, pad_zero_up2, zero_add]
  refine up2_congr fun t ht j hj => ?_
  rcases (by omega : j < 128 ∨ (128 ≤ j ∧ j < 256) ∨ (256 ≤ j ∧ j < 384) ∨ 384 ≤ j) with h | h | h | h
  · have hw : Arr.wof j = 2 := by unfold Arr.wof; split_ifs <;> omega
    rw [if_neg (by omega), if_neg (by omega), if_neg (by omega), if_pos (by omega), hw]
    simp only [Nat.sub_zero, zero_add]
  · have hw : Arr.wof j = 4 := by unfold Arr.wof; split_ifs <;> omega
    rw [if_neg (by omega), if_neg (by omega), if_pos (by omega), if_neg (by omega), hw]
    simp only [Nat.sub_zero, zero_add, add_zero, Nat.add_sub_cancel' h.1]
  · have hw : Arr.wof j = 8 := by unfold Arr.wof; split_ifs <;> omega
    rw [if_neg (by omega), if_pos (by omega), if_neg (by omega), if_neg (by omega), hw]
    simp only [Nat.sub_zero, zero_add, add_zero, Nat.add_sub_cancel' h.1]
  · have hw : Arr.wof j = 16 := by unfold Arr.wof; split_ifs <;> omega
    rw [if_pos (by omega), if_neg (by omega), if_neg (by omega), if_neg (by omega), hw]
    simp only [Nat.sub_zero, add_zero, Nat.add_sub_cancel' h]

/-- A sum of differences at a distance `w`, of a function that ends at `N`, is the sum of its first `w` terms. -/
theorem sum_differences (f : ℕ → ℝ) (N w t : ℕ) (hf : ∀ s, N ≤ s → f s = 0) :
    ∑ k ∈ Finset.range N, (f (t + k) - f (t + k + w)) = ∑ d ∈ Finset.range w, f (t + d) := by
  have h1 : ∑ k ∈ Finset.range (N + w), f (t + k) = ∑ k ∈ Finset.range N, f (t + k) := by
    rw [Finset.sum_range_add, Finset.sum_eq_zero (s := Finset.range w) fun k _ => hf _ (by omega), add_zero]
  have h2 : ∑ k ∈ Finset.range (w + N), f (t + k) = ∑ d ∈ Finset.range w, f (t + d) + ∑ k ∈ Finset.range N, f (t + k + w) := by
    rw [Finset.sum_range_add]
    congr 1
    exact Finset.sum_congr rfl fun k _ => by congr 1; omega
  rw [Finset.sum_sub_distrib, ← h1, Nat.add_comm N w, h2]; ring

theorem dpc_end (s j : ℕ) (h : 2048 ≤ s) : a.dpc s j = 0 := if_neg (by omega)

theorem ref_v234 : val_main_v234 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 512) fun t j => ∑ d ∈ Finset.range (Arr.wof j), a.dpc (t + d) j := by
  simp only [val_main_v234, ref_v233 a, val_main_call3_call0_v0, val_main_call3_call0_cst]
  refine (window_rows_up2 _ _ _ _ (first_zero _)).trans (up2_congr fun t ht j hj => ?_)
  rw [← sum_differences (fun s => a.dpc s j) 2048 (Arr.wof j) t fun s hs => dpc_end a s j hs]
  refine Finset.sum_congr rfl fun k _ => ?_
  rw [Nat.sub_zero]
  by_cases h : t + k < 2048
  · rw [if_pos ⟨Nat.zero_le _, h⟩]
  · rw [if_neg fun hh => h hh.2, dpc_end a _ _ (by omega), dpc_end a _ _ (by omega), sub_zero]

theorem ref_v235 : val_main_v235 (F := Ideal) (up2 (n := 2048) (m := 1024) a.dx2) (up2 (n := 6) (m := 1024) a.md) (up3 (l := 4) (n := 128) (m := 128) a.wg) (up2 (n := 1) (m := 512) a.psc) (up2 (n := 1024) (m := 1024) a.wout) = up2 (n := 2048) (m := 512) a.dv := by
  simp (config := {implicitDefEqProofs := false}) only [val_main_v235, val_main_v194, ref_v182 a, ref_v234 a, addf_up2, negf_up2]
  refine up2_congr fun t ht j hj => ?_
  unfold Arr.dv; ring

end Cert.Proof
-- ==== Proof.RefD.lean ====
/-
  THE REFERENCE'S GRADIENTS through the layer norm, the convolution and the gate are the real model's.
-/
module

public import proofs.«01_k».proof.Proof.RefC

@[expose] public section

set_option maxRecDepth 16384

noncomputable section

open Idealize.ShloMosaic Idealize.ShloMosaic.ValueIdx Cert.ReferenceIdeal Cert.ReferenceIdeal.Read
open scoped BigOperators

namespace Cert.Proof

variable (a : Arr)

theorem ref_v79 : val_main_v79 (F := Ideal) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) = up2 (n := 2048) (m := 1) fun t _ => -(1 / 2) * (a.rstd t / a.vr t) := by
  simp (config := {implicitDefEqProofs := false}) only [val_main_v79, val_main_v78, val_main_cst_17, val_main_v77, ref_v75 a, ref_v76 a, const_mhalf_up2, bcast_const]
  rw [hdivf_up2 _ _ fun t _ _ _ => (a.vr_pos t).ne']
  simp only [mulf_up2]

theorem ref_v239 : val_main_v239 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2048) (m := 1) fun t _ => ∑ j ∈ Finset.range 512, a.cen t j * a.dz t j := by
  simp (config := {implicitDefEqProofs := false}) only [val_main_v239, val_main_v238, val_main_v237, val_main_cst_47, ref_v81 a, ref_v193 a, mulf_up2, cast_1_col, hsum_cols_up2]

theorem ref_v241 : val_main_v241 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2048) (m := 512) fun t j => a.dz t j * a.rstd t := by
  simp (config := {implicitDefEqProofs := false}) only [val_main_v241, val_main_v240, ref_v76 a, ref_v193 a, mulf_up2, bid_col_at, Matrix.cons_val_zero, Matrix.cons_val_one]

theorem ref_v244 : val_main_v244 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2048) (m := 1) fun t _ => ∑ j ∈ Finset.range 512, -(a.dz t j * a.rstd t) := by
  simp (config := {implicitDefEqProofs := false}) only [val_main_v244, val_main_v243, val_main_v242, val_main_cst_48, ref_v241 a, negf_up2, cast_1_col, hsum_cols_up2]

theorem ref_v250 : val_main_v250 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2048) (m := 512) fun t j => (∑ j ∈ Finset.range 512, a.cen t j * a.dz t j) * (-(1 / 2) * (a.rstd t / a.vr t)) / 512 * (2 * a.cen t j) := by
  simp (config := {implicitDefEqProofs := false}) only [val_main_v250, val_main_v249, val_main_v248, val_main_v247, val_main_v245, val_main_v246, val_main_cst_49, val_main_cst_50, val_main_v69, val_main_v68, val_main_cst_13, ref_v66 a, ref_v79 a, ref_v239 a, mulf_up2, const_two_up2, const_512_up2, bcast_const, hsum_cols_up2, bid_1_2_0_at, Matrix.cons_val_zero, ne_eq, OfNat.ofNat_ne_zero, not_false_eq_true, implies_true, hdivf_up2, Finset.sum_range_one]

theorem cen_sum (t : ℕ) : ∑ j ∈ Finset.range 512, a.cen t j = 0 := by
  unfold Arr.cen
  rw [Finset.sum_sub_distrib, Finset.sum_const, Finset.card_range]
  unfold Arr.mu
  rw [nsmul_eq_mul]; push_cast; ring

theorem rstd_sq (t : ℕ) : a.rstd t * a.rstd t = 1 / a.vr t := by
  unfold Arr.rstd
  rw [← mul_inv, Real.mul_self_sqrt (a.vr_pos t).le, one_div]

theorem r1_sq (t : ℕ) : a.r1 t * a.r1 t = 1 / a.ms t := by
  unfold Arr.r1
  rw [← mul_inv, Real.mul_self_sqrt (a.ms_pos t).le, one_div]

theorem norm_back (t j : ℕ) (ht : t < 2048) :
    a.dz t j * a.rstd t + (∑ j ∈ Finset.range 512, a.cen t j * a.dz t j) * (-(1 / 2) * (a.rstd t / a.vr t)) / 512 * (2 * a.cen t j) +
      ((∑ j ∈ Finset.range 512, -(a.dz t j * a.rstd t)) +
        ∑ j ∈ Finset.range 512, -((∑ j ∈ Finset.range 512, a.cen t j * a.dz t j) * (-(1 / 2) * (a.rstd t / a.vr t)) / 512 * (2 * a.cen t j))) / 512 = a.dcv t j := by
  have h1 : ∑ j ∈ Finset.range 512, -(a.dz t j * a.rstd t) = -((∑ j ∈ Finset.range 512, a.dz t j) * a.rstd t) := by
    rw [Finset.sum_neg_distrib, Finset.sum_mul]
  have h2 : ∀ c : ℝ, ∑ j ∈ Finset.range 512, -(c * (2 * a.cen t j)) = 0 := fun c => by
    rw [Finset.sum_neg_distrib, ← Finset.mul_sum, ← Finset.mul_sum, cen_sum]; ring
  have h3 : ∑ j ∈ Finset.range 512, a.dz t j * a.z t j = (∑ j ∈ Finset.range 512, a.cen t j * a.dz t j) * a.rstd t := by
    rw [Finset.sum_mul]; exact Finset.sum_congr rfl fun k _ => by unfold Arr.z; ring
  have h4 : a.rstd t / a.vr t = a.rstd t * (a.rstd t * a.rstd t) := by rw [rstd_sq]; ring
  rw [h1, h2, h4]
  unfold Arr.dcv
  rw [if_pos ht]
  unfold Arr.dzz Arr.dzm
  rw [h3]
  unfold Arr.z
  ring

theorem ref_v260 : val_main_v260 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2048) (m := 512) a.dcv := by
  simp (config := {implicitDefEqProofs := false}) only [val_main_v260, val_main_v254, val_main_v259, val_main_v258, val_main_v257, val_main_v255, val_main_v253, val_main_v252, val_main_v251, val_main_cst_51, val_main_v256, val_main_cst_52, val_main_cst_53, ref_v241 a, ref_v244 a, ref_v250 a, addf_up2, negf_up2, const_512_up2, bcast_const, cast_1_col, hsum_cols_up2, bid_1_2_0_at, Matrix.cons_val_zero, ne_eq, OfNat.ofNat_ne_zero, not_false_eq_true, implies_true, hdivf_up2, Finset.sum_range_one]
  refine up2_congr fun t ht j hj => ?_
  exact norm_back a t j ht

theorem ref_v262 : val_main_v262 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 1) (m := 512) fun _ j => ∑ t ∈ Finset.range 2048, a.dcv t j := by
  simp (config := {implicitDefEqProofs := false}) only [val_main_v262, val_main_v261, val_main_cst_54, ref_v260 a, cast_1_row, hsum_rows_up2]

theorem ref_v265 : val_main_v265 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up3 (l := 31) (n := 2048) (m := 512) fun k t j => a.dww k j * a.dcv t j := by
  simp (config := {implicitDefEqProofs := false}) only [val_main_v265, val_main_v264, val_main_v38, val_main_v263, ref_v260 a, mulf_up3, bid_2_3_02_at, bid_2_3_12_at, bid_mid_at, Matrix.cons_val_zero, Matrix.cons_val_one, Matrix.cons_val_two, Matrix.tail_cons, Matrix.head_cons]

theorem ref_v266 : val_main_v266 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up3 (l := 31) (n := 2048) (m := 512) fun k t j => a.dcv t j * a.tap k t j := by
  simp (config := {implicitDefEqProofs := false}) only [val_main_v266, val_main_v263, ref_v55 a, ref_v260 a, mulf_up3, bid_2_3_12_at, Matrix.cons_val_zero, Matrix.cons_val_one]

theorem cast_mid {n m : ℕ} (A : ℕ → ℕ → ℝ) (h : (⟨2, ![n, m]⟩ : Shape).ShapeCasts ⟨3, ![n, 1, m]⟩) :
    shapeCast ⟨3, ![n, 1, m]⟩ (up2 A) h = up3 fun i _ j => A i j := by
  funext j
  have e : (j 1).val = 0 := by have : (j 1).val < 1 := (j 1).isLt; omega
  refine (shapeCast_apply (up2 A) h j (ValueIdx.ix2 ⟨(j 0).val, (j 0).isLt⟩ ⟨(j 2).val, (j 2).isLt⟩) ?_).trans rfl
  rw [Shape.rowMajor_val_two, Shape.rowMajor_val_three]
  show (j 0).val * m + (j 2).val = ((j 0).val * 1 + (j 1).val) * m + (j 2).val
  rw [e, Nat.mul_one, Nat.add_zero]

/-- A delayed factor on one side is an advanced factor on the other, when both end with the range. -/
theorem sum_delayed (f g : ℕ → ℝ) (N c : ℕ) (hg : ∀ s, N ≤ s → g s = 0) :
    ∑ t ∈ Finset.range N, g t * (if t < c then 0 else f (t - c)) = ∑ t ∈ Finset.range N, f t * g (t + c) := by
  have h1 : ∑ t ∈ Finset.range (N + c), g t * (if t < c then 0 else f (t - c)) = ∑ t ∈ Finset.range N, g t * (if t < c then 0 else f (t - c)) := by
    rw [Finset.sum_range_add, Finset.sum_eq_zero (s := Finset.range c) fun k _ => by rw [hg _ (by omega), zero_mul], add_zero]
  rw [← h1, Nat.add_comm N c, Finset.sum_range_add, Finset.sum_eq_zero (s := Finset.range c) fun k hk => by rw [if_pos (Finset.mem_range.1 hk), mul_zero], zero_add]
  refine Finset.sum_congr rfl fun k _ => ?_
  rw [if_neg (by omega), Nat.add_sub_cancel_left, Nat.add_comm c k, mul_comm]

theorem dcv_end (s j : ℕ) (h : 2048 ≤ s) : a.dcv s j = 0 := if_neg (by omega)

theorem tap_sum (k j : ℕ) (hk : k < 31) :
    ∑ t ∈ Finset.range 2048, a.dcv t j * a.tap k t j = ∑ t ∈ Finset.range 2048, a.glu t j * a.dcv (t + (30 - k)) j := by
  rw [← sum_delayed (fun t => a.glu t j) (fun t => a.dcv t j) 2048 (30 - k) fun s hs => dcv_end a s j hs]
  refine Finset.sum_congr rfl fun t _ => ?_
  unfold Arr.tap
  by_cases h : t + k < 30
  · rw [if_pos h, if_pos (by omega)]
  · rw [if_neg h, if_neg (by omega), show t + k - 30 = t - (30 - k) by omega]

theorem ref_v268 : val_main_v268 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up3 (l := 31) (n := 1) (m := 512) fun k _ j => ∑ t ∈ Finset.range 2048, a.dcv t j * a.tap k t j := by
  simp only [val_main_v268, val_main_v267, ref_v266 a, val_main_cst_55]
  rw [show Host.reduceAdd (F := Ideal) (φ := .f32) (up3 (l := 31) (n := 2048) (m := 512) fun k t j => a.dcv t j * a.tap k t j) (constant (F := Ideal) S_ .f32 0x00000000#32) Gen.reducesTo_S31x2048x512_S31x512_d1 Gen.h_S_ = up2 fun k j => ∑ t ∈ Finset.range 2048, a.dcv t j * a.tap k t j from hsum_mid_up3 _ _ _]
  exact cast_mid _ _

theorem ref_v273 : val_main_v273 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 31) (m := 512) fun k j => ∑ t ∈ Finset.range 2048, a.glu t j * a.dcv (t + (30 - k)) j := by
  simp only [val_main_v273, ref_v268 a, val_main_cst_57]
  refine (hsum_mid_up3 _ _ _).trans (up2_congr fun k hk j hj => ?_)
  rw [Finset.sum_range_one]
  exact tap_sum a k j hk

theorem ref_v269 : val_main_v269 (F := Ideal)  = up2 (n := 2078) (m := 512) fun _ _ => 0 := by
  simp (config := {implicitDefEqProofs := false}) only [val_main_v269, val_main_cst_56, const_zero_up2, bcast_const]

theorem ref_v270 : val_main_v270 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2078) (m := 512) fun r j => ∑ k ∈ Finset.range 31, ∑ t ∈ Finset.range 2048, if k + t = r then a.dww k j * a.dcv t j else 0 := by
  simp only [val_main_v270, ref_v269, ref_v54, ref_v265 a, scatter_S2078x512_S31x2048x1_S31x2048x512_2_0_0_2]
  refine (scatter_rows_up2 _ _ _ _ (fun k t => k + t) fun k hk t ht => row_toInt hk ht).trans (up2_congr fun r hr j hj => zero_add _)

theorem ref_v272 : val_main_v272 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2048) (m := 512) a.dglu := by
  simp (config := {implicitDefEqProofs := false}) only [val_main_v272, ref_v270 a, slice_up2, zero_add]
  refine up2_congr fun t ht j hj => ?_
  unfold Arr.dglu
  refine Finset.sum_congr rfl fun k hk => ?_
  have hk' := Finset.mem_range.1 hk
  by_cases h : t + (30 - k) < 2048
  · rw [Finset.sum_eq_single_of_mem (t + (30 - k)) (Finset.mem_range.2 h) fun s _ hs => if_neg (by omega), if_pos (by omega)]
  · rw [dcv_end a _ _ (by omega), mul_zero]
    exact Finset.sum_eq_zero fun s hs => if_neg (by have := Finset.mem_range.1 hs; omega)

theorem ref_v275 : val_main_v275 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2048) (m := 512) a.da := by
  simp (config := {implicitDefEqProofs := false}) only [val_main_v275, ref_v33 a, ref_v272 a, mulf_up2]
  rfl

theorem ref_v276 : val_main_v276 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 2048) (m := 512) a.dg := by
  simp (config := {implicitDefEqProofs := false}) only [val_main_v276, val_main_v274, val_main_v36, val_main_v35, val_main_v34, val_main_cst_6, ref_v26 a, ref_v33 a, ref_v272 a, subf_up2, mulf_up2, const_one_up2, bcast_const]
  refine up2_congr fun t ht j hj => ?_
  unfold Arr.dg; ring

theorem ref_v281 : val_main_v281 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 2048) (m := 1536) a.du := by
  simp (config := {implicitDefEqProofs := false}) only [val_main_v281, val_main_v236, val_main_cst_46, val_main_v280, val_main_v279, val_main_v277, val_main_cst_58, val_main_v278, val_main_cst_59, val_main_cst_60, ref_v235 a, ref_v275 a, ref_v276 a, addf_up2, pad_zero_up2]
  refine up2_congr fun t ht j hj => ?_
  unfold Arr.du
  rcases (by omega : j < 512 ∨ (512 ≤ j ∧ j < 1024) ∨ 1024 ≤ j) with h | h | h
  · rw [if_neg (by omega), if_pos (by omega), if_neg (by omega), if_pos (by omega), if_pos h]
    simp only [Nat.sub_zero, zero_add]
  · rw [if_neg (by omega), if_pos (by omega), if_pos (by omega), if_neg (by omega), if_neg (by omega), if_pos h.2]
    simp only [Nat.sub_zero, zero_add, add_zero]
  · rw [if_pos (by omega), if_neg (by omega), if_neg (by omega), if_neg (by omega)]
    simp only [Nat.sub_zero, add_zero]

end Cert.Proof
-- ==== Proof.RefE.lean ====
/-
  THE REFERENCE'S RESULTS are the real model's.
-/
module

public import proofs.«01_k».proof.Proof.RefD

@[expose] public section

set_option maxRecDepth 16384

noncomputable section

open Idealize.ShloMosaic Idealize.ShloMosaic.ValueIdx Cert.ReferenceIdeal Cert.ReferenceIdeal.Read
open scoped BigOperators

namespace Cert.Proof

variable (a : Arr)

theorem ref_v282 : val_main_v282 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 2048) (m := 1024) a.dh := by
  simp (config := {implicitDefEqProofs := false}) only [val_main_v282, ref_v281 a, dot_S2048x1536_S1024x1536_S2048x1024_1_1_0_0_n_n]
  exact hdot_nt _ _ _ _

theorem ref_v284 : val_main_v284 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 1) (m := 1024) fun _ j => ∑ t ∈ Finset.range 2048, a.dh t j := by
  simp (config := {implicitDefEqProofs := false}) only [val_main_v284, val_main_v283, val_main_cst_61, ref_v282 a, cast_1_row, hsum_rows_up2]

theorem ref_v287 : val_main_v287 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 1) (m := 1024) fun _ j => ∑ t ∈ Finset.range 2048, a.dh t j * a.n1 t j := by
  simp (config := {implicitDefEqProofs := false}) only [val_main_v287, val_main_v286, val_main_v285, val_main_cst_62, ref_v17 a, ref_v282 a, mulf_up2, cast_1_row, hsum_rows_up2]
  refine up2_congr fun t ht j hj => ?_
  exact Finset.sum_congr rfl fun k _ => mul_comm _ _

theorem ref_v289 : val_main_v289 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 2048) (m := 1024) a.dn1 := by
  simp (config := {implicitDefEqProofs := false}) only [val_main_v289, val_main_v288, ref_v19 a, ref_v282 a, mulf_up2, bid_row_at, Matrix.cons_val_zero, Matrix.cons_val_one]
  rfl

theorem ref_v292 : val_main_v292 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 1) (m := 1024) fun _ j => ∑ t ∈ Finset.range 2048, a.dn1 t j * a.xh t j := by
  simp (config := {implicitDefEqProofs := false}) only [val_main_v292, val_main_v291, val_main_v290, val_main_cst_63, ref_v15 a, ref_v289 a, mulf_up2, cast_1_row, hsum_rows_up2]
  refine up2_congr fun t ht j hj => ?_
  exact Finset.sum_congr rfl fun k _ => mul_comm _ _

theorem ref_v294 : val_main_v294 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 2048) (m := 1024) a.dxh := by
  simp (config := {implicitDefEqProofs := false}) only [val_main_v294, val_main_v293, ref_v289 a, mulf_up2, bid_row_at, Matrix.cons_val_zero, Matrix.cons_val_one]
  rfl

theorem ref_v13 : val_main_v13 (F := Ideal) (up2 (n := 2048) (m := 1024) a.x) = up2 (n := 2048) (m := 1) fun t _ => -(1 / 2) * (a.r1 t / a.ms t) := by
  simp (config := {implicitDefEqProofs := false}) only [val_main_v13, val_main_v12, val_main_cst_2, val_main_v11, ref_v9 a, ref_v10 a, const_mhalf_up2, bcast_const]
  rw [hdivf_up2 _ _ fun t _ _ _ => (a.ms_pos t).ne']
  simp only [mulf_up2]

theorem ref_v304 : val_main_v304 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 2048) (m := 1024) fun t _ => (∑ j ∈ Finset.range 1024, a.x t j * a.dxh t j) * (-(1 / 2) * (a.r1 t / a.ms t)) / 1024 := by
  simp (config := {implicitDefEqProofs := false}) only [val_main_v304, val_main_v303, val_main_v302, val_main_v300, val_main_v297, val_main_v296, val_main_v295, val_main_cst_64, val_main_v301, val_main_cst_65, val_main_cst_66, ref_v294 a, ref_v13 a, mulf_up2, const_1024_up2, bcast_const, cast_1_col, hsum_cols_up2, bid_1_2_0_at, Matrix.cons_val_zero, ne_eq, OfNat.ofNat_ne_zero, not_false_eq_true, implies_true, hdivf_up2, Finset.sum_range_one]

theorem ref_v309 : val_main_v309 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 2048) (m := 1024) a.gx := by
  simp (config := {implicitDefEqProofs := false}) only [val_main_v309, val_main_v308, val_main_v306, val_main_v299, val_main_v298, val_main_v305, val_main_v307, ref_v10 a, ref_v294 a, ref_v304 a, addf_up2, mulf_up2, bid_col_at, Matrix.cons_val_zero, Matrix.cons_val_one]
  refine up2_congr fun t ht j hj => ?_
  have h4 : a.r1 t / a.ms t = a.r1 t * (a.r1 t * a.r1 t) := by rw [r1_sq]; ring
  have h3 : ∑ j ∈ Finset.range 1024, a.dxh t j * a.xh t j = (∑ j ∈ Finset.range 1024, a.x t j * a.dxh t j) * a.r1 t := by
    rw [Finset.sum_mul]; exact Finset.sum_congr rfl fun k _ => by unfold Arr.xh; ring
  rw [h4]
  unfold Arr.gx Arr.dxm
  rw [h3]
  unfold Arr.xh
  ring

theorem ref_v310 : val_main_v310 (F := Ideal) (up2 (n := 2048) (m := 1024) a.x) (up2 (n := 6) (m := 1024) a.md) (up2 (n := 1) (m := 1024) a.g1) = up2 (n := 2048) (m := 1024) a.h := by
  simp (config := {implicitDefEqProofs := false}) only [val_main_v310, ref_v23 a, truncf_up2]

theorem ref_v311 : val_main_v311 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 2048) (m := 1536) a.du := by
  simp (config := {implicitDefEqProofs := false}) only [val_main_v311, ref_v281 a, truncf_up2]

theorem ref_v312 : val_main_v312 (F := Ideal) (up2 (n := 2048) (m := 1024) a.dx2) (up2 (n := 6) (m := 1024) a.md) = up2 (n := 2048) (m := 1024) a.dy := by
  simp (config := {implicitDefEqProofs := false}) only [val_main_v312, ref_v164 a, truncf_up2]

theorem ref_v313 : val_main_v313 (F := Ideal)  = up2 (n := 4) (m := 1024) fun _ _ => 0 := by
  simp (config := {implicitDefEqProofs := false}) only [val_main_v313, val_main_cst_67, const_zero_up2, bcast_const]

theorem ref_v315 : val_main_v315 (F := Ideal)  = up2 (n := 4) (m := 512) fun _ _ => 0 := by
  simp (config := {implicitDefEqProofs := false}) only [val_main_v315, val_main_cst_68, const_zero_up2, bcast_const]

theorem ref_v314 : val_main_v314 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1) (m := 512) a.psc) (up2 (n := 1024) (m := 1024) a.wout) = up2 (n := 8) (m := 1024) a.vd := by
  unfold val_main_v314
  rw [ref_v167 a, ref_v284 a, ref_v287 a, ref_v292 a, ref_v313]
  refine (cat0_5 _ _ _ _ _ _).trans (up2_congr fun i hi j hj => ?_)
  unfold Arr.vd
  rcases (by omega : i = 0 ∨ i = 1 ∨ i = 2 ∨ i = 3 ∨ 4 ≤ i) with h | h | h | h | h
  · subst h; rfl
  · subst h; rfl
  · subst h; rfl
  · subst h; rfl
  · repeat rw [if_neg (by omega)]

theorem ref_v316 : val_main_v316 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up3 (l := 4) (n := 128) (m := 128) a.wg) (up2 (n := 1024) (m := 1024) a.wout) = up2 (n := 8) (m := 512) a.vc := by
  unfold val_main_v316
  rw [ref_v173 a, ref_v191 a, ref_v188 a, ref_v262 a, ref_v315]
  refine (cat0_5 _ _ _ _ _ _).trans (up2_congr fun i hi j hj => ?_)
  unfold Arr.vc
  rcases (by omega : i = 0 ∨ i = 1 ∨ i = 2 ∨ i = 3 ∨ 4 ≤ i) with h | h | h | h | h
  · subst h; rfl
  · subst h; rfl
  · subst h; rfl
  · subst h; rfl
  · repeat rw [if_neg (by omega)]

theorem ref_v317 : val_main_v317 (F := Ideal) (up2 (n := 2048) (m := 1024) a.dx2) (up2 (n := 2048) (m := 1024) a.x) (up2 (n := 6) (m := 1024) a.md) (up2 (n := 1) (m := 1024) a.g1) (up2 (n := 1024) (m := 1536) a.win) (up2 (n := 31) (m := 512) a.dww) (up2 (n := 1) (m := 512) a.dwb) (up2 (n := 1) (m := 512) a.lng) (up2 (n := 1) (m := 512) a.lnb) (up2 (n := 512) (m := 512) a.wpw) (up2 (n := 1024) (m := 1024) a.wout) = up2 (n := 32) (m := 512) a.ddw := by
  simp only [val_main_v317, ref_v273 a, val_main_call4_v0, val_main_c_69]
  refine (pad_up2 0 0 1 0 _ _ 0 _ _ ?_).trans (up2_congr fun k hk j hj => ?_)
  · show ((((0#32 : BitVec 32).toInt : ℤ) : ℝ) : EReal) = _
    simp
  · unfold Arr.ddw
    by_cases h : k < 31
    · rw [if_pos ⟨Nat.zero_le _, by omega, Nat.zero_le _, by omega⟩, if_pos h, Nat.sub_zero, Nat.sub_zero]
    · rw [if_neg fun hh => h (by omega), if_neg h]

end Cert.Proof
-- ==== Proof.Block.lean ====
/-
  BLOCKS: what each window holds at a visiting point, as part of an array of real numbers.
-/
module

public import proofs.«01_k».proof.Proof.Gen.KernelIdeal.Value
public import proofs.«01_k».proof.Proof.MeanOps
public import proofs.«01_k».proof.Proof.MeanJoin
public import proofs.«01_k».proof.Proof.Model

@[expose] public section

set_option maxRecDepth 16384

noncomputable section

open Idealize.ShloMosaic Idealize.ShloMosaic.TcCoe Cert.KernelIdeal Cert.KernelIdeal.Gen
open scoped BigOperators

namespace Cert.Proof

variable (m : (ℓ : Loc nD τ sig) → Buf (Elt Ideal) ℓ) (c : Dev nD)

/-- The rows from `b` on. -/
def bk (b : ℕ) (A : ℕ → ℕ → ℝ) : ℕ → ℕ → ℝ := fun r j => A (b + r) j
/-- The first row of the tile visited at point `t`. -/
def lo (t : ℕ) : ℕ := 256 * (7 - t)

theorem idx_0 : ∀ t : Fin cfg0.N, (cfg0.win 0).index t = ![7 - t.val, 0] := by decide +kernel
theorem blk_0 (t : Fin cfg0.N) (A : ℕ → ℕ → ℝ) (h : V m c main_arg0 = up2 (n := 2048) (m := 1024) A) :
    iblk m c 0 t = up2 (n := 256) (m := 1024) (bk (lo t.val) A) := by
  funext y
  have e0 := congrFun (idx_0 t) 0
  have e1 := congrFun (idx_0 t) 1
  blk_simp [iblk, h, up2, bk, lo]
  refine congrArg _ (congrArg₂ A ?_ ?_)
  · rw [show win0_0.index t 0 = 7 - t.val from e0, Nat.mul_comm]
  · rw [show win0_0.index t 1 = 0 from e1, Nat.zero_mul, Nat.zero_add]
theorem idx_1 : ∀ t : Fin cfg0.N, (cfg0.win 1).index t = ![7 - t.val, 0] := by decide +kernel
theorem blk_1 (t : Fin cfg0.N) (A : ℕ → ℕ → ℝ) (h : V m c main_arg1 = up2 (n := 2048) (m := 1024) A) :
    iblk m c 1 t = up2 (n := 256) (m := 1024) (bk (lo t.val) A) := by
  funext y
  have e0 := congrFun (idx_1 t) 0
  have e1 := congrFun (idx_1 t) 1
  blk_simp [iblk, h, up2, bk, lo]
  refine congrArg _ (congrArg₂ A ?_ ?_)
  · rw [show win0_1.index t 0 = 7 - t.val from e0, Nat.mul_comm]
  · rw [show win0_1.index t 1 = 0 from e1, Nat.zero_mul, Nat.zero_add]
theorem idx_2 : ∀ t : Fin cfg0.N, (cfg0.win 2).index t = ![7 - t.val, 0] := by decide +kernel
theorem blk_2 (t : Fin cfg0.N) (A : ℕ → ℕ → ℝ) (h : V m c main_v141 = up2 (n := 2048) (m := 1024) A) :
    iblk m c 2 t = up2 (n := 256) (m := 1024) (bk (lo t.val) A) := by
  funext y
  have e0 := congrFun (idx_2 t) 0
  have e1 := congrFun (idx_2 t) 1
  blk_simp [iblk, h, up2, bk, lo]
  refine congrArg _ (congrArg₂ A ?_ ?_)
  · rw [show win0_2.index t 0 = 7 - t.val from e0, Nat.mul_comm]
  · rw [show win0_2.index t 1 = 0 from e1, Nat.zero_mul, Nat.zero_add]
theorem idx_3 : ∀ t : Fin cfg0.N, (cfg0.win 3).index t = ![7 - t.val, 0] := by decide +kernel
theorem blk_3 (t : Fin cfg0.N) (A : ℕ → ℕ → ℝ) (h : V m c main_v20 = up2 (n := 2048) (m := 1536) A) :
    iblk m c 3 t = up2 (n := 256) (m := 1536) (bk (lo t.val) A) := by
  funext y
  have e0 := congrFun (idx_3 t) 0
  have e1 := congrFun (idx_3 t) 1
  blk_simp [iblk, h, up2, bk, lo]
  refine congrArg _ (congrArg₂ A ?_ ?_)
  · rw [show win0_3.index t 0 = 7 - t.val from e0, Nat.mul_comm]
  · rw [show win0_3.index t 1 = 0 from e1, Nat.zero_mul, Nat.zero_add]
theorem idx_4 : ∀ t : Fin cfg0.N, (cfg0.win 4).index t = ![7 - t.val, 0] := by decide +kernel
theorem blk_4 (t : Fin cfg0.N) (A : ℕ → ℕ → ℝ) (h : V m c main_v70 = up2 (n := 2048) (m := 512) A) :
    iblk m c 4 t = up2 (n := 256) (m := 512) (bk (lo t.val) A) := by
  funext y
  have e0 := congrFun (idx_4 t) 0
  have e1 := congrFun (idx_4 t) 1
  blk_simp [iblk, h, up2, bk, lo]
  refine congrArg _ (congrArg₂ A ?_ ?_)
  · rw [show win0_4.index t 0 = 7 - t.val from e0, Nat.mul_comm]
  · rw [show win0_4.index t 1 = 0 from e1, Nat.zero_mul, Nat.zero_add]
theorem idx_5 : ∀ t : Fin cfg0.N, (cfg0.win 5).index t = ![7 - t.val, 0] := by decide +kernel
theorem blk_5 (t : Fin cfg0.N) (A : ℕ → ℕ → ℝ) (h : V m c main_v66 = up2 (n := 2048) (m := 1) A) :
    iblk m c 5 t = up2 (n := 256) (m := 1) (bk (lo t.val) A) := by
  funext y
  have e0 := congrFun (idx_5 t) 0
  have e1 := congrFun (idx_5 t) 1
  blk_simp [iblk, h, up2, bk, lo]
  refine congrArg _ (congrArg₂ A ?_ ?_)
  · rw [show win0_5.index t 0 = 7 - t.val from e0, Nat.mul_comm]
  · exact e1
theorem idx_6 : ∀ t : Fin cfg0.N, (cfg0.win 6).index t = ![7 - t.val, 0] := by decide +kernel
theorem blk_6 (t : Fin cfg0.N) (A : ℕ → ℕ → ℝ) (h : V m c main_v146 = up2 (n := 2048) (m := 512) A) :
    iblk m c 6 t = up2 (n := 256) (m := 512) (bk (lo t.val) A) := by
  funext y
  have e0 := congrFun (idx_6 t) 0
  have e1 := congrFun (idx_6 t) 1
  blk_simp [iblk, h, up2, bk, lo]
  refine congrArg _ (congrArg₂ A ?_ ?_)
  · rw [show win0_6.index t 0 = 7 - t.val from e0, Nat.mul_comm]
  · rw [show win0_6.index t 1 = 0 from e1, Nat.zero_mul, Nat.zero_add]
theorem idx_7 : ∀ t : Fin cfg0.N, (cfg0.win 7).index t = ![0, 0] := by decide +kernel
theorem blk_7 (t : Fin cfg0.N) : iblk m c 7 t = V m c main_arg2 := by
  funext y
  have e0 := congrFun (idx_7 t) 0
  have e1 := congrFun (idx_7 t) 1
  blk_ext [iblk, e0, e1]
theorem idx_8 : ∀ t : Fin cfg0.N, (cfg0.win 8).index t = ![0, 0] := by decide +kernel
theorem blk_8 (t : Fin cfg0.N) : iblk m c 8 t = V m c main_arg3 := by
  funext y
  have e0 := congrFun (idx_8 t) 0
  have e1 := congrFun (idx_8 t) 1
  blk_ext [iblk, e0, e1]
theorem idx_9 : ∀ t : Fin cfg0.N, (cfg0.win 9).index t = ![0, 0, 0] := by decide +kernel
theorem blk_9 (t : Fin cfg0.N) : iblk m c 9 t = V m c main_v144 := by
  funext y
  have e0 := congrFun (idx_9 t) 0
  have e1 := congrFun (idx_9 t) 1
  have e2 := congrFun (idx_9 t) 2
  blk_ext [iblk, e0, e1, e2]
theorem idx_10 : ∀ t : Fin cfg0.N, (cfg0.win 10).index t = ![0, 0] := by decide +kernel
theorem blk_10 (t : Fin cfg0.N) : iblk m c 10 t = V m c main_v145 := by
  funext y
  have e0 := congrFun (idx_10 t) 0
  have e1 := congrFun (idx_10 t) 1
  blk_ext [iblk, e0, e1]
theorem idx_11 : ∀ t : Fin cfg0.N, (cfg0.win 11).index t = ![0, 0] := by decide +kernel
theorem blk_11 (t : Fin cfg0.N) : iblk m c 11 t = V m c main_arg7 := by
  funext y
  have e0 := congrFun (idx_11 t) 0
  have e1 := congrFun (idx_11 t) 1
  blk_ext [iblk, e0, e1]
theorem idx_12 : ∀ t : Fin cfg0.N, (cfg0.win 12).index t = ![0, 0] := by decide +kernel
theorem blk_12 (t : Fin cfg0.N) : iblk m c 12 t = V m c main_arg8 := by
  funext y
  have e0 := congrFun (idx_12 t) 0
  have e1 := congrFun (idx_12 t) 1
  blk_ext [iblk, e0, e1]
theorem idx_13 : ∀ t : Fin cfg0.N, (cfg0.win 13).index t = ![0, 0] := by decide +kernel
theorem blk_13 (t : Fin cfg0.N) : iblk m c 13 t = V m c main_v147 := by
  funext y
  have e0 := congrFun (idx_13 t) 0
  have e1 := congrFun (idx_13 t) 1
  blk_ext [iblk, e0, e1]
theorem idx_14 : ∀ t : Fin cfg0.N, (cfg0.win 14).index t = ![0, 0, 0] := by decide +kernel
theorem blk_14 (t : Fin cfg0.N) : iblk m c 14 t = V m c main_v148 := by
  funext y
  have e0 := congrFun (idx_14 t) 0
  have e1 := congrFun (idx_14 t) 1
  have e2 := congrFun (idx_14 t) 2
  blk_ext [iblk, e0, e1, e2]
theorem idx_15 : ∀ t : Fin cfg0.N, (cfg0.win 15).index t = ![0, 0] := by decide +kernel
theorem blk_15 (t : Fin cfg0.N) : iblk m c 15 t = V m c main_arg11 := by
  funext y
  have e0 := congrFun (idx_15 t) 0
  have e1 := congrFun (idx_15 t) 1
  blk_ext [iblk, e0, e1]
theorem idx_16 : ∀ t : Fin cfg0.N, (cfg0.win 16).index t = ![0, 0] := by decide +kernel
theorem blk_16 (t : Fin cfg0.N) : iblk m c 16 t = V m c main_v149 := by
  funext y
  have e0 := congrFun (idx_16 t) 0
  have e1 := congrFun (idx_16 t) 1
  blk_ext [iblk, e0, e1]
end Cert.Proof
-- ==== Proof.Pieces.lean ====
/-
  PIECES: loads of a rectangle, and what a list of stores leaves, in terms of arrays of real numbers.
-/
module

public import proofs.«01_k».proof.Proof.Block

@[expose] public section

set_option maxRecDepth 16384

noncomputable section

open Idealize.ShloMosaic Idealize.ShloMosaic.TcCoe Cert.KernelIdeal Cert.KernelIdeal.Gen
open scoped BigOperators

namespace Cert.Proof

/-- The columns from `c` on. -/
def cl (c : ℕ) (A : ℕ → ℕ → ℝ) : ℕ → ℕ → ℝ := fun r j => A r (c + j)
/-- One slab of rows. -/
def cp (A : ℕ → ℕ → ℝ) : ℕ → ℕ → ℕ → ℝ := fun _ => A
/-- The block of an array of three indices. -/
def sh3 (g r c : ℕ) (A : ℕ → ℕ → ℕ → ℝ) : ℕ → ℕ → ℕ → ℝ := fun k i j => A (g + k) (r + i) (c + j)
/-- A tile of 256 rows from `b` on, its first rows once more below it. -/
def wrap (b : ℕ) (A : ℕ → ℕ → ℝ) : ℕ → ℕ → ℝ := fun r j => if r < 256 then A (b + r) j else A (b + (r - 256)) j

theorem bk_zero (A : ℕ → ℕ → ℝ) : bk 0 A = A := by funext r j; simp [bk]
theorem cl_zero (A : ℕ → ℕ → ℝ) : cl 0 A = A := by funext r j; simp [cl]
theorem bk_bk (d b : ℕ) (A : ℕ → ℕ → ℝ) : bk d (bk b A) = bk (b + d) A := by funext r j; simp [bk, Nat.add_assoc]
theorem cl_bk (c b : ℕ) (A : ℕ → ℕ → ℝ) : cl c (bk b A) = bk b (cl c A) := rfl
theorem sh3_zero (g : ℕ) (A : ℕ → ℕ → ℕ → ℝ) : sh3 g 0 0 A = fun k i j => A (g + k) i j := by funext k i j; simp [sh3]

theorem ld_up2 {n m p q : ℕ} (a c : ℕ) (A : ℕ → ℕ → ℝ) (h : ∀ x, (![a, c] : Fin 2 → ℕ) x + (![p, q] : Fin 2 → ℕ) x ≤ (⟨2, ![n, m]⟩ : Shape).size x) :
    View.ld (Val := Elt Ideal) (e' := .f32) (S := ⟨2, ![n, m]⟩) (up2 A) (Rect.unit ![a, c] ![p, q] h) = up2 (n := p) (m := q) (bk a (cl c A)) := by
  funext x
  show ((A (a + 1 * (x 0).val) (c + 1 * (x 1).val) : ℝ) : EReal) = ((A (a + (x 0).val) (c + (x 1).val) : ℝ) : EReal)
  rw [Nat.one_mul, Nat.one_mul]
theorem ld_up3 {l n m o p q : ℕ} (g a c : ℕ) (A : ℕ → ℕ → ℕ → ℝ) (h : ∀ x, (![g, a, c] : Fin 3 → ℕ) x + (![o, p, q] : Fin 3 → ℕ) x ≤ (⟨3, ![l, n, m]⟩ : Shape).size x) :
    View.ld (Val := Elt Ideal) (e' := .f32) (S := ⟨3, ![l, n, m]⟩) (up3 A) (Rect.unit ![g, a, c] ![o, p, q] h) = up3 (l := o) (n := p) (m := q) (sh3 g a c A) := by
  funext x
  show ((A (g + 1 * (x 0).val) (a + 1 * (x 1).val) (c + 1 * (x 2).val) : ℝ) : EReal) = ((A (g + (x 0).val) (a + (x 1).val) (c + (x 2).val) : ℝ) : EReal)
  rw [Nat.one_mul, Nat.one_mul, Nat.one_mul]

theorem ld_up3b {l n m o p q : ℕ} (g a c : ℕ) (A : ℕ → ℕ → ℕ → ℝ) (h : ∀ x, (![g, a, c] : Fin 3 → ℕ) x + (![o, p, q] : Fin 3 → ℕ) x ≤ (⟨3, ![l, n, m]⟩ : Shape).size x) :
    View.ld (Val := Elt Ideal) (e' := .bf16) (S := ⟨3, ![l, n, m]⟩) (up3 A) (Rect.unit ![g, a, c] ![o, p, q] h) = up3 (l := o) (n := p) (m := q) (sh3 g a c A) := by
  funext x
  show ((A (g + 1 * (x 0).val) (a + 1 * (x 1).val) (c + 1 * (x 2).val) : ℝ) : EReal) = ((A (g + (x 0).val) (a + (x 1).val) (c + (x 2).val) : ℝ) : EReal)
  rw [Nat.one_mul, Nat.one_mul, Nat.one_mul]

theorem cov_ld {sig : RefSig} {κ : Kind} {sp : Space} {S : Shape} (v : View sig κ sp S .f32) (L : List (View.Piece (Elt Ideal) S .f32)) (r : Rect S) :
    v.readCov L r.toLoadRect = View.ld (View.canon L) r := View.readCov_eq_canon' v L r.toLoadRect

/-! ## the last store of a list, index by index -/

section
variable {n m p q a b : ℕ} (A : ℕ → ℕ → ℝ) (h : ∀ x, (![a, b] : Fin 2 → ℕ) x + (![p, q] : Fin 2 → ℕ) x ≤ (⟨2, ![n, m]⟩ : Shape).size x)
  (L : List (View.Piece (Elt Ideal) (⟨2, ![n, m]⟩ : Shape) .f32)) (y : (⟨2, ![n, m]⟩ : Shape).Idx)
theorem mem_unit2 : y ∈ (Rect.unit (s := ⟨2, ![n, m]⟩) ![a, b] ![p, q] h).set ↔ a ≤ (y 0).val ∧ (y 0).val < a + p ∧ b ≤ (y 1).val ∧ (y 1).val < b + q := by
  rw [LoadRect.mem_set]
  constructor
  · intro H
    obtain ⟨i, hi, e0⟩ := H 0
    obtain ⟨j, hj, e1⟩ := H 1
    change i < p at hi; change j < q at hj
    change (y 0).val = a + 1 * i at e0; change (y 1).val = b + 1 * j at e1
    omega
  · rintro ⟨h1, h2, h3, h4⟩ x
    match x with
    | ⟨0, _⟩ =>
      refine ⟨(y 0).val - a, ?_, ?_⟩
      · show (y 0).val - a < p; omega
      · show (y 0).val = a + 1 * ((y 0).val - a); omega
    | ⟨1, _⟩ =>
      refine ⟨(y 1).val - b, ?_, ?_⟩
      · show (y 1).val - b < q; omega
      · show (y 1).val = b + 1 * ((y 1).val - b); omega
theorem canon_at2 : View.canon ((⟨Rect.unit (s := ⟨2, ![n, m]⟩) ![a, b] ![p, q] h, up2 (n := p) (m := q) A⟩ : View.Piece (Elt Ideal) (⟨2, ![n, m]⟩ : Shape) .f32) :: L) y =
    if a ≤ (y 0).val ∧ (y 0).val < a + p ∧ b ≤ (y 1).val ∧ (y 1).val < b + q then ((A ((y 0).val - a) ((y 1).val - b) : ℝ) : EReal) else View.canon L y := by
  split
  · rename_i hy
    obtain ⟨x, rfl⟩ := LoadRect.exists_idx_of_mem _ ((mem_unit2 h y).mpr hy)
    refine (View.canon_cons_emb _ _ L x).trans ?_
    show ((A (x 0).val (x 1).val : ℝ) : EReal) = ((A (a + 1 * (x 0).val - a) (b + 1 * (x 1).val - b) : ℝ) : EReal)
    rw [Nat.one_mul, Nat.one_mul, Nat.add_sub_cancel_left, Nat.add_sub_cancel_left]
  · rename_i hy
    exact View.canon_cons_of_not_mem _ L fun hm => hy ((mem_unit2 h y).mp hm)
theorem rw_at2 {sig : RefSig} {κ : Kind} {sp : Space} (v : View sig κ sp ⟨2, ![n, m]⟩ .f32) (f : v.ty.Contents (Elt Ideal)) :
    v.read (Elt Ideal) (v.writes (Elt Ideal) f ((⟨Rect.unit (s := ⟨2, ![n, m]⟩) ![a, b] ![p, q] h, up2 (n := p) (m := q) A⟩ : View.Piece (Elt Ideal) (⟨2, ![n, m]⟩ : Shape) .f32) :: L)) y =
    if a ≤ (y 0).val ∧ (y 0).val < a + p ∧ b ≤ (y 1).val ∧ (y 1).val < b + q then ((A ((y 0).val - a) ((y 1).val - b) : ℝ) : EReal)
      else v.read (Elt Ideal) (v.writes (Elt Ideal) f L) y := by
  split
  · rename_i hy
    obtain ⟨x, rfl⟩ := LoadRect.exists_idx_of_mem _ ((mem_unit2 h y).mpr hy)
    refine (View.read_writes_cons_emb v f _ _ L x).trans ?_
    show ((A (x 0).val (x 1).val : ℝ) : EReal) = ((A (a + 1 * (x 0).val - a) (b + 1 * (x 1).val - b) : ℝ) : EReal)
    rw [Nat.one_mul, Nat.one_mul, Nat.add_sub_cancel_left, Nat.add_sub_cancel_left]
  · rename_i hy
    have hy' : y ∉ Finset.univ.map (Rect.unit (s := ⟨2, ![n, m]⟩) ![a, b] ![p, q] h).emb := by
      rw [Rect.map_emb_univ]; exact fun hm => hy ((mem_unit2 h y).mp hm)
    rw [View.writes_cons, View.read_slice_write_of_not_mem _ _ _ _ hy']
end

section
variable {l n m o p q g a b : ℕ} (A : ℕ → ℕ → ℕ → ℝ) (h : ∀ x, (![g, a, b] : Fin 3 → ℕ) x + (![o, p, q] : Fin 3 → ℕ) x ≤ (⟨3, ![l, n, m]⟩ : Shape).size x)
  (L : List (View.Piece (Elt Ideal) (⟨3, ![l, n, m]⟩ : Shape) .f32)) (y : (⟨3, ![l, n, m]⟩ : Shape).Idx)
theorem mem_unit3 : y ∈ (Rect.unit (s := ⟨3, ![l, n, m]⟩) ![g, a, b] ![o, p, q] h).set ↔
    g ≤ (y 0).val ∧ (y 0).val < g + o ∧ a ≤ (y 1).val ∧ (y 1).val < a + p ∧ b ≤ (y 2).val ∧ (y 2).val < b + q := by
  rw [LoadRect.mem_set]
  constructor
  · intro H
    obtain ⟨k, hk, e0⟩ := H 0
    obtain ⟨i, hi, e1⟩ := H 1
    obtain ⟨j, hj, e2⟩ := H 2
    change k < o at hk; change i < p at hi; change j < q at hj
    change (y 0).val = g + 1 * k at e0; change (y 1).val = a + 1 * i at e1; change (y 2).val = b + 1 * j at e2
    omega
  · rintro ⟨h1, h2, h3, h4, h5, h6⟩ x
    match x with
    | ⟨0, _⟩ =>
      refine ⟨(y 0).val - g, ?_, ?_⟩
      · show (y 0).val - g < o; omega
      · show (y 0).val = g + 1 * ((y 0).val - g); omega
    | ⟨1, _⟩ =>
      refine ⟨(y 1).val - a, ?_, ?_⟩
      · show (y 1).val - a < p; omega
      · show (y 1).val = a + 1 * ((y 1).val - a); omega
    | ⟨2, _⟩ =>
      refine ⟨(y 2).val - b, ?_, ?_⟩
      · show (y 2).val - b < q; omega
      · show (y 2).val = b + 1 * ((y 2).val - b); omega
theorem canon_at3 : View.canon ((⟨Rect.unit (s := ⟨3, ![l, n, m]⟩) ![g, a, b] ![o, p, q] h, up3 (l := o) (n := p) (m := q) A⟩ : View.Piece (Elt Ideal) (⟨3, ![l, n, m]⟩ : Shape) .f32) :: L) y =
    if g ≤ (y 0).val ∧ (y 0).val < g + o ∧ a ≤ (y 1).val ∧ (y 1).val < a + p ∧ b ≤ (y 2).val ∧ (y 2).val < b + q
      then ((A ((y 0).val - g) ((y 1).val - a) ((y 2).val - b) : ℝ) : EReal) else View.canon L y := by
  split
  · rename_i hy
    obtain ⟨x, rfl⟩ := LoadRect.exists_idx_of_mem _ ((mem_unit3 h y).mpr hy)
    refine (View.canon_cons_emb _ _ L x).trans ?_
    show ((A (x 0).val (x 1).val (x 2).val : ℝ) : EReal) = ((A (g + 1 * (x 0).val - g) (a + 1 * (x 1).val - a) (b + 1 * (x 2).val - b) : ℝ) : EReal)
    rw [Nat.one_mul, Nat.one_mul, Nat.one_mul, Nat.add_sub_cancel_left, Nat.add_sub_cancel_left, Nat.add_sub_cancel_left]
  · rename_i hy
    exact View.canon_cons_of_not_mem _ L fun hm => hy ((mem_unit3 h y).mp hm)
end

/-! ## a read of stores over what the buffer held -/

theorem rw_nil {sig : RefSig} {κ : Kind} {sp : Space} {S : Shape} (v : View sig κ sp S .f32) (f : v.ty.Contents (Elt Ideal)) (y : S.Idx) :
    v.read (Elt Ideal) (v.writes (Elt Ideal) f []) y = v.read (Elt Ideal) f y := rfl

end Cert.Proof
-- ==== Proof.TileA.lean ====
/-
  TILES: what the body's named terms are on a tile's arrays, the products of the output and of the pools.
-/
module

public import proofs.«01_k».proof.Proof.Pieces
public import proofs.«01_k».proof.Proof.RefB

@[expose] public section

set_option maxRecDepth 16384

noncomputable section

open Idealize.ShloMosaic Idealize.ShloMosaic.TcCoe Cert.KernelIdeal Cert.KernelIdeal.Gen
open scoped BigOperators

namespace Cert.Proof

/-! ## the parts of the sums a tile adds, and the partial sums over the taps, the windows and the groups -/

def zr : ℕ → ℕ → ℝ := fun _ _ => 0
def zr3 : ℕ → ℕ → ℕ → ℝ := fun _ _ _ => 0
/-- What a tile of 256 rows from `b` on adds to an array of sums. -/
def acc2 (f : ℕ → ℕ → ℕ → ℝ) (b : ℕ) (S : ℕ → ℕ → ℝ) : ℕ → ℕ → ℝ := fun i j => S i j + ∑ r ∈ Finset.range 256, f i (b + r) j
def acc3 (f : ℕ → ℕ → ℕ → ℕ → ℝ) (b : ℕ) (S : ℕ → ℕ → ℕ → ℝ) : ℕ → ℕ → ℕ → ℝ := fun g i j => S g i j + ∑ r ∈ Finset.range 256, f g (b + r) i j
/-- The sums over the rows from `b` on. -/
def tot2 (f : ℕ → ℕ → ℕ → ℝ) (b : ℕ) : ℕ → ℕ → ℝ := fun i j => ∑ r ∈ Finset.range (2048 - b), f i (b + r) j
def tot3 (f : ℕ → ℕ → ℕ → ℕ → ℝ) (b : ℕ) : ℕ → ℕ → ℕ → ℝ := fun g i j => ∑ r ∈ Finset.range (2048 - b), f g (b + r) i j
theorem acc2_tot (f : ℕ → ℕ → ℕ → ℝ) (b : ℕ) (hb : b + 256 ≤ 2048) : acc2 f b (tot2 f (b + 256)) = tot2 f b := by
  funext i j
  unfold acc2 tot2
  rw [show 2048 - b = 256 + (2048 - (b + 256)) by omega, Finset.sum_range_add, add_comm]
  simp only [Nat.add_assoc]
theorem acc2_zr (f : ℕ → ℕ → ℕ → ℝ) (b : ℕ) (hb : b + 256 = 2048) : acc2 f b zr = tot2 f b := by
  funext i j
  unfold acc2 tot2 zr
  rw [show 2048 - b = 256 by omega, zero_add]
theorem acc3_tot (f : ℕ → ℕ → ℕ → ℕ → ℝ) (b : ℕ) (hb : b + 256 ≤ 2048) : acc3 f b (tot3 f (b + 256)) = tot3 f b := by
  funext g i j
  unfold acc3 tot3
  rw [show 2048 - b = 256 + (2048 - (b + 256)) by omega, Finset.sum_range_add, add_comm]
  simp only [Nat.add_assoc]
theorem acc3_zr (f : ℕ → ℕ → ℕ → ℕ → ℝ) (b : ℕ) (hb : b + 256 = 2048) : acc3 f b zr3 = tot3 f b := by
  funext g i j
  unfold acc3 tot3 zr3
  rw [show 2048 - b = 256 by omega, zero_add]

namespace Arr
variable (a : Arr)
def gpwf (i t j : ℕ) : ℝ := a.sw t i * a.dycat t j
def gwgf (g t i j : ℕ) : ℝ := a.p t (g * 128 + i) * a.dyps t (g * 128 + j)
def vdf (r t j : ℕ) : ℝ := if r = 0 then a.dx2 t j * a.y t j else if r = 1 then a.dh t j else if r = 2 then a.dh t j * a.n1 t j else if r = 3 then a.dn1 t j * a.xh t j else 0
def vcf (r t j : ℕ) : ℝ := if r = 0 then a.dypool t j * a.ypre t j else if r = 1 then a.dln t j * a.z t j else if r = 2 then a.dln t j else if r = 3 then a.dcv t j else 0
def ddwf (k t j : ℕ) : ℝ := if k < 31 then a.glu t j * a.dcv (t + (30 - k)) j else 0
/-- The weights of the taps, a row of zeros below. -/
def dwwp (k j : ℕ) : ℝ := if k < 31 then a.dww k j else 0
def dg1 (k t j : ℕ) : ℝ := a.dwwp k j * a.dcv (t + (30 - k)) j
def dgm (k t j : ℕ) : ℝ := a.glu t j * a.dcv (t + (30 - k)) j
def dgp (K t j : ℕ) : ℝ := ∑ k ∈ Finset.range K, a.dg1 k t j
def ddr (b k : ℕ) (_ j : ℕ) : ℝ := ∑ r ∈ Finset.range 256, a.dgm k (b + r) j
def dpt (t j : ℕ) : ℝ := ∑ d ∈ Finset.range 7, a.dpc (t + d) (384 + j)
def eg (t j : ℕ) : ℝ := 1 + Real.exp (-a.u t (512 + j))
/-- The input product's weights, a group of 384 columns at a time. -/
def wing (g i k : ℕ) : ℝ := a.win i (g * 384 + k)
def dht (t j : ℕ) : ℝ := ∑ k ∈ Finset.range 1152, a.du t k * a.win j k
theorem eg_ne (t j : ℕ) : a.eg t j ≠ 0 := den_ne _
theorem dgp_s {K K' : ℕ} (h : K' = K + 1) (t j : ℕ) : a.dgp K' t j = a.dgp K t j + a.dg1 K t j := by
  subst h; exact Finset.sum_range_succ _ _
theorem dgp_0 (t j : ℕ) : a.dgp 0 t j = 0 := rfl
theorem dgp_31 (t j : ℕ) : a.dgp 31 t j = a.dglu t j :=
  Finset.sum_congr rfl fun k hk => by rw [dg1, dwwp, if_pos (Finset.mem_range.mp hk)]
theorem wof_0 {j : ℕ} (h : j < 128) : wof j = 2 := by unfold wof; rw [if_pos h]
theorem wof_1 {j : ℕ} (h : j < 128) : wof (128 + j) = 4 := by unfold wof; split_ifs <;> omega
theorem wof_2 {j : ℕ} (h : j < 128) : wof (256 + j) = 8 := by unfold wof; split_ifs <;> omega
theorem wof_3 {j : ℕ} (h : j < 128) : wof (384 + j) = 16 := by unfold wof; split_ifs <;> omega
end Arr

theorem sum_split {a b n : ℕ} (h : n = a + b) (f : ℕ → ℝ) : ∑ k ∈ Finset.range n, f k = ∑ k ∈ Finset.range a, f k + ∑ k ∈ Finset.range b, f (a + k) := by
  subst h; exact Finset.sum_range_add _ _ _

/-- The row's word at a tile from `b` on. -/
def rowW (b : ℕ) : ℕ → ℕ → BitVec 32 := fun r _ => BitVec.ofNat 32 (b + r)
theorem word_eq : ∀ t : Fin cfg0.N, Scalar.muli (Scalar.subi 7#32 (BitVec.ofNat 32 ((grid0.coords t 0 : Fin _) : ℕ))) 256#32 = BitVec.ofNat 32 (lo t.val) := by
  decide +kernel

theorem sum_rows_k {n m : ℕ} (A : ℕ → ℕ → ℝ) (h : (⟨2, ![n, m]⟩ : Shape).Reduces [0] ⟨1, ![m]⟩)
    (hφ : FKind.Formats .f32) (ha : (0#32 : BitVec FTy.f32.bits) = 0#32) :
    multiReduction (F := Ideal) (φ := .f32) .add [0] ⟨1, ![m]⟩ (up2 A) 0#32 h hφ ha = up1 fun j => ∑ i ∈ Finset.range n, A i j :=
  sum_rows_up2 A _ h hφ ha
theorem sum_cols_k {n m : ℕ} (A : ℕ → ℕ → ℝ) (h : (⟨2, ![n, m]⟩ : Shape).Reduces [1] ⟨1, ![n]⟩)
    (hφ : FKind.Formats .f32) (ha : (0#32 : BitVec FTy.f32.bits) = 0#32) :
    multiReduction (F := Ideal) (φ := .f32) .add [1] ⟨1, ![n]⟩ (up2 A) 0#32 h hφ ha = up1 fun i => ∑ j ∈ Finset.range m, A i j :=
  sum_cols_up2 A _ h hφ ha

variable (a : Arr) (b : ℕ)

theorem t_pay1 : k0_pay1 (F := Ideal)  = up2 (n := 512) (m := 512) (zr) := by
  simp (config := {implicitDefEqProofs := false, proj := false}) only [k0_pay1, splat_zero_up2]
  rfl

theorem t_pay3 : k0_pay3 (F := Ideal)  = up2 (n := 8) (m := 1024) (zr) := by
  simp (config := {implicitDefEqProofs := false, proj := false}) only [k0_pay3, splat_zero_up2]
  rfl

theorem t_pay4 : k0_pay4 (F := Ideal)  = up2 (n := 8) (m := 512) (zr) := by
  simp (config := {implicitDefEqProofs := false, proj := false}) only [k0_pay4, splat_zero_up2]
  rfl

theorem t_pay5 : k0_pay5 (F := Ideal)  = up2 (n := 32) (m := 512) (zr) := by
  simp (config := {implicitDefEqProofs := false, proj := false}) only [k0_pay5, splat_zero_up2]
  rfl

theorem t_pay6 : k0_pay6 (F := Ideal)  = up2 (n := 32) (m := 512) (zr) := by
  simp (config := {implicitDefEqProofs := false, proj := false}) only [k0_pay6, cast_self, splat_zero_up2]
  rfl

theorem t_pay7 : k0_pay7 (F := Ideal)  = up2 (n := 16) (m := 512) (zr) := by
  simp (config := {implicitDefEqProofs := false, proj := false}) only [k0_pay7, cast_self, splat_zero_up2]
  rfl

theorem t_pay42 : k0_pay42 (F := Ideal)  = up2 (n := 256) (m := 512) (zr) := by
  simp (config := {implicitDefEqProofs := false, proj := false}) only [k0_pay42, splat_zero_up2]
  rfl

theorem t_pay2 : k0_pay2 (F := Ideal)  = up3 (l := 4) (n := 128) (m := 128) zr3 := by
  simp (config := {implicitDefEqProofs := false, proj := false}) only [k0_pay2, splat_zero_up3]
  rfl

theorem t_pay13 (S : ℕ → ℕ → ℝ) : k0_pay13 (F := Ideal) (up2 (n := 256) (m := 512) (S)) = up2 (n := 256) (m := 512) (S) := by
  simp (config := {implicitDefEqProofs := false, proj := false}) only [k0_pay13, cast_self]

theorem t_pay40 (S : ℕ → ℕ → ℝ) : k0_pay40 (F := Ideal) (up2 (n := 256) (m := 512) (S)) = up2 (n := 256) (m := 512) (S) := by
  simp (config := {implicitDefEqProofs := false, proj := false}) only [k0_pay40, cast_self]

theorem t_pay39 (S : ℕ → ℕ → ℝ) : k0_pay39 (F := Ideal) (up2 (n := 16) (m := 512) (S)) = up2 (n := 16) (m := 512) (S) := by
  simp (config := {implicitDefEqProofs := false, proj := false}) only [k0_pay39, cast_self]

theorem t_pay144 (S : ℕ → ℕ → ℝ) : k0_pay144 (F := Ideal) (up2 (n := 32) (m := 512) (S)) = up2 (n := 32) (m := 512) (S) := by
  simp (config := {implicitDefEqProofs := false, proj := false}) only [k0_pay144, cast_self]

theorem t_pay8 (S : ℕ → ℕ → ℝ) : k0_pay8 (F := Ideal) (up2 (n := 256) (m := 1024) (bk b a.dx2)) (up2 (n := 1) (m := 1024) (S)) (up2 (n := 256) (m := 1024) (bk b a.y)) = up2 (n := 1) (m := 1024) (acc2 a.vdf b S) := by
  simp (config := {implicitDefEqProofs := false, proj := false}) only [k0_pay8, addf_up2, mulf_up2, cast_self, cast_1_row, sum_rows_k]
  refine up2_congr fun r hr j hj => ?_
  obtain rfl : r = 0 := by omega
  rfl

theorem t_pay9 : k0_pay9 (F := Ideal) (up2 (n := 1) (m := 1024) (bk 2 a.md)) (up2 (n := 256) (m := 1024) (bk b a.dx2)) = up2 (n := 256) (m := 1024) (bk b a.dy) := by
  simp (config := {implicitDefEqProofs := false, proj := false}) only [k0_pay9, mulf_up2, truncf_up2, bcast_row_up2]
  exact up2_congr fun r hr j hj => rfl

theorem t_pay11 : k0_pay11 (F := Ideal) (up2 (n := 1) (m := 1024) (bk 2 a.md)) (up2 (n := 256) (m := 1024) (bk b a.dx2)) (up2 (n := 1024) (m := 1024) (a.wout)) = up2 (n := 256) (m := 512) (bk b a.dycat) := by
  simp (config := {implicitDefEqProofs := false, proj := false}) only [k0_pay11, k0_pay10, k0_pay9, dot_S256x1024_S1024x1024_S256x1024_1_1_0_0_n_n, mulf_up2, truncf_up2, slice_up2, bcast_row_up2, cast_self, mdot_nt, zero_add]
  exact up2_congr fun r hr j hj => rfl

theorem t_pay12 : k0_pay12 (F := Ideal) (up2 (n := 1) (m := 1024) (bk 2 a.md)) (up2 (n := 256) (m := 1024) (bk b a.dx2)) (up2 (n := 1024) (m := 1024) (a.wout)) = up2 (n := 256) (m := 512) (bk b a.dypool) := by
  simp (config := {implicitDefEqProofs := false, proj := false}) only [k0_pay12, k0_pay10, k0_pay9, dot_S256x1024_S1024x1024_S256x1024_1_1_0_0_n_n, mulf_up2, truncf_up2, slice_up2, bcast_row_up2, cast_self, mdot_nt, zero_add]
  exact up2_congr fun r hr j hj => rfl

theorem t_pay14 (h) : k0_pay14 (BitVec.ofNat 32 b) (iota Kind.tc S256x1 32 [0] h) = ui2 (n := 256) (m := 1) (rowW b) := by
  simp (config := {proj := false}) only [k0_pay14, iota_ui2, splat_ui2, addi_ui2]
  funext i
  exact (BitVec.ofNat_add b _).symm

theorem t_pay15 : k0_pay15 (F := Ideal) (up2 (n := 256) (m := 512) (bk b a.dypool)) (up2 (n := 1) (m := 512) (a.psc)) = up2 (n := 256) (m := 512) (bk b a.dyps) := by
  simp (config := {implicitDefEqProofs := false, proj := false}) only [k0_pay15, mulf_up2, truncf_up2, bcast_row_up2]
  exact up2_congr fun r hr j hj => rfl

theorem t_pay16 (S : ℕ → ℕ → ℕ → ℝ) : k0_pay16 (F := Ideal) (up2 (n := 256) (m := 512) (bk b a.dypool)) (up2 (n := 256) (m := 512) (bk b a.p)) (up2 (n := 1) (m := 512) (a.psc)) (up3 (l := 1) (n := 128) (m := 128) (sh3 0 0 0 S)) = up3 (l := 1) (n := 128) (m := 128) (sh3 0 0 0 (acc3 a.gwgf b S)) := by
  simp (config := {implicitDefEqProofs := false, proj := false}) only [k0_pay16, t_pay15 a b, dot_S256x128_S256x128_S128x128_0_0_1_1_n_n, addf_up2, slice_up2, cast_drop, cast_add, mdot_tn, zero_add]
  refine up3_congr fun k hk i hi j hj => ?_
  obtain rfl : k = 0 := by omega
  simp only [sh3, acc3, bk, Arr.gwgf, Nat.zero_add, Nat.add_zero, Nat.zero_mul]

theorem t_pay20 (S : ℕ → ℕ → ℕ → ℝ) : k0_pay20 (F := Ideal) (up2 (n := 256) (m := 512) (bk b a.p)) (up2 (n := 256) (m := 512) (bk b a.dyps)) (up3 (l := 1) (n := 128) (m := 128) (sh3 1 0 0 S)) = up3 (l := 1) (n := 128) (m := 128) (sh3 1 0 0 (acc3 a.gwgf b S)) := by
  simp (config := {implicitDefEqProofs := false, proj := false}) only [k0_pay20, dot_S256x128_S256x128_S128x128_0_0_1_1_n_n, addf_up2, slice_up2, cast_drop, cast_add, mdot_tn, zero_add]
  refine up3_congr fun k hk i hi j hj => ?_
  obtain rfl : k = 0 := by omega
  simp only [sh3, acc3, bk, Arr.gwgf, Nat.zero_add, Nat.add_zero, Nat.one_mul]

theorem t_pay24 (S : ℕ → ℕ → ℕ → ℝ) : k0_pay24 (F := Ideal) (up2 (n := 256) (m := 512) (bk b a.p)) (up2 (n := 256) (m := 512) (bk b a.dyps)) (up3 (l := 1) (n := 128) (m := 128) (sh3 2 0 0 S)) = up3 (l := 1) (n := 128) (m := 128) (sh3 2 0 0 (acc3 a.gwgf b S)) := by
  simp (config := {implicitDefEqProofs := false, proj := false}) only [k0_pay24, dot_S256x128_S256x128_S128x128_0_0_1_1_n_n, addf_up2, slice_up2, cast_drop, cast_add, mdot_tn, zero_add]
  refine up3_congr fun k hk i hi j hj => ?_
  obtain rfl : k = 0 := by omega
  simp only [sh3, acc3, bk, Arr.gwgf, Nat.zero_add, Nat.add_zero, Nat.reduceMul]

theorem t_pay28 (S : ℕ → ℕ → ℕ → ℝ) : k0_pay28 (F := Ideal) (up2 (n := 256) (m := 512) (bk b a.p)) (up2 (n := 256) (m := 512) (bk b a.dyps)) (up3 (l := 1) (n := 128) (m := 128) (sh3 3 0 0 S)) = up3 (l := 1) (n := 128) (m := 128) (sh3 3 0 0 (acc3 a.gwgf b S)) := by
  simp (config := {implicitDefEqProofs := false, proj := false}) only [k0_pay28, dot_S256x128_S256x128_S128x128_0_0_1_1_n_n, addf_up2, slice_up2, cast_drop, cast_add, mdot_tn, zero_add]
  refine up3_congr fun k hk i hi j hj => ?_
  obtain rfl : k = 0 := by omega
  simp only [sh3, acc3, bk, Arr.gwgf, Nat.zero_add, Nat.add_zero, Nat.reduceMul]

theorem t_pay17 : k0_pay17 (F := Ideal) (up2 (n := 256) (m := 512) (bk b a.p)) (up3 (l := 1) (n := 128) (m := 128) (sh3 0 0 0 a.wg)) = up2 (n := 256) (m := 128) (bk b a.ypre) := by
  simp (config := {implicitDefEqProofs := false, proj := false}) only [k0_pay17, dot_S256x128_S128x128_S256x128_1_0_0_1_n_n, slice_up2, cast_drop, mdot_nn, zero_add]
  refine up2_congr fun r hr j hj => ?_
  simp only [sh3, bk, Arr.ypre, Nat.zero_add, Nat.add_zero]
  rw [show (j) / 128 = 0 by omega, show (j) % 128 = j by omega]
  try simp only [Nat.zero_add, Nat.zero_mul]

theorem t_pay21 : k0_pay21 (F := Ideal) (up2 (n := 256) (m := 512) (bk b a.p)) (up3 (l := 1) (n := 128) (m := 128) (sh3 1 0 0 a.wg)) = up2 (n := 256) (m := 128) (bk b (cl 128 a.ypre)) := by
  simp (config := {implicitDefEqProofs := false, proj := false}) only [k0_pay21, dot_S256x128_S128x128_S256x128_1_0_0_1_n_n, slice_up2, cast_drop, mdot_nn, zero_add]
  refine up2_congr fun r hr j hj => ?_
  simp only [sh3, bk, cl, Arr.ypre, Nat.zero_add, Nat.add_zero]
  rw [show (128 + j) / 128 = 1 by omega, show (128 + j) % 128 = j by omega]
  try simp only [Nat.reduceMul, Nat.zero_add, Nat.zero_mul, Nat.one_mul]

theorem t_pay25 : k0_pay25 (F := Ideal) (up2 (n := 256) (m := 512) (bk b a.p)) (up3 (l := 1) (n := 128) (m := 128) (sh3 2 0 0 a.wg)) = up2 (n := 256) (m := 128) (bk b (cl 256 a.ypre)) := by
  simp (config := {implicitDefEqProofs := false, proj := false}) only [k0_pay25, dot_S256x128_S128x128_S256x128_1_0_0_1_n_n, slice_up2, cast_drop, mdot_nn, zero_add]
  refine up2_congr fun r hr j hj => ?_
  simp only [sh3, bk, cl, Arr.ypre, Nat.zero_add, Nat.add_zero]
  rw [show (256 + j) / 128 = 2 by omega, show (256 + j) % 128 = j by omega]
  try simp only [Nat.reduceMul, Nat.zero_add, Nat.zero_mul, Nat.one_mul]

theorem t_pay29 : k0_pay29 (F := Ideal) (up2 (n := 256) (m := 512) (bk b a.p)) (up3 (l := 1) (n := 128) (m := 128) (sh3 3 0 0 a.wg)) = up2 (n := 256) (m := 128) (bk b (cl 384 a.ypre)) := by
  simp (config := {implicitDefEqProofs := false, proj := false}) only [k0_pay29, dot_S256x128_S128x128_S256x128_1_0_0_1_n_n, slice_up2, cast_drop, mdot_nn, zero_add]
  refine up2_congr fun r hr j hj => ?_
  simp only [sh3, bk, cl, Arr.ypre, Nat.zero_add, Nat.add_zero]
  rw [show (384 + j) / 128 = 3 by omega, show (384 + j) % 128 = j by omega]
  try simp only [Nat.reduceMul, Nat.zero_add, Nat.zero_mul, Nat.one_mul]

theorem t_pay18 : k0_pay18 (F := Ideal) (up2 (n := 256) (m := 512) (bk b a.dypool)) (up2 (n := 1) (m := 512) (a.psc)) (up3 (l := 1) (n := 128) (m := 128) (sh3 0 0 0 a.wg)) = up2 (n := 256) (m := 128) (bk b a.dp) := by
  simp (config := {implicitDefEqProofs := false, proj := false}) only [k0_pay18, t_pay15 a b, dot_S256x128_S128x128_S256x128_1_1_0_0_n_n, slice_up2, cast_drop, mdot_nt, zero_add]
  refine up2_congr fun r hr j hj => ?_
  simp only [sh3, bk, Arr.dp, Nat.zero_add, Nat.add_zero]
  rw [show (j) / 128 = 0 by omega, show (j) % 128 = j by omega]
  try simp only [Nat.zero_add, Nat.zero_mul]

theorem t_pay22 : k0_pay22 (F := Ideal) (up2 (n := 256) (m := 512) (bk b a.dyps)) (up3 (l := 1) (n := 128) (m := 128) (sh3 1 0 0 a.wg)) = up2 (n := 256) (m := 128) (bk b (cl 128 a.dp)) := by
  simp (config := {implicitDefEqProofs := false, proj := false}) only [k0_pay22, dot_S256x128_S128x128_S256x128_1_1_0_0_n_n, slice_up2, cast_drop, mdot_nt, zero_add]
  refine up2_congr fun r hr j hj => ?_
  simp only [sh3, bk, cl, Arr.dp, Nat.zero_add, Nat.add_zero]
  rw [show (128 + j) / 128 = 1 by omega, show (128 + j) % 128 = j by omega]
  try simp only [Nat.reduceMul, Nat.zero_add, Nat.zero_mul, Nat.one_mul]

theorem t_pay26 : k0_pay26 (F := Ideal) (up2 (n := 256) (m := 512) (bk b a.dyps)) (up3 (l := 1) (n := 128) (m := 128) (sh3 2 0 0 a.wg)) = up2 (n := 256) (m := 128) (bk b (cl 256 a.dp)) := by
  simp (config := {implicitDefEqProofs := false, proj := false}) only [k0_pay26, dot_S256x128_S128x128_S256x128_1_1_0_0_n_n, slice_up2, cast_drop, mdot_nt, zero_add]
  refine up2_congr fun r hr j hj => ?_
  simp only [sh3, bk, cl, Arr.dp, Nat.zero_add, Nat.add_zero]
  rw [show (256 + j) / 128 = 2 by omega, show (256 + j) % 128 = j by omega]
  try simp only [Nat.reduceMul, Nat.zero_add, Nat.zero_mul, Nat.one_mul]

theorem t_pay30 : k0_pay30 (F := Ideal) (up2 (n := 256) (m := 512) (bk b a.dyps)) = up2 (n := 256) (m := 128) (bk b (cl 384 a.dyps)) := by
  simp (config := {implicitDefEqProofs := false, proj := false}) only [k0_pay30, slice_up2, zero_add]
  exact up2_congr fun r hr j hj => rfl

theorem t_pay31 : k0_pay31 (F := Ideal) (up2 (n := 256) (m := 128) (bk b (cl 384 a.dyps))) (up3 (l := 1) (n := 128) (m := 128) (sh3 3 0 0 a.wg)) = up2 (n := 256) (m := 128) (bk b (cl 384 a.dp)) := by
  simp (config := {implicitDefEqProofs := false, proj := false}) only [k0_pay31, dot_S256x128_S128x128_S256x128_1_1_0_0_n_n, cast_drop, mdot_nt]
  refine up2_congr fun r hr j hj => ?_
  simp only [sh3, bk, cl, Arr.dp, Nat.zero_add, Nat.add_zero]
  rw [show (384 + j) / 128 = 3 by omega, show (384 + j) % 128 = j by omega]
  try simp only [Nat.reduceMul, Nat.zero_add, Nat.zero_mul, Nat.one_mul]

theorem cntW_2 (hb : b + 256 ≤ 2048) : sitofp (F := Ideal) .f32 (minsi (addi (ui2 (n := 256) (m := 1) (rowW b)) (broadcast S256x1 1#32)) (broadcast S256x1 2#32)) = up2 (n := 256) (m := 1) (bk b fun t _ => Arr.cnt 2 t) := by
  simp only [splat_ui2, addi_ui2, minsi_ui2, sitofp_up2]
  refine up2_congr fun r hr j hj => ?_
  show (((IntOp.minsi (IntOp.addi (BitVec.ofNat 32 (b + r)) 1#32) (BitVec.ofNat 32 2)).toInt : ℤ) : ℝ) = Arr.cnt 2 (b + r)
  rw [min_toInt (t := b + r) (by omega) (w := 2) (by norm_num)]; unfold Arr.cnt; push_cast; rfl
theorem cnt_ne_2 : ∀ i < 256, ∀ j < 128, bk b (fun t _ => Arr.cnt 2 t) i 0 ≠ 0 := fun i _ j _ => Arr.cnt_ne 2 _ (by norm_num)

theorem cntW_4 (hb : b + 256 ≤ 2048) : sitofp (F := Ideal) .f32 (minsi (addi (ui2 (n := 256) (m := 1) (rowW b)) (broadcast S256x1 1#32)) (broadcast S256x1 4#32)) = up2 (n := 256) (m := 1) (bk b fun t _ => Arr.cnt 4 t) := by
  simp only [splat_ui2, addi_ui2, minsi_ui2, sitofp_up2]
  refine up2_congr fun r hr j hj => ?_
  show (((IntOp.minsi (IntOp.addi (BitVec.ofNat 32 (b + r)) 1#32) (BitVec.ofNat 32 4)).toInt : ℤ) : ℝ) = Arr.cnt 4 (b + r)
  rw [min_toInt (t := b + r) (by omega) (w := 4) (by norm_num)]; unfold Arr.cnt; push_cast; rfl
theorem cnt_ne_4 : ∀ i < 256, ∀ j < 128, bk b (fun t _ => Arr.cnt 4 t) i 0 ≠ 0 := fun i _ j _ => Arr.cnt_ne 4 _ (by norm_num)

theorem cntW_8 (hb : b + 256 ≤ 2048) : sitofp (F := Ideal) .f32 (minsi (addi (ui2 (n := 256) (m := 1) (rowW b)) (broadcast S256x1 1#32)) (broadcast S256x1 8#32)) = up2 (n := 256) (m := 1) (bk b fun t _ => Arr.cnt 8 t) := by
  simp only [splat_ui2, addi_ui2, minsi_ui2, sitofp_up2]
  refine up2_congr fun r hr j hj => ?_
  show (((IntOp.minsi (IntOp.addi (BitVec.ofNat 32 (b + r)) 1#32) (BitVec.ofNat 32 8)).toInt : ℤ) : ℝ) = Arr.cnt 8 (b + r)
  rw [min_toInt (t := b + r) (by omega) (w := 8) (by norm_num)]; unfold Arr.cnt; push_cast; rfl
theorem cnt_ne_8 : ∀ i < 256, ∀ j < 128, bk b (fun t _ => Arr.cnt 8 t) i 0 ≠ 0 := fun i _ j _ => Arr.cnt_ne 8 _ (by norm_num)

theorem cntW_16 (hb : b + 256 ≤ 2048) : sitofp (F := Ideal) .f32 (minsi (addi (ui2 (n := 256) (m := 1) (rowW b)) (broadcast S256x1 1#32)) (broadcast S256x1 16#32)) = up2 (n := 256) (m := 1) (bk b fun t _ => Arr.cnt 16 t) := by
  simp only [splat_ui2, addi_ui2, minsi_ui2, sitofp_up2]
  refine up2_congr fun r hr j hj => ?_
  show (((IntOp.minsi (IntOp.addi (BitVec.ofNat 32 (b + r)) 1#32) (BitVec.ofNat 32 16)).toInt : ℤ) : ℝ) = Arr.cnt 16 (b + r)
  rw [min_toInt (t := b + r) (by omega) (w := 16) (by norm_num)]; unfold Arr.cnt; push_cast; rfl
theorem cnt_ne_16 : ∀ i < 256, ∀ j < 128, bk b (fun t _ => Arr.cnt 16 t) i 0 ≠ 0 := fun i _ j _ => Arr.cnt_ne 16 _ (by norm_num)

theorem t_pay19 (hb : b + 256 ≤ 2048) (h) : k0_pay19 (F := Ideal) (up2 (n := 256) (m := 512) (bk b a.dypool)) (BitVec.ofNat 32 b) (iota Kind.tc S256x1 32 [0] h) (up2 (n := 1) (m := 512) (a.psc)) (up3 (l := 1) (n := 128) (m := 128) (sh3 0 0 0 a.wg)) = up2 (n := 256) (m := 128) (bk b a.dpc) := by
  simp (config := {implicitDefEqProofs := false, proj := false}) only [k0_pay19, t_pay18 a b, bcast_col_up2, cast_self, t_pay14, cntW_2 b hb, divf_up2 _ _ (cnt_ne_2 b)]
  refine up2_congr fun r hr j hj => ?_
  simp only [bk, Arr.dpc, Arr.wof_0 hj]
  rw [if_pos (by omega)]

theorem t_pay23 (hb : b + 256 ≤ 2048) : k0_pay23 (F := Ideal) (ui2 (n := 256) (m := 1) (rowW b)) (up2 (n := 256) (m := 512) (bk b a.dyps)) (up3 (l := 1) (n := 128) (m := 128) (sh3 1 0 0 a.wg)) = up2 (n := 256) (m := 128) (bk b (cl 128 a.dpc)) := by
  simp (config := {implicitDefEqProofs := false, proj := false}) only [k0_pay23, t_pay22 a b, bcast_col_up2, cast_self, cntW_4 b hb, divf_up2 _ _ (cnt_ne_4 b)]
  refine up2_congr fun r hr j hj => ?_
  simp only [bk, cl, Arr.dpc, Arr.wof_1 hj]
  rw [if_pos (by omega)]

theorem t_pay27 (hb : b + 256 ≤ 2048) : k0_pay27 (F := Ideal) (ui2 (n := 256) (m := 1) (rowW b)) (up2 (n := 256) (m := 512) (bk b a.dyps)) (up3 (l := 1) (n := 128) (m := 128) (sh3 2 0 0 a.wg)) = up2 (n := 256) (m := 128) (bk b (cl 256 a.dpc)) := by
  simp (config := {implicitDefEqProofs := false, proj := false}) only [k0_pay27, t_pay26 a b, bcast_col_up2, cast_self, cntW_8 b hb, divf_up2 _ _ (cnt_ne_8 b)]
  refine up2_congr fun r hr j hj => ?_
  simp only [bk, cl, Arr.dpc, Arr.wof_2 hj]
  rw [if_pos (by omega)]

theorem t_pay32 (hb : b + 256 ≤ 2048) : k0_pay32 (F := Ideal) (ui2 (n := 256) (m := 1) (rowW b)) (up2 (n := 256) (m := 128) (bk b (cl 384 a.dyps))) (up3 (l := 1) (n := 128) (m := 128) (sh3 3 0 0 a.wg)) = up2 (n := 256) (m := 128) (bk b (cl 384 a.dpc)) := by
  simp (config := {implicitDefEqProofs := false, proj := false}) only [k0_pay32, t_pay31 a b, bcast_col_up2, cast_self, cntW_16 b hb, divf_up2 _ _ (cnt_ne_16 b)]
  refine up2_congr fun r hr j hj => ?_
  simp only [bk, cl, Arr.dpc, Arr.wof_3 hj]
  rw [if_pos (by omega)]

theorem t_pay33 (S : ℕ → ℕ → ℝ) : k0_pay33 (F := Ideal) (up2 (n := 256) (m := 512) (bk b a.dypool)) (up2 (n := 256) (m := 128) (bk b a.ypre)) (up2 (n := 256) (m := 128) (bk b (cl 128 a.ypre))) (up2 (n := 256) (m := 128) (bk b (cl 256 a.ypre))) (up2 (n := 256) (m := 128) (bk b (cl 384 a.ypre))) (up2 (n := 1) (m := 512) (S)) = up2 (n := 1) (m := 512) (acc2 a.vcf b S) := by
  simp (config := {implicitDefEqProofs := false, proj := false}) only [k0_pay33, addf_up2, mulf_up2, cast_self, cast_1_row, sum_rows_k, cat1_4]
  refine up2_congr fun r hr j hj => ?_
  obtain rfl : r = 0 := by omega
  refine congrArg (S 0 j + ·) (Finset.sum_congr rfl fun i _ => ?_)
  show a.dypool (b + i) j * _ = a.dypool (b + i) j * a.ypre (b + i) j
  refine congrArg (a.dypool (b + i) j * ·) ?_
  simp only [bk, cl]
  split_ifs
  · rfl
  · exact congrArg (a.ypre (b + i)) (by omega)
  · exact congrArg (a.ypre (b + i)) (by omega)
  · exact congrArg (a.ypre (b + i)) (by omega)

theorem t_pay34 : k0_pay34 (F := Ideal) (up2 (n := 256) (m := 128) (bk b a.dp)) (up2 (n := 256) (m := 128) (bk b a.dpc)) (up2 (n := 256) (m := 128) (bk (b + 1) a.dpc)) = up2 (n := 256) (m := 128) (bk b a.dv) := by
  simp (config := {implicitDefEqProofs := false, proj := false}) only [k0_pay34, addf_up2, subf_up2]
  refine up2_congr fun r hr j hj => ?_
  simp only [bk, Arr.dv, Arr.wof_0 hj, Finset.sum_range_succ, Finset.sum_range_zero, zero_add, Nat.add_zero, Nat.add_right_comm b r]

theorem t_pay35 : k0_pay35 (F := Ideal) (up2 (n := 256) (m := 128) (bk b (cl 128 a.dp))) (up2 (n := 256) (m := 128) (bk b (cl 128 a.dpc))) (up2 (n := 256) (m := 128) (bk (b + 1) (cl 128 a.dpc))) (up2 (n := 256) (m := 128) (bk (b + 2) (cl 128 a.dpc))) (up2 (n := 256) (m := 128) (bk (b + 3) (cl 128 a.dpc))) = up2 (n := 256) (m := 128) (bk b (cl 128 a.dv)) := by
  simp (config := {implicitDefEqProofs := false, proj := false}) only [k0_pay35, addf_up2, subf_up2]
  refine up2_congr fun r hr j hj => ?_
  simp only [bk, cl, Arr.dv, Arr.wof_1 hj, Finset.sum_range_succ, Finset.sum_range_zero, zero_add, Nat.add_zero, Nat.add_right_comm b r]

theorem t_pay36 : k0_pay36 (F := Ideal) (up2 (n := 256) (m := 128) (bk b (cl 256 a.dp))) (up2 (n := 256) (m := 128) (bk b (cl 256 a.dpc))) (up2 (n := 256) (m := 128) (bk (b + 1) (cl 256 a.dpc))) (up2 (n := 256) (m := 128) (bk (b + 2) (cl 256 a.dpc))) (up2 (n := 256) (m := 128) (bk (b + 3) (cl 256 a.dpc))) (up2 (n := 256) (m := 128) (bk (b + 4) (cl 256 a.dpc))) (up2 (n := 256) (m := 128) (bk (b + 5) (cl 256 a.dpc))) (up2 (n := 256) (m := 128) (bk (b + 6) (cl 256 a.dpc))) (up2 (n := 256) (m := 128) (bk (b + 7) (cl 256 a.dpc))) = up2 (n := 256) (m := 128) (bk b (cl 256 a.dv)) := by
  simp (config := {implicitDefEqProofs := false, proj := false}) only [k0_pay36, addf_up2, subf_up2]
  refine up2_congr fun r hr j hj => ?_
  simp only [bk, cl, Arr.dv, Arr.wof_2 hj, Finset.sum_range_succ, Finset.sum_range_zero, zero_add, Nat.add_zero, Nat.add_right_comm b r]

theorem t_pay37 : k0_pay37 (F := Ideal) (up2 (n := 256) (m := 128) (bk b (cl 384 a.dpc))) (up2 (n := 256) (m := 128) (bk (b + 1) (cl 384 a.dpc))) (up2 (n := 256) (m := 128) (bk (b + 2) (cl 384 a.dpc))) (up2 (n := 256) (m := 128) (bk (b + 3) (cl 384 a.dpc))) (up2 (n := 256) (m := 128) (bk (b + 4) (cl 384 a.dpc))) (up2 (n := 256) (m := 128) (bk (b + 5) (cl 384 a.dpc))) (up2 (n := 256) (m := 128) (bk (b + 6) (cl 384 a.dpc))) = up2 (n := 256) (m := 128) (bk b a.dpt) := by
  simp (config := {implicitDefEqProofs := false, proj := false}) only [k0_pay37, addf_up2]
  refine up2_congr fun r hr j hj => ?_
  simp only [bk, cl, Arr.dpt, Finset.sum_range_succ, Finset.sum_range_zero, zero_add, Nat.add_zero, Nat.add_right_comm b r]

theorem t_pay38 : k0_pay38 (F := Ideal) (up2 (n := 256) (m := 128) (bk b (cl 384 a.dp))) (up2 (n := 256) (m := 128) (bk b a.dv)) (up2 (n := 256) (m := 128) (bk b (cl 128 a.dv))) (up2 (n := 256) (m := 128) (bk b (cl 256 a.dv))) (up2 (n := 256) (m := 128) (bk b a.dpt)) (up2 (n := 256) (m := 128) (bk (b + 7) (cl 384 a.dpc))) (up2 (n := 256) (m := 128) (bk (b + 8) (cl 384 a.dpc))) (up2 (n := 256) (m := 128) (bk (b + 9) (cl 384 a.dpc))) (up2 (n := 256) (m := 128) (bk (b + 10) (cl 384 a.dpc))) (up2 (n := 256) (m := 128) (bk (b + 11) (cl 384 a.dpc))) (up2 (n := 256) (m := 128) (bk (b + 12) (cl 384 a.dpc))) (up2 (n := 256) (m := 128) (bk (b + 13) (cl 384 a.dpc))) (up2 (n := 256) (m := 128) (bk (b + 14) (cl 384 a.dpc))) (up2 (n := 256) (m := 128) (bk (b + 15) (cl 384 a.dpc))) = up2 (n := 256) (m := 512) (bk b a.dv) := by
  simp (config := {implicitDefEqProofs := false, proj := false}) only [k0_pay38]
  rw [addf_up2, addf_up2, addf_up2, addf_up2, addf_up2, addf_up2, addf_up2, addf_up2, addf_up2, subf_up2, cat1_4]
  refine up2_congr fun r hr j hj => ?_
  simp only [bk, cl]
  split_ifs with h1 h2 h3
  · rfl
  · exact congrArg (a.dv (b + r)) (by omega)
  · exact congrArg (a.dv (b + r)) (by omega)
  · obtain ⟨i, rfl⟩ : ∃ i, j = 384 + i := ⟨j - 384, by omega⟩
    have hi : i < 128 := by omega
    simp only [show 384 + i - (128 + 128 + 128) = i by omega, Arr.dv, Arr.dpt, Arr.wof_3 hi, Finset.sum_range_succ, Finset.sum_range_zero, zero_add, Nat.add_zero, Nat.add_right_comm b r]

end Cert.Proof
-- ==== Proof.TileB.lean ====
/-
  TILES: the gate, the normalisation and the taps.
-/
module

public import proofs.«01_k».proof.Proof.TileA

@[expose] public section

set_option maxRecDepth 16384

noncomputable section

open Idealize.ShloMosaic Idealize.ShloMosaic.TcCoe Cert.KernelIdeal Cert.KernelIdeal.Gen
open scoped BigOperators

namespace Cert.Proof

variable (a : Arr) (b : ℕ)

theorem dgm_term (k i j : ℕ) : bk b a.glu i j * bk (b + (30 - k)) a.dcv i j = a.dgm k (b + i) j := by
  simp only [bk, Arr.dgm, Nat.add_right_comm b _ i]
theorem dg1_term (k i j : ℕ) : bk k a.dwwp 0 j * bk (b + (30 - k)) a.dcv i j = a.dg1 k (b + i) j := by
  simp only [bk, Arr.dg1, Nat.add_zero, Nat.add_right_comm b _ i]
theorem ddw_term (k : ℕ) (hk : k < 31) (i j : ℕ) : bk b a.glu i j * bk (b + (30 - k)) a.dcv i j = a.ddwf k (b + i) j := by
  rw [Arr.ddwf, if_pos hk]; exact dgm_term a b k i j
theorem dgm_ddw (k : ℕ) (hk : k < 31) (i j : ℕ) : a.dgm k (b + i) j = a.ddwf k (b + i) j := by
  rw [Arr.ddwf, if_pos hk]; rfl

theorem t_pay41 : k0_pay41 (F := Ideal) (up2 (n := 256) (m := 512) (bk b a.z)) (up2 (n := 1) (m := 512) (a.lng)) (up2 (n := 1) (m := 512) (a.lnb)) = up2 (n := 256) (m := 512) (bk b a.ln) := by
  simp (config := {implicitDefEqProofs := false, proj := false}) only [k0_pay41, k0_pay40, addf_up2, mulf_up2, bcast_row_up2, bcast_col_up2, cast_self, cast_1_row, cast_1_col, cast_drop, cast_add, ne_eq, OfNat.ofNat_ne_zero, not_false_eq_true, implies_true, Nat.zero_add, zero_add]
  exact up2_congr fun r hr j hj => rfl

theorem t_pay43 : k0_pay43 (F := Ideal) (up2 (n := 256) (m := 512) (bk b a.ln)) (up2 (n := 256) (m := 512) (zr)) = up2 (n := 256) (m := 512) (bk b a.sg) := by
  simp (config := {implicitDefEqProofs := false, proj := false}) only [k0_pay43, addf_up2, subf_up2, exp_up2, divf_up2, splat_one_up2, ne_eq, OfNat.ofNat_ne_zero, not_false_eq_true, implies_true, Nat.zero_add, zero_add, zr, zero_sub, Arr.den_ne]
  exact up2_congr fun r hr j hj => rfl

theorem t_pay45 (S : ℕ → ℕ → ℝ) : k0_pay45 (F := Ideal) (up2 (n := 256) (m := 512) (bk b a.dycat)) (up2 (n := 256) (m := 512) (bk b a.ln)) (up2 (n := 256) (m := 512) (zr)) (up2 (n := 512) (m := 512) (S)) = up2 (n := 512) (m := 512) (acc2 a.gpwf b S) := by
  simp (config := {implicitDefEqProofs := false, proj := false}) only [k0_pay45, k0_pay44, t_pay43 a b, dot_S256x512_S256x512_S512x512_0_0_1_1_n_n, addf_up2, mulf_up2, truncf_up2, cast_self, cast_1_row, cast_1_col, cast_drop, cast_add, mdot_nn, mdot_nt, mdot_tn, ne_eq, OfNat.ofNat_ne_zero, not_false_eq_true, implies_true, Nat.zero_add, zero_add]
  exact up2_congr fun r hr j hj => rfl

theorem t_pay46 : k0_pay46 (F := Ideal) (up2 (n := 256) (m := 512) (bk b a.dycat)) (up2 (n := 256) (m := 512) (bk b a.ln)) (up2 (n := 256) (m := 512) (zr)) (up2 (n := 512) (m := 512) (a.wpw)) = up2 (n := 256) (m := 512) (bk b a.dln) := by
  simp (config := {implicitDefEqProofs := false, proj := false}) only [k0_pay46, k0_pay44, t_pay43 a b, dot_S256x512_S512x512_S256x512_1_1_0_0_n_n, addf_up2, subf_up2, mulf_up2, truncf_up2, cast_self, cast_1_row, cast_1_col, cast_drop, cast_add, mdot_nn, mdot_nt, mdot_tn, splat_one_up2, ne_eq, OfNat.ofNat_ne_zero, not_false_eq_true, implies_true, Nat.zero_add, zero_add]
  exact up2_congr fun r hr j hj => rfl

theorem t_pay47 (S : ℕ → ℕ → ℝ) : k0_pay47 (F := Ideal) (up2 (n := 256) (m := 512) (bk b a.dycat)) (up2 (n := 256) (m := 512) (bk b a.z)) (up2 (n := 256) (m := 512) (bk b a.ln)) (up2 (n := 256) (m := 512) (zr)) (up2 (n := 512) (m := 512) (a.wpw)) (up2 (n := 1) (m := 512) (bk 1 S)) = up2 (n := 1) (m := 512) (bk 1 (acc2 a.vcf b S)) := by
  simp (config := {implicitDefEqProofs := false, proj := false}) only [k0_pay47, t_pay46 a b, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  rfl

theorem t_pay48 (S : ℕ → ℕ → ℝ) : k0_pay48 (F := Ideal) (up2 (n := 256) (m := 512) (bk b a.dycat)) (up2 (n := 256) (m := 512) (bk b a.ln)) (up2 (n := 256) (m := 512) (zr)) (up2 (n := 512) (m := 512) (a.wpw)) (up2 (n := 1) (m := 512) (bk 2 S)) = up2 (n := 1) (m := 512) (bk 2 (acc2 a.vcf b S)) := by
  simp (config := {implicitDefEqProofs := false, proj := false}) only [k0_pay48, t_pay46 a b, addf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  rfl

theorem t_pay49 (hb : b + 256 ≤ 2048) : k0_pay49 (F := Ideal) (up2 (n := 256) (m := 512) (bk b a.z)) (up2 (n := 1) (m := 512) (a.lng)) (up2 (n := 256) (m := 512) (bk b a.dln)) (up2 (n := 256) (m := 1) (bk b fun t _ => a.rstd t)) = up2 (n := 256) (m := 512) (bk b a.dcv) := by
  simp (config := {implicitDefEqProofs := false, proj := false}) only [k0_pay49, subf_up2, mulf_up2, bcast_row_up2, bcast_col_up2, cast_self, cast_1_row, cast_1_col, cast_drop, cast_add, sum_rows_k, sum_cols_k, divf_up2, splat_512_up2, ne_eq, OfNat.ofNat_ne_zero, not_false_eq_true, implies_true, Nat.zero_add, zero_add]
  refine up2_congr fun r hr j hj => ?_
  show _ = a.dcv (b + r) j
  rw [Arr.dcv, if_pos (by omega)]
  rfl

theorem t_pay50 (hb : b + 256 ≤ 2048) (S : ℕ → ℕ → ℝ) : k0_pay50 (F := Ideal) (up2 (n := 256) (m := 512) (bk b a.z)) (up2 (n := 1) (m := 512) (a.lng)) (up2 (n := 256) (m := 512) (bk b a.dln)) (up2 (n := 256) (m := 1) (bk b fun t _ => a.rstd t)) (up2 (n := 1) (m := 512) (bk 3 S)) = up2 (n := 1) (m := 512) (bk 3 (acc2 a.vcf b S)) := by
  simp (config := {implicitDefEqProofs := false, proj := false}) only [k0_pay50, t_pay49 a b hb, addf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  rfl

theorem t_pay51 (hb : b + 256 ≤ 2048) : k0_pay51 (F := Ideal) (up2 (n := 256) (m := 512) (bk b a.z)) (up2 (n := 1) (m := 512) (a.lng)) (up2 (n := 256) (m := 512) (bk b a.dln)) (up2 (n := 256) (m := 1) (bk b fun t _ => a.rstd t)) = up2 (n := 256) (m := 512) (bk b a.dcv) := by
  simp (config := {implicitDefEqProofs := false, proj := false}) only [k0_pay51, t_pay49 a b hb, cast_self, cast_1_row, cast_1_col, cast_drop, cast_add, ne_eq, OfNat.ofNat_ne_zero, not_false_eq_true, implies_true, Nat.zero_add, zero_add]

theorem t_pay53 : k0_pay53 (F := Ideal) (up2 (n := 256) (m := 1536) (bk b a.u)) = up2 (n := 256) (m := 512) (bk b a.u) := by
  simp (config := {implicitDefEqProofs := false, proj := false}) only [k0_pay53, k0_pay52, slice_up2, cast_self, cast_1_row, cast_1_col, cast_drop, cast_add, ne_eq, OfNat.ofNat_ne_zero, not_false_eq_true, implies_true, Nat.zero_add, zero_add]

theorem t_pay54 : k0_pay54 (F := Ideal) (up2 (n := 256) (m := 1536) (bk b a.u)) = up2 (n := 256) (m := 512) (bk b a.eg) := by
  simp (config := {implicitDefEqProofs := false, proj := false}) only [k0_pay54, k0_pay52, addf_up2, subf_up2, exp_up2, slice_up2, cast_self, cast_1_row, cast_1_col, cast_drop, cast_add, splat_zero_up2, splat_one_up2, ne_eq, OfNat.ofNat_ne_zero, not_false_eq_true, implies_true, Nat.zero_add, zero_add, zero_sub]
  exact up2_congr fun r hr j hj => rfl

theorem splat_one_up2' : broadcast S256x512 (FloatOps.ofBits (F := Ideal) FTy.f32 1065353216#32) = up2 (n := 256) (m := 512) fun _ _ => (1 : ℝ) := splat_one_up2
theorem egb_ne : ∀ i < 256, ∀ j < 512, bk b a.eg i j ≠ 0 := fun i _ j _ => a.eg_ne (b + i) j
theorem t_pay55 : k0_pay55 (F := Ideal) (up2 (n := 256) (m := 512) (bk b a.eg)) (FloatOps.ofBits FTy.f32 1065353216#32) = up2 (n := 256) (m := 512) (bk b a.sgg) := by
  simp (config := {implicitDefEqProofs := false, proj := false}) only [k0_pay55, ne_eq, OfNat.ofNat_ne_zero, not_false_eq_true, implies_true, Nat.zero_add, zero_add, splat_one_up2', divf_up2 _ _ (egb_ne a b)]
  exact up2_congr fun r hr j hj => rfl

theorem t_pay56 : k0_pay56 (F := Ideal) (up2 (n := 256) (m := 512) (bk b a.u)) (up2 (n := 256) (m := 512) (bk b a.eg)) (FloatOps.ofBits FTy.f32 1065353216#32) = up2 (n := 256) (m := 512) (bk b a.glu) := by
  simp (config := {implicitDefEqProofs := false, proj := false}) only [k0_pay56, t_pay55 a b, mulf_up2, ne_eq, OfNat.ofNat_ne_zero, not_false_eq_true, implies_true, Nat.zero_add, zero_add]
  exact up2_congr fun r hr j hj => rfl

theorem t_pay57 (S : ℕ → ℕ → ℝ) : k0_pay57 (F := Ideal) (up2 (n := 280) (m := 512) (S)) = up3 (l := 1) (n := 280) (m := 512) (cp S) := by
  simp (config := {implicitDefEqProofs := false, proj := false}) only [k0_pay57, cast_self, cast_1_row, cast_1_col, cast_drop, cast_add, ne_eq, OfNat.ofNat_ne_zero, not_false_eq_true, implies_true, Nat.zero_add, zero_add]
  rfl

theorem t_pay58 (S : ℕ → ℕ → ℝ) : k0_pay58 (F := Ideal) (up2 (n := 280) (m := 512) (S)) = up3 (l := 1) (n := 280) (m := 512) (cp S) := by
  simp (config := {implicitDefEqProofs := false, proj := false}) only [k0_pay58, cast_self, cast_1_row, cast_1_col, cast_drop, cast_add, ne_eq, OfNat.ofNat_ne_zero, not_false_eq_true, implies_true, Nat.zero_add, zero_add]
  rfl

theorem t_pay59 (S : ℕ → ℕ → ℝ) : k0_pay59 (F := Ideal) (up2 (n := 280) (m := 512) (S)) = up3 (l := 1) (n := 280) (m := 512) (cp S) := by
  simp (config := {implicitDefEqProofs := false, proj := false}) only [k0_pay59, cast_self, cast_1_row, cast_1_col, cast_drop, cast_add, ne_eq, OfNat.ofNat_ne_zero, not_false_eq_true, implies_true, Nat.zero_add, zero_add]
  rfl

theorem t_pay60 (S : ℕ → ℕ → ℝ) : k0_pay60 (F := Ideal) (up2 (n := 280) (m := 512) (S)) = up3 (l := 1) (n := 280) (m := 512) (cp S) := by
  simp (config := {implicitDefEqProofs := false, proj := false}) only [k0_pay60, cast_self, cast_1_row, cast_1_col, cast_drop, cast_add, ne_eq, OfNat.ofNat_ne_zero, not_false_eq_true, implies_true, Nat.zero_add, zero_add]
  rfl

theorem t_pay61 (S : ℕ → ℕ → ℝ) : k0_pay61 (F := Ideal) (up2 (n := 280) (m := 512) (S)) = up3 (l := 1) (n := 280) (m := 512) (cp S) := by
  simp (config := {implicitDefEqProofs := false, proj := false}) only [k0_pay61, cast_self, cast_1_row, cast_1_col, cast_drop, cast_add, ne_eq, OfNat.ofNat_ne_zero, not_false_eq_true, implies_true, Nat.zero_add, zero_add]
  rfl

theorem t_pay62 (S : ℕ → ℕ → ℝ) : k0_pay62 (F := Ideal) (up2 (n := 280) (m := 512) (S)) = up3 (l := 1) (n := 280) (m := 512) (cp S) := by
  simp (config := {implicitDefEqProofs := false, proj := false}) only [k0_pay62, cast_self, cast_1_row, cast_1_col, cast_drop, cast_add, ne_eq, OfNat.ofNat_ne_zero, not_false_eq_true, implies_true, Nat.zero_add, zero_add]
  rfl

theorem t_pay63 (S : ℕ → ℕ → ℝ) : k0_pay63 (F := Ideal) (up2 (n := 280) (m := 512) (S)) = up3 (l := 1) (n := 280) (m := 512) (cp S) := by
  simp (config := {implicitDefEqProofs := false, proj := false}) only [k0_pay63, cast_self, cast_1_row, cast_1_col, cast_drop, cast_add, ne_eq, OfNat.ofNat_ne_zero, not_false_eq_true, implies_true, Nat.zero_add, zero_add]
  rfl

theorem t_pay64 : k0_pay64 (F := Ideal) (up3 (l := 1) (n := 256) (m := 512) (cp (bk (b + 30) a.dcv))) = up2 (n := 256) (m := 512) (bk (b + 30) a.dcv) := by
  simp (config := {implicitDefEqProofs := false, proj := false}) only [k0_pay64, cast_self, cast_1_row, cast_1_col, cast_drop, cast_add, ne_eq, OfNat.ofNat_ne_zero, not_false_eq_true, implies_true, Nat.zero_add, zero_add]
  rfl

theorem t_pay65 (S : ℕ → ℕ → ℝ) : k0_pay65 (F := Ideal) (up2 (n := 256) (m := 512) (bk b a.glu)) (up3 (l := 1) (n := 256) (m := 512) (cp (bk (b + 30) a.dcv))) (up2 (n := 1) (m := 512) (S)) = up2 (n := 1) (m := 512) ((acc2 a.ddwf b S)) := by
  simp (config := {implicitDefEqProofs := false, proj := false}) only [k0_pay65, k0_pay64, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 0 j + ·) (Finset.sum_congr rfl fun i _ => ddw_term a b 0 (by norm_num) i j)
  | exact congrArg (S 0 j + ·) (Finset.sum_congr rfl fun i _ => dgm_ddw a b 0 (by norm_num) i j)

theorem t_pay66 : k0_pay66 (F := Ideal) (up3 (l := 1) (n := 256) (m := 512) (cp (bk (b + 29) a.dcv))) = up2 (n := 256) (m := 512) (bk (b + 29) a.dcv) := by
  simp (config := {implicitDefEqProofs := false, proj := false}) only [k0_pay66, cast_self, cast_1_row, cast_1_col, cast_drop, cast_add, ne_eq, OfNat.ofNat_ne_zero, not_false_eq_true, implies_true, Nat.zero_add, zero_add]
  rfl

theorem t_pay67 : k0_pay67 (F := Ideal) (up3 (l := 1) (n := 256) (m := 512) (cp (bk (b + 30) a.dcv))) (up2 (n := 1) (m := 512) (a.dwwp)) (up3 (l := 1) (n := 256) (m := 512) (cp (bk (b + 29) a.dcv))) (up2 (n := 1) (m := 512) (bk 1 a.dwwp)) = up2 (n := 256) (m := 512) (bk b (a.dgp 2)) := by
  simp (config := {implicitDefEqProofs := false, proj := false}) only [k0_pay67, k0_pay64, k0_pay66, addf_up2, mulf_up2, bcast_row_up2, bcast_col_up2, cast_self, cast_1_row, cast_1_col, cast_drop, cast_add, splat_zero_up2, ne_eq, OfNat.ofNat_ne_zero, not_false_eq_true, implies_true, Nat.zero_add, zero_add]
  refine up2_congr fun r hr j hj => ?_
  show _ = a.dgp 2 (b + r) j
  rw [a.dgp_s (K := 1) rfl, a.dgp_s (K := 0) rfl, Arr.dgp_0, zero_add]
  simp only [← dg1_term]
  rfl

theorem t_pay68 (S : ℕ → ℕ → ℝ) : k0_pay68 (F := Ideal) (up2 (n := 1) (m := 512) (bk 1 S)) = up2 (n := 1) (m := 512) (bk 1 S) := by
  simp (config := {implicitDefEqProofs := false, proj := false}) only [k0_pay68, cast_self, cast_1_row, cast_1_col, cast_drop, cast_add, ne_eq, OfNat.ofNat_ne_zero, not_false_eq_true, implies_true, Nat.zero_add, zero_add]

theorem t_pay69 : k0_pay69 (F := Ideal) (up2 (n := 256) (m := 512) (bk b a.glu)) (up3 (l := 1) (n := 256) (m := 512) (cp (bk (b + 29) a.dcv))) = up2 (n := 1) (m := 512) (a.ddr b 1) := by
  simp (config := {implicitDefEqProofs := false, proj := false}) only [k0_pay69, k0_pay66, mulf_up2, cast_self, cast_1_row, cast_1_col, cast_drop, cast_add, sum_rows_k, sum_cols_k, ne_eq, OfNat.ofNat_ne_zero, not_false_eq_true, implies_true, Nat.zero_add, zero_add]
  exact up2_congr fun r hr j hj => Finset.sum_congr rfl fun i _ => dgm_term a b 1 i j

theorem t_pay70 (S : ℕ → ℕ → ℝ) : k0_pay70 (F := Ideal) (up2 (n := 1) (m := 512) (bk 1 S)) (up2 (n := 1) (m := 512) (a.ddr b 1)) = up2 (n := 1) (m := 512) (bk 1 (acc2 a.ddwf b S)) := by
  simp (config := {implicitDefEqProofs := false, proj := false}) only [k0_pay70, addf_up2, ne_eq, OfNat.ofNat_ne_zero, not_false_eq_true, implies_true, Nat.zero_add, zero_add]
  refine up2_congr fun r hr j hj => ?_
  obtain rfl : r = 0 := by omega
  first
  | exact congrArg (S 1 j + ·) (Finset.sum_congr rfl fun i _ => ddw_term a b 1 (by norm_num) i j)
  | exact congrArg (S 1 j + ·) (Finset.sum_congr rfl fun i _ => dgm_ddw a b 1 (by norm_num) i j)

theorem t_pay71 : k0_pay71 (F := Ideal) (up3 (l := 1) (n := 256) (m := 512) (cp (bk (b + 28) a.dcv))) = up2 (n := 256) (m := 512) (bk (b + 28) a.dcv) := by
  simp (config := {implicitDefEqProofs := false, proj := false}) only [k0_pay71, cast_self, cast_1_row, cast_1_col, cast_drop, cast_add, ne_eq, OfNat.ofNat_ne_zero, not_false_eq_true, implies_true, Nat.zero_add, zero_add]
  rfl

theorem t_pay72 (S : ℕ → ℕ → ℝ) : k0_pay72 (F := Ideal) (up2 (n := 256) (m := 512) (bk b a.glu)) (up3 (l := 1) (n := 256) (m := 512) (cp (bk (b + 28) a.dcv))) (up2 (n := 1) (m := 512) (bk 2 S)) = up2 (n := 1) (m := 512) (bk 2 (acc2 a.ddwf b S)) := by
  simp (config := {implicitDefEqProofs := false, proj := false}) only [k0_pay72, k0_pay71, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 2 j + ·) (Finset.sum_congr rfl fun i _ => ddw_term a b 2 (by norm_num) i j)
  | exact congrArg (S 2 j + ·) (Finset.sum_congr rfl fun i _ => dgm_ddw a b 2 (by norm_num) i j)

theorem t_pay73 : k0_pay73 (F := Ideal) (up3 (l := 1) (n := 256) (m := 512) (cp (bk (b + 27) a.dcv))) = up2 (n := 256) (m := 512) (bk (b + 27) a.dcv) := by
  simp (config := {implicitDefEqProofs := false, proj := false}) only [k0_pay73, cast_self, cast_1_row, cast_1_col, cast_drop, cast_add, ne_eq, OfNat.ofNat_ne_zero, not_false_eq_true, implies_true, Nat.zero_add, zero_add]
  rfl

theorem t_pay74 : k0_pay74 (F := Ideal) (up2 (n := 256) (m := 512) (bk b (a.dgp 2))) (up3 (l := 1) (n := 256) (m := 512) (cp (bk (b + 28) a.dcv))) (up2 (n := 1) (m := 512) (bk 2 a.dwwp)) (up3 (l := 1) (n := 256) (m := 512) (cp (bk (b + 27) a.dcv))) (up2 (n := 1) (m := 512) (bk 3 a.dwwp)) = up2 (n := 256) (m := 512) (bk b (a.dgp 4)) := by
  simp (config := {implicitDefEqProofs := false, proj := false}) only [k0_pay74, k0_pay71, k0_pay73, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 4 (b + r) j
  rw [a.dgp_s (K := 3) rfl, a.dgp_s (K := 2) rfl]
  simp only [← dg1_term]
  rfl

theorem t_pay75 (S : ℕ → ℕ → ℝ) : k0_pay75 (F := Ideal) (up2 (n := 256) (m := 512) (bk b a.glu)) (up3 (l := 1) (n := 256) (m := 512) (cp (bk (b + 27) a.dcv))) (up2 (n := 1) (m := 512) (bk 3 S)) = up2 (n := 1) (m := 512) (bk 3 (acc2 a.ddwf b S)) := by
  simp (config := {implicitDefEqProofs := false, proj := false}) only [k0_pay75, k0_pay73, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 3 j + ·) (Finset.sum_congr rfl fun i _ => ddw_term a b 3 (by norm_num) i j)
  | exact congrArg (S 3 j + ·) (Finset.sum_congr rfl fun i _ => dgm_ddw a b 3 (by norm_num) i j)

theorem t_pay76 : k0_pay76 (F := Ideal) (up3 (l := 1) (n := 256) (m := 512) (cp (bk (b + 26) a.dcv))) = up2 (n := 256) (m := 512) (bk (b + 26) a.dcv) := by
  simp (config := {implicitDefEqProofs := false, proj := false}) only [k0_pay76, cast_self, cast_1_row, cast_1_col, cast_drop, cast_add, ne_eq, OfNat.ofNat_ne_zero, not_false_eq_true, implies_true, Nat.zero_add, zero_add]
  rfl

theorem t_pay77 (S : ℕ → ℕ → ℝ) : k0_pay77 (F := Ideal) (up2 (n := 256) (m := 512) (bk b a.glu)) (up2 (n := 256) (m := 512) (bk (b + 26) a.dcv)) (up2 (n := 1) (m := 512) (bk 4 S)) = up2 (n := 1) (m := 512) (bk 4 (acc2 a.ddwf b S)) := by
  simp (config := {implicitDefEqProofs := false, proj := false}) only [k0_pay77, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 4 j + ·) (Finset.sum_congr rfl fun i _ => ddw_term a b 4 (by norm_num) i j)
  | exact congrArg (S 4 j + ·) (Finset.sum_congr rfl fun i _ => dgm_ddw a b 4 (by norm_num) i j)

theorem t_pay78 : k0_pay78 (F := Ideal) (up3 (l := 1) (n := 256) (m := 512) (cp (bk (b + 25) a.dcv))) = up2 (n := 256) (m := 512) (bk (b + 25) a.dcv) := by
  simp (config := {implicitDefEqProofs := false, proj := false}) only [k0_pay78, cast_self, cast_1_row, cast_1_col, cast_drop, cast_add, ne_eq, OfNat.ofNat_ne_zero, not_false_eq_true, implies_true, Nat.zero_add, zero_add]
  rfl

theorem t_pay79 (S : ℕ → ℕ → ℝ) : k0_pay79 (F := Ideal) (up2 (n := 256) (m := 512) (bk b a.glu)) (up3 (l := 1) (n := 256) (m := 512) (cp (bk (b + 25) a.dcv))) (up2 (n := 1) (m := 512) (bk 5 S)) = up2 (n := 1) (m := 512) (bk 5 (acc2 a.ddwf b S)) := by
  simp (config := {implicitDefEqProofs := false, proj := false}) only [k0_pay79, k0_pay78, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 5 j + ·) (Finset.sum_congr rfl fun i _ => ddw_term a b 5 (by norm_num) i j)
  | exact congrArg (S 5 j + ·) (Finset.sum_congr rfl fun i _ => dgm_ddw a b 5 (by norm_num) i j)

theorem t_pay80 : k0_pay80 (F := Ideal) (up2 (n := 256) (m := 512) (bk b (a.dgp 4))) (up2 (n := 256) (m := 512) (bk (b + 26) a.dcv)) (up2 (n := 1) (m := 512) (bk 4 a.dwwp)) (up3 (l := 1) (n := 256) (m := 512) (cp (bk (b + 25) a.dcv))) (up2 (n := 1) (m := 512) (bk 5 a.dwwp)) (up2 (n := 256) (m := 512) (bk (b + 24) a.dcv)) (up2 (n := 1) (m := 512) (bk 6 a.dwwp)) = up2 (n := 256) (m := 512) (bk b (a.dgp 7)) := by
  simp (config := {implicitDefEqProofs := false, proj := false}) only [k0_pay80, k0_pay78, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 7 (b + r) j
  rw [a.dgp_s (K := 6) rfl, a.dgp_s (K := 5) rfl, a.dgp_s (K := 4) rfl]
  simp only [← dg1_term]
  rfl

theorem t_pay81 (S : ℕ → ℕ → ℝ) : k0_pay81 (F := Ideal) (up2 (n := 1) (m := 512) (bk 6 S)) = up2 (n := 1) (m := 512) (bk 6 S) := by
  simp (config := {implicitDefEqProofs := false, proj := false}) only [k0_pay81, cast_self, cast_1_row, cast_1_col, cast_drop, cast_add, ne_eq, OfNat.ofNat_ne_zero, not_false_eq_true, implies_true, Nat.zero_add, zero_add]

theorem t_pay82 : k0_pay82 (F := Ideal) (up2 (n := 256) (m := 512) (bk b a.glu)) (up2 (n := 256) (m := 512) (bk (b + 24) a.dcv)) = up2 (n := 256) (m := 512) (bk b (a.dgm 6)) := by
  simp (config := {implicitDefEqProofs := false, proj := false}) only [k0_pay82, mulf_up2, ne_eq, OfNat.ofNat_ne_zero, not_false_eq_true, implies_true, Nat.zero_add, zero_add]
  exact up2_congr fun r hr j hj => dgm_term a b 6 r j

theorem t_pay83 (S : ℕ → ℕ → ℝ) : k0_pay83 (F := Ideal) (up2 (n := 1) (m := 512) (bk 6 S)) (up2 (n := 256) (m := 512) (bk b (a.dgm 6))) = up2 (n := 1) (m := 512) (bk 6 (acc2 a.ddwf b S)) := by
  simp (config := {implicitDefEqProofs := false, proj := false}) only [k0_pay83, addf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 6 j + ·) (Finset.sum_congr rfl fun i _ => ddw_term a b 6 (by norm_num) i j)
  | exact congrArg (S 6 j + ·) (Finset.sum_congr rfl fun i _ => dgm_ddw a b 6 (by norm_num) i j)

theorem t_pay84 : k0_pay84 (F := Ideal) (up3 (l := 1) (n := 256) (m := 512) (cp (bk (b + 23) a.dcv))) = up2 (n := 256) (m := 512) (bk (b + 23) a.dcv) := by
  simp (config := {implicitDefEqProofs := false, proj := false}) only [k0_pay84, cast_self, cast_1_row, cast_1_col, cast_drop, cast_add, ne_eq, OfNat.ofNat_ne_zero, not_false_eq_true, implies_true, Nat.zero_add, zero_add]
  rfl

theorem t_pay85 (S : ℕ → ℕ → ℝ) : k0_pay85 (F := Ideal) (up2 (n := 256) (m := 512) (bk b a.glu)) (up3 (l := 1) (n := 256) (m := 512) (cp (bk (b + 23) a.dcv))) (up2 (n := 1) (m := 512) (bk 7 S)) = up2 (n := 1) (m := 512) (bk 7 (acc2 a.ddwf b S)) := by
  simp (config := {implicitDefEqProofs := false, proj := false}) only [k0_pay85, k0_pay84, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 7 j + ·) (Finset.sum_congr rfl fun i _ => ddw_term a b 7 (by norm_num) i j)
  | exact congrArg (S 7 j + ·) (Finset.sum_congr rfl fun i _ => dgm_ddw a b 7 (by norm_num) i j)

theorem t_pay86 : k0_pay86 (F := Ideal) (up3 (l := 1) (n := 256) (m := 512) (cp (bk (b + 22) a.dcv))) = up2 (n := 256) (m := 512) (bk (b + 22) a.dcv) := by
  simp (config := {implicitDefEqProofs := false, proj := false}) only [k0_pay86, cast_self, cast_1_row, cast_1_col, cast_drop, cast_add, ne_eq, OfNat.ofNat_ne_zero, not_false_eq_true, implies_true, Nat.zero_add, zero_add]
  rfl

theorem t_pay87 : k0_pay87 (F := Ideal) (up2 (n := 256) (m := 512) (bk b (a.dgp 7))) (up3 (l := 1) (n := 256) (m := 512) (cp (bk (b + 23) a.dcv))) (up2 (n := 1) (m := 512) (bk 7 a.dwwp)) (up3 (l := 1) (n := 256) (m := 512) (cp (bk (b + 22) a.dcv))) (up2 (n := 1) (m := 512) (bk 8 a.dwwp)) = up2 (n := 256) (m := 512) (bk b (a.dgp 9)) := by
  simp (config := {implicitDefEqProofs := false, proj := false}) only [k0_pay87, k0_pay84, k0_pay86, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 9 (b + r) j
  rw [a.dgp_s (K := 8) rfl, a.dgp_s (K := 7) rfl]
  simp only [← dg1_term]
  rfl

theorem t_pay88 (S : ℕ → ℕ → ℝ) : k0_pay88 (F := Ideal) (up2 (n := 256) (m := 512) (bk b a.glu)) (up3 (l := 1) (n := 256) (m := 512) (cp (bk (b + 22) a.dcv))) (up2 (n := 1) (m := 512) (bk 8 S)) = up2 (n := 1) (m := 512) (bk 8 (acc2 a.ddwf b S)) := by
  simp (config := {implicitDefEqProofs := false, proj := false}) only [k0_pay88, k0_pay86, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 8 j + ·) (Finset.sum_congr rfl fun i _ => ddw_term a b 8 (by norm_num) i j)
  | exact congrArg (S 8 j + ·) (Finset.sum_congr rfl fun i _ => dgm_ddw a b 8 (by norm_num) i j)

theorem t_pay89 : k0_pay89 (F := Ideal) (up3 (l := 1) (n := 256) (m := 512) (cp (bk (b + 21) a.dcv))) = up2 (n := 256) (m := 512) (bk (b + 21) a.dcv) := by
  simp (config := {implicitDefEqProofs := false, proj := false}) only [k0_pay89, cast_self, cast_1_row, cast_1_col, cast_drop, cast_add, ne_eq, OfNat.ofNat_ne_zero, not_false_eq_true, implies_true, Nat.zero_add, zero_add]
  rfl

theorem t_pay90 (S : ℕ → ℕ → ℝ) : k0_pay90 (F := Ideal) (up2 (n := 256) (m := 512) (bk b a.glu)) (up3 (l := 1) (n := 256) (m := 512) (cp (bk (b + 21) a.dcv))) (up2 (n := 1) (m := 512) (bk 9 S)) = up2 (n := 1) (m := 512) (bk 9 (acc2 a.ddwf b S)) := by
  simp (config := {implicitDefEqProofs := false, proj := false}) only [k0_pay90, k0_pay89, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 9 j + ·) (Finset.sum_congr rfl fun i _ => ddw_term a b 9 (by norm_num) i j)
  | exact congrArg (S 9 j + ·) (Finset.sum_congr rfl fun i _ => dgm_ddw a b 9 (by norm_num) i j)

theorem t_pay91 : k0_pay91 (F := Ideal) (up3 (l := 1) (n := 256) (m := 512) (cp (bk (b + 20) a.dcv))) = up2 (n := 256) (m := 512) (bk (b + 20) a.dcv) := by
  simp (config := {implicitDefEqProofs := false, proj := false}) only [k0_pay91, cast_self, cast_1_row, cast_1_col, cast_drop, cast_add, ne_eq, OfNat.ofNat_ne_zero, not_false_eq_true, implies_true, Nat.zero_add, zero_add]
  rfl

theorem t_pay92 (S : ℕ → ℕ → ℝ) : k0_pay92 (F := Ideal) (up2 (n := 256) (m := 512) (bk b a.glu)) (up3 (l := 1) (n := 256) (m := 512) (cp (bk (b + 20) a.dcv))) (up2 (n := 1) (m := 512) (bk 10 S)) = up2 (n := 1) (m := 512) (bk 10 (acc2 a.ddwf b S)) := by
  simp (config := {implicitDefEqProofs := false, proj := false}) only [k0_pay92, k0_pay91, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 10 j + ·) (Finset.sum_congr rfl fun i _ => ddw_term a b 10 (by norm_num) i j)
  | exact congrArg (S 10 j + ·) (Finset.sum_congr rfl fun i _ => dgm_ddw a b 10 (by norm_num) i j)

theorem t_pay93 : k0_pay93 (F := Ideal) (up3 (l := 1) (n := 256) (m := 512) (cp (bk (b + 19) a.dcv))) = up2 (n := 256) (m := 512) (bk (b + 19) a.dcv) := by
  simp (config := {implicitDefEqProofs := false, proj := false}) only [k0_pay93, cast_self, cast_1_row, cast_1_col, cast_drop, cast_add, ne_eq, OfNat.ofNat_ne_zero, not_false_eq_true, implies_true, Nat.zero_add, zero_add]
  rfl

theorem t_pay94 : k0_pay94 (F := Ideal) (up2 (n := 256) (m := 512) (bk b (a.dgp 9))) (up3 (l := 1) (n := 256) (m := 512) (cp (bk (b + 21) a.dcv))) (up2 (n := 1) (m := 512) (bk 9 a.dwwp)) (up3 (l := 1) (n := 256) (m := 512) (cp (bk (b + 20) a.dcv))) (up2 (n := 1) (m := 512) (bk 10 a.dwwp)) (up3 (l := 1) (n := 256) (m := 512) (cp (bk (b + 19) a.dcv))) (up2 (n := 1) (m := 512) (bk 11 a.dwwp)) = up2 (n := 256) (m := 512) (bk b (a.dgp 12)) := by
  simp (config := {implicitDefEqProofs := false, proj := false}) only [k0_pay94, k0_pay89, k0_pay91, k0_pay93, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 12 (b + r) j
  rw [a.dgp_s (K := 11) rfl, a.dgp_s (K := 10) rfl, a.dgp_s (K := 9) rfl]
  simp only [← dg1_term]
  rfl

theorem t_pay95 (S : ℕ → ℕ → ℝ) : k0_pay95 (F := Ideal) (up2 (n := 256) (m := 512) (bk b a.glu)) (up2 (n := 256) (m := 512) (bk (b + 19) a.dcv)) (up2 (n := 1) (m := 512) (bk 11 S)) = up2 (n := 1) (m := 512) (bk 11 (acc2 a.ddwf b S)) := by
  simp (config := {implicitDefEqProofs := false, proj := false}) only [k0_pay95, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 11 j + ·) (Finset.sum_congr rfl fun i _ => ddw_term a b 11 (by norm_num) i j)
  | exact congrArg (S 11 j + ·) (Finset.sum_congr rfl fun i _ => dgm_ddw a b 11 (by norm_num) i j)

theorem t_pay96 : k0_pay96 (F := Ideal) (up3 (l := 1) (n := 256) (m := 512) (cp (bk (b + 18) a.dcv))) = up2 (n := 256) (m := 512) (bk (b + 18) a.dcv) := by
  simp (config := {implicitDefEqProofs := false, proj := false}) only [k0_pay96, cast_self, cast_1_row, cast_1_col, cast_drop, cast_add, ne_eq, OfNat.ofNat_ne_zero, not_false_eq_true, implies_true, Nat.zero_add, zero_add]
  rfl

theorem t_pay97 (S : ℕ → ℕ → ℝ) : k0_pay97 (F := Ideal) (up2 (n := 256) (m := 512) (bk b a.glu)) (up3 (l := 1) (n := 256) (m := 512) (cp (bk (b + 18) a.dcv))) (up2 (n := 1) (m := 512) (bk 12 S)) = up2 (n := 1) (m := 512) (bk 12 (acc2 a.ddwf b S)) := by
  simp (config := {implicitDefEqProofs := false, proj := false}) only [k0_pay97, k0_pay96, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 12 j + ·) (Finset.sum_congr rfl fun i _ => ddw_term a b 12 (by norm_num) i j)
  | exact congrArg (S 12 j + ·) (Finset.sum_congr rfl fun i _ => dgm_ddw a b 12 (by norm_num) i j)

theorem t_pay98 : k0_pay98 (F := Ideal) (up3 (l := 1) (n := 256) (m := 512) (cp (bk (b + 17) a.dcv))) = up2 (n := 256) (m := 512) (bk (b + 17) a.dcv) := by
  simp (config := {implicitDefEqProofs := false, proj := false}) only [k0_pay98, cast_self, cast_1_row, cast_1_col, cast_drop, cast_add, ne_eq, OfNat.ofNat_ne_zero, not_false_eq_true, implies_true, Nat.zero_add, zero_add]
  rfl

theorem t_pay99 : k0_pay99 (F := Ideal) (up2 (n := 256) (m := 512) (bk b (a.dgp 12))) (up3 (l := 1) (n := 256) (m := 512) (cp (bk (b + 18) a.dcv))) (up2 (n := 1) (m := 512) (bk 12 a.dwwp)) (up3 (l := 1) (n := 256) (m := 512) (cp (bk (b + 17) a.dcv))) (up2 (n := 1) (m := 512) (bk 13 a.dwwp)) = up2 (n := 256) (m := 512) (bk b (a.dgp 14)) := by
  simp (config := {implicitDefEqProofs := false, proj := false}) only [k0_pay99, k0_pay96, k0_pay98, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 14 (b + r) j
  rw [a.dgp_s (K := 13) rfl, a.dgp_s (K := 12) rfl]
  simp only [← dg1_term]
  rfl

theorem t_pay100 (S : ℕ → ℕ → ℝ) : k0_pay100 (F := Ideal) (up2 (n := 256) (m := 512) (bk b a.glu)) (up3 (l := 1) (n := 256) (m := 512) (cp (bk (b + 17) a.dcv))) (up2 (n := 1) (m := 512) (bk 13 S)) = up2 (n := 1) (m := 512) (bk 13 (acc2 a.ddwf b S)) := by
  simp (config := {implicitDefEqProofs := false, proj := false}) only [k0_pay100, k0_pay98, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 13 j + ·) (Finset.sum_congr rfl fun i _ => ddw_term a b 13 (by norm_num) i j)
  | exact congrArg (S 13 j + ·) (Finset.sum_congr rfl fun i _ => dgm_ddw a b 13 (by norm_num) i j)

theorem t_pay101 (S : ℕ → ℕ → ℝ) : k0_pay101 (F := Ideal) (up2 (n := 256) (m := 512) (bk b a.glu)) (up2 (n := 256) (m := 512) (bk (b + 16) a.dcv)) (up2 (n := 1) (m := 512) (bk 14 S)) = up2 (n := 1) (m := 512) (bk 14 (acc2 a.ddwf b S)) := by
  simp (config := {implicitDefEqProofs := false, proj := false}) only [k0_pay101, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 14 j + ·) (Finset.sum_congr rfl fun i _ => ddw_term a b 14 (by norm_num) i j)
  | exact congrArg (S 14 j + ·) (Finset.sum_congr rfl fun i _ => dgm_ddw a b 14 (by norm_num) i j)

theorem t_pay102 : k0_pay102 (F := Ideal) (up3 (l := 1) (n := 256) (m := 512) (cp (bk (b + 15) a.dcv))) = up2 (n := 256) (m := 512) (bk (b + 15) a.dcv) := by
  simp (config := {implicitDefEqProofs := false, proj := false}) only [k0_pay102, cast_self, cast_1_row, cast_1_col, cast_drop, cast_add, ne_eq, OfNat.ofNat_ne_zero, not_false_eq_true, implies_true, Nat.zero_add, zero_add]
  rfl

theorem t_pay103 : k0_pay103 (F := Ideal) (up2 (n := 256) (m := 512) (bk b (a.dgp 14))) (up2 (n := 256) (m := 512) (bk (b + 16) a.dcv)) (up2 (n := 1) (m := 512) (bk 14 a.dwwp)) (up3 (l := 1) (n := 256) (m := 512) (cp (bk (b + 15) a.dcv))) (up2 (n := 1) (m := 512) (bk 15 a.dwwp)) = up2 (n := 256) (m := 512) (bk b (a.dgp 16)) := by
  simp (config := {implicitDefEqProofs := false, proj := false}) only [k0_pay103, k0_pay102, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 16 (b + r) j
  rw [a.dgp_s (K := 15) rfl, a.dgp_s (K := 14) rfl]
  simp only [← dg1_term]
  rfl

theorem t_pay104 (S : ℕ → ℕ → ℝ) : k0_pay104 (F := Ideal) (up2 (n := 256) (m := 512) (bk b a.glu)) (up3 (l := 1) (n := 256) (m := 512) (cp (bk (b + 15) a.dcv))) (up2 (n := 1) (m := 512) (bk 15 S)) = up2 (n := 1) (m := 512) (bk 15 (acc2 a.ddwf b S)) := by
  simp (config := {implicitDefEqProofs := false, proj := false}) only [k0_pay104, k0_pay102, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 15 j + ·) (Finset.sum_congr rfl fun i _ => ddw_term a b 15 (by norm_num) i j)
  | exact congrArg (S 15 j + ·) (Finset.sum_congr rfl fun i _ => dgm_ddw a b 15 (by norm_num) i j)

theorem t_pay105 : k0_pay105 (F := Ideal) (up3 (l := 1) (n := 256) (m := 512) (cp (bk (b + 14) a.dcv))) = up2 (n := 256) (m := 512) (bk (b + 14) a.dcv) := by
  simp (config := {implicitDefEqProofs := false, proj := false}) only [k0_pay105, cast_self, cast_1_row, cast_1_col, cast_drop, cast_add, ne_eq, OfNat.ofNat_ne_zero, not_false_eq_true, implies_true, Nat.zero_add, zero_add]
  rfl

theorem t_pay106 : k0_pay106 (F := Ideal) (up2 (n := 1) (m := 512) (bk 16 a.dwwp)) = up2 (n := 1) (m := 512) (bk 16 a.dwwp) := by
  simp (config := {implicitDefEqProofs := false, proj := false}) only [k0_pay106, cast_self, cast_1_row, cast_1_col, cast_drop, cast_add, ne_eq, OfNat.ofNat_ne_zero, not_false_eq_true, implies_true, Nat.zero_add, zero_add]

theorem t_pay107 (S : ℕ → ℕ → ℝ) : k0_pay107 (F := Ideal) (up2 (n := 256) (m := 512) (bk b a.glu)) (up2 (n := 256) (m := 512) (bk (b + 14) a.dcv)) (up2 (n := 1) (m := 512) (bk 16 S)) = up2 (n := 1) (m := 512) (bk 16 (acc2 a.ddwf b S)) := by
  simp (config := {implicitDefEqProofs := false, proj := false}) only [k0_pay107, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 16 j + ·) (Finset.sum_congr rfl fun i _ => ddw_term a b 16 (by norm_num) i j)
  | exact congrArg (S 16 j + ·) (Finset.sum_congr rfl fun i _ => dgm_ddw a b 16 (by norm_num) i j)

theorem t_pay108 : k0_pay108 (F := Ideal) (up3 (l := 1) (n := 256) (m := 512) (cp (bk (b + 13) a.dcv))) = up2 (n := 256) (m := 512) (bk (b + 13) a.dcv) := by
  simp (config := {implicitDefEqProofs := false, proj := false}) only [k0_pay108, cast_self, cast_1_row, cast_1_col, cast_drop, cast_add, ne_eq, OfNat.ofNat_ne_zero, not_false_eq_true, implies_true, Nat.zero_add, zero_add]
  rfl

theorem t_pay109 (S : ℕ → ℕ → ℝ) : k0_pay109 (F := Ideal) (up2 (n := 256) (m := 512) (bk b a.glu)) (up3 (l := 1) (n := 256) (m := 512) (cp (bk (b + 13) a.dcv))) (up2 (n := 1) (m := 512) (bk 17 S)) = up2 (n := 1) (m := 512) (bk 17 (acc2 a.ddwf b S)) := by
  simp (config := {implicitDefEqProofs := false, proj := false}) only [k0_pay109, k0_pay108, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 17 j + ·) (Finset.sum_congr rfl fun i _ => ddw_term a b 17 (by norm_num) i j)
  | exact congrArg (S 17 j + ·) (Finset.sum_congr rfl fun i _ => dgm_ddw a b 17 (by norm_num) i j)

theorem t_pay110 : k0_pay110 (F := Ideal) (up3 (l := 1) (n := 256) (m := 512) (cp (bk (b + 12) a.dcv))) = up2 (n := 256) (m := 512) (bk (b + 12) a.dcv) := by
  simp (config := {implicitDefEqProofs := false, proj := false}) only [k0_pay110, cast_self, cast_1_row, cast_1_col, cast_drop, cast_add, ne_eq, OfNat.ofNat_ne_zero, not_false_eq_true, implies_true, Nat.zero_add, zero_add]
  rfl

theorem t_pay111 : k0_pay111 (F := Ideal) (up2 (n := 256) (m := 512) (bk b (a.dgp 16))) (up2 (n := 256) (m := 512) (bk (b + 14) a.dcv)) (up2 (n := 1) (m := 512) (bk 16 a.dwwp)) (up3 (l := 1) (n := 256) (m := 512) (cp (bk (b + 13) a.dcv))) (up2 (n := 1) (m := 512) (bk 17 a.dwwp)) (up3 (l := 1) (n := 256) (m := 512) (cp (bk (b + 12) a.dcv))) (up2 (n := 1) (m := 512) (bk 18 a.dwwp)) = up2 (n := 256) (m := 512) (bk b (a.dgp 19)) := by
  simp (config := {implicitDefEqProofs := false, proj := false}) only [k0_pay111, k0_pay108, k0_pay110, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 19 (b + r) j
  rw [a.dgp_s (K := 18) rfl, a.dgp_s (K := 17) rfl, a.dgp_s (K := 16) rfl]
  simp only [← dg1_term]
  rfl

theorem t_pay112 (S : ℕ → ℕ → ℝ) : k0_pay112 (F := Ideal) (up2 (n := 1) (m := 512) (bk 18 S)) = up2 (n := 1) (m := 512) (bk 18 S) := by
  simp (config := {implicitDefEqProofs := false, proj := false}) only [k0_pay112, cast_self, cast_1_row, cast_1_col, cast_drop, cast_add, ne_eq, OfNat.ofNat_ne_zero, not_false_eq_true, implies_true, Nat.zero_add, zero_add]

theorem t_pay113 : k0_pay113 (F := Ideal) (up2 (n := 256) (m := 512) (bk b a.glu)) (up3 (l := 1) (n := 256) (m := 512) (cp (bk (b + 12) a.dcv))) = up1 (n := 512) (a.ddr b 18 0) := by
  simp (config := {implicitDefEqProofs := false, proj := false}) only [k0_pay113, k0_pay110, mulf_up2, cast_self, cast_1_row, cast_1_col, cast_drop, cast_add, sum_rows_k, sum_cols_k, ne_eq, OfNat.ofNat_ne_zero, not_false_eq_true, implies_true, Nat.zero_add, zero_add]
  exact up1_congr fun j hj => Finset.sum_congr rfl fun i _ => dgm_term a b 18 i j

theorem t_pay114 (S : ℕ → ℕ → ℝ) : k0_pay114 (F := Ideal) (up2 (n := 1) (m := 512) (bk 18 S)) (up1 (n := 512) (a.ddr b 18 0)) = up2 (n := 1) (m := 512) (bk 18 (acc2 a.ddwf b S)) := by
  simp (config := {implicitDefEqProofs := false, proj := false}) only [k0_pay114, addf_up2, cast_self, cast_1_row, cast_1_col, cast_drop, cast_add, ne_eq, OfNat.ofNat_ne_zero, not_false_eq_true, implies_true, Nat.zero_add, zero_add]
  refine up2_congr fun r hr j hj => ?_
  obtain rfl : r = 0 := by omega
  first
  | exact congrArg (S 18 j + ·) (Finset.sum_congr rfl fun i _ => ddw_term a b 18 (by norm_num) i j)
  | exact congrArg (S 18 j + ·) (Finset.sum_congr rfl fun i _ => dgm_ddw a b 18 (by norm_num) i j)

theorem t_pay115 : k0_pay115 (F := Ideal) (up3 (l := 1) (n := 256) (m := 512) (cp (bk (b + 11) a.dcv))) = up2 (n := 256) (m := 512) (bk (b + 11) a.dcv) := by
  simp (config := {implicitDefEqProofs := false, proj := false}) only [k0_pay115, cast_self, cast_1_row, cast_1_col, cast_drop, cast_add, ne_eq, OfNat.ofNat_ne_zero, not_false_eq_true, implies_true, Nat.zero_add, zero_add]
  rfl

theorem t_pay116 (S : ℕ → ℕ → ℝ) : k0_pay116 (F := Ideal) (up2 (n := 256) (m := 512) (bk b a.glu)) (up3 (l := 1) (n := 256) (m := 512) (cp (bk (b + 11) a.dcv))) (up2 (n := 1) (m := 512) (bk 19 S)) = up2 (n := 1) (m := 512) (bk 19 (acc2 a.ddwf b S)) := by
  simp (config := {implicitDefEqProofs := false, proj := false}) only [k0_pay116, k0_pay115, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 19 j + ·) (Finset.sum_congr rfl fun i _ => ddw_term a b 19 (by norm_num) i j)
  | exact congrArg (S 19 j + ·) (Finset.sum_congr rfl fun i _ => dgm_ddw a b 19 (by norm_num) i j)

theorem t_pay117 : k0_pay117 (F := Ideal) (up3 (l := 1) (n := 256) (m := 512) (cp (bk (b + 10) a.dcv))) = up2 (n := 256) (m := 512) (bk (b + 10) a.dcv) := by
  simp (config := {implicitDefEqProofs := false, proj := false}) only [k0_pay117, cast_self, cast_1_row, cast_1_col, cast_drop, cast_add, ne_eq, OfNat.ofNat_ne_zero, not_false_eq_true, implies_true, Nat.zero_add, zero_add]
  rfl

theorem t_pay118 : k0_pay118 (F := Ideal) (up2 (n := 256) (m := 512) (bk b (a.dgp 19))) (up3 (l := 1) (n := 256) (m := 512) (cp (bk (b + 11) a.dcv))) (up2 (n := 1) (m := 512) (bk 19 a.dwwp)) (up3 (l := 1) (n := 256) (m := 512) (cp (bk (b + 10) a.dcv))) (up2 (n := 1) (m := 512) (bk 20 a.dwwp)) = up2 (n := 256) (m := 512) (bk b (a.dgp 21)) := by
  simp (config := {implicitDefEqProofs := false, proj := false}) only [k0_pay118, k0_pay115, k0_pay117, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 21 (b + r) j
  rw [a.dgp_s (K := 20) rfl, a.dgp_s (K := 19) rfl]
  simp only [← dg1_term]
  rfl

theorem t_pay119 (S : ℕ → ℕ → ℝ) : k0_pay119 (F := Ideal) (up2 (n := 256) (m := 512) (bk b a.glu)) (up3 (l := 1) (n := 256) (m := 512) (cp (bk (b + 10) a.dcv))) (up2 (n := 1) (m := 512) (bk 20 S)) = up2 (n := 1) (m := 512) (bk 20 (acc2 a.ddwf b S)) := by
  simp (config := {implicitDefEqProofs := false, proj := false}) only [k0_pay119, k0_pay117, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 20 j + ·) (Finset.sum_congr rfl fun i _ => ddw_term a b 20 (by norm_num) i j)
  | exact congrArg (S 20 j + ·) (Finset.sum_congr rfl fun i _ => dgm_ddw a b 20 (by norm_num) i j)

theorem t_pay120 : k0_pay120 (F := Ideal) (up3 (l := 1) (n := 256) (m := 512) (cp (bk (b + 9) a.dcv))) = up2 (n := 256) (m := 512) (bk (b + 9) a.dcv) := by
  simp (config := {implicitDefEqProofs := false, proj := false}) only [k0_pay120, cast_self, cast_1_row, cast_1_col, cast_drop, cast_add, ne_eq, OfNat.ofNat_ne_zero, not_false_eq_true, implies_true, Nat.zero_add, zero_add]
  rfl

theorem t_pay121 (S : ℕ → ℕ → ℝ) : k0_pay121 (F := Ideal) (up2 (n := 256) (m := 512) (bk b a.glu)) (up3 (l := 1) (n := 256) (m := 512) (cp (bk (b + 9) a.dcv))) (up2 (n := 1) (m := 512) (bk 21 S)) = up2 (n := 1) (m := 512) (bk 21 (acc2 a.ddwf b S)) := by
  simp (config := {implicitDefEqProofs := false, proj := false}) only [k0_pay121, k0_pay120, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 21 j + ·) (Finset.sum_congr rfl fun i _ => ddw_term a b 21 (by norm_num) i j)
  | exact congrArg (S 21 j + ·) (Finset.sum_congr rfl fun i _ => dgm_ddw a b 21 (by norm_num) i j)

theorem t_pay122 (S : ℕ → ℕ → ℝ) : k0_pay122 (F := Ideal) (up2 (n := 256) (m := 512) (bk b a.glu)) (up2 (n := 256) (m := 512) (bk (b + 8) a.dcv)) (up2 (n := 1) (m := 512) (bk 22 S)) = up2 (n := 1) (m := 512) (bk 22 (acc2 a.ddwf b S)) := by
  simp (config := {implicitDefEqProofs := false, proj := false}) only [k0_pay122, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 22 j + ·) (Finset.sum_congr rfl fun i _ => ddw_term a b 22 (by norm_num) i j)
  | exact congrArg (S 22 j + ·) (Finset.sum_congr rfl fun i _ => dgm_ddw a b 22 (by norm_num) i j)

theorem t_pay123 : k0_pay123 (F := Ideal) (up3 (l := 1) (n := 256) (m := 512) (cp (bk (b + 7) a.dcv))) = up2 (n := 256) (m := 512) (bk (b + 7) a.dcv) := by
  simp (config := {implicitDefEqProofs := false, proj := false}) only [k0_pay123, cast_self, cast_1_row, cast_1_col, cast_drop, cast_add, ne_eq, OfNat.ofNat_ne_zero, not_false_eq_true, implies_true, Nat.zero_add, zero_add]
  rfl

theorem t_pay124 : k0_pay124 (F := Ideal) (up2 (n := 256) (m := 512) (bk b (a.dgp 21))) (up3 (l := 1) (n := 256) (m := 512) (cp (bk (b + 9) a.dcv))) (up2 (n := 1) (m := 512) (bk 21 a.dwwp)) (up2 (n := 256) (m := 512) (bk (b + 8) a.dcv)) (up2 (n := 1) (m := 512) (bk 22 a.dwwp)) (up3 (l := 1) (n := 256) (m := 512) (cp (bk (b + 7) a.dcv))) (up2 (n := 1) (m := 512) (bk 23 a.dwwp)) = up2 (n := 256) (m := 512) (bk b (a.dgp 24)) := by
  simp (config := {implicitDefEqProofs := false, proj := false}) only [k0_pay124, k0_pay120, k0_pay123, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 24 (b + r) j
  rw [a.dgp_s (K := 23) rfl, a.dgp_s (K := 22) rfl, a.dgp_s (K := 21) rfl]
  simp only [← dg1_term]
  rfl

theorem t_pay125 (S : ℕ → ℕ → ℝ) : k0_pay125 (F := Ideal) (up2 (n := 1) (m := 512) (bk 23 S)) = up2 (n := 1) (m := 512) (bk 23 S) := by
  simp (config := {implicitDefEqProofs := false, proj := false}) only [k0_pay125, cast_self, cast_1_row, cast_1_col, cast_drop, cast_add, ne_eq, OfNat.ofNat_ne_zero, not_false_eq_true, implies_true, Nat.zero_add, zero_add]

theorem t_pay126 (S : ℕ → ℕ → ℝ) : k0_pay126 (F := Ideal) (up2 (n := 256) (m := 512) (bk b a.glu)) (up2 (n := 256) (m := 512) (bk (b + 7) a.dcv)) (up2 (n := 1) (m := 512) (bk 23 S)) = up2 (n := 1) (m := 512) (bk 23 (acc2 a.ddwf b S)) := by
  simp (config := {implicitDefEqProofs := false, proj := false}) only [k0_pay126, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 23 j + ·) (Finset.sum_congr rfl fun i _ => ddw_term a b 23 (by norm_num) i j)
  | exact congrArg (S 23 j + ·) (Finset.sum_congr rfl fun i _ => dgm_ddw a b 23 (by norm_num) i j)

theorem t_pay127 : k0_pay127 (F := Ideal) (up3 (l := 1) (n := 256) (m := 512) (cp (bk (b + 6) a.dcv))) = up2 (n := 256) (m := 512) (bk (b + 6) a.dcv) := by
  simp (config := {implicitDefEqProofs := false, proj := false}) only [k0_pay127, cast_self, cast_1_row, cast_1_col, cast_drop, cast_add, ne_eq, OfNat.ofNat_ne_zero, not_false_eq_true, implies_true, Nat.zero_add, zero_add]
  rfl

theorem t_pay128 (S : ℕ → ℕ → ℝ) : k0_pay128 (F := Ideal) (up2 (n := 256) (m := 512) (bk b a.glu)) (up3 (l := 1) (n := 256) (m := 512) (cp (bk (b + 6) a.dcv))) (up2 (n := 1) (m := 512) (bk 24 S)) = up2 (n := 1) (m := 512) (bk 24 (acc2 a.ddwf b S)) := by
  simp (config := {implicitDefEqProofs := false, proj := false}) only [k0_pay128, k0_pay127, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 24 j + ·) (Finset.sum_congr rfl fun i _ => ddw_term a b 24 (by norm_num) i j)
  | exact congrArg (S 24 j + ·) (Finset.sum_congr rfl fun i _ => dgm_ddw a b 24 (by norm_num) i j)

theorem t_pay129 : k0_pay129 (F := Ideal) (up3 (l := 1) (n := 256) (m := 512) (cp (bk (b + 5) a.dcv))) = up2 (n := 256) (m := 512) (bk (b + 5) a.dcv) := by
  simp (config := {implicitDefEqProofs := false, proj := false}) only [k0_pay129, cast_self, cast_1_row, cast_1_col, cast_drop, cast_add, ne_eq, OfNat.ofNat_ne_zero, not_false_eq_true, implies_true, Nat.zero_add, zero_add]
  rfl

theorem t_pay130 : k0_pay130 (F := Ideal) (up2 (n := 256) (m := 512) (bk b (a.dgp 24))) (up3 (l := 1) (n := 256) (m := 512) (cp (bk (b + 6) a.dcv))) (up2 (n := 1) (m := 512) (bk 24 a.dwwp)) (up3 (l := 1) (n := 256) (m := 512) (cp (bk (b + 5) a.dcv))) (up2 (n := 1) (m := 512) (bk 25 a.dwwp)) = up2 (n := 256) (m := 512) (bk b (a.dgp 26)) := by
  simp (config := {implicitDefEqProofs := false, proj := false}) only [k0_pay130, k0_pay127, k0_pay129, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 26 (b + r) j
  rw [a.dgp_s (K := 25) rfl, a.dgp_s (K := 24) rfl]
  simp only [← dg1_term]
  rfl

theorem t_pay131 (S : ℕ → ℕ → ℝ) : k0_pay131 (F := Ideal) (up2 (n := 256) (m := 512) (bk b a.glu)) (up3 (l := 1) (n := 256) (m := 512) (cp (bk (b + 5) a.dcv))) (up2 (n := 1) (m := 512) (bk 25 S)) = up2 (n := 1) (m := 512) (bk 25 (acc2 a.ddwf b S)) := by
  simp (config := {implicitDefEqProofs := false, proj := false}) only [k0_pay131, k0_pay129, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 25 j + ·) (Finset.sum_congr rfl fun i _ => ddw_term a b 25 (by norm_num) i j)
  | exact congrArg (S 25 j + ·) (Finset.sum_congr rfl fun i _ => dgm_ddw a b 25 (by norm_num) i j)

theorem t_pay132 : k0_pay132 (F := Ideal) (up3 (l := 1) (n := 256) (m := 512) (cp (bk (b + 4) a.dcv))) = up2 (n := 256) (m := 512) (bk (b + 4) a.dcv) := by
  simp (config := {implicitDefEqProofs := false, proj := false}) only [k0_pay132, cast_self, cast_1_row, cast_1_col, cast_drop, cast_add, ne_eq, OfNat.ofNat_ne_zero, not_false_eq_true, implies_true, Nat.zero_add, zero_add]
  rfl

theorem t_pay133 (S : ℕ → ℕ → ℝ) : k0_pay133 (F := Ideal) (up2 (n := 256) (m := 512) (bk b a.glu)) (up3 (l := 1) (n := 256) (m := 512) (cp (bk (b + 4) a.dcv))) (up2 (n := 1) (m := 512) (bk 26 S)) = up2 (n := 1) (m := 512) (bk 26 (acc2 a.ddwf b S)) := by
  simp (config := {implicitDefEqProofs := false, proj := false}) only [k0_pay133, k0_pay132, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 26 j + ·) (Finset.sum_congr rfl fun i _ => ddw_term a b 26 (by norm_num) i j)
  | exact congrArg (S 26 j + ·) (Finset.sum_congr rfl fun i _ => dgm_ddw a b 26 (by norm_num) i j)

theorem t_pay134 : k0_pay134 (F := Ideal) (up3 (l := 1) (n := 256) (m := 512) (cp (bk (b + 3) a.dcv))) = up2 (n := 256) (m := 512) (bk (b + 3) a.dcv) := by
  simp (config := {implicitDefEqProofs := false, proj := false}) only [k0_pay134, cast_self, cast_1_row, cast_1_col, cast_drop, cast_add, ne_eq, OfNat.ofNat_ne_zero, not_false_eq_true, implies_true, Nat.zero_add, zero_add]
  rfl

theorem t_pay135 : k0_pay135 (F := Ideal) (up2 (n := 256) (m := 512) (bk b (a.dgp 26))) (up3 (l := 1) (n := 256) (m := 512) (cp (bk (b + 4) a.dcv))) (up2 (n := 1) (m := 512) (bk 26 a.dwwp)) (up3 (l := 1) (n := 256) (m := 512) (cp (bk (b + 3) a.dcv))) (up2 (n := 1) (m := 512) (bk 27 a.dwwp)) = up2 (n := 256) (m := 512) (bk b (a.dgp 28)) := by
  simp (config := {implicitDefEqProofs := false, proj := false}) only [k0_pay135, k0_pay132, k0_pay134, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dgp 28 (b + r) j
  rw [a.dgp_s (K := 27) rfl, a.dgp_s (K := 26) rfl]
  simp only [← dg1_term]
  rfl

theorem t_pay136 (S : ℕ → ℕ → ℝ) : k0_pay136 (F := Ideal) (up2 (n := 256) (m := 512) (bk b a.glu)) (up3 (l := 1) (n := 256) (m := 512) (cp (bk (b + 3) a.dcv))) (up2 (n := 1) (m := 512) (bk 27 S)) = up2 (n := 1) (m := 512) (bk 27 (acc2 a.ddwf b S)) := by
  simp (config := {implicitDefEqProofs := false, proj := false}) only [k0_pay136, k0_pay134, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 27 j + ·) (Finset.sum_congr rfl fun i _ => ddw_term a b 27 (by norm_num) i j)
  | exact congrArg (S 27 j + ·) (Finset.sum_congr rfl fun i _ => dgm_ddw a b 27 (by norm_num) i j)

theorem t_pay137 : k0_pay137 (F := Ideal) (up3 (l := 1) (n := 256) (m := 512) (cp (bk (b + 2) a.dcv))) = up2 (n := 256) (m := 512) (bk (b + 2) a.dcv) := by
  simp (config := {implicitDefEqProofs := false, proj := false}) only [k0_pay137, cast_self, cast_1_row, cast_1_col, cast_drop, cast_add, ne_eq, OfNat.ofNat_ne_zero, not_false_eq_true, implies_true, Nat.zero_add, zero_add]
  rfl

theorem t_pay138 : k0_pay138 (F := Ideal) (up3 (l := 1) (n := 256) (m := 512) (cp (bk (b + 2) a.dcv))) (up2 (n := 1) (m := 512) (bk 28 a.dwwp)) = up2 (n := 256) (m := 512) (bk b (a.dg1 28)) := by
  simp (config := {implicitDefEqProofs := false, proj := false}) only [k0_pay138, k0_pay137, mulf_up2, bcast_row_up2, bcast_col_up2, cast_self, cast_1_row, cast_1_col, cast_drop, cast_add, ne_eq, OfNat.ofNat_ne_zero, not_false_eq_true, implies_true, Nat.zero_add, zero_add]
  exact up2_congr fun r hr j hj => dg1_term a b 28 r j

theorem t_pay139 (S : ℕ → ℕ → ℝ) : k0_pay139 (F := Ideal) (up2 (n := 256) (m := 512) (bk b a.glu)) (up2 (n := 256) (m := 512) (bk (b + 2) a.dcv)) (up2 (n := 1) (m := 512) (bk 28 S)) = up2 (n := 1) (m := 512) (bk 28 (acc2 a.ddwf b S)) := by
  simp (config := {implicitDefEqProofs := false, proj := false}) only [k0_pay139, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 28 j + ·) (Finset.sum_congr rfl fun i _ => ddw_term a b 28 (by norm_num) i j)
  | exact congrArg (S 28 j + ·) (Finset.sum_congr rfl fun i _ => dgm_ddw a b 28 (by norm_num) i j)

theorem t_pay140 : k0_pay140 (F := Ideal) (up3 (l := 1) (n := 256) (m := 512) (cp (bk (b + 1) a.dcv))) = up2 (n := 256) (m := 512) (bk (b + 1) a.dcv) := by
  simp (config := {implicitDefEqProofs := false, proj := false}) only [k0_pay140, cast_self, cast_1_row, cast_1_col, cast_drop, cast_add, ne_eq, OfNat.ofNat_ne_zero, not_false_eq_true, implies_true, Nat.zero_add, zero_add]
  rfl

theorem t_pay141 (S : ℕ → ℕ → ℝ) : k0_pay141 (F := Ideal) (up2 (n := 256) (m := 512) (bk b a.glu)) (up3 (l := 1) (n := 256) (m := 512) (cp (bk (b + 1) a.dcv))) (up2 (n := 1) (m := 512) (bk 29 S)) = up2 (n := 1) (m := 512) (bk 29 (acc2 a.ddwf b S)) := by
  simp (config := {implicitDefEqProofs := false, proj := false}) only [k0_pay141, k0_pay140, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 29 j + ·) (Finset.sum_congr rfl fun i _ => ddw_term a b 29 (by norm_num) i j)
  | exact congrArg (S 29 j + ·) (Finset.sum_congr rfl fun i _ => dgm_ddw a b 29 (by norm_num) i j)

theorem t_pay142 : k0_pay142 (F := Ideal) (up2 (n := 256) (m := 512) (bk b (a.dgp 28))) (up2 (n := 256) (m := 512) (bk b (a.dg1 28))) (up3 (l := 1) (n := 256) (m := 512) (cp (bk (b + 1) a.dcv))) (up2 (n := 1) (m := 512) (bk 29 a.dwwp)) (up2 (n := 256) (m := 512) (bk b a.dcv)) (up2 (n := 1) (m := 512) (bk 30 a.dwwp)) = up2 (n := 256) (m := 512) (bk b a.dglu) := by
  simp (config := {implicitDefEqProofs := false, proj := false}) only [k0_pay142, k0_pay140, addf_up2, mulf_up2, bcast_row_up2, bcast_col_up2, cast_self, cast_1_row, cast_1_col, cast_drop, cast_add, ne_eq, OfNat.ofNat_ne_zero, not_false_eq_true, implies_true, Nat.zero_add, zero_add]
  refine up2_congr fun r hr j hj => ?_
  show _ = a.dglu (b + r) j
  rw [← Arr.dgp_31]
  rw [a.dgp_s (K := 30) rfl, a.dgp_s (K := 29) rfl, a.dgp_s (K := 28) rfl]
  simp only [bk, cp, Arr.dg1, Nat.add_zero, Nat.reduceSub, Nat.add_right_comm b _ r]

theorem t_pay143 (S : ℕ → ℕ → ℝ) : k0_pay143 (F := Ideal) (up2 (n := 256) (m := 512) (bk b a.glu)) (up2 (n := 256) (m := 512) (bk b a.dcv)) (up2 (n := 1) (m := 512) (bk 30 S)) = up2 (n := 1) (m := 512) (bk 30 (acc2 a.ddwf b S)) := by
  simp (config := {implicitDefEqProofs := false, proj := false}) only [k0_pay143, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  first
  | exact congrArg (S 30 j + ·) (Finset.sum_congr rfl fun i _ => ddw_term a b 30 (by norm_num) i j)
  | exact congrArg (S 30 j + ·) (Finset.sum_congr rfl fun i _ => dgm_ddw a b 30 (by norm_num) i j)

end Cert.Proof
-- ==== Proof.TileC.lean ====
/-
  TILES: the input product's gradient and the first normalisation's.
-/
module

public import proofs.«01_k».proof.Proof.TileA

@[expose] public section

set_option maxRecDepth 16384

noncomputable section

open Idealize.ShloMosaic Idealize.ShloMosaic.TcCoe Cert.KernelIdeal Cert.KernelIdeal.Gen
open scoped BigOperators

namespace Cert.Proof

variable (a : Arr) (b : ℕ)

theorem t_pay145 : k0_pay145 (F := Ideal) (up2 (n := 256) (m := 512) (bk b a.dv)) (up2 (n := 256) (m := 512) (bk b a.u)) (up2 (n := 256) (m := 512) (bk b a.sgg)) (up2 (n := 256) (m := 512) (bk b a.dglu)) = up2 (n := 256) (m := 1536) (bk b a.du) := by
  simp (config := {implicitDefEqProofs := false, proj := false}) only [k0_pay145, subf_up2, mulf_up2, truncf_up2, cat1_3, cat1_4, splat_one_up2, ne_eq, OfNat.ofNat_ne_zero, not_false_eq_true, implies_true, Nat.zero_add, zero_add]
  rw [mulf_up2, mulf_up2, splat_one_up2, subf_up2, mulf_up2, mulf_up2, cat1_3, truncf_up2]
  refine up2_congr fun r hr j hj => ?_
  simp only [bk, Arr.du, Arr.da, Arr.dg, Nat.reduceAdd]

theorem t_pay146 : k0_pay146 (F := Ideal) (up2 (n := 256) (m := 512) (bk b a.dv)) (up2 (n := 256) (m := 512) (bk b a.u)) (up2 (n := 256) (m := 512) (bk b a.sgg)) (up2 (n := 256) (m := 512) (bk b a.dglu)) (up3 (l := 1) (n := 1024) (m := 384) (sh3 0 0 0 a.wing)) (up3 (l := 1) (n := 1024) (m := 384) (sh3 1 0 0 a.wing)) (up3 (l := 1) (n := 1024) (m := 384) (sh3 2 0 0 a.wing)) = up2 (n := 256) (m := 1024) (bk b a.dht) := by
  simp (config := {implicitDefEqProofs := false, proj := false}) only [k0_pay146, t_pay145 a b, dot_S256x384_S1024x384_S256x1024_1_1_0_0_n_n, addf_up2, slice_up2, cast_self, cast_1_row, cast_1_col, cast_drop, cast_add, mdot_nn, mdot_nt, mdot_tn, splat_zero_up2, ne_eq, OfNat.ofNat_ne_zero, not_false_eq_true, implies_true, Nat.zero_add, zero_add]
  refine up2_congr fun r hr j hj => ?_
  simp only [bk, sh3, Arr.dht, Arr.wing, Nat.zero_add, Nat.add_zero, Nat.reduceMul, Nat.zero_mul]
  rw [sum_split (a := 768) (b := 384) rfl, sum_split (a := 384) (b := 384) (n := 768) rfl]

theorem t_pay147 : k0_pay147 (F := Ideal) (up2 (n := 256) (m := 512) (bk b a.dv)) (up2 (n := 256) (m := 512) (bk b a.u)) (up2 (n := 256) (m := 512) (bk b a.sgg)) (up2 (n := 256) (m := 512) (bk b a.dglu)) = up2 (n := 256) (m := 384) (bk b (cl 1152 a.du)) := by
  simp (config := {implicitDefEqProofs := false, proj := false}) only [k0_pay147, t_pay145 a b, slice_up2, ne_eq, OfNat.ofNat_ne_zero, not_false_eq_true, implies_true, Nat.zero_add, zero_add]
  exact up2_congr fun r hr j hj => rfl

theorem t_pay148 : k0_pay148 (F := Ideal) (up3 (l := 1) (n := 1024) (m := 384) (sh3 3 0 0 a.wing)) = up2 (n := 1024) (m := 384) (a.wing 3) := by
  simp (config := {implicitDefEqProofs := false, proj := false}) only [k0_pay148, cast_self, cast_1_row, cast_1_col, cast_drop, cast_add, ne_eq, OfNat.ofNat_ne_zero, not_false_eq_true, implies_true, Nat.zero_add, zero_add]
  exact up2_congr fun r hr j hj => by simp only [sh3, Nat.add_zero, Nat.zero_add]

theorem t_pay149 : k0_pay149 (F := Ideal) (up2 (n := 256) (m := 1024) (bk b a.dht)) (up2 (n := 256) (m := 384) (bk b (cl 1152 a.du))) (up2 (n := 1024) (m := 384) (a.wing 3)) (constant (F := Ideal) S256x1024 .f32 0x00000000#32) = up2 (n := 256) (m := 1024) (bk b a.dh) := by
  simp (config := {implicitDefEqProofs := false, proj := false}) only [k0_pay149, dot_S256x384_S1024x384_S256x1024_1_1_0_0_n_n, addf_up2, mdot_nn, mdot_nt, mdot_tn, ne_eq, OfNat.ofNat_ne_zero, not_false_eq_true, implies_true, Nat.zero_add, zero_add]
  refine up2_congr fun r hr j hj => ?_
  simp only [bk, cl, Arr.dht, Arr.dh, Arr.wing, Nat.reduceMul]
  exact (sum_split (a := 1152) (b := 384) rfl _).symm

theorem t_pay150 : k0_pay150 (F := Ideal) (up2 (n := 256) (m := 1024) (bk b a.x)) = up2 (n := 256) (m := 1) (bk b fun t _ => a.r1 t) := by
  simp (config := {implicitDefEqProofs := false, proj := false}) only [k0_pay150, addf_up2, mulf_up2, cast_self, cast_1_row, cast_1_col, cast_drop, cast_add, sum_rows_k, sum_cols_k, divf_up2, splat_1024_up2, splat_eps_up2, ne_eq, OfNat.ofNat_ne_zero, not_false_eq_true, implies_true, Nat.zero_add, zero_add]
  exact rsqrt_up2 (n := 256) (m := 1) (fun r _ => a.ms (b + r)) fun r _ _ _ => a.ms_pos (b + r)

theorem t_pay151 : k0_pay151 (F := Ideal) (up2 (n := 256) (m := 1024) (bk b a.x)) = up2 (n := 256) (m := 1024) (bk b a.xh) := by
  simp (config := {implicitDefEqProofs := false, proj := false}) only [k0_pay151, t_pay150 a b, mulf_up2, bcast_row_up2, bcast_col_up2, ne_eq, OfNat.ofNat_ne_zero, not_false_eq_true, implies_true, Nat.zero_add, zero_add]
  exact up2_congr fun r hr j hj => rfl

theorem t_pay152 : k0_pay152 (F := Ideal) (up2 (n := 256) (m := 1024) (bk b a.x)) (up2 (n := 1) (m := 1024) (a.g1)) = up2 (n := 256) (m := 1024) (bk b a.n1) := by
  simp (config := {implicitDefEqProofs := false, proj := false}) only [k0_pay152, t_pay151 a b, mulf_up2, bcast_row_up2, bcast_col_up2, ne_eq, OfNat.ofNat_ne_zero, not_false_eq_true, implies_true, Nat.zero_add, zero_add]
  exact up2_congr fun r hr j hj => rfl

theorem t_pay153 : k0_pay153 (F := Ideal) (up2 (n := 1) (m := 1024) (a.md)) (up2 (n := 1) (m := 1024) (bk 1 a.md)) (up2 (n := 256) (m := 1024) (bk b a.x)) (up2 (n := 1) (m := 1024) (a.g1)) = up2 (n := 256) (m := 1024) (bk b a.h) := by
  simp (config := {implicitDefEqProofs := false, proj := false}) only [k0_pay153, t_pay152 a b, addf_up2, mulf_up2, truncf_up2, bcast_row_up2, bcast_col_up2, splat_one_up2, ne_eq, OfNat.ofNat_ne_zero, not_false_eq_true, implies_true, Nat.zero_add, zero_add]
  exact up2_congr fun r hr j hj => rfl

theorem t_pay154 (S : ℕ → ℕ → ℝ) : k0_pay154 (F := Ideal) (up2 (n := 256) (m := 1024) (bk b a.dht)) (up2 (n := 256) (m := 384) (bk b (cl 1152 a.du))) (up2 (n := 1024) (m := 384) (a.wing 3)) (constant (F := Ideal) S256x1024 .f32 0x00000000#32) (up2 (n := 1) (m := 1024) (bk 1 S)) = up2 (n := 1) (m := 1024) (bk 1 (acc2 a.vdf b S)) := by
  simp (config := {implicitDefEqProofs := false, proj := false}) only [k0_pay154, t_pay149 a b, addf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  rfl

theorem t_pay155 (S : ℕ → ℕ → ℝ) : k0_pay155 (F := Ideal) (up2 (n := 256) (m := 1024) (bk b a.dht)) (up2 (n := 256) (m := 384) (bk b (cl 1152 a.du))) (up2 (n := 1024) (m := 384) (a.wing 3)) (constant (F := Ideal) S256x1024 .f32 0x00000000#32) (up2 (n := 256) (m := 1024) (bk b a.x)) (up2 (n := 1) (m := 1024) (a.g1)) (up2 (n := 1) (m := 1024) (bk 2 S)) = up2 (n := 1) (m := 1024) (bk 2 (acc2 a.vdf b S)) := by
  simp (config := {implicitDefEqProofs := false, proj := false}) only [k0_pay155, t_pay149 a b, t_pay152 a b, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  rfl

theorem t_pay156 : k0_pay156 (F := Ideal) (up2 (n := 1) (m := 1024) (bk 1 a.md)) (up2 (n := 256) (m := 1024) (bk b a.dh)) = up2 (n := 256) (m := 1024) (bk b a.dn1) := by
  simp (config := {implicitDefEqProofs := false, proj := false}) only [k0_pay156, addf_up2, mulf_up2, bcast_row_up2, bcast_col_up2, splat_one_up2, ne_eq, OfNat.ofNat_ne_zero, not_false_eq_true, implies_true, Nat.zero_add, zero_add]
  exact up2_congr fun r hr j hj => rfl

theorem t_pay157 (S : ℕ → ℕ → ℝ) : k0_pay157 (F := Ideal) (up2 (n := 1) (m := 1024) (bk 1 a.md)) (up2 (n := 256) (m := 1024) (bk b a.dh)) (up2 (n := 256) (m := 1024) (bk b a.xh)) (up2 (n := 1) (m := 1024) (bk 3 S)) = up2 (n := 1) (m := 1024) (bk 3 (acc2 a.vdf b S)) := by
  simp (config := {implicitDefEqProofs := false, proj := false}) only [k0_pay157, t_pay156 a b, addf_up2, mulf_up2, cast_self, cast_1_row, cast_1_col, cast_drop, cast_add, sum_rows_k, sum_cols_k, ne_eq, OfNat.ofNat_ne_zero, not_false_eq_true, implies_true, Nat.zero_add, zero_add]
  refine up2_congr fun r hr j hj => ?_
  obtain rfl : r = 0 := by omega
  rfl

theorem t_pay158 : k0_pay158 (F := Ideal) (up2 (n := 1) (m := 1024) (bk 1 a.md)) (up2 (n := 256) (m := 1024) (bk b a.dx2)) (up2 (n := 256) (m := 1024) (bk b a.dh)) (up2 (n := 1) (m := 1024) (a.g1)) (up2 (n := 256) (m := 1) (bk b fun t _ => a.r1 t)) (up2 (n := 256) (m := 1024) (bk b a.xh)) = up2 (n := 256) (m := 1024) (bk b a.gx) := by
  simp (config := {implicitDefEqProofs := false, proj := false}) only [k0_pay158, t_pay156 a b, addf_up2, subf_up2, mulf_up2, bcast_row_up2, bcast_col_up2, cast_self, cast_1_row, cast_1_col, cast_drop, cast_add, sum_rows_k, sum_cols_k, divf_up2, splat_1024_up2, ne_eq, OfNat.ofNat_ne_zero, not_false_eq_true, implies_true, Nat.zero_add, zero_add]
  exact up2_congr fun r hr j hj => rfl

end Cert.Proof
-- ==== Proof.Buffers.lean ====
/-
  BUFFERS: what the kernel's scratch buffers and its buffers of sums hold.
-/
module

public import proofs.«01_k».proof.Proof.TileA

@[expose] public section

set_option maxRecDepth 16384

noncomputable section

open Idealize.ShloMosaic Idealize.ShloMosaic.TcCoe Cert.KernelIdeal Cert.KernelIdeal.Gen
open scoped BigOperators

namespace Cert.Proof

theorem ec {A : ℕ → ℕ → ℝ} {i j i' j' : ℕ} (hi : i = i') (hj : j = j') : ((A i j : ℝ) : EReal) = ((A i' j' : ℝ) : EReal) := by rw [hi, hj]
theorem ec3 {A : ℕ → ℕ → ℕ → ℝ} {k i j k' i' j' : ℕ} (hk : k = k') (hi : i = i') (hj : j = j') : ((A k i j : ℝ) : EReal) = ((A k' i' j' : ℝ) : EReal) := by rw [hk, hi, hj]
theorem bk_zr (k : ℕ) : bk k zr = zr := rfl

/-! ## the pools' buffer: four groups of 128 columns -/

section
variable (b : ℕ) (A : ℕ → ℕ → ℝ) (L : List (View.Piece (Elt Ideal) S272x512 .f32))

theorem pool_at (h0 h1 h2 h3) (y : S272x512.Idx) (hy : (y 0).val < 256) : View.canon ((⟨Rect.unit (s := S272x512) ![0, 384] ![256, 128] h3, up2 (n := 256) (m := 128) (bk b (cl 384 A))⟩ : View.Piece (Elt Ideal) S272x512 .f32) :: (⟨Rect.unit (s := S272x512) ![0, 256] ![256, 128] h2, up2 (n := 256) (m := 128) (bk b (cl 256 A))⟩ : View.Piece (Elt Ideal) S272x512 .f32) :: (⟨Rect.unit (s := S272x512) ![0, 128] ![256, 128] h1, up2 (n := 256) (m := 128) (bk b (cl 128 A))⟩ : View.Piece (Elt Ideal) S272x512 .f32) :: (⟨Rect.unit (s := S272x512) ![0, 0] ![256, 128] h0, up2 (n := 256) (m := 128) (bk b A)⟩ : View.Piece (Elt Ideal) S272x512 .f32) :: L) y = ((A (b + (y 0).val) (y 1).val : ℝ) : EReal) := by
  have hj : (y 1).val < 512 := (y 1).isLt
  rw [canon_at2, canon_at2, canon_at2, canon_at2]
  split_ifs
  · exact ec (A := A) (by omega) (by omega)
  · exact ec (A := A) (by omega) (by omega)
  · exact ec (A := A) (by omega) (by omega)
  · exact ec (A := A) (by omega) (by omega)
  · omega
theorem pool_ld {c p q : ℕ} (hp : p ≤ 256) (h0 h1 h2 h3) (h : ∀ x, (![0, c] : Fin 2 → ℕ) x + (![p, q] : Fin 2 → ℕ) x ≤ S272x512.size x) :
    View.ld (View.canon ((⟨Rect.unit (s := S272x512) ![0, 384] ![256, 128] h3, up2 (n := 256) (m := 128) (bk b (cl 384 A))⟩ : View.Piece (Elt Ideal) S272x512 .f32) :: (⟨Rect.unit (s := S272x512) ![0, 256] ![256, 128] h2, up2 (n := 256) (m := 128) (bk b (cl 256 A))⟩ : View.Piece (Elt Ideal) S272x512 .f32) :: (⟨Rect.unit (s := S272x512) ![0, 128] ![256, 128] h1, up2 (n := 256) (m := 128) (bk b (cl 128 A))⟩ : View.Piece (Elt Ideal) S272x512 .f32) :: (⟨Rect.unit (s := S272x512) ![0, 0] ![256, 128] h0, up2 (n := 256) (m := 128) (bk b A)⟩ : View.Piece (Elt Ideal) S272x512 .f32) :: L)) (Rect.unit (s := S272x512) ![0, c] ![p, q] h) = up2 (n := p) (m := q) (bk b (cl c A)) := by
  funext x
  refine (pool_at b A L h0 h1 h2 h3 _ ?_).trans ?_
  · show 0 + 1 * (x 0).val < 256
    have h : (x 0).val < p := (x 0).isLt
    omega
  · exact ec (A := A) (congrArg (b + ·) (show 0 + 1 * (x 0).val = (x 0).val by omega)) (show c + 1 * (x 1).val = c + (x 1).val by omega)
theorem pool_A (hz : ∀ r j, 256 ≤ r → A (b + r) j = 0) (h0 h1 h2 h3) (hf) : View.canon [(⟨Rect.unit (s := S272x512) ![0, 384] ![256, 128] h3, up2 (n := 256) (m := 128) (bk b (cl 384 A))⟩ : View.Piece (Elt Ideal) S272x512 .f32), (⟨Rect.unit (s := S272x512) ![0, 256] ![256, 128] h2, up2 (n := 256) (m := 128) (bk b (cl 256 A))⟩ : View.Piece (Elt Ideal) S272x512 .f32), (⟨Rect.unit (s := S272x512) ![0, 128] ![256, 128] h1, up2 (n := 256) (m := 128) (bk b (cl 128 A))⟩ : View.Piece (Elt Ideal) S272x512 .f32), (⟨Rect.unit (s := S272x512) ![0, 0] ![256, 128] h0, up2 (n := 256) (m := 128) (bk b A)⟩ : View.Piece (Elt Ideal) S272x512 .f32), (⟨Rect.unit (s := S272x512) ![256, 0] ![16, 512] hf, up2 (n := 16) (m := 512) (zr)⟩ : View.Piece (Elt Ideal) S272x512 .f32)] = up2 (n := 272) (m := 512) (bk b A) := by
  funext y
  by_cases hy : (y 0).val < 256
  · exact pool_at b A _ h0 h1 h2 h3 y hy
  · have hi : (y 0).val < 272 := (y 0).isLt
    have hj : (y 1).val < 512 := (y 1).isLt
    rw [canon_at2, canon_at2, canon_at2, canon_at2, canon_at2, if_neg (by omega), if_neg (by omega), if_neg (by omega), if_neg (by omega), if_pos (by omega)]
    exact congrArg Real.toEReal (hz _ _ (by omega)).symm
theorem pool_B (h0 h1 h2 h3) (f : (View.whole cc0_scratch1).ty.Contents (Elt Ideal)) (hf : (View.whole cc0_scratch1).read (Elt Ideal) f = up2 (n := 272) (m := 512) (wrap (b + 256) A)) :
    View.read (Elt Ideal) (View.whole cc0_scratch1) ((View.whole cc0_scratch1).writes (Elt Ideal) f [(⟨Rect.unit (s := S272x512) ![0, 384] ![256, 128] h3, up2 (n := 256) (m := 128) (bk b (cl 384 A))⟩ : View.Piece (Elt Ideal) S272x512 .f32), (⟨Rect.unit (s := S272x512) ![0, 256] ![256, 128] h2, up2 (n := 256) (m := 128) (bk b (cl 256 A))⟩ : View.Piece (Elt Ideal) S272x512 .f32), (⟨Rect.unit (s := S272x512) ![0, 128] ![256, 128] h1, up2 (n := 256) (m := 128) (bk b (cl 128 A))⟩ : View.Piece (Elt Ideal) S272x512 .f32), (⟨Rect.unit (s := S272x512) ![0, 0] ![256, 128] h0, up2 (n := 256) (m := 128) (bk b A)⟩ : View.Piece (Elt Ideal) S272x512 .f32)]) = up2 (n := 272) (m := 512) (bk b A) := by
  funext y
  have hi : (y 0).val < 272 := (y 0).isLt
  have hj : (y 1).val < 512 := (y 1).isLt
  rw [rw_at2, rw_at2, rw_at2, rw_at2, rw_nil, hf]
  split_ifs
  · exact ec (A := A) (by omega) (by omega)
  · exact ec (A := A) (by omega) (by omega)
  · exact ec (A := A) (by omega) (by omega)
  · exact ec (A := A) (by omega) (by omega)
  · show ((wrap (b + 256) A (y 0).val (y 1).val : ℝ) : EReal) = _
    unfold wrap
    split_ifs
    · omega
    · exact ec (A := A) (by omega) rfl
theorem pool_end (h0 h1 h2 h3) (he) : View.canon ((⟨Rect.unit (s := S272x512) ![256, 0] ![16, 512] he, up2 (n := 16) (m := 512) (bk b A)⟩ : View.Piece (Elt Ideal) S272x512 .f32) :: (⟨Rect.unit (s := S272x512) ![0, 384] ![256, 128] h3, up2 (n := 256) (m := 128) (bk b (cl 384 A))⟩ : View.Piece (Elt Ideal) S272x512 .f32) :: (⟨Rect.unit (s := S272x512) ![0, 256] ![256, 128] h2, up2 (n := 256) (m := 128) (bk b (cl 256 A))⟩ : View.Piece (Elt Ideal) S272x512 .f32) :: (⟨Rect.unit (s := S272x512) ![0, 128] ![256, 128] h1, up2 (n := 256) (m := 128) (bk b (cl 128 A))⟩ : View.Piece (Elt Ideal) S272x512 .f32) :: (⟨Rect.unit (s := S272x512) ![0, 0] ![256, 128] h0, up2 (n := 256) (m := 128) (bk b A)⟩ : View.Piece (Elt Ideal) S272x512 .f32) :: L) = up2 (n := 272) (m := 512) (wrap b A) := by
  funext y
  have hi : (y 0).val < 272 := (y 0).isLt
  have hj : (y 1).val < 512 := (y 1).isLt
  show _ = ((wrap b A (y 0).val (y 1).val : ℝ) : EReal)
  unfold wrap
  rw [canon_at2]
  split_ifs
  · omega
  · exact ec (A := A) (by omega) (by omega)
  · exact pool_at b A _ h0 h1 h2 h3 y (by omega)
  · omega
end

/-! ## the taps' buffer: one group of columns -/

section
variable (b : ℕ) (A : ℕ → ℕ → ℝ) (L : List (View.Piece (Elt Ideal) S288x512 .f32))

theorem tap_at (h0) (y : S288x512.Idx) (hy : (y 0).val < 256) : View.canon ((⟨Rect.unit (s := S288x512) ![0, 0] ![256, 512] h0, up2 (n := 256) (m := 512) (bk b A)⟩ : View.Piece (Elt Ideal) S288x512 .f32) :: L) y = ((A (b + (y 0).val) (y 1).val : ℝ) : EReal) := by
  have hj : (y 1).val < 512 := (y 1).isLt
  rw [canon_at2, if_pos (by omega)]
  exact ec (A := A) (by omega) (by omega)
theorem tap_ld {c p q : ℕ} (hp : p ≤ 256) (h0) (h : ∀ x, (![0, c] : Fin 2 → ℕ) x + (![p, q] : Fin 2 → ℕ) x ≤ S288x512.size x) :
    View.ld (View.canon ((⟨Rect.unit (s := S288x512) ![0, 0] ![256, 512] h0, up2 (n := 256) (m := 512) (bk b A)⟩ : View.Piece (Elt Ideal) S288x512 .f32) :: L)) (Rect.unit (s := S288x512) ![0, c] ![p, q] h) = up2 (n := p) (m := q) (bk b (cl c A)) := by
  funext x
  refine (tap_at b A L h0 _ ?_).trans ?_
  · show 0 + 1 * (x 0).val < 256
    have h : (x 0).val < p := (x 0).isLt
    omega
  · exact ec (A := A) (congrArg (b + ·) (show 0 + 1 * (x 0).val = (x 0).val by omega)) (show c + 1 * (x 1).val = c + (x 1).val by omega)
theorem tap_A (hz : ∀ r j, 256 ≤ r → A (b + r) j = 0) (h0) (hf) : View.canon [(⟨Rect.unit (s := S288x512) ![0, 0] ![256, 512] h0, up2 (n := 256) (m := 512) (bk b A)⟩ : View.Piece (Elt Ideal) S288x512 .f32), (⟨Rect.unit (s := S288x512) ![256, 0] ![32, 512] hf, up2 (n := 32) (m := 512) (zr)⟩ : View.Piece (Elt Ideal) S288x512 .f32)] = up2 (n := 288) (m := 512) (bk b A) := by
  funext y
  by_cases hy : (y 0).val < 256
  · exact tap_at b A _ h0 y hy
  · have hi : (y 0).val < 288 := (y 0).isLt
    have hj : (y 1).val < 512 := (y 1).isLt
    rw [canon_at2, canon_at2, if_neg (by omega), if_pos (by omega)]
    exact congrArg Real.toEReal (hz _ _ (by omega)).symm
theorem tap_B (h0) (f : (View.whole cc0_scratch0).ty.Contents (Elt Ideal)) (hf : (View.whole cc0_scratch0).read (Elt Ideal) f = up2 (n := 288) (m := 512) (wrap (b + 256) A)) :
    View.read (Elt Ideal) (View.whole cc0_scratch0) ((View.whole cc0_scratch0).writes (Elt Ideal) f [(⟨Rect.unit (s := S288x512) ![0, 0] ![256, 512] h0, up2 (n := 256) (m := 512) (bk b A)⟩ : View.Piece (Elt Ideal) S288x512 .f32)]) = up2 (n := 288) (m := 512) (bk b A) := by
  funext y
  have hi : (y 0).val < 288 := (y 0).isLt
  have hj : (y 1).val < 512 := (y 1).isLt
  rw [rw_at2, rw_nil, hf]
  split_ifs
  · exact ec (A := A) (by omega) (by omega)
  · show ((wrap (b + 256) A (y 0).val (y 1).val : ℝ) : EReal) = _
    unfold wrap
    split_ifs
    · omega
    · exact ec (A := A) (by omega) rfl
theorem tap_end (h0) (he) : View.canon ((⟨Rect.unit (s := S288x512) ![256, 0] ![32, 512] he, up2 (n := 32) (m := 512) (bk b A)⟩ : View.Piece (Elt Ideal) S288x512 .f32) :: (⟨Rect.unit (s := S288x512) ![0, 0] ![256, 512] h0, up2 (n := 256) (m := 512) (bk b A)⟩ : View.Piece (Elt Ideal) S288x512 .f32) :: L) = up2 (n := 288) (m := 512) (wrap b A) := by
  funext y
  have hi : (y 0).val < 288 := (y 0).isLt
  have hj : (y 1).val < 512 := (y 1).isLt
  show _ = ((wrap b A (y 0).val (y 1).val : ℝ) : EReal)
  unfold wrap
  rw [canon_at2]
  split_ifs
  · omega
  · exact ec (A := A) (by omega) (by omega)
  · exact tap_at b A _ h0 y (by omega)
  · omega
end

/-! ## the shifted copies: seven slabs -/

/-- Slab `k` is the array from row `k + 1` of the tile on. -/
def slabs (b : ℕ) (A : ℕ → ℕ → ℝ) : ℕ → ℕ → ℕ → ℝ := fun k i j => A (b + (k + 1) + i) j

theorem shift_all (b : ℕ) (A : ℕ → ℕ → ℝ) (h0 h1 h2 h3 h4 h5 h6) : View.canon [(⟨Rect.unit (s := S7x280x512) ![6, 0, 0] ![1, 280, 512] h6, up3 (l := 1) (n := 280) (m := 512) (cp (bk (b + 7) A))⟩ : View.Piece (Elt Ideal) S7x280x512 .f32), (⟨Rect.unit (s := S7x280x512) ![5, 0, 0] ![1, 280, 512] h5, up3 (l := 1) (n := 280) (m := 512) (cp (bk (b + 6) A))⟩ : View.Piece (Elt Ideal) S7x280x512 .f32), (⟨Rect.unit (s := S7x280x512) ![4, 0, 0] ![1, 280, 512] h4, up3 (l := 1) (n := 280) (m := 512) (cp (bk (b + 5) A))⟩ : View.Piece (Elt Ideal) S7x280x512 .f32), (⟨Rect.unit (s := S7x280x512) ![3, 0, 0] ![1, 280, 512] h3, up3 (l := 1) (n := 280) (m := 512) (cp (bk (b + 4) A))⟩ : View.Piece (Elt Ideal) S7x280x512 .f32), (⟨Rect.unit (s := S7x280x512) ![2, 0, 0] ![1, 280, 512] h2, up3 (l := 1) (n := 280) (m := 512) (cp (bk (b + 3) A))⟩ : View.Piece (Elt Ideal) S7x280x512 .f32), (⟨Rect.unit (s := S7x280x512) ![1, 0, 0] ![1, 280, 512] h1, up3 (l := 1) (n := 280) (m := 512) (cp (bk (b + 2) A))⟩ : View.Piece (Elt Ideal) S7x280x512 .f32), (⟨Rect.unit (s := S7x280x512) ![0, 0, 0] ![1, 280, 512] h0, up3 (l := 1) (n := 280) (m := 512) (cp (bk (b + 1) A))⟩ : View.Piece (Elt Ideal) S7x280x512 .f32)] = up3 (l := 7) (n := 280) (m := 512) (slabs b A) := by
  funext y
  have hk : (y 0).val < 7 := (y 0).isLt
  have hi : (y 1).val < 280 := (y 1).isLt
  have hj : (y 2).val < 512 := (y 2).isLt
  show _ = ((A (b + ((y 0).val + 1) + (y 1).val) (y 2).val : ℝ) : EReal)
  rw [canon_at3, canon_at3, canon_at3, canon_at3, canon_at3, canon_at3, canon_at3]
  split_ifs
  · exact ec (A := A) (by omega) (by omega)
  · exact ec (A := A) (by omega) (by omega)
  · exact ec (A := A) (by omega) (by omega)
  · exact ec (A := A) (by omega) (by omega)
  · exact ec (A := A) (by omega) (by omega)
  · exact ec (A := A) (by omega) (by omega)
  · exact ec (A := A) (by omega) (by omega)
  · omega

theorem slab_ld (b s o : ℕ) (A : ℕ → ℕ → ℝ) : up3 (l := 1) (n := 256) (m := 512) (sh3 s o 0 (slabs b A)) = up3 (l := 1) (n := 256) (m := 512) (cp (bk (b + (s + 1 + o)) A)) := by
  refine up3_congr fun k hk i hi j hj => ?_
  obtain rfl : k = 0 := by omega
  show A (b + (s + 0 + 1) + (o + i)) (0 + j) = A (b + (s + 1 + o) + i) j
  exact congrArg₂ A (by omega) (by omega)

/-! ## the four sums of the groups -/

theorem groups_all (G : ℕ → ℕ → ℕ → ℝ) (h0 h1 h2 h3) (L) : View.canon ((⟨Rect.unit (s := S4x128x128) ![3, 0, 0] ![1, 128, 128] h3, up3 (l := 1) (n := 128) (m := 128) (sh3 3 0 0 G)⟩ : View.Piece (Elt Ideal) S4x128x128 .f32) :: (⟨Rect.unit (s := S4x128x128) ![2, 0, 0] ![1, 128, 128] h2, up3 (l := 1) (n := 128) (m := 128) (sh3 2 0 0 G)⟩ : View.Piece (Elt Ideal) S4x128x128 .f32) :: (⟨Rect.unit (s := S4x128x128) ![1, 0, 0] ![1, 128, 128] h1, up3 (l := 1) (n := 128) (m := 128) (sh3 1 0 0 G)⟩ : View.Piece (Elt Ideal) S4x128x128 .f32) :: (⟨Rect.unit (s := S4x128x128) ![0, 0, 0] ![1, 128, 128] h0, up3 (l := 1) (n := 128) (m := 128) (sh3 0 0 0 G)⟩ : View.Piece (Elt Ideal) S4x128x128 .f32) :: L) = up3 (l := 4) (n := 128) (m := 128) G := by
  funext y
  have hk : (y 0).val < 4 := (y 0).isLt
  have hi : (y 1).val < 128 := (y 1).isLt
  have hj : (y 2).val < 128 := (y 2).isLt
  show _ = ((G (y 0).val (y 1).val (y 2).val : ℝ) : EReal)
  rw [canon_at3, canon_at3, canon_at3, canon_at3]
  split_ifs
  · exact ec3 (A := G) (by omega) (by omega) (by omega)
  · exact ec3 (A := G) (by omega) (by omega) (by omega)
  · exact ec3 (A := G) (by omega) (by omega) (by omega)
  · exact ec3 (A := G) (by omega) (by omega) (by omega)
  · omega

/-! ## sums held row by row -/

section
variable {n q : ℕ} {G : ℕ → ℕ → ℝ} {L : List (View.Piece (Elt Ideal) (⟨2, ![n, q]⟩ : Shape) .f32)}

theorem skip_row {k a p : ℕ} (hk : a + p ≤ k) (h) (h') (w) :
    View.ld (View.canon ((⟨Rect.unit (s := ⟨2, ![n, q]⟩) ![a, 0] ![p, q] h, w⟩ : View.Piece (Elt Ideal) (⟨2, ![n, q]⟩ : Shape) .f32) :: L)) (Rect.unit (s := ⟨2, ![n, q]⟩) ![k, 0] ![1, q] h') =
      View.ld (View.canon L) (Rect.unit (s := ⟨2, ![n, q]⟩) ![k, 0] ![1, q] h') := by
  funext x
  refine View.canon_cons_of_not_mem _ L fun hm => ?_
  have := (mem_unit2 h _).mp hm
  have e : (((Rect.unit (s := ⟨2, ![n, q]⟩) ![k, 0] ![1, q] h').idx x) 0).val = k + 1 * (x 0).val := rfl
  omega
theorem fill_whole (h) (F : ℕ → ℕ → ℝ) : View.canon [(⟨Rect.unit (s := ⟨2, ![n, q]⟩) ![0, 0] ![n, q] h, up2 (n := n) (m := q) F⟩ : View.Piece (Elt Ideal) (⟨2, ![n, q]⟩ : Shape) .f32)] = up2 (n := n) (m := q) F := by
  funext y
  have hi : (y 0).val < n := (y 0).isLt
  have hj : (y 1).val < q := (y 1).isLt
  rw [canon_at2, if_pos (by omega)]
  exact ec (A := F) (by omega) (by omega)

theorem skip_slab {l n q k a : ℕ} {L : List (View.Piece (Elt Ideal) (⟨3, ![l, n, q]⟩ : Shape) .f32)} (hk : a + 1 ≤ k) (h) (h') (w) :
    View.ld (View.canon ((⟨Rect.unit (s := ⟨3, ![l, n, q]⟩) ![a, 0, 0] ![1, n, q] h, w⟩ : View.Piece (Elt Ideal) (⟨3, ![l, n, q]⟩ : Shape) .f32) :: L)) (Rect.unit (s := ⟨3, ![l, n, q]⟩) ![k, 0, 0] ![1, n, q] h') =
      View.ld (View.canon L) (Rect.unit (s := ⟨3, ![l, n, q]⟩) ![k, 0, 0] ![1, n, q] h') := by
  funext x
  refine View.canon_cons_of_not_mem _ L fun hm => ?_
  have := (mem_unit3 h _).mp hm
  have e : (((Rect.unit (s := ⟨3, ![l, n, q]⟩) ![k, 0, 0] ![1, n, q] h').idx x) 0).val = k + 1 * (x 0).val := rfl
  omega
theorem fill3 {l n q : ℕ} (h) (F : ℕ → ℕ → ℕ → ℝ) : View.canon [(⟨Rect.unit (s := ⟨3, ![l, n, q]⟩) ![0, 0, 0] ![l, n, q] h, up3 (l := l) (n := n) (m := q) F⟩ : View.Piece (Elt Ideal) (⟨3, ![l, n, q]⟩ : Shape) .f32)] = up3 (l := l) (n := n) (m := q) F := by
  funext y
  have hk : (y 0).val < l := (y 0).isLt
  have hi : (y 1).val < n := (y 1).isLt
  have hj : (y 2).val < q := (y 2).isLt
  rw [canon_at3, if_pos (by omega)]
  exact ec3 (A := F) (by omega) (by omega) (by omega)

/-- A list of stores holds `G` at the rows below `k` and at the rows from `K` on. -/
def Holds (G : ℕ → ℕ → ℝ) (k K : ℕ) (X : (⟨2, ![n, q]⟩ : Shape).Idx → EReal) : Prop := ∀ y, (y 0).val < k ∨ K ≤ (y 0).val → X y = up2 (n := n) (m := q) G y
theorem holds_all {k K : ℕ} (hk : K ≤ k) {X : (⟨2, ![n, q]⟩ : Shape).Idx → EReal} (h : Holds G k K X) : X = up2 (n := n) (m := q) G :=
  funext fun y => h y (by omega)
theorem holds_eq {K : ℕ} {F : ℕ → ℕ → ℝ} (hF : ∀ i j, K ≤ i → F i j = G i j) : Holds (n := n) (q := q) G 0 K (up2 (n := n) (m := q) F) := fun y hy =>
  congrArg Real.toEReal (hF _ _ (by omega))
theorem canon_row {k K : ℕ} (h) (H : Holds G k K (View.canon L)) :
    Holds G (k + 1) K (View.canon ((⟨Rect.unit (s := ⟨2, ![n, q]⟩) ![k, 0] ![1, q] h, up2 (n := 1) (m := q) (bk k G)⟩ : View.Piece (Elt Ideal) (⟨2, ![n, q]⟩ : Shape) .f32) :: L)) := fun y hy => by
  have hj : (y 1).val < q := (y 1).isLt
  rw [canon_at2]
  split_ifs
  · exact ec (A := G) (by omega) (by omega)
  · exact H y (by omega)
theorem canon_row0 {K : ℕ} (h) (H : Holds G 0 K (View.canon L)) :
    Holds G 1 K (View.canon ((⟨Rect.unit (s := ⟨2, ![n, q]⟩) ![0, 0] ![1, q] h, up2 (n := 1) (m := q) G⟩ : View.Piece (Elt Ideal) (⟨2, ![n, q]⟩ : Shape) .f32) :: L)) := fun y hy => by
  have hj : (y 1).val < q := (y 1).isLt
  rw [canon_at2]
  split_ifs
  · exact ec (A := G) (by omega) (by omega)
  · exact H y (by omega)
theorem canon_fill {K : ℕ} {F : ℕ → ℕ → ℝ} (hF : ∀ i j, K ≤ i → F i j = G i j) (h) :
    Holds G 0 K (View.canon [(⟨Rect.unit (s := ⟨2, ![n, q]⟩) ![0, 0] ![n, q] h, up2 (n := n) (m := q) F⟩ : View.Piece (Elt Ideal) (⟨2, ![n, q]⟩ : Shape) .f32)]) := by
  rw [fill_whole]
  exact holds_eq hF

variable {sig : RefSig} {κ : Kind} {sp : Space} {v : View sig κ sp ⟨2, ![n, q]⟩ .f32} {f : v.ty.Contents (Elt Ideal)}
theorem store_row {k K : ℕ} (h) (H : Holds G k K (v.read (Elt Ideal) (v.writes (Elt Ideal) f L))) :
    Holds G (k + 1) K (v.read (Elt Ideal) (v.writes (Elt Ideal) f ((⟨Rect.unit (s := ⟨2, ![n, q]⟩) ![k, 0] ![1, q] h, up2 (n := 1) (m := q) (bk k G)⟩ : View.Piece (Elt Ideal) (⟨2, ![n, q]⟩ : Shape) .f32) :: L))) := fun y hy => by
  have hj : (y 1).val < q := (y 1).isLt
  rw [rw_at2]
  split_ifs
  · exact ec (A := G) (by omega) (by omega)
  · exact H y (by omega)
theorem store_row0 {K : ℕ} (h) (H : Holds G 0 K (v.read (Elt Ideal) (v.writes (Elt Ideal) f L))) :
    Holds G 1 K (v.read (Elt Ideal) (v.writes (Elt Ideal) f ((⟨Rect.unit (s := ⟨2, ![n, q]⟩) ![0, 0] ![1, q] h, up2 (n := 1) (m := q) G⟩ : View.Piece (Elt Ideal) (⟨2, ![n, q]⟩ : Shape) .f32) :: L))) := fun y hy => by
  have hj : (y 1).val < q := (y 1).isLt
  rw [rw_at2]
  split_ifs
  · exact ec (A := G) (by omega) (by omega)
  · exact H y (by omega)
theorem store_base {K : ℕ} {F : ℕ → ℕ → ℝ} (hF : ∀ i j, K ≤ i → F i j = G i j) (hf : v.read (Elt Ideal) f = up2 (n := n) (m := q) F) :
    Holds G 0 K (v.read (Elt Ideal) (v.writes (Elt Ideal) f [])) := by
  rw [View.writes_nil, hf]
  exact holds_eq hF
end

end Cert.Proof
-- ==== Proof.Prep.lean ====
/-
  PREP: the kernel's blocks in terms of the arrays.
-/
module

public import proofs.«01_k».proof.Proof.TileB
public import proofs.«01_k».proof.Proof.TileC
public import proofs.«01_k».proof.Proof.Buffers

@[expose] public section

set_option maxRecDepth 16384

noncomputable section

open Idealize.ShloMosaic Idealize.ShloMosaic.TcCoe Cert.KernelIdeal Cert.KernelIdeal.Gen
open scoped BigOperators

namespace Cert.Proof

variable (m : (ℓ : Loc nD τ sig) → Buf (Elt Ideal) ℓ) (c : Dev nD) (a : Arr)

/-- The buffers the kernel's blocks are cut from hold the arrays of `a`. -/
structure Ins : Prop where
  h0 : V m c main_arg0 = up2 (n := 2048) (m := 1024) a.dx2
  h1 : V m c main_arg1 = up2 (n := 2048) (m := 1024) a.x
  h2 : V m c main_v141 = up2 (n := 2048) (m := 1024) a.y
  h3 : V m c main_v20 = up2 (n := 2048) (m := 1536) a.u
  h4 : V m c main_v70 = up2 (n := 2048) (m := 512) a.z
  h5 : V m c main_v66 = up2 (n := 2048) (m := 1) fun t _ => a.rstd t
  h6 : V m c main_v146 = up2 (n := 2048) (m := 512) a.p
  h7 : V m c main_arg2 = up2 (n := 6) (m := 1024) a.md
  h8 : V m c main_arg3 = up2 (n := 1) (m := 1024) a.g1
  h9 : V m c main_v144 = up3 (l := 4) (n := 1024) (m := 384) a.wing
  h10 : V m c main_v145 = up2 (n := 32) (m := 512) a.dwwp
  h11 : V m c main_arg7 = up2 (n := 1) (m := 512) a.lng
  h12 : V m c main_arg8 = up2 (n := 1) (m := 512) a.lnb
  h13 : V m c main_v147 = up2 (n := 512) (m := 512) a.wpw
  h14 : V m c main_v148 = up3 (l := 4) (n := 128) (m := 128) a.wg
  h15 : V m c main_arg11 = up2 (n := 1) (m := 512) a.psc
  h16 : V m c main_v149 = up2 (n := 1024) (m := 1024) a.wout

variable {m c a} (H : Ins m c a) (t : Fin cfg0.N)
include H
theorem ib0 : iblk m c 0 t = up2 (n := 256) (m := 1024) (bk (lo t.val) a.dx2) := blk_0 m c t _ H.h0
theorem ib1 : iblk m c 1 t = up2 (n := 256) (m := 1024) (bk (lo t.val) a.x) := blk_1 m c t _ H.h1
theorem ib2 : iblk m c 2 t = up2 (n := 256) (m := 1024) (bk (lo t.val) a.y) := blk_2 m c t _ H.h2
theorem ib3 : iblk m c 3 t = up2 (n := 256) (m := 1536) (bk (lo t.val) a.u) := blk_3 m c t _ H.h3
theorem ib4 : iblk m c 4 t = up2 (n := 256) (m := 512) (bk (lo t.val) a.z) := blk_4 m c t _ H.h4
theorem ib6 : iblk m c 6 t = up2 (n := 256) (m := 512) (bk (lo t.val) a.p) := blk_6 m c t _ H.h6
theorem ib5 : iblk m c 5 t = up2 (n := 256) (m := 1) (bk (lo t.val) fun t _ => a.rstd t) := blk_5 m c t _ H.h5
theorem ib7 : iblk m c 7 t = up2 (n := 6) (m := 1024) a.md := (blk_7 m c t).trans H.h7
theorem ib8 : iblk m c 8 t = up2 (n := 1) (m := 1024) a.g1 := (blk_8 m c t).trans H.h8
theorem ib9 : iblk m c 9 t = up3 (l := 4) (n := 1024) (m := 384) a.wing := (blk_9 m c t).trans H.h9
theorem ib10 : iblk m c 10 t = up2 (n := 32) (m := 512) a.dwwp := (blk_10 m c t).trans H.h10
theorem ib11 : iblk m c 11 t = up2 (n := 1) (m := 512) a.lng := (blk_11 m c t).trans H.h11
theorem ib12 : iblk m c 12 t = up2 (n := 1) (m := 512) a.lnb := (blk_12 m c t).trans H.h12
theorem ib13 : iblk m c 13 t = up2 (n := 512) (m := 512) a.wpw := (blk_13 m c t).trans H.h13
theorem ib14 : iblk m c 14 t = up3 (l := 4) (n := 128) (m := 128) a.wg := (blk_14 m c t).trans H.h14
theorem ib15 : iblk m c 15 t = up2 (n := 1) (m := 512) a.psc := (blk_15 m c t).trans H.h15
theorem ib16 : iblk m c 16 t = up2 (n := 1024) (m := 1024) a.wout := (blk_16 m c t).trans H.h16
omit H
theorem lo_le (ht : t.val < 8) : lo t.val + 256 ≤ 2048 := by unfold lo; omega
theorem lo_first (h : t.val = 0) : lo t.val + 256 = 2048 := by unfold lo; omega
theorem dpc_out {b : ℕ} (hb : b + 256 = 2048) : ∀ r j, 256 ≤ r → a.dpc (b + r) j = 0 := fun r j hr => by
  rw [Arr.dpc, if_neg (by omega)]
theorem dcv_out {b : ℕ} (hb : b + 256 = 2048) : ∀ r j, 256 ≤ r → a.dcv (b + r) j = 0 := fun r j hr => by
  rw [Arr.dcv, if_neg (by omega)]
theorem s_pay14 (b : ℕ) (l : List (Fin 2)) (hl : l = [0]) (h) : k0_pay14 (BitVec.ofNat 32 b) (iota Kind.tc S256x1 32 l h) = ui2 (n := 256) (m := 1) (rowW b) := by
  subst hl
  exact t_pay14 b h
theorem acc2_out {f : ℕ → ℕ → ℕ → ℝ} {K : ℕ} (hf : ∀ i t j, K ≤ i → f i t j = 0) (b : ℕ) (S : ℕ → ℕ → ℝ) : ∀ i j, K ≤ i → S i j = acc2 f b S i j := fun i j hi => by
  unfold acc2
  rw [Finset.sum_eq_zero fun r _ => hf i (b + r) j hi, add_zero]
theorem hF23 (a : Arr) (b : ℕ) (S : ℕ → ℕ → ℝ) : ∀ i j, 4 ≤ i → S i j = acc2 a.vdf b S i j := acc2_out (fun i t j hi => by
  unfold Arr.vdf; rw [if_neg (by omega), if_neg (by omega), if_neg (by omega), if_neg (by omega)]) b S
theorem hF24 (a : Arr) (b : ℕ) (S : ℕ → ℕ → ℝ) : ∀ i j, 4 ≤ i → S i j = acc2 a.vcf b S i j := acc2_out (fun i t j hi => by
  unfold Arr.vcf; rw [if_neg (by omega), if_neg (by omega), if_neg (by omega), if_neg (by omega)]) b S
theorem hF25 (a : Arr) (b : ℕ) (S : ℕ → ℕ → ℝ) : ∀ i j, 31 ≤ i → S i j = acc2 a.ddwf b S i j := acc2_out (fun i t j hi => by
  unfold Arr.ddwf; rw [if_neg (by omega)]) b S
theorem tlt : t.val < 8 := lt_of_lt_of_eq t.isLt N_0

end Cert.Proof
-- ==== Proof.StepS.lean ====
/-
  STEPS: what a grid point leaves in the outputs 18, 20, 21, 22, 24, 27, 28.
-/
module

public import proofs.«01_k».proof.Proof.Prep
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.KernelIdeal Cert.KernelIdeal.Gen
open scoped BigOperators

namespace Cert.Proof

variable {m : (ℓ : Loc nD τ sig) → Buf (Elt Ideal) ℓ} {c : Dev nD} {a : Arr} (H : Ins m c a) (t : Fin cfg0.N)
include H

theorem step18A (h0 : t.val % 8 = 0) : (outsAt0 m c t.val t.isLt).2.1 = up2 (n := 256) (m := 1024) (bk (lo t.val) a.h) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay150, t_pay151, t_pay152, t_pay153]

theorem step18B (h0 : ¬t.val % 8 = 0) (hp : t.val - 1 < cfg0.N) : (outsAt0 m c t.val t.isLt).2.1 = up2 (n := 256) (m := 1024) (bk (lo t.val) a.h) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay150, t_pay151, t_pay152, t_pay153]

theorem step20A (h0 : t.val % 8 = 0) : (outsAt0 m c t.val t.isLt).2.2.2.1 = up2 (n := 256) (m := 1024) (bk (lo t.val) a.dy) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay9]

theorem step20B (h0 : ¬t.val % 8 = 0) (hp : t.val - 1 < cfg0.N) : (outsAt0 m c t.val t.isLt).2.2.2.1 = up2 (n := 256) (m := 1024) (bk (lo t.val) a.dy) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay9]

theorem step27A (h0 : t.val % 8 = 0) : (outsAt0 m c t.val t.isLt).2.2.2.2.2.2.2.2.2.1 = up2 (n := 288) (m := 512) (wrap (lo t.val) a.dcv) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay6, t_pay11, t_pay40, t_pay41, t_pay42, t_pay46, t_pay49 a (lo t.val) hb, t_pay51 a (lo t.val) hb, t_pay144, tap_ld, tap_end, tap_A _ _ (dcv_out hz)]

theorem step27B (h0 : ¬t.val % 8 = 0) (hp : t.val - 1 < cfg0.N) : (outsAt0 m c t.val t.isLt).2.2.2.2.2.2.2.2.2.1 = up2 (n := 288) (m := 512) (wrap (lo t.val) a.dcv) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay6, t_pay11, t_pay40, t_pay41, t_pay42, t_pay46, t_pay49 a (lo t.val) hb, t_pay51 a (lo t.val) hb, t_pay144, tap_ld, tap_end]

theorem step28A (h0 : t.val % 8 = 0) : (outsAt0 m c t.val t.isLt).2.2.2.2.2.2.2.2.2.2 = up2 (n := 272) (m := 512) (wrap (lo t.val) a.dpc) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay7, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, pool_ld, pool_end, pool_A _ _ (dpc_out hz)]

theorem step28B (h0 : ¬t.val % 8 = 0) (hp : t.val - 1 < cfg0.N) : (outsAt0 m c t.val t.isLt).2.2.2.2.2.2.2.2.2.2 = up2 (n := 272) (m := 512) (wrap (lo t.val) a.dpc) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay7, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, pool_ld, pool_end]

theorem step21A (h0 : t.val % 8 = 0) : (outsAt0 m c t.val t.isLt).2.2.2.2.1 = up2 (n := 512) (m := 512) (acc2 a.gpwf (lo t.val) zr) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay1, t_pay11, t_pay41, t_pay42, t_pay45]

theorem step21B (h0 : ¬t.val % 8 = 0) (hp : t.val - 1 < cfg0.N) (S : ℕ → ℕ → ℝ) (qs : (outsAt0 m c (t.val - 1) hp).2.2.2.2.1 = up2 (n := 512) (m := 512) S) : (outsAt0 m c t.val t.isLt).2.2.2.2.1 = up2 (n := 512) (m := 512) (acc2 a.gpwf (lo t.val) S) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay1, t_pay11, t_pay41, t_pay42, t_pay45, qs]

theorem step22A (h0 : t.val % 8 = 0) : (outsAt0 m c t.val t.isLt).2.2.2.2.2.1 = up3 (l := 4) (n := 128) (m := 128) (acc3 a.gwgf (lo t.val) zr3) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay2, t_pay12, t_pay13, t_pay15, t_pay16, t_pay20, t_pay24, t_pay28, groups_all, ↓skip_slab, fill3]

theorem step22B (h0 : ¬t.val % 8 = 0) (hp : t.val - 1 < cfg0.N) (S : ℕ → ℕ → ℕ → ℝ) (qs : (outsAt0 m c (t.val - 1) hp).2.2.2.2.2.1 = up3 (l := 4) (n := 128) (m := 128) S) : (outsAt0 m c t.val t.isLt).2.2.2.2.2.1 = up3 (l := 4) (n := 128) (m := 128) (acc3 a.gwgf (lo t.val) S) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay2, t_pay12, t_pay13, t_pay15, t_pay16, t_pay20, t_pay24, t_pay28, groups_all, qs]

theorem step24A (h0 : t.val % 8 = 0) : (outsAt0 m c t.val t.isLt).2.2.2.2.2.2.2.1 = up2 (n := 8) (m := 512) (acc2 a.vcf (lo t.val) zr) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay4, t_pay11, t_pay12, t_pay13, t_pay17, t_pay21, t_pay25, t_pay29, t_pay33, t_pay40, t_pay41, t_pay42, t_pay46, t_pay47, t_pay48, t_pay50 a (lo t.val) hb, ↓skip_row, fill_whole]
  refine holds_all (n := 8) (q := 512) (k := 4) (K := 4) (le_refl 4) ?_
  refine canon_row (n := 8) (q := 512) (k := 3) (K := 4) _ ?_
  refine canon_row (n := 8) (q := 512) (k := 2) (K := 4) _ ?_
  refine canon_row (n := 8) (q := 512) (k := 1) (K := 4) _ ?_
  refine canon_row0 (n := 8) (q := 512) (K := 4) _ ?_
  exact canon_fill (hF24 a _ _) _

theorem step24B (h0 : ¬t.val % 8 = 0) (hp : t.val - 1 < cfg0.N) (S : ℕ → ℕ → ℝ) (qs : (outsAt0 m c (t.val - 1) hp).2.2.2.2.2.2.2.1 = up2 (n := 8) (m := 512) S) : (outsAt0 m c t.val t.isLt).2.2.2.2.2.2.2.1 = up2 (n := 8) (m := 512) (acc2 a.vcf (lo t.val) S) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay4, t_pay11, t_pay12, t_pay13, t_pay17, t_pay21, t_pay25, t_pay29, t_pay33, t_pay40, t_pay41, t_pay42, t_pay46, t_pay47, t_pay48, t_pay50 a (lo t.val) hb, qs]
  refine holds_all (n := 8) (q := 512) (k := 4) (K := 4) (le_refl 4) ?_
  refine store_row (n := 8) (q := 512) (k := 3) (K := 4) _ ?_
  refine store_row (n := 8) (q := 512) (k := 2) (K := 4) _ ?_
  refine store_row (n := 8) (q := 512) (k := 1) (K := 4) _ ?_
  refine store_row0 (n := 8) (q := 512) (K := 4) _ ?_
  exact store_base (hF24 a _ _) (Memref.IsWhole.read_unread _ _)

end Cert.Proof
-- ==== Proof.StepU.lean ====
/-
  STEPS: what a grid point leaves in the outputs 19.
-/
module

public import proofs.«01_k».proof.Proof.Prep
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.KernelIdeal Cert.KernelIdeal.Gen
open scoped BigOperators

namespace Cert.Proof

variable {m : (ℓ : Loc nD τ sig) → Buf (Elt Ideal) ℓ} {c : Dev nD} {a : Arr} (H : Ins m c a) (t : Fin cfg0.N)
include H

set_option maxHeartbeats 4000000 in
theorem step19A (h0 : t.val % 8 = 0) : (outsAt0 m c t.val t.isLt).2.2.1 = up2 (n := 256) (m := 1536) (bk (lo t.val) a.du) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay6, t_pay7, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, t_pay145, pool_ld, pool_end, pool_A _ _ (dpc_out hz), tap_ld, tap_end, tap_A _ _ (dcv_out hz), shift_all, slab_ld]

set_option maxHeartbeats 4000000 in
theorem step19B (h0 : ¬t.val % 8 = 0) (hp : t.val - 1 < cfg0.N) (q28 : (outsAt0 m c (t.val - 1) hp).2.2.2.2.2.2.2.2.2.2 = up2 (n := 272) (m := 512) (wrap (lo t.val + 256) a.dpc)) (q27 : (outsAt0 m c (t.val - 1) hp).2.2.2.2.2.2.2.2.2.1 = up2 (n := 288) (m := 512) (wrap (lo t.val + 256) a.dcv)) : (outsAt0 m c t.val t.isLt).2.2.1 = up2 (n := 256) (m := 1536) (bk (lo t.val) a.du) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay6, t_pay7, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, t_pay145, pool_ld, pool_end, tap_ld, tap_end, shift_all, slab_ld, q28, q27]
  rw [pool_B _ _ _ _ _ _ _ (read_unread_whole cc0_scratch1 _ _)]
  rw [tap_B _ _ _ _ (read_unread_whole cc0_scratch0 _ _)]
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay6, t_pay7, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, t_pay145, pool_ld, pool_end, tap_ld, tap_end, shift_all, slab_ld, q28, q27]

end Cert.Proof
-- ==== Proof.StepX.lean ====
/-
  STEPS: what a grid point leaves in the outputs 17.
-/
module

public import proofs.«01_k».proof.Proof.Prep
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.KernelIdeal Cert.KernelIdeal.Gen
open scoped BigOperators

namespace Cert.Proof

variable {m : (ℓ : Loc nD τ sig) → Buf (Elt Ideal) ℓ} {c : Dev nD} {a : Arr} (H : Ins m c a) (t : Fin cfg0.N)
include H

set_option maxHeartbeats 4000000 in
theorem step17A (h0 : t.val % 8 = 0) : (outsAt0 m c t.val t.isLt).1 = up2 (n := 256) (m := 1024) (bk (lo t.val) a.gx) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay3, t_pay6, t_pay7, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, t_pay145, t_pay146, t_pay147, t_pay148, t_pay149, t_pay150, t_pay151, t_pay152, t_pay153, t_pay154, t_pay155, t_pay156, t_pay157, t_pay158, pool_ld, pool_end, pool_A _ _ (dpc_out hz), tap_ld, tap_end, tap_A _ _ (dcv_out hz), shift_all, slab_ld]

set_option maxHeartbeats 4000000 in
theorem step17B (h0 : ¬t.val % 8 = 0) (hp : t.val - 1 < cfg0.N) (q28 : (outsAt0 m c (t.val - 1) hp).2.2.2.2.2.2.2.2.2.2 = up2 (n := 272) (m := 512) (wrap (lo t.val + 256) a.dpc)) (q27 : (outsAt0 m c (t.val - 1) hp).2.2.2.2.2.2.2.2.2.1 = up2 (n := 288) (m := 512) (wrap (lo t.val + 256) a.dcv)) : (outsAt0 m c t.val t.isLt).1 = up2 (n := 256) (m := 1024) (bk (lo t.val) a.gx) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay3, t_pay6, t_pay7, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, t_pay145, t_pay146, t_pay147, t_pay148, t_pay149, t_pay150, t_pay151, t_pay152, t_pay153, t_pay154, t_pay155, t_pay156, t_pay157, t_pay158, pool_ld, pool_end, tap_ld, tap_end, shift_all, slab_ld, q28, q27]
  rw [pool_B _ _ _ _ _ _ _ (read_unread_whole cc0_scratch1 _ _)]
  rw [tap_B _ _ _ _ (read_unread_whole cc0_scratch0 _ _)]
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay3, t_pay6, t_pay7, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, t_pay145, t_pay146, t_pay147, t_pay148, t_pay149, t_pay150, t_pay151, t_pay152, t_pay153, t_pay154, t_pay155, t_pay156, t_pay157, t_pay158, pool_ld, pool_end, tap_ld, tap_end, shift_all, slab_ld, q28, q27]

end Cert.Proof
-- ==== Proof.StepV.lean ====
/-
  STEPS: what a grid point leaves in the outputs 23.
-/
module

public import proofs.«01_k».proof.Proof.Prep
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.KernelIdeal Cert.KernelIdeal.Gen
open scoped BigOperators

namespace Cert.Proof

variable {m : (ℓ : Loc nD τ sig) → Buf (Elt Ideal) ℓ} {c : Dev nD} {a : Arr} (H : Ins m c a) (t : Fin cfg0.N)
include H

set_option maxHeartbeats 4000000 in
theorem step23A (h0 : t.val % 8 = 0) : (outsAt0 m c t.val t.isLt).2.2.2.2.2.2.1 = up2 (n := 8) (m := 1024) (acc2 a.vdf (lo t.val) zr) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay3, t_pay6, t_pay7, t_pay8, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, t_pay145, t_pay146, t_pay147, t_pay148, t_pay149, t_pay150, t_pay151, t_pay152, t_pay153, t_pay154, t_pay155, t_pay156, t_pay157, t_pay158, pool_ld, pool_end, pool_A _ _ (dpc_out hz), tap_ld, tap_end, tap_A _ _ (dcv_out hz), shift_all, slab_ld, ↓skip_row, fill_whole]
  refine holds_all (n := 8) (q := 1024) (k := 4) (K := 4) (le_refl 4) ?_
  refine canon_row (n := 8) (q := 1024) (k := 3) (K := 4) _ ?_
  refine canon_row (n := 8) (q := 1024) (k := 2) (K := 4) _ ?_
  refine canon_row (n := 8) (q := 1024) (k := 1) (K := 4) _ ?_
  refine canon_row0 (n := 8) (q := 1024) (K := 4) _ ?_
  exact canon_fill (hF23 a _ _) _

set_option maxHeartbeats 4000000 in
theorem step23B (h0 : ¬t.val % 8 = 0) (hp : t.val - 1 < cfg0.N) (q28 : (outsAt0 m c (t.val - 1) hp).2.2.2.2.2.2.2.2.2.2 = up2 (n := 272) (m := 512) (wrap (lo t.val + 256) a.dpc)) (q27 : (outsAt0 m c (t.val - 1) hp).2.2.2.2.2.2.2.2.2.1 = up2 (n := 288) (m := 512) (wrap (lo t.val + 256) a.dcv)) (S : ℕ → ℕ → ℝ) (qs : (outsAt0 m c (t.val - 1) hp).2.2.2.2.2.2.1 = up2 (n := 8) (m := 1024) S) : (outsAt0 m c t.val t.isLt).2.2.2.2.2.2.1 = up2 (n := 8) (m := 1024) (acc2 a.vdf (lo t.val) S) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay3, t_pay6, t_pay7, t_pay8, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, t_pay145, t_pay146, t_pay147, t_pay148, t_pay149, t_pay150, t_pay151, t_pay152, t_pay153, t_pay154, t_pay155, t_pay156, t_pay157, t_pay158, pool_ld, pool_end, tap_ld, tap_end, shift_all, slab_ld, q28, q27, qs]
  rw [pool_B _ _ _ _ _ _ _ (read_unread_whole cc0_scratch1 _ _)]
  rw [tap_B _ _ _ _ (read_unread_whole cc0_scratch0 _ _)]
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay3, t_pay6, t_pay7, t_pay8, t_pay9, t_pay11, t_pay12, t_pay13, s_pay14, t_pay15, t_pay18, t_pay19 a (lo t.val) hb, t_pay22, t_pay23 a (lo t.val) hb, t_pay26, t_pay27 a (lo t.val) hb, t_pay30, t_pay31, t_pay32 a (lo t.val) hb, t_pay34, t_pay35, t_pay36, t_pay37, t_pay38, t_pay39, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, t_pay145, t_pay146, t_pay147, t_pay148, t_pay149, t_pay150, t_pay151, t_pay152, t_pay153, t_pay154, t_pay155, t_pay156, t_pay157, t_pay158, pool_ld, pool_end, tap_ld, tap_end, shift_all, slab_ld, q28, q27, qs]
  refine holds_all (n := 8) (q := 1024) (k := 4) (K := 4) (le_refl 4) ?_
  refine store_row (n := 8) (q := 1024) (k := 3) (K := 4) _ ?_
  refine store_row (n := 8) (q := 1024) (k := 2) (K := 4) _ ?_
  refine store_row (n := 8) (q := 1024) (k := 1) (K := 4) _ ?_
  refine store_row0 (n := 8) (q := 1024) (K := 4) _ ?_
  exact store_base (hF23 a _ _) (Memref.IsWhole.read_unread _ _)

end Cert.Proof
-- ==== Proof.StepW.lean ====
/-
  STEPS: what a grid point leaves in the outputs 25.
-/
module

public import proofs.«01_k».proof.Proof.Prep
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.KernelIdeal Cert.KernelIdeal.Gen
open scoped BigOperators

namespace Cert.Proof

variable {m : (ℓ : Loc nD τ sig) → Buf (Elt Ideal) ℓ} {c : Dev nD} {a : Arr} (H : Ins m c a) (t : Fin cfg0.N)
include H

set_option maxHeartbeats 4000000 in
theorem step25A (h0 : t.val % 8 = 0) : (outsAt0 m c t.val t.isLt).2.2.2.2.2.2.2.2.1 = up2 (n := 32) (m := 512) (acc2 a.ddwf (lo t.val) zr) := by
  have hb := lo_le t (tlt t)
  have hz := lo_first t (by have := tlt t; omega)
  rw [outsAt0_A m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay5, t_pay6, t_pay11, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, tap_ld, tap_end, tap_A _ _ (dcv_out hz), shift_all, slab_ld, ↓skip_row, fill_whole]
  refine holds_all (n := 32) (q := 512) (k := 31) (K := 31) (le_refl 31) ?_
  refine canon_row (n := 32) (q := 512) (k := 30) (K := 31) _ ?_
  refine canon_row (n := 32) (q := 512) (k := 29) (K := 31) _ ?_
  refine canon_row (n := 32) (q := 512) (k := 28) (K := 31) _ ?_
  refine canon_row (n := 32) (q := 512) (k := 27) (K := 31) _ ?_
  refine canon_row (n := 32) (q := 512) (k := 26) (K := 31) _ ?_
  refine canon_row (n := 32) (q := 512) (k := 25) (K := 31) _ ?_
  refine canon_row (n := 32) (q := 512) (k := 24) (K := 31) _ ?_
  refine canon_row (n := 32) (q := 512) (k := 23) (K := 31) _ ?_
  refine canon_row (n := 32) (q := 512) (k := 22) (K := 31) _ ?_
  refine canon_row (n := 32) (q := 512) (k := 21) (K := 31) _ ?_
  refine canon_row (n := 32) (q := 512) (k := 20) (K := 31) _ ?_
  refine canon_row (n := 32) (q := 512) (k := 19) (K := 31) _ ?_
  refine canon_row (n := 32) (q := 512) (k := 18) (K := 31) _ ?_
  refine canon_row (n := 32) (q := 512) (k := 17) (K := 31) _ ?_
  refine canon_row (n := 32) (q := 512) (k := 16) (K := 31) _ ?_
  refine canon_row (n := 32) (q := 512) (k := 15) (K := 31) _ ?_
  refine canon_row (n := 32) (q := 512) (k := 14) (K := 31) _ ?_
  refine canon_row (n := 32) (q := 512) (k := 13) (K := 31) _ ?_
  refine canon_row (n := 32) (q := 512) (k := 12) (K := 31) _ ?_
  refine canon_row (n := 32) (q := 512) (k := 11) (K := 31) _ ?_
  refine canon_row (n := 32) (q := 512) (k := 10) (K := 31) _ ?_
  refine canon_row (n := 32) (q := 512) (k := 9) (K := 31) _ ?_
  refine canon_row (n := 32) (q := 512) (k := 8) (K := 31) _ ?_
  refine canon_row (n := 32) (q := 512) (k := 7) (K := 31) _ ?_
  refine canon_row (n := 32) (q := 512) (k := 6) (K := 31) _ ?_
  refine canon_row (n := 32) (q := 512) (k := 5) (K := 31) _ ?_
  refine canon_row (n := 32) (q := 512) (k := 4) (K := 31) _ ?_
  refine canon_row (n := 32) (q := 512) (k := 3) (K := 31) _ ?_
  refine canon_row (n := 32) (q := 512) (k := 2) (K := 31) _ ?_
  refine canon_row (n := 32) (q := 512) (k := 1) (K := 31) _ ?_
  refine canon_row0 (n := 32) (q := 512) (K := 31) _ ?_
  exact canon_fill (hF25 a _ _) _

set_option maxHeartbeats 4000000 in
theorem step25B (h0 : ¬t.val % 8 = 0) (hp : t.val - 1 < cfg0.N) (q27 : (outsAt0 m c (t.val - 1) hp).2.2.2.2.2.2.2.2.2.1 = up2 (n := 288) (m := 512) (wrap (lo t.val + 256) a.dcv)) (S : ℕ → ℕ → ℝ) (qs : (outsAt0 m c (t.val - 1) hp).2.2.2.2.2.2.2.2.1 = up2 (n := 32) (m := 512) S) : (outsAt0 m c t.val t.isLt).2.2.2.2.2.2.2.2.1 = up2 (n := 32) (m := 512) (acc2 a.ddwf (lo t.val) S) := by
  have hb := lo_le t (tlt t)
  rw [outsAt0_B m c t h0]
  frame_out
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay5, t_pay6, t_pay11, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, tap_ld, tap_end, shift_all, slab_ld, q27, qs]
  rw [tap_B _ _ _ _ (read_unread_whole cc0_scratch0 _ _)]
  simp (config := {implicitDefEqProofs := false, proj := false}) only [ib0 H t, ib1 H t, ib2 H t, ib3 H t, ib4 H t, ib5 H t, ib6 H t, ib7 H t, ib8 H t, ib9 H t, ib10 H t, ib11 H t, ib12 H t, ib13 H t, ib14 H t, ib15 H t, ib16 H t, ld_up2, ld_up3, ld_up3b, cl_zero, bk_zero, cl_bk, bk_bk, ↓cov_ld, word_eq t, Nat.reduceAdd, Nat.add_zero, Nat.reduceLeDiff, le_refl, t_pay5, t_pay6, t_pay11, t_pay40, t_pay41, t_pay42, t_pay46, t_pay49 a (lo t.val) hb, t_pay51 a (lo t.val) hb, t_pay53, t_pay54, t_pay55, t_pay56, t_pay57, t_pay58, t_pay59, t_pay60, t_pay61, t_pay62, t_pay63, t_pay64, t_pay65, t_pay66, t_pay67, t_pay68, t_pay69, t_pay70, t_pay71, t_pay72, t_pay73, t_pay74, t_pay75, t_pay76, t_pay77, t_pay78, t_pay79, t_pay80, t_pay81, t_pay82, t_pay83, t_pay84, t_pay85, t_pay86, t_pay87, t_pay88, t_pay89, t_pay90, t_pay91, t_pay92, t_pay93, t_pay94, t_pay95, t_pay96, t_pay97, t_pay98, t_pay99, t_pay100, t_pay101, t_pay102, t_pay103, t_pay104, t_pay105, t_pay106, t_pay107, t_pay108, t_pay109, t_pay110, t_pay111, t_pay112, t_pay113, t_pay114, t_pay115, t_pay116, t_pay117, t_pay118, t_pay119, t_pay120, t_pay121, t_pay122, t_pay123, t_pay124, t_pay125, t_pay126, t_pay127, t_pay128, t_pay129, t_pay130, t_pay131, t_pay132, t_pay133, t_pay134, t_pay135, t_pay136, t_pay137, t_pay138, t_pay139, t_pay140, t_pay141, t_pay142, t_pay143, t_pay144, tap_ld, tap_end, shift_all, slab_ld, q27, qs]
  refine holds_all (n := 32) (q := 512) (k := 31) (K := 31) (le_refl 31) ?_
  refine store_row (n := 32) (q := 512) (k := 30) (K := 31) _ ?_
  refine store_row (n := 32) (q := 512) (k := 29) (K := 31) _ ?_
  refine store_row (n := 32) (q := 512) (k := 28) (K := 31) _ ?_
  refine store_row (n := 32) (q := 512) (k := 27) (K := 31) _ ?_
  refine store_row (n := 32) (q := 512) (k := 26) (K := 31) _ ?_
  refine store_row (n := 32) (q := 512) (k := 25) (K := 31) _ ?_
  refine store_row (n := 32) (q := 512) (k := 24) (K := 31) _ ?_
  refine store_row (n := 32) (q := 512) (k := 23) (K := 31) _ ?_
  refine store_row (n := 32) (q := 512) (k := 22) (K := 31) _ ?_
  refine store_row (n := 32) (q := 512) (k := 21) (K := 31) _ ?_
  refine store_row (n := 32) (q := 512) (k := 20) (K := 31) _ ?_
  refine store_row (n := 32) (q := 512) (k := 19) (K := 31) _ ?_
  refine store_row (n := 32) (q := 512) (k := 18) (K := 31) _ ?_
  refine store_row (n := 32) (q := 512) (k := 17) (K := 31) _ ?_
  refine store_row (n := 32) (q := 512) (k := 16) (K := 31) _ ?_
  refine store_row (n := 32) (q := 512) (k := 15) (K := 31) _ ?_
  refine store_row (n := 32) (q := 512) (k := 14) (K := 31) _ ?_
  refine store_row (n := 32) (q := 512) (k := 13) (K := 31) _ ?_
  refine store_row (n := 32) (q := 512) (k := 12) (K := 31) _ ?_
  refine store_row (n := 32) (q := 512) (k := 11) (K := 31) _ ?_
  refine store_row (n := 32) (q := 512) (k := 10) (K := 31) _ ?_
  refine store_row (n := 32) (q := 512) (k := 9) (K := 31) _ ?_
  refine store_row (n := 32) (q := 512) (k := 8) (K := 31) _ ?_
  refine store_row (n := 32) (q := 512) (k := 7) (K := 31) _ ?_
  refine store_row (n := 32) (q := 512) (k := 6) (K := 31) _ ?_
  refine store_row (n := 32) (q := 512) (k := 5) (K := 31) _ ?_
  refine store_row (n := 32) (q := 512) (k := 4) (K := 31) _ ?_
  refine store_row (n := 32) (q := 512) (k := 3) (K := 31) _ ?_
  refine store_row (n := 32) (q := 512) (k := 2) (K := 31) _ ?_
  refine store_row (n := 32) (q := 512) (k := 1) (K := 31) _ ?_
  refine store_row0 (n := 32) (q := 512) (K := 31) _ ?_
  exact store_base (hF25 a _ _) (Memref.IsWhole.read_unread _ _)

end Cert.Proof
-- ==== Proof.Points.lean ====
/-
  POINTS: the outputs and the running sums at every grid point, by induction over the points.
-/
module

public import proofs.«01_k».proof.Proof.StepS
public import proofs.«01_k».proof.Proof.StepU
public import proofs.«01_k».proof.Proof.StepX
public import proofs.«01_k».proof.Proof.StepV
public import proofs.«01_k».proof.Proof.StepW

@[expose] public section

set_option maxRecDepth 16384

noncomputable section

open Idealize.ShloMosaic Idealize.ShloMosaic.TcCoe Cert.KernelIdeal Cert.KernelIdeal.Gen
open scoped BigOperators

namespace Cert.Proof

theorem lo_pred (t : ℕ) (ht : t < 8) (h : ¬t % 8 = 0) : lo (t - 1) = lo t + 256 := by unfold lo; omega
theorem lo_last : lo 7 = 0 := rfl

variable {m : (ℓ : Loc nD τ sig) → Buf (Elt Ideal) ℓ} {c : Dev nD} {a : Arr} (H : Ins m c a)
include H

theorem buf27 (t : Fin cfg0.N) : (outsAt0 m c t.val t.isLt).2.2.2.2.2.2.2.2.2.1 = up2 (n := 288) (m := 512) (wrap (lo t.val) a.dcv) := by
  by_cases h0 : t.val % 8 = 0
  · exact step27A H t h0
  · exact step27B H t h0 (lt_of_le_of_lt (Nat.sub_le _ _) t.isLt)

theorem prev27 (t : Fin cfg0.N) (h0 : ¬t.val % 8 = 0) (hp : t.val - 1 < cfg0.N) : (outsAt0 m c (t.val - 1) hp).2.2.2.2.2.2.2.2.2.1 = up2 (n := 288) (m := 512) (wrap (lo t.val + 256) a.dcv) := by
  rw [← lo_pred t.val (tlt t) h0]
  exact buf27 H ⟨t.val - 1, hp⟩

theorem buf28 (t : Fin cfg0.N) : (outsAt0 m c t.val t.isLt).2.2.2.2.2.2.2.2.2.2 = up2 (n := 272) (m := 512) (wrap (lo t.val) a.dpc) := by
  by_cases h0 : t.val % 8 = 0
  · exact step28A H t h0
  · exact step28B H t h0 (lt_of_le_of_lt (Nat.sub_le _ _) t.isLt)

theorem prev28 (t : Fin cfg0.N) (h0 : ¬t.val % 8 = 0) (hp : t.val - 1 < cfg0.N) : (outsAt0 m c (t.val - 1) hp).2.2.2.2.2.2.2.2.2.2 = up2 (n := 272) (m := 512) (wrap (lo t.val + 256) a.dpc) := by
  rw [← lo_pred t.val (tlt t) h0]
  exact buf28 H ⟨t.val - 1, hp⟩

theorem tile17 (t : Fin cfg0.N) : (outsAt0 m c t.val t.isLt).1 = up2 (n := 256) (m := 1024) (bk (lo t.val) a.gx) := by
  by_cases h0 : t.val % 8 = 0
  · exact step17A H t h0
  · have hp : t.val - 1 < cfg0.N := lt_of_le_of_lt (Nat.sub_le _ _) t.isLt
    exact step17B H t h0 hp (prev28 H t h0 hp) (prev27 H t h0 hp)

theorem tile18 (t : Fin cfg0.N) : (outsAt0 m c t.val t.isLt).2.1 = up2 (n := 256) (m := 1024) (bk (lo t.val) a.h) := by
  by_cases h0 : t.val % 8 = 0
  · exact step18A H t h0
  · have hp : t.val - 1 < cfg0.N := lt_of_le_of_lt (Nat.sub_le _ _) t.isLt
    exact step18B H t h0 hp

theorem tile19 (t : Fin cfg0.N) : (outsAt0 m c t.val t.isLt).2.2.1 = up2 (n := 256) (m := 1536) (bk (lo t.val) a.du) := by
  by_cases h0 : t.val % 8 = 0
  · exact step19A H t h0
  · have hp : t.val - 1 < cfg0.N := lt_of_le_of_lt (Nat.sub_le _ _) t.isLt
    exact step19B H t h0 hp (prev28 H t h0 hp) (prev27 H t h0 hp)

theorem tile20 (t : Fin cfg0.N) : (outsAt0 m c t.val t.isLt).2.2.2.1 = up2 (n := 256) (m := 1024) (bk (lo t.val) a.dy) := by
  by_cases h0 : t.val % 8 = 0
  · exact step20A H t h0
  · have hp : t.val - 1 < cfg0.N := lt_of_le_of_lt (Nat.sub_le _ _) t.isLt
    exact step20B H t h0 hp

theorem tot21 (t : ℕ) (ht : t < cfg0.N) : (outsAt0 m c t ht).2.2.2.2.1 = up2 (n := 512) (m := 512) (tot2 a.gpwf (lo t)) := by
  induction t with
  | zero =>
    have e := step21A H ⟨0, ht⟩ rfl
    rw [acc2_zr a.gpwf _ (lo_first ⟨0, ht⟩ rfl)] at e
    exact e
  | succ s ih =>
    have hp : s < cfg0.N := Nat.lt_of_succ_lt ht
    have h8 : s + 1 < 8 := tlt ⟨s + 1, ht⟩
    obtain ⟨t, et⟩ : ∃ t : Fin cfg0.N, t = ⟨s + 1, ht⟩ := ⟨_, rfl⟩
    have ev : t.val = s + 1 := congrArg Fin.val et
    have h0 : ¬t.val % 8 = 0 := by omega
    have hs : t.val - 1 = s := by omega
    have hp : t.val - 1 < cfg0.N := by omega
    have e := step21B H t h0 hp (tot2 a.gpwf (lo t.val + 256)) (by
      rw [← lo_pred t.val (tlt t) h0]
      simp only [hs]
      exact ih _)
    rw [acc2_tot a.gpwf _ (lo_le t (tlt t))] at e
    subst et
    exact e

theorem tot22 (t : ℕ) (ht : t < cfg0.N) : (outsAt0 m c t ht).2.2.2.2.2.1 = up3 (l := 4) (n := 128) (m := 128) (tot3 a.gwgf (lo t)) := by
  induction t with
  | zero =>
    have e := step22A H ⟨0, ht⟩ rfl
    rw [acc3_zr a.gwgf _ (lo_first ⟨0, ht⟩ rfl)] at e
    exact e
  | succ s ih =>
    have hp : s < cfg0.N := Nat.lt_of_succ_lt ht
    have h8 : s + 1 < 8 := tlt ⟨s + 1, ht⟩
    obtain ⟨t, et⟩ : ∃ t : Fin cfg0.N, t = ⟨s + 1, ht⟩ := ⟨_, rfl⟩
    have ev : t.val = s + 1 := congrArg Fin.val et
    have h0 : ¬t.val % 8 = 0 := by omega
    have hs : t.val - 1 = s := by omega
    have hp : t.val - 1 < cfg0.N := by omega
    have e := step22B H t h0 hp (tot3 a.gwgf (lo t.val + 256)) (by
      rw [← lo_pred t.val (tlt t) h0]
      simp only [hs]
      exact ih _)
    rw [acc3_tot a.gwgf _ (lo_le t (tlt t))] at e
    subst et
    exact e

theorem tot23 (t : ℕ) (ht : t < cfg0.N) : (outsAt0 m c t ht).2.2.2.2.2.2.1 = up2 (n := 8) (m := 1024) (tot2 a.vdf (lo t)) := by
  induction t with
  | zero =>
    have e := step23A H ⟨0, ht⟩ rfl
    rw [acc2_zr a.vdf _ (lo_first ⟨0, ht⟩ rfl)] at e
    exact e
  | succ s ih =>
    have hp : s < cfg0.N := Nat.lt_of_succ_lt ht
    have h8 : s + 1 < 8 := tlt ⟨s + 1, ht⟩
    obtain ⟨t, et⟩ : ∃ t : Fin cfg0.N, t = ⟨s + 1, ht⟩ := ⟨_, rfl⟩
    have ev : t.val = s + 1 := congrArg Fin.val et
    have h0 : ¬t.val % 8 = 0 := by omega
    have hs : t.val - 1 = s := by omega
    have hp : t.val - 1 < cfg0.N := by omega
    have e := step23B H t h0 hp (prev28 H t h0 hp) (prev27 H t h0 hp) (tot2 a.vdf (lo t.val + 256)) (by
      rw [← lo_pred t.val (tlt t) h0]
      simp only [hs]
      exact ih _)
    rw [acc2_tot a.vdf _ (lo_le t (tlt t))] at e
    subst et
    exact e

theorem tot24 (t : ℕ) (ht : t < cfg0.N) : (outsAt0 m c t ht).2.2.2.2.2.2.2.1 = up2 (n := 8) (m := 512) (tot2 a.vcf (lo t)) := by
  induction t with
  | zero =>
    have e := step24A H ⟨0, ht⟩ rfl
    rw [acc2_zr a.vcf _ (lo_first ⟨0, ht⟩ rfl)] at e
    exact e
  | succ s ih =>
    have hp : s < cfg0.N := Nat.lt_of_succ_lt ht
    have h8 : s + 1 < 8 := tlt ⟨s + 1, ht⟩
    obtain ⟨t, et⟩ : ∃ t : Fin cfg0.N, t = ⟨s + 1, ht⟩ := ⟨_, rfl⟩
    have ev : t.val = s + 1 := congrArg Fin.val et
    have h0 : ¬t.val % 8 = 0 := by omega
    have hs : t.val - 1 = s := by omega
    have hp : t.val - 1 < cfg0.N := by omega
    have e := step24B H t h0 hp (tot2 a.vcf (lo t.val + 256)) (by
      rw [← lo_pred t.val (tlt t) h0]
      simp only [hs]
      exact ih _)
    rw [acc2_tot a.vcf _ (lo_le t (tlt t))] at e
    subst et
    exact e

theorem tot25 (t : ℕ) (ht : t < cfg0.N) : (outsAt0 m c t ht).2.2.2.2.2.2.2.2.1 = up2 (n := 32) (m := 512) (tot2 a.ddwf (lo t)) := by
  induction t with
  | zero =>
    have e := step25A H ⟨0, ht⟩ rfl
    rw [acc2_zr a.ddwf _ (lo_first ⟨0, ht⟩ rfl)] at e
    exact e
  | succ s ih =>
    have hp : s < cfg0.N := Nat.lt_of_succ_lt ht
    have h8 : s + 1 < 8 := tlt ⟨s + 1, ht⟩
    obtain ⟨t, et⟩ : ∃ t : Fin cfg0.N, t = ⟨s + 1, ht⟩ := ⟨_, rfl⟩
    have ev : t.val = s + 1 := congrArg Fin.val et
    have h0 : ¬t.val % 8 = 0 := by omega
    have hs : t.val - 1 = s := by omega
    have hp : t.val - 1 < cfg0.N := by omega
    have e := step25B H t h0 hp (prev27 H t h0 hp) (tot2 a.ddwf (lo t.val + 256)) (by
      rw [← lo_pred t.val (tlt t) h0]
      simp only [hs]
      exact ih _)
    rw [acc2_tot a.ddwf _ (lo_le t (tlt t))] at e
    subst et
    exact e

end Cert.Proof
-- ==== Proof.Arrays.lean ====
/-
  ARRAYS: the nine arrays the run leaves, from the points.
-/
module

public import proofs.«01_k».proof.Proof.Points
public import Idealize.ShloMosaic.Lib.Pipeline.ValueKit

@[expose] public section

set_option maxRecDepth 16384

noncomputable section

open Idealize.ShloMosaic Idealize.ShloMosaic.TcCoe Cert.KernelIdeal Cert.KernelIdeal.Gen
open scoped BigOperators

namespace Cert.Proof

variable {m : (ℓ : Loc nD τ sig) → Buf (Elt Ideal) ℓ} {c : Dev nD} {a : Arr}

theorem ix17 : ∀ t : Fin cfg0.N, (cfg0.win 17).index t = ![7 - t.val, 0] := by decide +kernel
theorem out17 (H : Ins m c a) : (dats m 0 c).arrAt 17 cfg0.N = up2 (n := 2048) (m := 1024) a.gx := by
  refine (dats m 0 c).arrAt_eq_of_covers 17 _ (by decide +kernel) fun t hf y => ?_
  have e0 := congrFun (ix17 t) 0
  have e1 := congrFun (ix17 t) 1
  blk_simp
  rw [after0_17, tile17 H t]
  blk_simp [up2, bk, lo]
  refine congrArg _ (congrArg₂ a.gx ?_ ?_)
  · rw [show win0_17.index t 0 = 7 - t.val from e0, Nat.mul_comm]
  · rw [show win0_17.index t 1 = 0 from e1, Nat.zero_mul, Nat.zero_add]

theorem ix18 : ∀ t : Fin cfg0.N, (cfg0.win 18).index t = ![7 - t.val, 0] := by decide +kernel
theorem out18 (H : Ins m c a) : (dats m 0 c).arrAt 18 cfg0.N = up2 (n := 2048) (m := 1024) a.h := by
  refine (dats m 0 c).arrAt_eq_of_covers 18 _ (by decide +kernel) fun t hf y => ?_
  have e0 := congrFun (ix18 t) 0
  have e1 := congrFun (ix18 t) 1
  blk_simp
  rw [after0_18, tile18 H t]
  blk_simp [up2, bk, lo]
  refine congrArg _ (congrArg₂ a.h ?_ ?_)
  · rw [show win0_18.index t 0 = 7 - t.val from e0, Nat.mul_comm]
  · rw [show win0_18.index t 1 = 0 from e1, Nat.zero_mul, Nat.zero_add]

theorem ix19 : ∀ t : Fin cfg0.N, (cfg0.win 19).index t = ![7 - t.val, 0] := by decide +kernel
theorem out19 (H : Ins m c a) : (dats m 0 c).arrAt 19 cfg0.N = up2 (n := 2048) (m := 1536) a.du := by
  refine (dats m 0 c).arrAt_eq_of_covers 19 _ (by decide +kernel) fun t hf y => ?_
  have e0 := congrFun (ix19 t) 0
  have e1 := congrFun (ix19 t) 1
  blk_simp
  rw [after0_19, tile19 H t]
  blk_simp [up2, bk, lo]
  refine congrArg _ (congrArg₂ a.du ?_ ?_)
  · rw [show win0_19.index t 0 = 7 - t.val from e0, Nat.mul_comm]
  · rw [show win0_19.index t 1 = 0 from e1, Nat.zero_mul, Nat.zero_add]

theorem ix20 : ∀ t : Fin cfg0.N, (cfg0.win 20).index t = ![7 - t.val, 0] := by decide +kernel
theorem out20 (H : Ins m c a) : (dats m 0 c).arrAt 20 cfg0.N = up2 (n := 2048) (m := 1024) a.dy := by
  refine (dats m 0 c).arrAt_eq_of_covers 20 _ (by decide +kernel) fun t hf y => ?_
  have e0 := congrFun (ix20 t) 0
  have e1 := congrFun (ix20 t) 1
  blk_simp
  rw [after0_20, tile20 H t]
  blk_simp [up2, bk, lo]
  refine congrArg _ (congrArg₂ a.dy ?_ ?_)
  · rw [show win0_20.index t 0 = 7 - t.val from e0, Nat.mul_comm]
  · rw [show win0_20.index t 1 = 0 from e1, Nat.zero_mul, Nat.zero_add]

theorem all21 : tot2 a.gpwf 0 = a.gpw := by
  funext i j
  simp only [tot2, Arr.gpw, Arr.gpwf, Nat.sub_zero, Nat.zero_add]
theorem out21 (H : Ins m c a) : (dats m 0 c).arrAt 21 cfg0.N = up2 (n := 512) (m := 512) a.gpw := by
  refine (dats m 0 c).arrAt_eq_of_after_last 21 t0_7 (by decide +kernel) _ fun j => ?_
  blk_simp
  rw [after0_21]
  have e := tot21 H t0_7.val t0_7.isLt
  rw [show lo t0_7.val = 0 from rfl, all21] at e
  exact congrFun e j

theorem all22 : tot3 a.gwgf 0 = a.gwg := by
  funext g i j
  simp only [tot3, Arr.gwg, Arr.gwgf, Nat.sub_zero, Nat.zero_add]
theorem out22 (H : Ins m c a) : (dats m 0 c).arrAt 22 cfg0.N = up3 (l := 4) (n := 128) (m := 128) a.gwg := by
  refine (dats m 0 c).arrAt_eq_of_after_last 22 t0_7 (by decide +kernel) _ fun j => ?_
  blk_simp
  rw [after0_22]
  have e := tot22 H t0_7.val t0_7.isLt
  rw [show lo t0_7.val = 0 from rfl, all22] at e
  exact congrFun e j

theorem all23 : tot2 a.vdf 0 = a.vd := by
  funext i j
  simp only [tot2, Arr.vd, Arr.vdf, Nat.sub_zero, Nat.zero_add]
  split_ifs <;> simp
theorem out23 (H : Ins m c a) : (dats m 0 c).arrAt 23 cfg0.N = up2 (n := 8) (m := 1024) a.vd := by
  refine (dats m 0 c).arrAt_eq_of_after_last 23 t0_7 (by decide +kernel) _ fun j => ?_
  blk_simp
  rw [after0_23]
  have e := tot23 H t0_7.val t0_7.isLt
  rw [show lo t0_7.val = 0 from rfl, all23] at e
  exact congrFun e j

theorem all24 : tot2 a.vcf 0 = a.vc := by
  funext i j
  simp only [tot2, Arr.vc, Arr.vcf, Nat.sub_zero, Nat.zero_add]
  split_ifs <;> simp
theorem out24 (H : Ins m c a) : (dats m 0 c).arrAt 24 cfg0.N = up2 (n := 8) (m := 512) a.vc := by
  refine (dats m 0 c).arrAt_eq_of_after_last 24 t0_7 (by decide +kernel) _ fun j => ?_
  blk_simp
  rw [after0_24]
  have e := tot24 H t0_7.val t0_7.isLt
  rw [show lo t0_7.val = 0 from rfl, all24] at e
  exact congrFun e j

theorem all25 : tot2 a.ddwf 0 = a.ddw := by
  funext i j
  simp only [tot2, Arr.ddw, Arr.ddwf, Nat.sub_zero, Nat.zero_add]
  split_ifs <;> simp
theorem out25 (H : Ins m c a) : (dats m 0 c).arrAt 25 cfg0.N = up2 (n := 32) (m := 512) a.ddw := by
  refine (dats m 0 c).arrAt_eq_of_after_last 25 t0_7 (by decide +kernel) _ fun j => ?_
  blk_simp
  rw [after0_25]
  have e := tot25 H t0_7.val t0_7.isLt
  rw [show lo t0_7.val = 0 from rfl, all25] at e
  exact congrFun e j

end Cert.Proof
-- ==== Proof.Host.lean ====
/-
  WHAT THE HOST LEAVES for the kernel: the five saved forward arrays are the reference's own forward lines, the other operands are the arguments cut or padded.
-/
module

public import proofs.«01_k».proof.Proof.Gen.KernelIdeal.Value
public import proofs.«01_k».proof.Proof.Gen.ReferenceIdeal.Read
public import Idealize.ShloMosaic.Lib.StableHlo.RunRead

@[expose] public section

set_option maxRecDepth 16384
set_option maxHeartbeats 1600000

noncomputable section

open Idealize.ShloMosaic Idealize.ShloMosaic.TcCoe Cert.KernelIdeal Cert.KernelIdeal.Gen

namespace Cert.Proof

variable (m : (ℓ : Loc nD τ sig) → Buf (Elt Ideal) ℓ) (c : Dev nD)

/-- The host operations before the kernel, in order. -/
abbrev hostLine : List (HloOp τ sig (Elt Ideal)) := hostOps0 ++ (hostOps0_1 ++ (hostOps0_2 ++ (hostOps0_3 ++ (hostOps0_4 ++ (hostOps0_5 ++ hostOps0_6)))))

theorem V_line (b : Ref sig .tc) : V m c b = StableHlo.after hostLine (fun b => m (c, b)) b := by
  unfold V
  simp only [List.flatten_cons, List.flatten_nil, List.append_nil]

/-- What a buffer holds just before operation `n` of the host line. -/
abbrev hostAt (n : ℕ) (b : Ref sig .tc) : Buf (Elt Ideal) ((c : Thread nD τ).loc b) := StableHlo.upto hostLine (fun b => m (c, b)) n b

theorem piece_v32 : hostAt m c 40 main_v32 = Cert.ReferenceIdeal.Read.val_main_v39 (F := Ideal)  := by
  unfold hostAt
  after_reads_simp
  rfl

theorem piece_v30 : hostAt m c 40 main_v30 = Cert.ReferenceIdeal.Read.val_main_v37 (F := Ideal) (m ((c : Thread nD τ).loc main_arg1)) (m ((c : Thread nD τ).loc main_arg2)) (m ((c : Thread nD τ).loc main_arg3)) (m ((c : Thread nD τ).loc main_arg4)) := by
  unfold hostAt
  after_reads_simp
  rfl

theorem piece_v80 : hostAt m c 102 main_v80 = Cert.ReferenceIdeal.Read.val_main_v93 (F := Ideal)  := by
  unfold hostAt
  after_reads_simp
  rfl

theorem piece_v81 : hostAt m c 102 main_v81 = Cert.ReferenceIdeal.Read.val_main_v94 (F := Ideal) (m ((c : Thread nD τ).loc main_arg1)) (m ((c : Thread nD τ).loc main_arg2)) (m ((c : Thread nD τ).loc main_arg3)) (m ((c : Thread nD τ).loc main_arg4)) := by
  unfold hostAt
  after_reads_simp
  rfl

theorem piece_v93 : hostAt m c 118 main_v93 = Cert.ReferenceIdeal.Read.val_main_v107 (F := Ideal)  := by
  unfold hostAt
  after_reads_simp
  rfl

theorem piece_v94 : hostAt m c 118 main_v94 = Cert.ReferenceIdeal.Read.val_main_v108 (F := Ideal) (m ((c : Thread nD τ).loc main_arg1)) (m ((c : Thread nD τ).loc main_arg2)) (m ((c : Thread nD τ).loc main_arg3)) (m ((c : Thread nD τ).loc main_arg4)) := by
  unfold hostAt
  after_reads_simp
  rfl

theorem piece_v106 : hostAt m c 134 main_v106 = Cert.ReferenceIdeal.Read.val_main_v121 (F := Ideal)  := by
  unfold hostAt
  after_reads_simp
  rfl

theorem piece_v107 : hostAt m c 134 main_v107 = Cert.ReferenceIdeal.Read.val_main_v122 (F := Ideal) (m ((c : Thread nD τ).loc main_arg1)) (m ((c : Thread nD τ).loc main_arg2)) (m ((c : Thread nD τ).loc main_arg3)) (m ((c : Thread nD τ).loc main_arg4)) := by
  unfold hostAt
  after_reads_simp
  rfl

theorem piece_v119 : hostAt m c 150 main_v119 = Cert.ReferenceIdeal.Read.val_main_v135 (F := Ideal)  := by
  unfold hostAt
  after_reads_simp
  rfl

theorem piece_v120 : hostAt m c 150 main_v120 = Cert.ReferenceIdeal.Read.val_main_v136 (F := Ideal) (m ((c : Thread nD τ).loc main_arg1)) (m ((c : Thread nD τ).loc main_arg2)) (m ((c : Thread nD τ).loc main_arg3)) (m ((c : Thread nD τ).loc main_arg4)) := by
  unfold hostAt
  after_reads_simp
  rfl

theorem piece_v86 : hostAt m c 155 main_v86 = Cert.ReferenceIdeal.Read.val_main_v100 (F := Ideal) (m ((c : Thread nD τ).loc main_arg1)) (m ((c : Thread nD τ).loc main_arg2)) (m ((c : Thread nD τ).loc main_arg3)) (m ((c : Thread nD τ).loc main_arg4)) := by
  unfold hostAt
  after_reads_simp
  rw [show StableHlo.upto hostLine (fun b => m (c, b)) 102 (Proc.devRef .tc main_v80) = _ from piece_v80 m c]
  rw [show StableHlo.upto hostLine (fun b => m (c, b)) 102 (Proc.devRef .tc main_v81) = _ from piece_v81 m c]
  rfl

theorem piece_v99 : hostAt m c 155 main_v99 = Cert.ReferenceIdeal.Read.val_main_v114 (F := Ideal) (m ((c : Thread nD τ).loc main_arg1)) (m ((c : Thread nD τ).loc main_arg2)) (m ((c : Thread nD τ).loc main_arg3)) (m ((c : Thread nD τ).loc main_arg4)) := by
  unfold hostAt
  after_reads_simp
  rw [show StableHlo.upto hostLine (fun b => m (c, b)) 118 (Proc.devRef .tc main_v93) = _ from piece_v93 m c]
  rw [show StableHlo.upto hostLine (fun b => m (c, b)) 118 (Proc.devRef .tc main_v94) = _ from piece_v94 m c]
  rfl

theorem piece_v112 : hostAt m c 155 main_v112 = Cert.ReferenceIdeal.Read.val_main_v128 (F := Ideal) (m ((c : Thread nD τ).loc main_arg1)) (m ((c : Thread nD τ).loc main_arg2)) (m ((c : Thread nD τ).loc main_arg3)) (m ((c : Thread nD τ).loc main_arg4)) := by
  unfold hostAt
  after_reads_simp
  rw [show StableHlo.upto hostLine (fun b => m (c, b)) 134 (Proc.devRef .tc main_v106) = _ from piece_v106 m c]
  rw [show StableHlo.upto hostLine (fun b => m (c, b)) 134 (Proc.devRef .tc main_v107) = _ from piece_v107 m c]
  rfl

theorem piece_v125 : hostAt m c 155 main_v125 = Cert.ReferenceIdeal.Read.val_main_v142 (F := Ideal) (m ((c : Thread nD τ).loc main_arg1)) (m ((c : Thread nD τ).loc main_arg2)) (m ((c : Thread nD τ).loc main_arg3)) (m ((c : Thread nD τ).loc main_arg4)) := by
  unfold hostAt
  after_reads_simp
  rw [show StableHlo.upto hostLine (fun b => m (c, b)) 150 (Proc.devRef .tc main_v119) = _ from piece_v119 m c]
  rw [show StableHlo.upto hostLine (fun b => m (c, b)) 150 (Proc.devRef .tc main_v120) = _ from piece_v120 m c]
  rfl

theorem piece_v133 : hostAt m c 177 main_v133 = Cert.ReferenceIdeal.Read.val_main_v150 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold hostAt
  after_reads_simp
  rw [show StableHlo.upto hostLine (fun b => m (c, b)) 40 (Proc.devRef .tc main_v32) = _ from piece_v32 m c]
  rw [show StableHlo.upto hostLine (fun b => m (c, b)) 40 (Proc.devRef .tc main_v30) = _ from piece_v30 m c]
  rfl

theorem piece_v139 : hostAt m c 177 main_v139 = Cert.ReferenceIdeal.Read.val_main_v156 (F := Ideal) (m ((c : Thread nD τ).loc main_arg1)) (m ((c : Thread nD τ).loc main_arg2)) (m ((c : Thread nD τ).loc main_arg3)) (m ((c : Thread nD τ).loc main_arg4)) (m ((c : Thread nD τ).loc main_arg10)) (m ((c : Thread nD τ).loc main_arg11)) := by
  unfold hostAt
  after_reads_simp
  rw [show StableHlo.upto hostLine (fun b => m (c, b)) 155 (Proc.devRef .tc ((![main_v86, main_v99, main_v112, main_v125] : Fin 4 → Ref sig .tc) 0)) = _ from piece_v86 m c]
  rw [show StableHlo.upto hostLine (fun b => m (c, b)) 155 (Proc.devRef .tc ((![main_v86, main_v99, main_v112, main_v125] : Fin 4 → Ref sig .tc) 1)) = _ from piece_v99 m c]
  rw [show StableHlo.upto hostLine (fun b => m (c, b)) 155 (Proc.devRef .tc ((![main_v86, main_v99, main_v112, main_v125] : Fin 4 → Ref sig .tc) 2)) = _ from piece_v112 m c]
  rw [show StableHlo.upto hostLine (fun b => m (c, b)) 155 (Proc.devRef .tc ((![main_v86, main_v99, main_v112, main_v125] : Fin 4 → Ref sig .tc) 3)) = _ from piece_v125 m c]
  rfl

theorem host_v20 : V m c main_v20 = Cert.ReferenceIdeal.Read.val_main_v24 (F := Ideal) (m ((c : Thread nD τ).loc main_arg1)) (m ((c : Thread nD τ).loc main_arg2)) (m ((c : Thread nD τ).loc main_arg3)) (m ((c : Thread nD τ).loc main_arg4)) := by
  rw [V_line]
  after_reads_simp
  rfl

theorem host_v66 : V m c main_v66 = Cert.ReferenceIdeal.Read.val_main_v76 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [V_line]
  after_reads_simp
  rw [show StableHlo.upto hostLine (fun b => m (c, b)) 40 (Proc.devRef .tc main_v32) = _ from piece_v32 m c]
  rw [show StableHlo.upto hostLine (fun b => m (c, b)) 40 (Proc.devRef .tc main_v30) = _ from piece_v30 m c]
  rfl

theorem host_v70 : V m c main_v70 = Cert.ReferenceIdeal.Read.val_main_v83 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [V_line]
  after_reads_simp
  rw [show StableHlo.upto hostLine (fun b => m (c, b)) 40 (Proc.devRef .tc main_v32) = _ from piece_v32 m c]
  rw [show StableHlo.upto hostLine (fun b => m (c, b)) 40 (Proc.devRef .tc main_v30) = _ from piece_v30 m c]
  rfl

theorem host_v146 : V m c main_v146 = Cert.ReferenceIdeal.Read.val_main_v144 (F := Ideal) (m ((c : Thread nD τ).loc main_arg1)) (m ((c : Thread nD τ).loc main_arg2)) (m ((c : Thread nD τ).loc main_arg3)) (m ((c : Thread nD τ).loc main_arg4)) := by
  rw [V_line]
  after_reads_simp
  rw [show StableHlo.upto hostLine (fun b => m (c, b)) 155 (Proc.devRef .tc ((![main_v86, main_v99, main_v112, main_v125] : Fin 4 → Ref sig .tc) 0)) = _ from piece_v86 m c]
  rw [show StableHlo.upto hostLine (fun b => m (c, b)) 155 (Proc.devRef .tc ((![main_v86, main_v99, main_v112, main_v125] : Fin 4 → Ref sig .tc) 1)) = _ from piece_v99 m c]
  rw [show StableHlo.upto hostLine (fun b => m (c, b)) 155 (Proc.devRef .tc ((![main_v86, main_v99, main_v112, main_v125] : Fin 4 → Ref sig .tc) 2)) = _ from piece_v112 m c]
  rw [show StableHlo.upto hostLine (fun b => m (c, b)) 155 (Proc.devRef .tc ((![main_v86, main_v99, main_v112, main_v125] : Fin 4 → Ref sig .tc) 3)) = _ from piece_v125 m c]
  rfl

theorem host_v141 : V m c main_v141 = Cert.ReferenceIdeal.Read.val_main_v158 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [V_line]
  after_reads_simp
  rw [show StableHlo.upto hostLine (fun b => m (c, b)) 177 (Proc.devRef .tc main_v133) = _ from piece_v133 m c]
  rw [show StableHlo.upto hostLine (fun b => m (c, b)) 177 (Proc.devRef .tc main_v139) = _ from piece_v139 m c]
  rfl

theorem host_v147 : V m c main_v147 = (m ((c : Thread nD τ).loc main_arg9)) := by
  rw [V_line]
  after_reads_simp
  rfl

theorem host_v148 : V m c main_v148 = (m ((c : Thread nD τ).loc main_arg10)) := by
  rw [V_line]
  after_reads_simp
  rfl

theorem host_v149 : V m c main_v149 = (m ((c : Thread nD τ).loc main_arg12)) := by
  rw [V_line]
  after_reads_simp
  rfl

theorem host_v144 : V m c main_v144 = transpose S4x1024x384 [1, 0, 2] (shapeCast S1024x4x384 (m ((c : Thread nD τ).loc main_arg4)) shapeCasts_S1024x1536_S1024x4x384) transposes_S1024x4x384_S4x1024x384_1_0_2 := by
  rw [V_line]
  after_reads_simp
  rfl

theorem host_v145 : V m c main_v145 = pad S32x512 ![0, 0] ![1, 0] ![0, 0] (m ((c : Thread nD τ).loc main_arg5)) (sitofp (F := Ideal) .f32 (constantI S_ 32 0#32)) pads_S31x512_S32x512_010_000 h_S_ := by
  rw [V_line]
  after_reads_simp
  rfl

end Cert.Proof
-- ==== Proof.Inputs.lean ====
/-
  INPUTS: what the kernel reads, from the arguments.
-/
module

public import proofs.«01_k».proof.Proof.Prep
public import proofs.«01_k».proof.Proof.Host
public import proofs.«01_k».proof.Proof.RefE

@[expose] public section

set_option maxRecDepth 16384

noncomputable section

open Idealize.ShloMosaic Idealize.ShloMosaic.TcCoe Cert.KernelIdeal Cert.KernelIdeal.Gen
open scoped BigOperators

namespace Cert.Proof

variable {m : (ℓ : Loc nD τ sig) → Buf (Elt Ideal) ℓ} {c : Dev nD} {a : Arr}

/-- The thirteen arguments are the real arrays. -/
structure Args (m : (ℓ : Loc nD τ sig) → Buf (Elt Ideal) ℓ) (c : Dev nD) (a : Arr) : Prop where
  g0 : m ((c : Thread nD τ).loc main_arg0) = up2 (n := 2048) (m := 1024) a.dx2
  g1 : m ((c : Thread nD τ).loc main_arg1) = up2 (n := 2048) (m := 1024) a.x
  g2 : m ((c : Thread nD τ).loc main_arg2) = up2 (n := 6) (m := 1024) a.md
  g3 : m ((c : Thread nD τ).loc main_arg3) = up2 (n := 1) (m := 1024) a.g1
  g4 : m ((c : Thread nD τ).loc main_arg4) = up2 (n := 1024) (m := 1536) a.win
  g5 : m ((c : Thread nD τ).loc main_arg5) = up2 (n := 31) (m := 512) a.dww
  g6 : m ((c : Thread nD τ).loc main_arg6) = up2 (n := 1) (m := 512) a.dwb
  g7 : m ((c : Thread nD τ).loc main_arg7) = up2 (n := 1) (m := 512) a.lng
  g8 : m ((c : Thread nD τ).loc main_arg8) = up2 (n := 1) (m := 512) a.lnb
  g9 : m ((c : Thread nD τ).loc main_arg9) = up2 (n := 512) (m := 512) a.wpw
  g10 : m ((c : Thread nD τ).loc main_arg10) = up3 (l := 4) (n := 128) (m := 128) a.wg
  g11 : m ((c : Thread nD τ).loc main_arg11) = up2 (n := 1) (m := 512) a.psc
  g12 : m ((c : Thread nD τ).loc main_arg12) = up2 (n := 1024) (m := 1024) a.wout

section
variable (m c)
theorem host_arg0 : V m c main_arg0 = m ((c : Thread nD τ).loc main_arg0) := by
  rw [V_line]
  after_reads_simp
theorem host_arg1 : V m c main_arg1 = m ((c : Thread nD τ).loc main_arg1) := by
  rw [V_line]
  after_reads_simp
theorem host_arg2 : V m c main_arg2 = m ((c : Thread nD τ).loc main_arg2) := by
  rw [V_line]
  after_reads_simp
theorem host_arg3 : V m c main_arg3 = m ((c : Thread nD τ).loc main_arg3) := by
  rw [V_line]
  after_reads_simp
theorem host_arg7 : V m c main_arg7 = m ((c : Thread nD τ).loc main_arg7) := by
  rw [V_line]
  after_reads_simp
theorem host_arg8 : V m c main_arg8 = m ((c : Thread nD τ).loc main_arg8) := by
  rw [V_line]
  after_reads_simp
theorem host_arg11 : V m c main_arg11 = m ((c : Thread nD τ).loc main_arg11) := by
  rw [V_line]
  after_reads_simp
end

theorem wing_of (h : (⟨2, ![1024, 1536]⟩ : Shape).ShapeCasts ⟨3, ![1024, 4, 384]⟩) (h2 : (⟨3, ![1024, 4, 384]⟩ : Shape).Transposes [1, 0, 2] ⟨3, ![4, 1024, 384]⟩) (a : Arr) :
    transpose S4x1024x384 [1, 0, 2] (shapeCast ⟨3, ![1024, 4, 384]⟩ (up2 (n := 1024) (m := 1536) a.win) h) h2 = up3 (l := 4) (n := 1024) (m := 384) a.wing := by
  rw [cast_groups (n := 1024) (w := 1536) (g := 4) (m := 384) rfl a.win h]
  rfl

theorem ins_of (G : Args m c a) : Ins m c a where
  h0 := (host_arg0 m c).trans G.g0
  h1 := (host_arg1 m c).trans G.g1
  h2 := (host_v141 m c).trans (by rw [G.g1, G.g2, G.g3, G.g4, G.g5, G.g6, G.g7, G.g8, G.g9, G.g10, G.g11, G.g12]; exact ref_v158 a)
  h3 := (host_v20 m c).trans (by rw [G.g1, G.g2, G.g3, G.g4]; exact ref_v24 a)
  h4 := (host_v70 m c).trans (by rw [G.g1, G.g2, G.g3, G.g4, G.g5, G.g6]; exact ref_v83 a)
  h5 := (host_v66 m c).trans (by rw [G.g1, G.g2, G.g3, G.g4, G.g5, G.g6]; exact ref_v76 a)
  h6 := (host_v146 m c).trans (by rw [G.g1, G.g2, G.g3, G.g4]; exact ref_v144 a)
  h7 := (host_arg2 m c).trans G.g2
  h8 := (host_arg3 m c).trans G.g3
  h9 := (host_v144 m c).trans (by rw [G.g4]; exact wing_of _ _ a)
  h10 := (host_v145 m c).trans (by
    rw [G.g5]
    refine (pad_up2 0 0 1 0 _ _ 0 _ _ ?_).trans (up2_congr fun k hk j hj => ?_)
    · show ((((0#32 : BitVec 32).toInt : ℤ) : ℝ) : EReal) = _
      simp
    · unfold Arr.dwwp
      simp only [Nat.zero_le, true_and, Nat.sub_zero]
      split_ifs <;> first | rfl | omega)
  h11 := (host_arg7 m c).trans G.g7
  h12 := (host_arg8 m c).trans G.g8
  h13 := (host_v147 m c).trans G.g9
  h14 := (host_v148 m c).trans G.g10
  h15 := (host_arg11 m c).trans G.g11
  h16 := (host_v149 m c).trans G.g12

end Cert.Proof
-- ==== Proof.Results.lean ====
/-
  RESULTS: the nine results of the reference's run, and of the kernel's, as the model's arrays.
-/
module

public import proofs.«01_k».proof.Proof.RefE
public import proofs.«01_k».proof.Proof.Arrays
public import proofs.«01_k».proof.Proof.Inputs
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem

namespace Cert.Proof

/-- The reference's arguments are the real arrays. -/
structure RArgs (m : (ℓ : Loc Cert.ReferenceIdeal.nD Cert.ReferenceIdeal.τ Cert.ReferenceIdeal.sig) → Buf (Elt Ideal) ℓ) (c : Dev Cert.ReferenceIdeal.nD) (a : Arr) : Prop where
  g0 : m ((c.tc : Thread Cert.ReferenceIdeal.nD Cert.ReferenceIdeal.τ).loc Cert.ReferenceIdeal.main_arg0) = up2 (n := 2048) (m := 1024) a.dx2
  g1 : m ((c.tc : Thread Cert.ReferenceIdeal.nD Cert.ReferenceIdeal.τ).loc Cert.ReferenceIdeal.main_arg1) = up2 (n := 2048) (m := 1024) a.x
  g2 : m ((c.tc : Thread Cert.ReferenceIdeal.nD Cert.ReferenceIdeal.τ).loc Cert.ReferenceIdeal.main_arg2) = up2 (n := 6) (m := 1024) a.md
  g3 : m ((c.tc : Thread Cert.ReferenceIdeal.nD Cert.ReferenceIdeal.τ).loc Cert.ReferenceIdeal.main_arg3) = up2 (n := 1) (m := 1024) a.g1
  g4 : m ((c.tc : Thread Cert.ReferenceIdeal.nD Cert.ReferenceIdeal.τ).loc Cert.ReferenceIdeal.main_arg4) = up2 (n := 1024) (m := 1536) a.win
  g5 : m ((c.tc : Thread Cert.ReferenceIdeal.nD Cert.ReferenceIdeal.τ).loc Cert.ReferenceIdeal.main_arg5) = up2 (n := 31) (m := 512) a.dww
  g6 : m ((c.tc : Thread Cert.ReferenceIdeal.nD Cert.ReferenceIdeal.τ).loc Cert.ReferenceIdeal.main_arg6) = up2 (n := 1) (m := 512) a.dwb
  g7 : m ((c.tc : Thread Cert.ReferenceIdeal.nD Cert.ReferenceIdeal.τ).loc Cert.ReferenceIdeal.main_arg7) = up2 (n := 1) (m := 512) a.lng
  g8 : m ((c.tc : Thread Cert.ReferenceIdeal.nD Cert.ReferenceIdeal.τ).loc Cert.ReferenceIdeal.main_arg8) = up2 (n := 1) (m := 512) a.lnb
  g9 : m ((c.tc : Thread Cert.ReferenceIdeal.nD Cert.ReferenceIdeal.τ).loc Cert.ReferenceIdeal.main_arg9) = up2 (n := 512) (m := 512) a.wpw
  g10 : m ((c.tc : Thread Cert.ReferenceIdeal.nD Cert.ReferenceIdeal.τ).loc Cert.ReferenceIdeal.main_arg10) = up3 (l := 4) (n := 128) (m := 128) a.wg
  g11 : m ((c.tc : Thread Cert.ReferenceIdeal.nD Cert.ReferenceIdeal.τ).loc Cert.ReferenceIdeal.main_arg11) = up2 (n := 1) (m := 512) a.psc
  g12 : m ((c.tc : Thread Cert.ReferenceIdeal.nD Cert.ReferenceIdeal.τ).loc Cert.ReferenceIdeal.main_arg12) = up2 (n := 1024) (m := 1024) a.wout

section
variable {m : (ℓ : Loc Cert.ReferenceIdeal.nD Cert.ReferenceIdeal.τ Cert.ReferenceIdeal.sig) → Buf (Elt Ideal) ℓ} {c : Dev Cert.ReferenceIdeal.nD} {a : Arr} (G : RArgs m c a)
include G
theorem at0 : StableHlo.launchContents m c (Proc.devRef .tc Cert.ReferenceIdeal.main_arg0) = up2 (n := 2048) (m := 1024) a.dx2 := G.g0
theorem at1 : StableHlo.launchContents m c (Proc.devRef .tc Cert.ReferenceIdeal.main_arg1) = up2 (n := 2048) (m := 1024) a.x := G.g1
theorem at2 : StableHlo.launchContents m c (Proc.devRef .tc Cert.ReferenceIdeal.main_arg2) = up2 (n := 6) (m := 1024) a.md := G.g2
theorem at3 : StableHlo.launchContents m c (Proc.devRef .tc Cert.ReferenceIdeal.main_arg3) = up2 (n := 1) (m := 1024) a.g1 := G.g3
theorem at4 : StableHlo.launchContents m c (Proc.devRef .tc Cert.ReferenceIdeal.main_arg4) = up2 (n := 1024) (m := 1536) a.win := G.g4
theorem at5 : StableHlo.launchContents m c (Proc.devRef .tc Cert.ReferenceIdeal.main_arg5) = up2 (n := 31) (m := 512) a.dww := G.g5
theorem at6 : StableHlo.launchContents m c (Proc.devRef .tc Cert.ReferenceIdeal.main_arg6) = up2 (n := 1) (m := 512) a.dwb := G.g6
theorem at7 : StableHlo.launchContents m c (Proc.devRef .tc Cert.ReferenceIdeal.main_arg7) = up2 (n := 1) (m := 512) a.lng := G.g7
theorem at8 : StableHlo.launchContents m c (Proc.devRef .tc Cert.ReferenceIdeal.main_arg8) = up2 (n := 1) (m := 512) a.lnb := G.g8
theorem at9 : StableHlo.launchContents m c (Proc.devRef .tc Cert.ReferenceIdeal.main_arg9) = up2 (n := 512) (m := 512) a.wpw := G.g9
theorem at10 : StableHlo.launchContents m c (Proc.devRef .tc Cert.ReferenceIdeal.main_arg10) = up3 (l := 4) (n := 128) (m := 128) a.wg := G.g10
theorem at11 : StableHlo.launchContents m c (Proc.devRef .tc Cert.ReferenceIdeal.main_arg11) = up2 (n := 1) (m := 512) a.psc := G.g11
theorem at12 : StableHlo.launchContents m c (Proc.devRef .tc Cert.ReferenceIdeal.main_arg12) = up2 (n := 1024) (m := 1024) a.wout := G.g12
theorem res_gx : Cert.ReferenceIdeal.Read.val_main_v309 (F := Ideal) (StableHlo.launchContents m c (Proc.devRef .tc Cert.ReferenceIdeal.main_arg0)) (StableHlo.launchContents m c (Proc.devRef .tc Cert.ReferenceIdeal.main_arg1)) (StableHlo.launchContents m c (Proc.devRef .tc Cert.ReferenceIdeal.main_arg2)) (StableHlo.launchContents m c (Proc.devRef .tc Cert.ReferenceIdeal.main_arg3)) (StableHlo.launchContents m c (Proc.devRef .tc Cert.ReferenceIdeal.main_arg4)) (StableHlo.launchContents m c (Proc.devRef .tc Cert.ReferenceIdeal.main_arg5)) (StableHlo.launchContents m c (Proc.devRef .tc Cert.ReferenceIdeal.main_arg6)) (StableHlo.launchContents m c (Proc.devRef .tc Cert.ReferenceIdeal.main_arg7)) (StableHlo.launchContents m c (Proc.devRef .tc Cert.ReferenceIdeal.main_arg8)) (StableHlo.launchContents m c (Proc.devRef .tc Cert.ReferenceIdeal.main_arg9)) (StableHlo.launchContents m c (Proc.devRef .tc Cert.ReferenceIdeal.main_arg10)) (StableHlo.launchContents m c (Proc.devRef .tc Cert.ReferenceIdeal.main_arg11)) (StableHlo.launchContents m c (Proc.devRef .tc Cert.ReferenceIdeal.main_arg12)) = up2 (n := 2048) (m := 1024) a.gx := by
  rw [at0 G, at1 G, at2 G, at3 G, at4 G, at5 G, at6 G, at7 G, at8 G, at9 G, at10 G, at11 G, at12 G]
  exact ref_v309 a
theorem res_h : Cert.ReferenceIdeal.Read.val_main_v310 (F := Ideal) (StableHlo.launchContents m c (Proc.devRef .tc Cert.ReferenceIdeal.main_arg1)) (StableHlo.launchContents m c (Proc.devRef .tc Cert.ReferenceIdeal.main_arg2)) (StableHlo.launchContents m c (Proc.devRef .tc Cert.ReferenceIdeal.main_arg3)) = up2 (n := 2048) (m := 1024) a.h := by
  rw [at1 G, at2 G, at3 G]
  exact ref_v310 a
theorem res_du : Cert.ReferenceIdeal.Read.val_main_v311 (F := Ideal) (StableHlo.launchContents m c (Proc.devRef .tc Cert.ReferenceIdeal.main_arg0)) (StableHlo.launchContents m c (Proc.devRef .tc Cert.ReferenceIdeal.main_arg1)) (StableHlo.launchContents m c (Proc.devRef .tc Cert.ReferenceIdeal.main_arg2)) (StableHlo.launchContents m c (Proc.devRef .tc Cert.ReferenceIdeal.main_arg3)) (StableHlo.launchContents m c (Proc.devRef .tc Cert.ReferenceIdeal.main_arg4)) (StableHlo.launchContents m c (Proc.devRef .tc Cert.ReferenceIdeal.main_arg5)) (StableHlo.launchContents m c (Proc.devRef .tc Cert.ReferenceIdeal.main_arg6)) (StableHlo.launchContents m c (Proc.devRef .tc Cert.ReferenceIdeal.main_arg7)) (StableHlo.launchContents m c (Proc.devRef .tc Cert.ReferenceIdeal.main_arg8)) (StableHlo.launchContents m c (Proc.devRef .tc Cert.ReferenceIdeal.main_arg9)) (StableHlo.launchContents m c (Proc.devRef .tc Cert.ReferenceIdeal.main_arg10)) (StableHlo.launchContents m c (Proc.devRef .tc Cert.ReferenceIdeal.main_arg11)) (StableHlo.launchContents m c (Proc.devRef .tc Cert.ReferenceIdeal.main_arg12)) = up2 (n := 2048) (m := 1536) a.du := by
  rw [at0 G, at1 G, at2 G, at3 G, at4 G, at5 G, at6 G, at7 G, at8 G, at9 G, at10 G, at11 G, at12 G]
  exact ref_v311 a
theorem res_dy : Cert.ReferenceIdeal.Read.val_main_v312 (F := Ideal) (StableHlo.launchContents m c (Proc.devRef .tc Cert.ReferenceIdeal.main_arg0)) (StableHlo.launchContents m c (Proc.devRef .tc Cert.ReferenceIdeal.main_arg2)) = up2 (n := 2048) (m := 1024) a.dy := by
  rw [at0 G, at2 G]
  exact ref_v312 a
theorem res_gpw : Cert.ReferenceIdeal.Read.val_main_v184 (F := Ideal) (StableHlo.launchContents m c (Proc.devRef .tc Cert.ReferenceIdeal.main_arg0)) (StableHlo.launchContents m c (Proc.devRef .tc Cert.ReferenceIdeal.main_arg1)) (StableHlo.launchContents m c (Proc.devRef .tc Cert.ReferenceIdeal.main_arg2)) (StableHlo.launchContents m c (Proc.devRef .tc Cert.ReferenceIdeal.main_arg3)) (StableHlo.launchContents m c (Proc.devRef .tc Cert.ReferenceIdeal.main_arg4)) (StableHlo.launchContents m c (Proc.devRef .tc Cert.ReferenceIdeal.main_arg5)) (StableHlo.launchContents m c (Proc.devRef .tc Cert.ReferenceIdeal.main_arg6)) (StableHlo.launchContents m c (Proc.devRef .tc Cert.ReferenceIdeal.main_arg7)) (StableHlo.launchContents m c (Proc.devRef .tc Cert.ReferenceIdeal.main_arg8)) (StableHlo.launchContents m c (Proc.devRef .tc Cert.ReferenceIdeal.main_arg12)) = up2 (n := 512) (m := 512) a.gpw := by
  rw [at0 G, at1 G, at2 G, at3 G, at4 G, at5 G, at6 G, at7 G, at8 G, at12 G]
  exact ref_v184 a
theorem res_gwg : Cert.ReferenceIdeal.Read.val_main_v181 (F := Ideal) (StableHlo.launchContents m c (Proc.devRef .tc Cert.ReferenceIdeal.main_arg0)) (StableHlo.launchContents m c (Proc.devRef .tc Cert.ReferenceIdeal.main_arg1)) (StableHlo.launchContents m c (Proc.devRef .tc Cert.ReferenceIdeal.main_arg2)) (StableHlo.launchContents m c (Proc.devRef .tc Cert.ReferenceIdeal.main_arg3)) (StableHlo.launchContents m c (Proc.devRef .tc Cert.ReferenceIdeal.main_arg4)) (StableHlo.launchContents m c (Proc.devRef .tc Cert.ReferenceIdeal.main_arg11)) (StableHlo.launchContents m c (Proc.devRef .tc Cert.ReferenceIdeal.main_arg12)) = up3 (l := 4) (n := 128) (m := 128) a.gwg := by
  rw [at0 G, at1 G, at2 G, at3 G, at4 G, at11 G, at12 G]
  exact ref_v181 a
theorem res_vd : Cert.ReferenceIdeal.Read.val_main_v314 (F := Ideal) (StableHlo.launchContents m c (Proc.devRef .tc Cert.ReferenceIdeal.main_arg0)) (StableHlo.launchContents m c (Proc.devRef .tc Cert.ReferenceIdeal.main_arg1)) (StableHlo.launchContents m c (Proc.devRef .tc Cert.ReferenceIdeal.main_arg2)) (StableHlo.launchContents m c (Proc.devRef .tc Cert.ReferenceIdeal.main_arg3)) (StableHlo.launchContents m c (Proc.devRef .tc Cert.ReferenceIdeal.main_arg4)) (StableHlo.launchContents m c (Proc.devRef .tc Cert.ReferenceIdeal.main_arg5)) (StableHlo.launchContents m c (Proc.devRef .tc Cert.ReferenceIdeal.main_arg6)) (StableHlo.launchContents m c (Proc.devRef .tc Cert.ReferenceIdeal.main_arg7)) (StableHlo.launchContents m c (Proc.devRef .tc Cert.ReferenceIdeal.main_arg8)) (StableHlo.launchContents m c (Proc.devRef .tc Cert.ReferenceIdeal.main_arg9)) (StableHlo.launchContents m c (Proc.devRef .tc Cert.ReferenceIdeal.main_arg10)) (StableHlo.launchContents m c (Proc.devRef .tc Cert.ReferenceIdeal.main_arg11)) (StableHlo.launchContents m c (Proc.devRef .tc Cert.ReferenceIdeal.main_arg12)) = up2 (n := 8) (m := 1024) a.vd := by
  rw [at0 G, at1 G, at2 G, at3 G, at4 G, at5 G, at6 G, at7 G, at8 G, at9 G, at10 G, at11 G, at12 G]
  exact ref_v314 a
theorem res_vc : Cert.ReferenceIdeal.Read.val_main_v316 (F := Ideal) (StableHlo.launchContents m c (Proc.devRef .tc Cert.ReferenceIdeal.main_arg0)) (StableHlo.launchContents m c (Proc.devRef .tc Cert.ReferenceIdeal.main_arg1)) (StableHlo.launchContents m c (Proc.devRef .tc Cert.ReferenceIdeal.main_arg2)) (StableHlo.launchContents m c (Proc.devRef .tc Cert.ReferenceIdeal.main_arg3)) (StableHlo.launchContents m c (Proc.devRef .tc Cert.ReferenceIdeal.main_arg4)) (StableHlo.launchContents m c (Proc.devRef .tc Cert.ReferenceIdeal.main_arg5)) (StableHlo.launchContents m c (Proc.devRef .tc Cert.ReferenceIdeal.main_arg6)) (StableHlo.launchContents m c (Proc.devRef .tc Cert.ReferenceIdeal.main_arg7)) (StableHlo.launchContents m c (Proc.devRef .tc Cert.ReferenceIdeal.main_arg8)) (StableHlo.launchContents m c (Proc.devRef .tc Cert.ReferenceIdeal.main_arg9)) (StableHlo.launchContents m c (Proc.devRef .tc Cert.ReferenceIdeal.main_arg10)) (StableHlo.launchContents m c (Proc.devRef .tc Cert.ReferenceIdeal.main_arg12)) = up2 (n := 8) (m := 512) a.vc := by
  rw [at0 G, at1 G, at2 G, at3 G, at4 G, at5 G, at6 G, at7 G, at8 G, at9 G, at10 G, at12 G]
  exact ref_v316 a
theorem res_ddw : Cert.ReferenceIdeal.Read.val_main_v317 (F := Ideal) (StableHlo.launchContents m c (Proc.devRef .tc Cert.ReferenceIdeal.main_arg0)) (StableHlo.launchContents m c (Proc.devRef .tc Cert.ReferenceIdeal.main_arg1)) (StableHlo.launchContents m c (Proc.devRef .tc Cert.ReferenceIdeal.main_arg2)) (StableHlo.launchContents m c (Proc.devRef .tc Cert.ReferenceIdeal.main_arg3)) (StableHlo.launchContents m c (Proc.devRef .tc Cert.ReferenceIdeal.main_arg4)) (StableHlo.launchContents m c (Proc.devRef .tc Cert.ReferenceIdeal.main_arg5)) (StableHlo.launchContents m c (Proc.devRef .tc Cert.ReferenceIdeal.main_arg6)) (StableHlo.launchContents m c (Proc.devRef .tc Cert.ReferenceIdeal.main_arg7)) (StableHlo.launchContents m c (Proc.devRef .tc Cert.ReferenceIdeal.main_arg8)) (StableHlo.launchContents m c (Proc.devRef .tc Cert.ReferenceIdeal.main_arg9)) (StableHlo.launchContents m c (Proc.devRef .tc Cert.ReferenceIdeal.main_arg12)) = up2 (n := 32) (m := 512) a.ddw := by
  rw [at0 G, at1 G, at2 G, at3 G, at4 G, at5 G, at6 G, at7 G, at8 G, at9 G, at12 G]
  exact ref_v317 a
end

/-- The reference's run ends with the model's arrays. -/
theorem ref_run (m : (ℓ : Loc Cert.ReferenceIdeal.nD Cert.ReferenceIdeal.τ Cert.ReferenceIdeal.sig) → Buf (Elt Ideal) ℓ) (ρ : Dev Cert.ReferenceIdeal.nD → PrngReg) (f : Dev Cert.ReferenceIdeal.nD → Arr) (hf : ∀ c, RArgs m c (f c)) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v309) = (up2 (n := 2048) (m := 1024) (f c).gx)
      ∧ r.2.mem ((c.tc : Thread Cert.ReferenceIdeal.nD Cert.ReferenceIdeal.τ).loc Cert.ReferenceIdeal.main_v310) = (up2 (n := 2048) (m := 1024) (f c).h)
      ∧ r.2.mem ((c.tc : Thread Cert.ReferenceIdeal.nD Cert.ReferenceIdeal.τ).loc Cert.ReferenceIdeal.main_v311) = (up2 (n := 2048) (m := 1536) (f c).du)
      ∧ r.2.mem ((c.tc : Thread Cert.ReferenceIdeal.nD Cert.ReferenceIdeal.τ).loc Cert.ReferenceIdeal.main_v312) = (up2 (n := 2048) (m := 1024) (f c).dy)
      ∧ r.2.mem ((c.tc : Thread Cert.ReferenceIdeal.nD Cert.ReferenceIdeal.τ).loc Cert.ReferenceIdeal.main_v184) = (up2 (n := 512) (m := 512) (f c).gpw)
      ∧ r.2.mem ((c.tc : Thread Cert.ReferenceIdeal.nD Cert.ReferenceIdeal.τ).loc Cert.ReferenceIdeal.main_v181) = (up3 (l := 4) (n := 128) (m := 128) (f c).gwg)
      ∧ r.2.mem ((c.tc : Thread Cert.ReferenceIdeal.nD Cert.ReferenceIdeal.τ).loc Cert.ReferenceIdeal.main_v314) = (up2 (n := 8) (m := 1024) (f c).vd)
      ∧ r.2.mem ((c.tc : Thread Cert.ReferenceIdeal.nD Cert.ReferenceIdeal.τ).loc Cert.ReferenceIdeal.main_v316) = (up2 (n := 8) (m := 512) (f c).vc)
      ∧ r.2.mem ((c.tc : Thread Cert.ReferenceIdeal.nD Cert.ReferenceIdeal.τ).loc Cert.ReferenceIdeal.main_v317) = (up2 (n := 32) (m := 512) (f c).ddw)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12) := by
  refine (θ_run Cert.ReferenceIdeal.defs _ _).mono (fun r h c => ?_) (Cert.ReferenceIdeal.Value.run (F := Ideal) m ρ)
  obtain ⟨h0, h1, h2, h3, h4, h5, h6, h7, h8, hr⟩ := h c
  exact ⟨(h0.trans (Cert.ReferenceIdeal.Read.val_main_v309_eq (StableHlo.launchContents m c))).trans (res_gx (hf c)), (h1.trans (Cert.ReferenceIdeal.Read.val_main_v310_eq (StableHlo.launchContents m c))).trans (res_h (hf c)), (h2.trans (Cert.ReferenceIdeal.Read.val_main_v311_eq (StableHlo.launchContents m c))).trans (res_du (hf c)), (h3.trans (Cert.ReferenceIdeal.Read.val_main_v312_eq (StableHlo.launchContents m c))).trans (res_dy (hf c)), (h4.trans (Cert.ReferenceIdeal.Read.val_main_v184_eq (StableHlo.launchContents m c))).trans (res_gpw (hf c)), (h5.trans (Cert.ReferenceIdeal.Read.val_main_v181_eq (StableHlo.launchContents m c))).trans (res_gwg (hf c)), (h6.trans (Cert.ReferenceIdeal.Read.val_main_v314_eq (StableHlo.launchContents m c))).trans (res_vd (hf c)), (h7.trans (Cert.ReferenceIdeal.Read.val_main_v316_eq (StableHlo.launchContents m c))).trans (res_vc (hf c)), (h8.trans (Cert.ReferenceIdeal.Read.val_main_v317_eq (StableHlo.launchContents m c))).trans (res_ddw (hf c)), hr⟩

/-- The kernel's run ends with the model's arrays. -/
theorem ker_run (m : (ℓ : Loc Cert.KernelIdeal.nD Cert.KernelIdeal.τ Cert.KernelIdeal.sig) → Buf (Elt Ideal) ℓ) (ρ : Dev Cert.KernelIdeal.nD → PrngReg) (f : Dev Cert.KernelIdeal.nD → Arr) (hf : ∀ c, Args m c (f c)) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v150_0) = (up2 (n := 2048) (m := 1024) (f c).gx)
      ∧ r.2.mem ((c.tc : Thread Cert.KernelIdeal.nD Cert.KernelIdeal.τ).loc Cert.KernelIdeal.main_v150_1) = (up2 (n := 2048) (m := 1024) (f c).h)
      ∧ r.2.mem ((c.tc : Thread Cert.KernelIdeal.nD Cert.KernelIdeal.τ).loc Cert.KernelIdeal.main_v150_2) = (up2 (n := 2048) (m := 1536) (f c).du)
      ∧ r.2.mem ((c.tc : Thread Cert.KernelIdeal.nD Cert.KernelIdeal.τ).loc Cert.KernelIdeal.main_v150_3) = (up2 (n := 2048) (m := 1024) (f c).dy)
      ∧ r.2.mem ((c.tc : Thread Cert.KernelIdeal.nD Cert.KernelIdeal.τ).loc Cert.KernelIdeal.main_v150_4) = (up2 (n := 512) (m := 512) (f c).gpw)
      ∧ r.2.mem ((c.tc : Thread Cert.KernelIdeal.nD Cert.KernelIdeal.τ).loc Cert.KernelIdeal.main_v150_5) = (up3 (l := 4) (n := 128) (m := 128) (f c).gwg)
      ∧ r.2.mem ((c.tc : Thread Cert.KernelIdeal.nD Cert.KernelIdeal.τ).loc Cert.KernelIdeal.main_v150_6) = (up2 (n := 8) (m := 1024) (f c).vd)
      ∧ r.2.mem ((c.tc : Thread Cert.KernelIdeal.nD Cert.KernelIdeal.τ).loc Cert.KernelIdeal.main_v150_7) = (up2 (n := 8) (m := 512) (f c).vc)
      ∧ r.2.mem ((c.tc : Thread Cert.KernelIdeal.nD Cert.KernelIdeal.τ).loc Cert.KernelIdeal.main_v150_8) = (up2 (n := 32) (m := 512) (f c).ddw)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12) := by
  refine (θ_run Cert.KernelIdeal.defs _ _).mono (fun r h c => ?_) (Cert.KernelIdeal.Value.run_blocks (F := Ideal) m ρ)
  obtain ⟨h0, h1, h2, h3, h4, h5, h6, h7, h8, hr⟩ := h c
  have H := ins_of (hf c)
  exact ⟨h0.trans (out17 H), h1.trans (out18 H), h2.trans (out19 H), h3.trans (out20 H), h4.trans (out21 H), h5.trans (out22 H), h6.trans (out23 H), h7.trans (out24 H), h8.trans (out25 H), hr⟩

end Cert.Proof
-- ==== Proof.Finite.lean ====
/-
  FINITE: arguments the precondition holds of are arrays of real numbers.
-/
module

public import proofs.«01_k».proof.Defs
public import proofs.«01_k».proof.Proof.Model
public import Idealize.ShloMosaic.Lib.ReduceAll

@[expose] public section

set_option maxRecDepth 16384

noncomputable section

open Idealize.ShloMosaic Cert.Pre_finite

namespace Cert.Proof

/-- The side conditions of the precondition's operations, each decided. -/
theorem pre_facts : Cert.Pre_finite.Facts where
  bcast_S_S2048x1024 := by decide
  reducesTo_S2048x1024_S_d0_1 := by decide
  h_S_ := by decide
  bcast_S_S6x1024 := by decide
  reducesTo_S6x1024_S_d0_1 := by decide
  bcast_S_S1x1024 := by decide
  reducesTo_S1x1024_S_d0_1 := by decide
  bcast_S_S1024x1536 := by decide
  reducesTo_S1024x1536_S_d0_1 := by decide
  bcast_S_S31x512 := by decide
  reducesTo_S31x512_S_d0_1 := by decide
  bcast_S_S1x512 := by decide
  reducesTo_S1x512_S_d0_1 := by decide
  bcast_S_S512x512 := by decide
  reducesTo_S512x512_S_d0_1 := by decide
  bcast_S_S4x128x128 := by decide
  reducesTo_S4x128x128_S_d0_1_2 := by decide
  bcast_S_S1024x1024 := by decide
  reducesTo_S1024x1024_S_d0_1 := by decide

/-- One array's part of the precondition: every element's size is under infinity. -/
theorem real_of {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, (r : EReal) = x i := by
  have : Subsingleton S_.Idx := ⟨fun a b => funext fun k => k.elim0⟩
  have h := Host.reduce_andi_all _ _ hr hu j e i
  have h1 : Ideal.cmp .olt (max (x i : EReal) (-(x i : EReal))) (Ideal.ofBits .f32 0x7F800000#32) = 1 := h
  have ht : Ideal.ofBits .f32 0x7F800000#32 = (⊤ : EReal) := by simp [Ideal.ofBits, Ideal.ieee]
  rw [Ideal.cmp_olt_eq_one, ht, max_lt_iff] at h1
  refine ⟨(x i : EReal).toReal, EReal.coe_toReal h1.1.ne fun hb => ?_⟩
  have h2 := h1.2
  rw [hb, EReal.neg_bot] at h2
  exact lt_irrefl _ h2

/-- An array of rows and columns, every element real. -/
theorem real2 {n m : ℕ} (x : (⟨2, ![n, m]⟩ : Shape).Idx → EReal) (h : ∀ i, ∃ r : ℝ, (r : EReal) = x i) :
    ∃ A : ℕ → ℕ → ℝ, x = up2 (n := n) (m := m) A := by
  choose f hf using h
  refine ⟨fun i j => if h : i < n ∧ j < m then f (ValueIdx.ix2 ⟨i, h.1⟩ ⟨j, h.2⟩) else 0, funext fun i => ?_⟩
  rw [← hf i]
  unfold up2
  refine congrArg _ (Eq.trans ?_ (dif_pos (⟨(i 0).isLt, (i 1).isLt⟩ : (i 0).val < n ∧ (i 1).val < m)).symm)
  refine congrArg f ?_
  funext k
  match k with
  | 0 => rfl
  | 1 => rfl

theorem real3 {l n m : ℕ} (x : (⟨3, ![l, n, m]⟩ : Shape).Idx → EReal) (h : ∀ i, ∃ r : ℝ, (r : EReal) = x i) :
    ∃ A : ℕ → ℕ → ℕ → ℝ, x = up3 (l := l) (n := n) (m := m) A := by
  choose f hf using h
  refine ⟨fun g i j => if h : g < l ∧ i < n ∧ j < m then f (ValueIdx.ix3 ⟨g, h.1⟩ ⟨i, h.2.1⟩ ⟨j, h.2.2⟩) else 0, funext fun i => ?_⟩
  rw [← hf i]
  unfold up3
  refine congrArg _ (Eq.trans ?_ (dif_pos (⟨(i 0).isLt, (i 1).isLt, (i 2).isLt⟩ : (i 0).val < l ∧ (i 1).val < n ∧ (i 2).val < m)).symm)
  refine congrArg f ?_
  funext k
  match k with
  | 0 => rfl
  | 1 => rfl
  | 2 => rfl

theorem both {x y : IVec S_ 1} {j : S_.Idx} (h : andi x y j = 1#1) : x j = 1#1 ∧ y j = 1#1 := by
  have h : x j &&& y j = 1#1 := h
  revert h
  generalize x j = p
  generalize y j = q
  revert p q
  decide

/-- The precondition gives the thirteen arguments as real arrays. -/
theorem arrays_of [Cert.Pre_finite.Facts] (x0 : FVec Ideal S2048x1024 .f32) (x1 : FVec Ideal S2048x1024 .f32) (x2 : FVec Ideal S6x1024 .f32) (x3 : FVec Ideal S1x1024 .f32) (x4 : FVec Ideal S1024x1536 .f32) (x5 : FVec Ideal S31x512 .f32) (x6 : FVec Ideal S1x512 .f32) (x7 : FVec Ideal S1x512 .f32) (x8 : FVec Ideal S1x512 .f32) (x9 : FVec Ideal S512x512 .f32) (x10 : FVec Ideal S4x128x128 .f32) (x11 : FVec Ideal S1x512 .f32) (x12 : FVec Ideal S1024x1024 .f32)
    (h : Cert.Pre_finite.fn (F := Ideal) x0 x1 x2 x3 x4 x5 x6 x7 x8 x9 x10 x11 x12 = fun _ => 1#1) :
    ∃ a : Arr, x0 = up2 (n := 2048) (m := 1024) a.dx2 ∧ x1 = up2 (n := 2048) (m := 1024) a.x ∧ x2 = up2 (n := 6) (m := 1024) a.md ∧ x3 = up2 (n := 1) (m := 1024) a.g1 ∧ x4 = up2 (n := 1024) (m := 1536) a.win ∧ x5 = up2 (n := 31) (m := 512) a.dww ∧ x6 = up2 (n := 1) (m := 512) a.dwb ∧ x7 = up2 (n := 1) (m := 512) a.lng ∧ x8 = up2 (n := 1) (m := 512) a.lnb ∧ x9 = up2 (n := 512) (m := 512) a.wpw ∧ x10 = up3 (l := 4) (n := 128) (m := 128) a.wg ∧ x11 = up2 (n := 1) (m := 512) a.psc ∧ x12 = up2 (n := 1024) (m := 1024) a.wout := by
  have e := congrFun h (Shape.Idx.first Facts.h_S_)
  unfold fn fn_part1 fn_part2 fn_part3 at e
  obtain ⟨e, e12⟩ := both e
  obtain ⟨e, e11⟩ := both e
  obtain ⟨e, e10⟩ := both e
  obtain ⟨e, e9⟩ := both e
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e, e1⟩ := both e
  obtain ⟨a0, q0⟩ := real2 _ (real_of x0 _ _ _ _ e)
  obtain ⟨a1, q1⟩ := real2 _ (real_of x1 _ _ _ _ e1)
  obtain ⟨a2, q2⟩ := real2 _ (real_of x2 _ _ _ _ e2)
  obtain ⟨a3, q3⟩ := real2 _ (real_of x3 _ _ _ _ e3)
  obtain ⟨a4, q4⟩ := real2 _ (real_of x4 _ _ _ _ e4)
  obtain ⟨a5, q5⟩ := real2 _ (real_of x5 _ _ _ _ e5)
  obtain ⟨a6, q6⟩ := real2 _ (real_of x6 _ _ _ _ e6)
  obtain ⟨a7, q7⟩ := real2 _ (real_of x7 _ _ _ _ e7)
  obtain ⟨a8, q8⟩ := real2 _ (real_of x8 _ _ _ _ e8)
  obtain ⟨a9, q9⟩ := real2 _ (real_of x9 _ _ _ _ e9)
  obtain ⟨a10, q10⟩ := real3 _ (real_of x10 _ _ _ _ e10)
  obtain ⟨a11, q11⟩ := real2 _ (real_of x11 _ _ _ _ e11)
  obtain ⟨a12, q12⟩ := real2 _ (real_of x12 _ _ _ _ e12)
  exact ⟨⟨a0, a1, a2, a3, a4, a5, a6, a7, a8, a9, a10, a11, a12⟩, q0, q1, q2, q3, q4, q5, q6, q7, q8, q9, q10, q11, q12⟩

end Cert.Proof
-- ==== Proof.FfnModel.lean ====
/-
  THE REAL MODEL of the gated feed-forward layer, the last norm, the loss and their gradients: every name is a function of row and column.
-/
module

public import proofs.«01_k».proof.Proof.MeanRows

@[expose] public section

set_option maxRecDepth 16384

noncomputable section

open Idealize.ShloMosaic Idealize.ShloMosaic.ValueIdx
open scoped BigOperators

namespace Cert.Proof.Ffn

/-- The eight arguments as real arrays. -/
structure Arr where
  x : ℕ → ℕ → ℝ
  tgt : ℕ → ℕ → ℝ
  md : ℕ → ℕ → ℝ
  g2 : ℕ → ℕ → ℝ
  gf : ℕ → ℕ → ℝ
  wg : ℕ → ℕ → ℝ
  wu : ℕ → ℕ → ℝ
  wd : ℕ → ℕ → ℝ

namespace Arr

variable (a : Arr)

/-! ## forward -/

def ms (t : ℕ) : ℝ := (∑ j ∈ Finset.range 1024, a.x t j * a.x t j) / 1024 + eps
def r1 (t : ℕ) : ℝ := (√(a.ms t))⁻¹
def xh (t j : ℕ) : ℝ := a.x t j * a.r1 t
def n2 (t j : ℕ) : ℝ := a.xh t j * a.g2 0 j
def h (t j : ℕ) : ℝ := a.n2 t j * (1 + a.md 4 j) + a.md 3 j
def gg (t j : ℕ) : ℝ := ∑ k ∈ Finset.range 1024, a.h t k * a.wg k j
def uu (t j : ℕ) : ℝ := ∑ k ∈ Finset.range 1024, a.h t k * a.wu k j
def sg (t j : ℕ) : ℝ := 1 / (1 + Real.exp (-a.gg t j))
def si (t j : ℕ) : ℝ := a.gg t j * a.sg t j
def act (t j : ℕ) : ℝ := a.si t j * a.uu t j
/-- The part of the last product that slab `g` of 704 columns adds. -/
def fs (g t j : ℕ) : ℝ := ∑ i ∈ Finset.range 704, a.act t (g * 704 + i) * a.wd (g * 704 + i) j
def f1 (t j : ℕ) : ℝ := a.fs 0 t j
def f2 (t j : ℕ) : ℝ := a.f1 t j + a.fs 1 t j
def f3 (t j : ℕ) : ℝ := a.f2 t j + a.fs 2 t j
def f (t j : ℕ) : ℝ := a.f3 t j + a.fs 3 t j
def x3 (t j : ℕ) : ℝ := a.x t j + a.md 5 j * a.f t j
def ms3 (t : ℕ) : ℝ := (∑ j ∈ Finset.range 1024, a.x3 t j * a.x3 t j) / 1024 + eps
def r3 (t : ℕ) : ℝ := (√(a.ms3 t))⁻¹
def xo (t j : ℕ) : ℝ := a.x3 t j * a.r3 t
def er (t j : ℕ) : ℝ := a.xo t j * a.gf 0 j - a.tgt t j

/-! ## backward -/

def dout (t j : ℕ) : ℝ := a.er t j * (1 / 1024)
def dxo (t j : ℕ) : ℝ := a.dout t j * a.gf 0 j
def dm (t : ℕ) : ℝ := (∑ j ∈ Finset.range 1024, a.dxo t j * a.xo t j) / 1024
def dx3 (t j : ℕ) : ℝ := a.r3 t * (a.dxo t j - a.xo t j * a.dm t)
def df (t j : ℕ) : ℝ := a.dx3 t j * a.md 5 j
def da (t j : ℕ) : ℝ := ∑ k ∈ Finset.range 1024, a.df t k * a.wd j k
def du (t j : ℕ) : ℝ := a.da t j * a.si t j
def dau (t j : ℕ) : ℝ := a.da t j * a.uu t j
def dg (t j : ℕ) : ℝ := a.dau t j * (a.sg t j * (1 + a.gg t j * (1 - a.sg t j)))
def hgs (g t j : ℕ) : ℝ := ∑ i ∈ Finset.range 704, a.dg t (g * 704 + i) * a.wg j (g * 704 + i)
def hus (g t j : ℕ) : ℝ := ∑ i ∈ Finset.range 704, a.du t (g * 704 + i) * a.wu j (g * 704 + i)
def dh1 (t j : ℕ) : ℝ := a.hgs 0 t j + a.hus 0 t j
def dh2 (t j : ℕ) : ℝ := a.dh1 t j + a.hgs 1 t j + a.hus 1 t j
def dh3 (t j : ℕ) : ℝ := a.dh2 t j + a.hgs 2 t j + a.hus 2 t j
def dh (t j : ℕ) : ℝ := a.dh3 t j + a.hgs 3 t j + a.hus 3 t j
def dxs (t j : ℕ) : ℝ := a.dh t j * (1 + a.md 4 j)
def dxg (t j : ℕ) : ℝ := a.dxs t j * a.g2 0 j
def dmm (t : ℕ) : ℝ := (∑ j ∈ Finset.range 1024, a.dxg t j * a.xh t j) / 1024
def dn (t j : ℕ) : ℝ := a.r1 t * (a.dxg t j - a.xh t j * a.dmm t)
def dx (t j : ℕ) : ℝ := a.dx3 t j + a.dn t j
/-- What row `t` adds to row `r` of the vectors of sums. -/
def vf (r t j : ℕ) : ℝ := if r = 0 then a.dout t j * a.xo t j else if r = 1 then a.dx3 t j * a.f t j else if r = 2 then a.dh t j else if r = 3 then a.dh t j * a.n2 t j else if r = 4 then a.dxs t j * a.xh t j else if r = 5 then a.er t j * a.er t j else 0
def vc (r j : ℕ) : ℝ := ∑ t ∈ Finset.range 2048, a.vf r t j

theorem ms_pos (t : ℕ) : 0 < a.ms t :=
  add_pos_of_nonneg_of_pos (div_nonneg (Finset.sum_nonneg fun j _ => mul_self_nonneg _) (by norm_num)) eps_pos
theorem ms3_pos (t : ℕ) : 0 < a.ms3 t :=
  add_pos_of_nonneg_of_pos (div_nonneg (Finset.sum_nonneg fun j _ => mul_self_nonneg _) (by norm_num)) eps_pos
theorem den_ne (r : ℝ) : 1 + Real.exp r ≠ 0 := by positivity
theorem r1_sq (t : ℕ) : a.r1 t * a.r1 t = 1 / a.ms t := by
  unfold r1
  rw [← mul_inv, Real.mul_self_sqrt (a.ms_pos t).le, one_div]
theorem r3_sq (t : ℕ) : a.r3 t * a.r3 t = 1 / a.ms3 t := by
  unfold r3
  rw [← mul_inv, Real.mul_self_sqrt (a.ms3_pos t).le, one_div]
theorem four (f : ℕ → ℝ) : ∑ k ∈ Finset.range 2816, f k = ∑ i ∈ Finset.range 704, f (0 * 704 + i) + ∑ i ∈ Finset.range 704, f (1 * 704 + i) + ∑ i ∈ Finset.range 704, f (2 * 704 + i) + ∑ i ∈ Finset.range 704, f (3 * 704 + i) := by
  rw [show 2816 = 704 + 704 + 704 + 704 from rfl, Finset.sum_range_add, Finset.sum_range_add, Finset.sum_range_add]
  simp only [Nat.zero_mul, Nat.zero_add, Nat.one_mul, Nat.reduceAdd, Nat.reduceMul]
theorem f_sum (t j : ℕ) : ∑ k ∈ Finset.range 2816, a.act t k * a.wd k j = a.f t j := four _
theorem dh_sum (t j : ℕ) : ∑ k ∈ Finset.range 2816, a.dg t k * a.wg j k + ∑ k ∈ Finset.range 2816, a.du t k * a.wu j k = a.dh t j := by
  rw [four, four]
  unfold dh dh3 dh2 dh1 hgs hus
  ring

end Arr

/-- Seven arrays of rows one below the other. -/
theorem cat0_7 {m w p0 p1 p2 p3 p4 p5 p6 : ℕ} (A0 A1 A2 A3 A4 A5 A6 : ℕ → ℕ → ℝ)
    (h : Shape.Concatenates [⟨2, ![p0, m]⟩, ⟨2, ![p1, m]⟩, ⟨2, ![p2, m]⟩, ⟨2, ![p3, m]⟩, ⟨2, ![p4, m]⟩, ⟨2, ![p5, m]⟩, ⟨2, ![p6, m]⟩] ⟨2, ![w, m]⟩ 0) :
    concatenate ⟨2, ![w, m]⟩ 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩, ⟨⟨2, ![p5, m]⟩, up2 A5⟩, ⟨⟨2, ![p6, m]⟩, up2 A6⟩] h = up2 fun i j =>
      if i < p0 then A0 i j else if i < p0 + p1 then A1 (i - (p0)) j else if i < p0 + p1 + p2 then A2 (i - (p0 + p1)) j else if i < p0 + p1 + p2 + p3 then A3 (i - (p0 + p1 + p2)) j else if i < p0 + p1 + p2 + p3 + p4 then A4 (i - (p0 + p1 + p2 + p3)) j else if i < p0 + p1 + p2 + p3 + p4 + p5 then A5 (i - (p0 + p1 + p2 + p3 + p4)) j else A6 (i - (p0 + p1 + p2 + p3 + p4 + p5)) j := by
  funext j
  have hw : p0 + p1 + p2 + p3 + p4 + p5 + p6 = w := by have := h.2.2; simpa [Nat.add_assoc] using this
  have hj : (j 0).val < w := (j 0).isLt
  change _ = (((fun i j => if i < p0 then A0 i j else if i < p0 + p1 then A1 (i - (p0)) j else if i < p0 + p1 + p2 then A2 (i - (p0 + p1)) j else if i < p0 + p1 + p2 + p3 then A3 (i - (p0 + p1 + p2)) j else if i < p0 + p1 + p2 + p3 + p4 then A4 (i - (p0 + p1 + p2 + p3)) j else if i < p0 + p1 + p2 + p3 + p4 + p5 then A5 (i - (p0 + p1 + p2 + p3 + p4)) j else A6 (i - (p0 + p1 + p2 + p3 + p4 + p5)) j) (j 0).val (j 1).val : ℝ) : EReal)
  beta_reduce
  by_cases h0 : (j 0).val < p0
  · rw [if_pos h0]
    have hb : (j 0).val < p0 := by omega
    refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩, ⟨⟨2, ![p5, m]⟩, up2 A5⟩, ⟨⟨2, ![p6, m]⟩, up2 A6⟩] h j 0 (by simp) ⟨2, ![p0, m]⟩ (up2 A0) rfl rfl (0) (by simp [Nat.add_assoc]) (ValueIdx.ix2 ⟨(j 0).val, hb⟩ ⟨(j 1).val, (j 1).isLt⟩) (fun b hb' => ?_) ?_).trans rfl
    · match b with
      | ⟨0, _⟩ => exact absurd rfl hb'
      | ⟨1, _⟩ => rfl
    · show 0 + ((j 0).val) = (j 0).val
      omega
  rw [if_neg h0]
  by_cases h1 : (j 0).val < p0 + p1
  · rw [if_pos h1]
    have hb : (j 0).val - (p0) < p1 := by omega
    refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩, ⟨⟨2, ![p5, m]⟩, up2 A5⟩, ⟨⟨2, ![p6, m]⟩, up2 A6⟩] h j 1 (by simp) ⟨2, ![p1, m]⟩ (up2 A1) rfl rfl (p0) (by simp [Nat.add_assoc]) (ValueIdx.ix2 ⟨(j 0).val - (p0), hb⟩ ⟨(j 1).val, (j 1).isLt⟩) (fun b hb' => ?_) ?_).trans rfl
    · match b with
      | ⟨0, _⟩ => exact absurd rfl hb'
      | ⟨1, _⟩ => rfl
    · show p0 + ((j 0).val - (p0)) = (j 0).val
      omega
  rw [if_neg h1]
  by_cases h2 : (j 0).val < p0 + p1 + p2
  · rw [if_pos h2]
    have hb : (j 0).val - (p0 + p1) < p2 := by omega
    refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩, ⟨⟨2, ![p5, m]⟩, up2 A5⟩, ⟨⟨2, ![p6, m]⟩, up2 A6⟩] h j 2 (by simp) ⟨2, ![p2, m]⟩ (up2 A2) rfl rfl (p0 + p1) (by simp [Nat.add_assoc]) (ValueIdx.ix2 ⟨(j 0).val - (p0 + p1), hb⟩ ⟨(j 1).val, (j 1).isLt⟩) (fun b hb' => ?_) ?_).trans rfl
    · match b with
      | ⟨0, _⟩ => exact absurd rfl hb'
      | ⟨1, _⟩ => rfl
    · show p0 + p1 + ((j 0).val - (p0 + p1)) = (j 0).val
      omega
  rw [if_neg h2]
  by_cases h3 : (j 0).val < p0 + p1 + p2 + p3
  · rw [if_pos h3]
    have hb : (j 0).val - (p0 + p1 + p2) < p3 := by omega
    refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩, ⟨⟨2, ![p5, m]⟩, up2 A5⟩, ⟨⟨2, ![p6, m]⟩, up2 A6⟩] h j 3 (by simp) ⟨2, ![p3, m]⟩ (up2 A3) rfl rfl (p0 + p1 + p2) (by simp [Nat.add_assoc]) (ValueIdx.ix2 ⟨(j 0).val - (p0 + p1 + p2), hb⟩ ⟨(j 1).val, (j 1).isLt⟩) (fun b hb' => ?_) ?_).trans rfl
    · match b with
      | ⟨0, _⟩ => exact absurd rfl hb'
      | ⟨1, _⟩ => rfl
    · show p0 + p1 + p2 + ((j 0).val - (p0 + p1 + p2)) = (j 0).val
      omega
  rw [if_neg h3]
  by_cases h4 : (j 0).val < p0 + p1 + p2 + p3 + p4
  · rw [if_pos h4]
    have hb : (j 0).val - (p0 + p1 + p2 + p3) < p4 := by omega
    refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩, ⟨⟨2, ![p5, m]⟩, up2 A5⟩, ⟨⟨2, ![p6, m]⟩, up2 A6⟩] h j 4 (by simp) ⟨2, ![p4, m]⟩ (up2 A4) rfl rfl (p0 + p1 + p2 + p3) (by simp [Nat.add_assoc]) (ValueIdx.ix2 ⟨(j 0).val - (p0 + p1 + p2 + p3), hb⟩ ⟨(j 1).val, (j 1).isLt⟩) (fun b hb' => ?_) ?_).trans rfl
    · match b with
      | ⟨0, _⟩ => exact absurd rfl hb'
      | ⟨1, _⟩ => rfl
    · show p0 + p1 + p2 + p3 + ((j 0).val - (p0 + p1 + p2 + p3)) = (j 0).val
      omega
  rw [if_neg h4]
  by_cases h5 : (j 0).val < p0 + p1 + p2 + p3 + p4 + p5
  · rw [if_pos h5]
    have hb : (j 0).val - (p0 + p1 + p2 + p3 + p4) < p5 := by omega
    refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩, ⟨⟨2, ![p5, m]⟩, up2 A5⟩, ⟨⟨2, ![p6, m]⟩, up2 A6⟩] h j 5 (by simp) ⟨2, ![p5, m]⟩ (up2 A5) rfl rfl (p0 + p1 + p2 + p3 + p4) (by simp [Nat.add_assoc]) (ValueIdx.ix2 ⟨(j 0).val - (p0 + p1 + p2 + p3 + p4), hb⟩ ⟨(j 1).val, (j 1).isLt⟩) (fun b hb' => ?_) ?_).trans rfl
    · match b with
      | ⟨0, _⟩ => exact absurd rfl hb'
      | ⟨1, _⟩ => rfl
    · show p0 + p1 + p2 + p3 + p4 + ((j 0).val - (p0 + p1 + p2 + p3 + p4)) = (j 0).val
      omega
  rw [if_neg h5]
  have hb : (j 0).val - (p0 + p1 + p2 + p3 + p4 + p5) < p6 := by omega
  refine (concatenate_apply_piece 0 [⟨⟨2, ![p0, m]⟩, up2 A0⟩, ⟨⟨2, ![p1, m]⟩, up2 A1⟩, ⟨⟨2, ![p2, m]⟩, up2 A2⟩, ⟨⟨2, ![p3, m]⟩, up2 A3⟩, ⟨⟨2, ![p4, m]⟩, up2 A4⟩, ⟨⟨2, ![p5, m]⟩, up2 A5⟩, ⟨⟨2, ![p6, m]⟩, up2 A6⟩] h j 6 (by simp) ⟨2, ![p6, m]⟩ (up2 A6) rfl rfl (p0 + p1 + p2 + p3 + p4 + p5) (by simp [Nat.add_assoc]) (ValueIdx.ix2 ⟨(j 0).val - (p0 + p1 + p2 + p3 + p4 + p5), hb⟩ ⟨(j 1).val, (j 1).isLt⟩) (fun b hb' => ?_) ?_).trans rfl
  · match b with
    | ⟨0, _⟩ => exact absurd rfl hb'
    | ⟨1, _⟩ => rfl
  · show p0 + p1 + p2 + p3 + p4 + p5 + ((j 0).val - (p0 + p1 + p2 + p3 + p4 + p5)) = (j 0).val
    omega

end Cert.Proof.Ffn
-- ==== Proof.FfnRefA.lean ====
/-
  THE REFERENCE'S FORWARD VALUES, the loss's gradient and the last norm's are the real model's.
-/
module

public import proofs.«01_k».proof.Proof.FfnModel
public import proofs.«01_k».proof.Proof.Gen.Reference2Ideal.Read

@[expose] public section

set_option maxRecDepth 16384

noncomputable section

open Idealize.ShloMosaic Idealize.ShloMosaic.ValueIdx Cert.Reference2Ideal Cert.Reference2Ideal.Read
open scoped BigOperators

namespace Cert.Proof.Ffn

theorem bid_1_2_1_at {n m : ℕ} (A : ℕ → ℝ) (d : Fin 1 → Fin 2) (h : (⟨1, ![m]⟩ : Shape).BroadcastsInDim ⟨2, ![n, m]⟩ d) (h0 : d 0 = 1) :
    broadcastInDim ⟨2, ![n, m]⟩ d h (up1 A) = up2 fun _ j => A j := by
  have hd : d = ![1] := funext fun i => match i with
    | ⟨0, _⟩ => h0
  subst hd
  funext j
  refine (broadcastInDim_apply _ h (up1 A) j (ValueIdx.ix1 ⟨(j 1).val, (j 1).isLt⟩) fun a => ?_).trans rfl
  match a with
  | ⟨0, _⟩ =>
    show (j 1).val = if m = 1 then 0 else (j 1).val
    have : (j 1).val < m := (j 1).isLt
    split_ifs <;> omega

theorem bits_half : Ideal.ofBits .f32 0x3F000000#32 = ((1 / 2 : ℝ) : EReal) := by
  simp [Ideal.ofBits, Ideal.ieee]; rw [← EReal.coe_mul]; norm_num

theorem ref_v57 : val_main_v57 (F := Ideal) = up1 (n := 2048) fun _ => (1 / 2 : ℝ) := by
  funext i
  rw [val_main_v57_apply]
  show Ideal.ofBits .f32 0x3F000000#32 * Ideal.ofBits .f32 0x3F800000#32 = ((1 / 2 : ℝ) : EReal)
  rw [bits_half, bits_one, ← EReal.coe_mul, mul_one]

variable (a : Arr)

theorem ref_v9 : val_main_v9 (F := Ideal) (up2 (n := 2048) (m := 1024) a.x) = up2 (n := 2048) (m := 1) fun t _ => a.ms t := by
  simp (config := {implicitDefEqProofs := false}) only [val_main_v9, val_main_v7, val_main_v5, val_main_v4, val_main_v3, val_main_cst, val_main_v6, val_main_cst_0, val_main_v8, val_main_cst_1, addf_up2, mulf_up2, const_1024_up2, const_eps_up2, bcast_const, hsum_cols_up2, bid_1_2_0_at, Matrix.cons_val_zero, ne_eq, OfNat.ofNat_ne_zero, not_false_eq_true, implies_true, hdivf_up2]
  rfl

theorem ref_v10 : val_main_v10 (F := Ideal) (up2 (n := 2048) (m := 1024) a.x) = up2 (n := 2048) (m := 1) fun t _ => a.r1 t := by
  simp (config := {implicitDefEqProofs := false}) only [val_main_v10, ref_v9 a, hrsqrt_up2 (fun t _ => a.ms t) fun t _ _ _ => a.ms_pos t]
  rfl

theorem ref_v15 : val_main_v15 (F := Ideal) (up2 (n := 2048) (m := 1024) a.x) = up2 (n := 2048) (m := 1024) a.xh := by
  simp (config := {implicitDefEqProofs := false}) only [val_main_v15, val_main_v14, ref_v10 a, mulf_up2, bid_col_at, Matrix.cons_val_zero, Matrix.cons_val_one]
  rfl

theorem ref_v17 : val_main_v17 (F := Ideal) (up2 (n := 2048) (m := 1024) a.x) (up2 (n := 1) (m := 1024) a.g2) = up2 (n := 2048) (m := 1024) a.n2 := by
  simp (config := {implicitDefEqProofs := false}) only [val_main_v17, val_main_v16, ref_v15 a, mulf_up2, bid_row_at, Matrix.cons_val_zero, Matrix.cons_val_one]
  rfl

theorem ref_v19 : val_main_v19 (F := Ideal) (up2 (n := 6) (m := 1024) a.md) = up2 (n := 1) (m := 1024) fun _ j => 1 + a.md 4 j := by
  simp (config := {implicitDefEqProofs := false}) only [val_main_v19, val_main_v18, val_main_cst_3, val_main_v1, addf_up2, const_one_up2, slice_up2, bcast_const, zero_add]
  exact up2_congr fun i hi j hj => by rw [show i = 0 by omega]

theorem ref_v23 : val_main_v23 (F := Ideal) (up2 (n := 2048) (m := 1024) a.x) (up2 (n := 6) (m := 1024) a.md) (up2 (n := 1) (m := 1024) a.g2) = up2 (n := 2048) (m := 1024) a.h := by
  simp (config := {implicitDefEqProofs := false}) only [val_main_v23, val_main_v21, val_main_v20, val_main_v22, val_main_v0, ref_v17 a, ref_v19 a, addf_up2, mulf_up2, slice_up2, bid_row_at, Matrix.cons_val_zero, Matrix.cons_val_one, zero_add]
  rfl

theorem ref_v24 : val_main_v24 (F := Ideal) (up2 (n := 2048) (m := 1024) a.x) (up2 (n := 6) (m := 1024) a.md) (up2 (n := 1) (m := 1024) a.g2) (up2 (n := 1024) (m := 2816) a.wg) = up2 (n := 2048) (m := 2816) a.gg := by
  simp (config := {implicitDefEqProofs := false}) only [val_main_v24, ref_v23 a, dot_S2048x1024_S1024x2816_S2048x2816_1_0_0_1_n_n]
  exact hdot_nn _ _ _ _

theorem ref_v25 : val_main_v25 (F := Ideal) (up2 (n := 2048) (m := 1024) a.x) (up2 (n := 6) (m := 1024) a.md) (up2 (n := 1) (m := 1024) a.g2) (up2 (n := 1024) (m := 2816) a.wu) = up2 (n := 2048) (m := 2816) a.uu := by
  simp (config := {implicitDefEqProofs := false}) only [val_main_v25, ref_v23 a, dot_S2048x1024_S1024x2816_S2048x2816_1_0_0_1_n_n]
  exact hdot_nn _ _ _ _

theorem ref_v26_2 : val_main_v26_2 (F := Ideal) (up2 (n := 2048) (m := 1024) a.x) (up2 (n := 6) (m := 1024) a.md) (up2 (n := 1) (m := 1024) a.g2) (up2 (n := 1024) (m := 2816) a.wg) = up2 (n := 2048) (m := 2816) a.sg := by
  simp (config := {implicitDefEqProofs := false}) only [val_main_v26_2, val_main_call0_v4, val_main_call0_cst_0, val_main_call0_v3, val_main_call0_v2, val_main_call0_cst, val_main_call0_v1, val_main_call0_v0, ref_v24 a, addf_up2, negf_up2, hexp_up2, const_one_up2, bcast_const, ne_eq, not_false_eq_true, implies_true, hdivf_up2, Arr.den_ne]
  rfl

theorem ref_v26_1 : val_main_v26_1 (F := Ideal) (up2 (n := 2048) (m := 1024) a.x) (up2 (n := 6) (m := 1024) a.md) (up2 (n := 1) (m := 1024) a.g2) (up2 (n := 1024) (m := 2816) a.wg) = up2 (n := 2048) (m := 2816) fun t j => a.sg t j * (1 - a.sg t j) := by
  simp (config := {implicitDefEqProofs := false}) only [val_main_v26_1, val_main_call0_v7, val_main_call0_v6, val_main_call0_cst_1, ref_v26_2 a, subf_up2, mulf_up2, const_one_up2, bcast_const]

theorem ref_v26_0 : val_main_v26_0 (F := Ideal) (up2 (n := 2048) (m := 1024) a.x) (up2 (n := 6) (m := 1024) a.md) (up2 (n := 1) (m := 1024) a.g2) (up2 (n := 1024) (m := 2816) a.wg) = up2 (n := 2048) (m := 2816) a.si := by
  simp (config := {implicitDefEqProofs := false}) only [val_main_v26_0, ref_v24 a, ref_v26_2 a, mulf_up2]
  rfl

theorem ref_v27 : val_main_v27 (F := Ideal) (up2 (n := 2048) (m := 1024) a.x) (up2 (n := 6) (m := 1024) a.md) (up2 (n := 1) (m := 1024) a.g2) (up2 (n := 1024) (m := 2816) a.wg) (up2 (n := 1024) (m := 2816) a.wu) = up2 (n := 2048) (m := 2816) a.act := by
  simp (config := {implicitDefEqProofs := false}) only [val_main_v27, ref_v25 a, ref_v26_0 a, mulf_up2]
  rfl

theorem ref_v28 : val_main_v28 (F := Ideal) (up2 (n := 2048) (m := 1024) a.x) (up2 (n := 6) (m := 1024) a.md) (up2 (n := 1) (m := 1024) a.g2) (up2 (n := 1024) (m := 2816) a.wg) (up2 (n := 1024) (m := 2816) a.wu) (up2 (n := 2816) (m := 1024) a.wd) = up2 (n := 2048) (m := 1024) a.f := by
  simp (config := {implicitDefEqProofs := false}) only [val_main_v28, ref_v27 a, dot_S2048x2816_S2816x1024_S2048x1024_1_0_0_1_n_n]
  exact (hdot_nn _ _ _ _).trans (up2_congr fun t ht j hj => a.f_sum t j)

theorem ref_v31 : val_main_v31 (F := Ideal) (up2 (n := 2048) (m := 1024) a.x) (up2 (n := 6) (m := 1024) a.md) (up2 (n := 1) (m := 1024) a.g2) (up2 (n := 1024) (m := 2816) a.wg) (up2 (n := 1024) (m := 2816) a.wu) (up2 (n := 2816) (m := 1024) a.wd) = up2 (n := 2048) (m := 1024) a.x3 := by
  simp (config := {implicitDefEqProofs := false}) only [val_main_v31, val_main_v30, val_main_v29, val_main_v2, ref_v28 a, addf_up2, mulf_up2, slice_up2, bid_row_at, Matrix.cons_val_zero, Matrix.cons_val_one, zero_add]
  rfl

theorem ref_v38 : val_main_v38 (F := Ideal) (up2 (n := 2048) (m := 1024) a.x) (up2 (n := 6) (m := 1024) a.md) (up2 (n := 1) (m := 1024) a.g2) (up2 (n := 1024) (m := 2816) a.wg) (up2 (n := 1024) (m := 2816) a.wu) (up2 (n := 2816) (m := 1024) a.wd) = up2 (n := 2048) (m := 1) fun t _ => a.ms3 t := by
  simp (config := {implicitDefEqProofs := false}) only [val_main_v38, val_main_v36, val_main_v34, val_main_v33, val_main_v32, val_main_cst_4, val_main_v35, val_main_cst_5, val_main_v37, val_main_cst_6, ref_v31 a, addf_up2, mulf_up2, const_1024_up2, const_eps_up2, bcast_const, hsum_cols_up2, bid_1_2_0_at, Matrix.cons_val_zero, ne_eq, OfNat.ofNat_ne_zero, not_false_eq_true, implies_true, hdivf_up2]
  rfl

theorem ref_v39 : val_main_v39 (F := Ideal) (up2 (n := 2048) (m := 1024) a.x) (up2 (n := 6) (m := 1024) a.md) (up2 (n := 1) (m := 1024) a.g2) (up2 (n := 1024) (m := 2816) a.wg) (up2 (n := 1024) (m := 2816) a.wu) (up2 (n := 2816) (m := 1024) a.wd) = up2 (n := 2048) (m := 1) fun t _ => a.r3 t := by
  simp (config := {implicitDefEqProofs := false}) only [val_main_v39, ref_v38 a, hrsqrt_up2 (fun t _ => a.ms3 t) fun t _ _ _ => a.ms3_pos t]
  rfl

theorem ref_v44 : val_main_v44 (F := Ideal) (up2 (n := 2048) (m := 1024) a.x) (up2 (n := 6) (m := 1024) a.md) (up2 (n := 1) (m := 1024) a.g2) (up2 (n := 1024) (m := 2816) a.wg) (up2 (n := 1024) (m := 2816) a.wu) (up2 (n := 2816) (m := 1024) a.wd) = up2 (n := 2048) (m := 1024) a.xo := by
  simp (config := {implicitDefEqProofs := false}) only [val_main_v44, val_main_v43, ref_v31 a, ref_v39 a, mulf_up2, bid_col_at, Matrix.cons_val_zero, Matrix.cons_val_one]
  rfl

theorem ref_v46 : val_main_v46 (F := Ideal) (up2 (n := 2048) (m := 1024) a.x) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) fun t j => a.xo t j * a.gf 0 j := by
  simp (config := {implicitDefEqProofs := false}) only [val_main_v46, val_main_v45, ref_v44 a, mulf_up2, bid_row_at, Matrix.cons_val_zero, Matrix.cons_val_one]

theorem ref_v47 : val_main_v47 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.er := by
  simp (config := {implicitDefEqProofs := false}) only [val_main_v47, ref_v46 a, subf_up2]
  rfl

theorem ref_v61 : val_main_v61 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.dout := by
  simp (config := {implicitDefEqProofs := false}) only [val_main_v61, val_main_v60, val_main_v59, val_main_v58, val_main_cst_15, val_main_v50, val_main_v49, val_main_cst_8, ref_v47 a, ref_v57, mulf_up2, const_1024_up1, const_two_up2, bcast_const, bid_1_2_0_at, Matrix.cons_val_zero, ne_eq, OfNat.ofNat_ne_zero, not_false_eq_true, implies_true, hdivf_up1]
  refine up2_congr fun t ht j hj => ?_
  unfold Arr.dout
  ring

theorem ref_v64 : val_main_v64 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 1) (m := 1024) fun _ j => ∑ t ∈ Finset.range 2048, a.dout t j * a.xo t j := by
  simp (config := {implicitDefEqProofs := false}) only [val_main_v64, val_main_v63, val_main_v62, val_main_cst_16, ref_v44 a, ref_v61 a, mulf_up2, cast_1_row, hsum_rows_up2]
  refine up2_congr fun t ht j hj => ?_
  exact Finset.sum_congr rfl fun k _ => mul_comm _ _

theorem ref_v66 : val_main_v66 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.dxo := by
  simp (config := {implicitDefEqProofs := false}) only [val_main_v66, val_main_v65, ref_v61 a, mulf_up2, bid_row_at, Matrix.cons_val_zero, Matrix.cons_val_one]
  rfl

theorem ref_v42 : val_main_v42 (F := Ideal) (up2 (n := 2048) (m := 1024) a.x) (up2 (n := 6) (m := 1024) a.md) (up2 (n := 1) (m := 1024) a.g2) (up2 (n := 1024) (m := 2816) a.wg) (up2 (n := 1024) (m := 2816) a.wu) (up2 (n := 2816) (m := 1024) a.wd) = up2 (n := 2048) (m := 1) fun t _ => -(1 / 2) * (a.r3 t / a.ms3 t) := by
  simp (config := {implicitDefEqProofs := false}) only [val_main_v42, val_main_v41, val_main_cst_7, val_main_v40, ref_v38 a, ref_v39 a, const_mhalf_up2, bcast_const]
  rw [hdivf_up2 _ _ fun t _ _ _ => (a.ms3_pos t).ne']
  simp only [mulf_up2]

theorem ref_v76 : val_main_v76 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) fun t _ => (∑ j ∈ Finset.range 1024, a.x3 t j * a.dxo t j) * (-(1 / 2) * (a.r3 t / a.ms3 t)) / 1024 := by
  simp (config := {implicitDefEqProofs := false}) only [val_main_v76, val_main_v75, val_main_v74, val_main_v72, val_main_v69, val_main_v68, val_main_v67, val_main_cst_17, val_main_v73, val_main_cst_18, val_main_cst_19, ref_v31 a, ref_v66 a, ref_v42 a, mulf_up2, const_1024_up2, bcast_const, cast_1_col, hsum_cols_up2, bid_1_2_0_at, Matrix.cons_val_zero, ne_eq, OfNat.ofNat_ne_zero, not_false_eq_true, implies_true, hdivf_up2, Finset.sum_range_one]

theorem ref_v80 : val_main_v80 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.dx3 := by
  simp (config := {implicitDefEqProofs := false}) only [val_main_v80, val_main_v78, val_main_v71, val_main_v70, val_main_v77, val_main_v79, ref_v31 a, ref_v39 a, ref_v66 a, ref_v76 a, addf_up2, mulf_up2, bid_col_at, Matrix.cons_val_zero, Matrix.cons_val_one]
  refine up2_congr fun t ht j hj => ?_
  have h4 : a.r3 t / a.ms3 t = a.r3 t * (a.r3 t * a.r3 t) := by rw [Arr.r3_sq]; ring
  have h3 : ∑ j ∈ Finset.range 1024, a.dxo t j * a.xo t j = (∑ j ∈ Finset.range 1024, a.x3 t j * a.dxo t j) * a.r3 t := by
    rw [Finset.sum_mul]; exact Finset.sum_congr rfl fun k _ => by unfold Arr.xo; ring
  rw [h4]
  unfold Arr.dx3 Arr.dm
  rw [h3]
  unfold Arr.xo
  ring

theorem ref_v82 : val_main_v82 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.df := by
  simp (config := {implicitDefEqProofs := false}) only [val_main_v82, val_main_v81, val_main_v2, ref_v80 a, mulf_up2, slice_up2, bid_row_at, Matrix.cons_val_zero, Matrix.cons_val_one, zero_add]
  refine up2_congr fun t ht j hj => ?_
  exact mul_comm _ _

theorem ref_v85 : val_main_v85 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 1) (m := 1024) fun _ j => ∑ t ∈ Finset.range 2048, a.dx3 t j * a.f t j := by
  simp (config := {implicitDefEqProofs := false}) only [val_main_v85, val_main_v84, val_main_v83, val_main_cst_20, ref_v28 a, ref_v80 a, mulf_up2, cast_1_row, hsum_rows_up2]

end Cert.Proof.Ffn
-- ==== Proof.FfnRefB.lean ====
/-
  THE REFERENCE'S RESULTS are the real model's.
-/
module

public import proofs.«01_k».proof.Proof.FfnRefA

@[expose] public section

set_option maxRecDepth 16384

noncomputable section

open Idealize.ShloMosaic Idealize.ShloMosaic.ValueIdx Cert.Reference2Ideal Cert.Reference2Ideal.Read
open scoped BigOperators

namespace Cert.Proof.Ffn

variable (a : Arr)

theorem ref_v86 : val_main_v86 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 2816) a.da := by
  simp (config := {implicitDefEqProofs := false}) only [val_main_v86, ref_v82 a, dot_S2048x1024_S2816x1024_S2048x2816_1_1_0_0_n_n]
  exact hdot_nt _ _ _ _

theorem ref_v87 : val_main_v87 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 2816) a.du := by
  simp (config := {implicitDefEqProofs := false}) only [val_main_v87, ref_v26_0 a, ref_v86 a, mulf_up2]
  refine up2_congr fun t ht j hj => ?_
  exact mul_comm _ _

theorem ref_v88 : val_main_v88 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 2816) a.dau := by
  simp (config := {implicitDefEqProofs := false}) only [val_main_v88, ref_v25 a, ref_v86 a, mulf_up2]
  rfl

theorem ref_v89 : val_main_v89 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 2816) a.dg := by
  simp (config := {implicitDefEqProofs := false}) only [val_main_v89, val_main_call1_v1, val_main_call1_v2, val_main_call1_v0, ref_v24 a, ref_v26_2 a, ref_v26_1 a, ref_v88 a, addf_up2, mulf_up2]
  refine up2_congr fun t ht j hj => ?_
  unfold Arr.dg
  ring

theorem ref_v90 : val_main_v90 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) fun t j => ∑ k ∈ Finset.range 2816, a.dg t k * a.wg j k := by
  simp (config := {implicitDefEqProofs := false}) only [val_main_v90, ref_v89 a, dot_S2048x2816_S1024x2816_S2048x1024_1_1_0_0_n_n]
  exact hdot_nt _ _ _ _

theorem ref_v91 : val_main_v91 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) fun t j => ∑ k ∈ Finset.range 2816, a.du t k * a.wu j k := by
  simp (config := {implicitDefEqProofs := false}) only [val_main_v91, ref_v87 a, dot_S2048x2816_S1024x2816_S2048x1024_1_1_0_0_n_n]
  exact hdot_nt _ _ _ _

theorem ref_v92 : val_main_v92 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.dh := by
  simp (config := {implicitDefEqProofs := false}) only [val_main_v92, ref_v90 a, ref_v91 a, addf_up2]
  refine up2_congr fun t ht j hj => ?_
  exact a.dh_sum t j

theorem ref_v94 : val_main_v94 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 1) (m := 1024) fun _ j => ∑ t ∈ Finset.range 2048, a.dh t j := by
  simp (config := {implicitDefEqProofs := false}) only [val_main_v94, val_main_v93, val_main_cst_21, ref_v92 a, cast_1_row, hsum_rows_up2]

theorem ref_v97 : val_main_v97 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 1) (m := 1024) fun _ j => ∑ t ∈ Finset.range 2048, a.dh t j * a.n2 t j := by
  simp (config := {implicitDefEqProofs := false}) only [val_main_v97, val_main_v96, val_main_v95, val_main_cst_22, ref_v17 a, ref_v92 a, mulf_up2, cast_1_row, hsum_rows_up2]
  refine up2_congr fun t ht j hj => ?_
  exact Finset.sum_congr rfl fun k _ => mul_comm _ _

theorem ref_v99 : val_main_v99 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.dxs := by
  simp (config := {implicitDefEqProofs := false}) only [val_main_v99, val_main_v98, ref_v19 a, ref_v92 a, mulf_up2, bid_row_at, Matrix.cons_val_zero, Matrix.cons_val_one]
  rfl

theorem ref_v102 : val_main_v102 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 1) (m := 1024) fun _ j => ∑ t ∈ Finset.range 2048, a.dxs t j * a.xh t j := by
  simp (config := {implicitDefEqProofs := false}) only [val_main_v102, val_main_v101, val_main_v100, val_main_cst_23, ref_v15 a, ref_v99 a, mulf_up2, cast_1_row, hsum_rows_up2]
  refine up2_congr fun t ht j hj => ?_
  exact Finset.sum_congr rfl fun k _ => mul_comm _ _

theorem ref_v104 : val_main_v104 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.dxg := by
  simp (config := {implicitDefEqProofs := false}) only [val_main_v104, val_main_v103, ref_v99 a, mulf_up2, bid_row_at, Matrix.cons_val_zero, Matrix.cons_val_one]
  rfl

theorem ref_v13 : val_main_v13 (F := Ideal) (up2 (n := 2048) (m := 1024) a.x) = up2 (n := 2048) (m := 1) fun t _ => -(1 / 2) * (a.r1 t / a.ms t) := by
  simp (config := {implicitDefEqProofs := false}) only [val_main_v13, val_main_v12, val_main_cst_2, val_main_v11, ref_v9 a, ref_v10 a, const_mhalf_up2, bcast_const]
  rw [hdivf_up2 _ _ fun t _ _ _ => (a.ms_pos t).ne']
  simp only [mulf_up2]

theorem ref_v114 : val_main_v114 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) fun t _ => (∑ j ∈ Finset.range 1024, a.x t j * a.dxg t j) * (-(1 / 2) * (a.r1 t / a.ms t)) / 1024 := by
  simp (config := {implicitDefEqProofs := false}) only [val_main_v114, val_main_v113, val_main_v112, val_main_v110, val_main_v107, val_main_v106, val_main_v105, val_main_cst_24, val_main_v111, val_main_cst_25, val_main_cst_26, ref_v104 a, ref_v13 a, mulf_up2, const_1024_up2, bcast_const, cast_1_col, hsum_cols_up2, bid_1_2_0_at, Matrix.cons_val_zero, ne_eq, OfNat.ofNat_ne_zero, not_false_eq_true, implies_true, hdivf_up2, Finset.sum_range_one]

theorem ref_v118 : val_main_v118 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.dn := by
  simp (config := {implicitDefEqProofs := false}) only [val_main_v118, val_main_v116, val_main_v109, val_main_v108, val_main_v115, val_main_v117, ref_v10 a, ref_v104 a, ref_v114 a, addf_up2, mulf_up2, bid_col_at, Matrix.cons_val_zero, Matrix.cons_val_one]
  refine up2_congr fun t ht j hj => ?_
  have h4 : a.r1 t / a.ms t = a.r1 t * (a.r1 t * a.r1 t) := by rw [Arr.r1_sq]; ring
  have h3 : ∑ j ∈ Finset.range 1024, a.dxg t j * a.xh t j = (∑ j ∈ Finset.range 1024, a.x t j * a.dxg t j) * a.r1 t := by
    rw [Finset.sum_mul]; exact Finset.sum_congr rfl fun k _ => by unfold Arr.xh; ring
  rw [h4]
  unfold Arr.dn Arr.dmm
  rw [h3]
  unfold Arr.xh
  ring

theorem ref_v122 : val_main_v122 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 1) (m := 1024) fun _ j => ∑ t ∈ Finset.range 2048, a.er t j * a.er t j := by
  simp (config := {implicitDefEqProofs := false}) only [val_main_v122, val_main_v121, val_main_v120, val_main_v119, val_main_cst_27, ref_v46 a, subf_up2, mulf_up2, hsum_rows_up2, Matrix.cons_val_zero, bid_1_2_1_at]
  refine up2_congr fun t ht j hj => ?_
  rfl

theorem ref_v123 : val_main_v123 (F := Ideal)  = up2 (n := 2) (m := 1024) fun _ _ => 0 := by
  simp (config := {implicitDefEqProofs := false}) only [val_main_v123, val_main_cst_28, const_zero_up2, bcast_const]

theorem ref_v124 : val_main_v124 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 8) (m := 1024) a.vc := by
  unfold val_main_v124
  rw [ref_v64 a, ref_v85 a, ref_v94 a, ref_v97 a, ref_v102 a, ref_v122 a, ref_v123]
  refine (cat0_7 _ _ _ _ _ _ _ _).trans (up2_congr fun i hi j hj => ?_)
  unfold Arr.vc Arr.vf
  rcases (by omega : i = 0 ∨ i = 1 ∨ i = 2 ∨ i = 3 ∨ i = 4 ∨ i = 5 ∨ 6 ≤ i) with h | h | h | h | h | h | h
  · subst h; rfl
  · subst h; rfl
  · subst h; rfl
  · subst h; rfl
  · subst h; rfl
  · subst h; rfl
  · have n0 : ¬i = 0 := by omega
    have n1 : ¬i = 1 := by omega
    have n2 : ¬i = 2 := by omega
    have n3 : ¬i = 3 := by omega
    have n4 : ¬i = 4 := by omega
    have n5 : ¬i = 5 := by omega
    simp only [if_neg n0, if_neg n1, if_neg n2, if_neg n3, if_neg n4, if_neg n5, Finset.sum_const_zero]
    rw [if_neg (by omega), if_neg (by omega), if_neg (by omega), if_neg (by omega), if_neg (by omega), if_neg (by omega)]

theorem ref_v125 : val_main_v125 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.dx := by
  simp (config := {implicitDefEqProofs := false}) only [val_main_v125, ref_v80 a, ref_v118 a, addf_up2]
  rfl

theorem ref_v126 : val_main_v126 (F := Ideal) (up2 (n := 2048) (m := 1024) a.x) (up2 (n := 6) (m := 1024) a.md) (up2 (n := 1) (m := 1024) a.g2) = up2 (n := 2048) (m := 1024) a.h := by
  simp (config := {implicitDefEqProofs := false}) only [val_main_v126, ref_v23 a, truncf_up2]

theorem ref_v127 : val_main_v127 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up2 (n := 2048) (m := 1024) a.df := by
  simp (config := {implicitDefEqProofs := false}) only [val_main_v127, ref_v82 a, truncf_up2]

theorem ref_v130 : val_main_v130 (F := Ideal) (up2 (n := 2048) (m := 1024) a.x) (up2 (n := 6) (m := 1024) a.md) (up2 (n := 1) (m := 1024) a.g2) (up2 (n := 1024) (m := 2816) a.wg) (up2 (n := 1024) (m := 2816) a.wu) = up3 (l := 4) (n := 2048) (m := 704) fun g t i => a.act t (g * 704 + i) := by
  simp only [val_main_v130, val_main_v129, val_main_v128, ref_v27 a, truncf_up2]
  rw [cast_groups (n := 2048) (w := 2816) (g := 4) (m := 704) rfl a.act _]
  rfl

theorem ref_v133 : val_main_v133 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up3 (l := 4) (n := 2048) (m := 704) fun g t i => a.dg t (g * 704 + i) := by
  simp only [val_main_v133, val_main_v132, val_main_v131, ref_v89 a, truncf_up2]
  rw [cast_groups (n := 2048) (w := 2816) (g := 4) (m := 704) rfl a.dg _]
  rfl

theorem ref_v136 : val_main_v136 (F := Ideal) (up2 (n := 2048) (m := 1024) a.x) (up2 (n := 2048) (m := 1024) a.tgt) (up2 (n := 6) (m := 1024) a.md) (up2 (n := 1) (m := 1024) a.g2) (up2 (n := 1) (m := 1024) a.gf) (up2 (n := 1024) (m := 2816) a.wg) (up2 (n := 1024) (m := 2816) a.wu) (up2 (n := 2816) (m := 1024) a.wd) = up3 (l := 4) (n := 2048) (m := 704) fun g t i => a.du t (g * 704 + i) := by
  simp only [val_main_v136, val_main_v135, val_main_v134, ref_v87 a, truncf_up2]
  rw [cast_groups (n := 2048) (w := 2816) (g := 4) (m := 704) rfl a.du _]
  rfl

end Cert.Proof.Ffn
-- ==== Proof.FfnTileA.lean ====
/-
  WHAT THE KERNEL'S TERMS OF ONE TILE ARE: the forward half, up to the last norm's gradient.
-/
module

public import proofs.«01_k».proof.Proof.FfnModel
public import proofs.«01_k».proof.Proof.Buffers
public import proofs.«01_k».proof.Proof.TileA
public import proofs.«01_k».proof.Proof.Gen.Kernel2Ideal.Skeleton

@[expose] public section

set_option maxRecDepth 16384

noncomputable section

open Idealize.ShloMosaic Idealize.ShloMosaic.TcCoe Cert.Kernel2Ideal Cert.Kernel2Ideal.Gen
open scoped BigOperators

namespace Cert.Proof.Ffn

/-- Slab `g` of 704 columns of a tile of rows from `b` on. -/
def gs (g b : ℕ) (A : ℕ → ℕ → ℝ) : ℕ → ℕ → ℝ := fun r j => A (b + r) (g * 704 + j)
/-- The slabs of a tile of rows from `b` on. -/
def G3 (b : ℕ) (A : ℕ → ℕ → ℝ) : ℕ → ℕ → ℕ → ℝ := fun g r j => A (b + r) (g * 704 + j)

namespace Arr
variable (a : Arr)
/-- The weights as the kernel is handed them: slabs of 704 columns of the layer. -/
def wgT (g i k : ℕ) : ℝ := a.wg k (g * 704 + i)
def wuT (g i k : ℕ) : ℝ := a.wu k (g * 704 + i)
def wdn (g i k : ℕ) : ℝ := a.wd (g * 704 + i) k
end Arr

theorem bits_inv : Ideal.ofBits .f32 0x3A800000#32 = ((1 / 1024 : ℝ) : EReal) := by
  simp [Ideal.ofBits, Ideal.ieee]; rw [← EReal.coe_mul]; norm_num
theorem splat_inv_up2 {n m : ℕ} : broadcast ⟨2, ![n, m]⟩ (Scalar.ofBits (F := Ideal) .f32 0x3A800000#32) = up2 fun _ _ => (1 / 1024 : ℝ) := constant_up2 _ _ bits_inv

variable (a : Arr) (b : ℕ)

theorem t_pay1 : k0_pay1 (F := Ideal)  = up2 (n := 8) (m := 1024) (zr) := by
  simp (config := {implicitDefEqProofs := false, proj := false}) only [k0_pay1, splat_zero_up2]
  rfl

theorem t_pay2 : k0_pay2 (F := Ideal) (up2 (n := 256) (m := 1024) (bk b a.x)) = up2 (n := 256) (m := 1) (bk b fun t _ => a.r1 t) := by
  simp (config := {implicitDefEqProofs := false, proj := false}) only [k0_pay2, addf_up2, mulf_up2, cast_1_col, sum_cols_k, divf_up2, splat_1024_up2, splat_eps_up2, ne_eq, OfNat.ofNat_ne_zero, not_false_eq_true, implies_true]
  exact rsqrt_up2 (n := 256) (m := 1) (fun r _ => a.ms (b + r)) fun r _ _ _ => a.ms_pos (b + r)

theorem t_pay3 : k0_pay3 (F := Ideal) (up2 (n := 256) (m := 1024) (bk b a.x)) = up2 (n := 256) (m := 1024) (bk b a.xh) := by
  simp (config := {implicitDefEqProofs := false, proj := false}) only [k0_pay3, t_pay2 a b, mulf_up2, bcast_col_up2]
  exact up2_congr fun r hr j hj => rfl

theorem t_pay4 : k0_pay4 (F := Ideal) (up2 (n := 256) (m := 1024) (bk b a.x)) (up2 (n := 1) (m := 1024) (a.g2)) = up2 (n := 256) (m := 1024) (bk b a.n2) := by
  simp (config := {implicitDefEqProofs := false, proj := false}) only [k0_pay4, t_pay3 a b, mulf_up2, bcast_row_up2]
  exact up2_congr fun r hr j hj => rfl

theorem t_pay5 : k0_pay5 (F := Ideal) (up2 (n := 256) (m := 1024) (bk b a.x)) (up2 (n := 1) (m := 1024) (bk 3 a.md)) (up2 (n := 1) (m := 1024) (bk 4 a.md)) (up2 (n := 1) (m := 1024) (a.g2)) = up2 (n := 256) (m := 1024) (bk b a.h) := by
  simp (config := {implicitDefEqProofs := false, proj := false}) only [k0_pay5, t_pay4 a b, addf_up2, mulf_up2, truncf_up2, bcast_row_up2, splat_one_up2]
  exact up2_congr fun r hr j hj => rfl

theorem t_pay6 : k0_pay6 (F := Ideal)  = up2 (n := 256) (m := 1024) (zr) := by
  simp (config := {implicitDefEqProofs := false, proj := false}) only [k0_pay6, splat_zero_up2]
  rfl

theorem t_pay7 : k0_pay7 (F := Ideal) (up3 (l := 1) (n := 704) (m := 1024) (sh3 0 0 0 a.wgT)) = up2 (n := 704) (m := 1024) (a.wgT 0) := by
  simp (config := {implicitDefEqProofs := false, proj := false}) only [k0_pay7, cast_drop]
  exact up2_congr fun r hr j hj => by simp only [sh3, Nat.zero_add, Nat.add_zero, Arr.wgT]

theorem t_pay8 : k0_pay8 (F := Ideal) (up2 (n := 256) (m := 1024) (bk b a.h)) (up2 (n := 704) (m := 1024) (a.wgT 0)) (constant (F := Ideal) S256x704 .f32 0x00000000#32) = up2 (n := 256) (m := 704) (gs 0 b a.gg) := by
  simp (config := {implicitDefEqProofs := false, proj := false}) only [k0_pay8, dot_S256x1024_S704x1024_S256x704_1_1_0_0_n_n, mdot_nt]
  exact up2_congr fun r hr j hj => by first | (simp only [sh3, Nat.zero_add, Nat.add_zero]; rfl) | rfl

theorem t_pay9 : k0_pay9 (F := Ideal) (up2 (n := 256) (m := 1024) (bk b a.h)) (up3 (l := 1) (n := 704) (m := 1024) (sh3 0 0 0 a.wuT)) = up2 (n := 256) (m := 704) (gs 0 b a.uu) := by
  simp (config := {implicitDefEqProofs := false, proj := false}) only [k0_pay9, dot_S256x1024_S704x1024_S256x704_1_1_0_0_n_n, cast_drop, mdot_nt]
  exact up2_congr fun r hr j hj => by first | (simp only [sh3, Nat.zero_add, Nat.add_zero]; rfl) | rfl

theorem t_pay10 : k0_pay10 (F := Ideal) (up2 (n := 256) (m := 1024) (bk b a.h)) (up2 (n := 704) (m := 1024) (a.wgT 0)) (constant (F := Ideal) S256x704 .f32 0x00000000#32) = up3 (l := 1) (n := 256) (m := 704) (sh3 0 0 0 (G3 b a.gg)) := by
  simp (config := {implicitDefEqProofs := false, proj := false}) only [k0_pay10, t_pay8 a b, cast_add]
  exact up3_congr fun k hk r hr j hj => by obtain rfl : k = 0 := (by omega); simp only [gs, G3, sh3, Nat.zero_add, Nat.add_zero]

theorem t_pay11 : k0_pay11 (F := Ideal) (up2 (n := 256) (m := 1024) (bk b a.h)) (up3 (l := 1) (n := 704) (m := 1024) (sh3 0 0 0 a.wuT)) = up3 (l := 1) (n := 256) (m := 704) (sh3 0 0 0 (G3 b a.uu)) := by
  simp (config := {implicitDefEqProofs := false, proj := false}) only [k0_pay11, t_pay9 a b, cast_add]
  exact up3_congr fun k hk r hr j hj => by obtain rfl : k = 0 := (by omega); simp only [gs, G3, sh3, Nat.zero_add, Nat.add_zero]

theorem t_pay12 : k0_pay12 (F := Ideal) (up2 (n := 256) (m := 1024) (bk b a.h)) (up2 (n := 704) (m := 1024) (a.wgT 0)) (constant (F := Ideal) S256x704 .f32 0x00000000#32) (up3 (l := 1) (n := 704) (m := 1024) (sh3 0 0 0 a.wuT)) = up2 (n := 256) (m := 704) (gs 0 b a.act) := by
  simp (config := {implicitDefEqProofs := false, proj := false}) only [k0_pay12, t_pay8 a b, t_pay9 a b, addf_up2, subf_up2, mulf_up2, exp_up2, truncf_up2, divf_up2, splat_zero_up2, splat_one_up2, ne_eq, not_false_eq_true, implies_true, Arr.den_ne, zero_sub]
  exact up2_congr fun r hr j hj => rfl

theorem t_pay13 : k0_pay13 (F := Ideal) (up2 (n := 256) (m := 1024) (bk b a.h)) (up2 (n := 704) (m := 1024) (a.wgT 0)) (constant (F := Ideal) S256x704 .f32 0x00000000#32) (up3 (l := 1) (n := 704) (m := 1024) (sh3 0 0 0 a.wuT)) = up3 (l := 1) (n := 256) (m := 704) (sh3 0 0 0 (G3 b a.act)) := by
  simp (config := {implicitDefEqProofs := false, proj := false}) only [k0_pay13, t_pay12 a b, cast_add]
  exact up3_congr fun k hk r hr j hj => by obtain rfl : k = 0 := (by omega); simp only [gs, G3, sh3, Nat.zero_add, Nat.add_zero]

theorem t_pay14 : k0_pay14 (F := Ideal) (up2 (n := 256) (m := 1024) (bk b a.h)) (up2 (n := 256) (m := 1024) (zr)) (up2 (n := 704) (m := 1024) (a.wgT 0)) (constant (F := Ideal) S256x704 .f32 0x00000000#32) (up3 (l := 1) (n := 704) (m := 1024) (sh3 0 0 0 a.wuT)) (up3 (l := 1) (n := 704) (m := 1024) (sh3 0 0 0 a.wdn)) = up2 (n := 256) (m := 1024) (bk b a.f1) := by
  simp (config := {implicitDefEqProofs := false, proj := false}) only [k0_pay14, t_pay12 a b, dot_S256x704_S704x1024_S256x1024_1_0_0_1_n_n, addf_up2, cast_drop, mdot_nn]
  exact up2_congr fun r hr j hj => by simp only [sh3, zr, zero_add]; rfl

theorem t_pay15 : k0_pay15 (F := Ideal) (up2 (n := 256) (m := 1024) (bk b a.h)) (up3 (l := 1) (n := 704) (m := 1024) (sh3 1 0 0 a.wgT)) = up2 (n := 256) (m := 704) (gs 1 b a.gg) := by
  simp (config := {implicitDefEqProofs := false, proj := false}) only [k0_pay15, dot_S256x1024_S704x1024_S256x704_1_1_0_0_n_n, cast_drop, mdot_nt]
  exact up2_congr fun r hr j hj => by first | (simp only [sh3, Nat.zero_add, Nat.add_zero]; rfl) | rfl

theorem t_pay16 : k0_pay16 (F := Ideal) (up2 (n := 256) (m := 1024) (bk b a.h)) (up3 (l := 1) (n := 704) (m := 1024) (sh3 1 0 0 a.wuT)) = up2 (n := 256) (m := 704) (gs 1 b a.uu) := by
  simp (config := {implicitDefEqProofs := false, proj := false}) only [k0_pay16, dot_S256x1024_S704x1024_S256x704_1_1_0_0_n_n, cast_drop, mdot_nt]
  exact up2_congr fun r hr j hj => by first | (simp only [sh3, Nat.zero_add, Nat.add_zero]; rfl) | rfl

theorem t_pay17 : k0_pay17 (F := Ideal) (up2 (n := 256) (m := 704) (gs 1 b a.gg)) = up3 (l := 1) (n := 256) (m := 704) (sh3 1 0 0 (G3 b a.gg)) := by
  simp (config := {implicitDefEqProofs := false, proj := false}) only [k0_pay17, cast_add]
  exact up3_congr fun k hk r hr j hj => by obtain rfl : k = 0 := (by omega); simp only [gs, G3, sh3, Nat.zero_add, Nat.add_zero]

theorem t_pay18 : k0_pay18 (F := Ideal) (up2 (n := 256) (m := 1024) (bk b a.h)) (up3 (l := 1) (n := 704) (m := 1024) (sh3 1 0 0 a.wuT)) = up3 (l := 1) (n := 256) (m := 704) (sh3 1 0 0 (G3 b a.uu)) := by
  simp (config := {implicitDefEqProofs := false, proj := false}) only [k0_pay18, t_pay16 a b, cast_add]
  exact up3_congr fun k hk r hr j hj => by obtain rfl : k = 0 := (by omega); simp only [gs, G3, sh3, Nat.zero_add, Nat.add_zero]

theorem t_pay19 : k0_pay19 (F := Ideal) (up2 (n := 256) (m := 1024) (bk b a.h)) (up2 (n := 256) (m := 704) (gs 1 b a.gg)) (up3 (l := 1) (n := 704) (m := 1024) (sh3 1 0 0 a.wuT)) = up2 (n := 256) (m := 704) (gs 1 b a.act) := by
  simp (config := {implicitDefEqProofs := false, proj := false}) only [k0_pay19, t_pay16 a b, addf_up2, subf_up2, mulf_up2, exp_up2, truncf_up2, divf_up2, splat_zero_up2, splat_one_up2, ne_eq, not_false_eq_true, implies_true, Arr.den_ne, zero_sub]
  exact up2_congr fun r hr j hj => rfl

theorem t_pay20 : k0_pay20 (F := Ideal) (up2 (n := 256) (m := 1024) (bk b a.h)) (up2 (n := 256) (m := 704) (gs 1 b a.gg)) (up3 (l := 1) (n := 704) (m := 1024) (sh3 1 0 0 a.wuT)) = up3 (l := 1) (n := 256) (m := 704) (sh3 1 0 0 (G3 b a.act)) := by
  simp (config := {implicitDefEqProofs := false, proj := false}) only [k0_pay20, t_pay19 a b, cast_add]
  exact up3_congr fun k hk r hr j hj => by obtain rfl : k = 0 := (by omega); simp only [gs, G3, sh3, Nat.zero_add, Nat.add_zero]

theorem t_pay21 : k0_pay21 (F := Ideal) (up2 (n := 256) (m := 1024) (bk b a.h)) (up2 (n := 256) (m := 1024) (bk b a.f1)) (up2 (n := 256) (m := 704) (gs 1 b a.gg)) (up3 (l := 1) (n := 704) (m := 1024) (sh3 1 0 0 a.wuT)) (up3 (l := 1) (n := 704) (m := 1024) (sh3 1 0 0 a.wdn)) = up2 (n := 256) (m := 1024) (bk b a.f2) := by
  simp (config := {implicitDefEqProofs := false, proj := false}) only [k0_pay21, t_pay19 a b, dot_S256x704_S704x1024_S256x1024_1_0_0_1_n_n, addf_up2, cast_drop, mdot_nn]
  exact up2_congr fun r hr j hj => by simp only [sh3, Nat.add_zero, zero_add]; rfl

theorem t_pay22 : k0_pay22 (F := Ideal) (up2 (n := 256) (m := 1024) (bk b a.h)) (up3 (l := 1) (n := 704) (m := 1024) (sh3 2 0 0 a.wgT)) = up2 (n := 256) (m := 704) (gs 2 b a.gg) := by
  simp (config := {implicitDefEqProofs := false, proj := false}) only [k0_pay22, dot_S256x1024_S704x1024_S256x704_1_1_0_0_n_n, cast_drop, mdot_nt]
  exact up2_congr fun r hr j hj => by first | (simp only [sh3, Nat.zero_add, Nat.add_zero]; rfl) | rfl

theorem t_pay23 : k0_pay23 (F := Ideal) (up2 (n := 256) (m := 1024) (bk b a.h)) (up3 (l := 1) (n := 704) (m := 1024) (sh3 2 0 0 a.wuT)) = up2 (n := 256) (m := 704) (gs 2 b a.uu) := by
  simp (config := {implicitDefEqProofs := false, proj := false}) only [k0_pay23, dot_S256x1024_S704x1024_S256x704_1_1_0_0_n_n, cast_drop, mdot_nt]
  exact up2_congr fun r hr j hj => by first | (simp only [sh3, Nat.zero_add, Nat.add_zero]; rfl) | rfl

theorem t_pay24 : k0_pay24 (F := Ideal) (up2 (n := 256) (m := 704) (gs 2 b a.gg)) = up3 (l := 1) (n := 256) (m := 704) (sh3 2 0 0 (G3 b a.gg)) := by
  simp (config := {implicitDefEqProofs := false, proj := false}) only [k0_pay24, cast_add]
  exact up3_congr fun k hk r hr j hj => by obtain rfl : k = 0 := (by omega); simp only [gs, G3, sh3, Nat.zero_add, Nat.add_zero]

theorem t_pay25 : k0_pay25 (F := Ideal) (up2 (n := 256) (m := 704) (gs 2 b a.uu)) = up3 (l := 1) (n := 256) (m := 704) (sh3 2 0 0 (G3 b a.uu)) := by
  simp (config := {implicitDefEqProofs := false, proj := false}) only [k0_pay25, cast_add]
  exact up3_congr fun k hk r hr j hj => by obtain rfl : k = 0 := (by omega); simp only [gs, G3, sh3, Nat.zero_add, Nat.add_zero]

theorem t_pay26 : k0_pay26 (F := Ideal) (up2 (n := 256) (m := 704) (gs 2 b a.gg)) (up2 (n := 256) (m := 704) (gs 2 b a.uu)) = up2 (n := 256) (m := 704) (gs 2 b a.act) := by
  simp (config := {implicitDefEqProofs := false, proj := false}) only [k0_pay26, addf_up2, subf_up2, mulf_up2, exp_up2, truncf_up2, divf_up2, splat_zero_up2, splat_one_up2, ne_eq, not_false_eq_true, implies_true, Arr.den_ne, zero_sub]
  exact up2_congr fun r hr j hj => rfl

theorem t_pay27 : k0_pay27 (F := Ideal) (up2 (n := 256) (m := 704) (gs 2 b a.gg)) (up2 (n := 256) (m := 704) (gs 2 b a.uu)) = up3 (l := 1) (n := 256) (m := 704) (sh3 2 0 0 (G3 b a.act)) := by
  simp (config := {implicitDefEqProofs := false, proj := false}) only [k0_pay27, t_pay26 a b, cast_add]
  exact up3_congr fun k hk r hr j hj => by obtain rfl : k = 0 := (by omega); simp only [gs, G3, sh3, Nat.zero_add, Nat.add_zero]

theorem t_pay28 : k0_pay28 (F := Ideal) (up2 (n := 256) (m := 1024) (bk b a.f2)) (up2 (n := 256) (m := 704) (gs 2 b a.gg)) (up2 (n := 256) (m := 704) (gs 2 b a.uu)) (up3 (l := 1) (n := 704) (m := 1024) (sh3 2 0 0 a.wdn)) = up2 (n := 256) (m := 1024) (bk b a.f3) := by
  simp (config := {implicitDefEqProofs := false, proj := false}) only [k0_pay28, t_pay26 a b, dot_S256x704_S704x1024_S256x1024_1_0_0_1_n_n, addf_up2, cast_drop, mdot_nn]
  exact up2_congr fun r hr j hj => by simp only [sh3, Nat.add_zero, zero_add]; rfl

theorem t_pay29 : k0_pay29 (F := Ideal) (up2 (n := 256) (m := 1024) (bk b a.h)) (up3 (l := 1) (n := 704) (m := 1024) (sh3 3 0 0 a.wgT)) = up2 (n := 256) (m := 704) (gs 3 b a.gg) := by
  simp (config := {implicitDefEqProofs := false, proj := false}) only [k0_pay29, dot_S256x1024_S704x1024_S256x704_1_1_0_0_n_n, cast_drop, mdot_nt]
  exact up2_congr fun r hr j hj => by first | (simp only [sh3, Nat.zero_add, Nat.add_zero]; rfl) | rfl

theorem t_pay30 : k0_pay30 (F := Ideal) (up2 (n := 256) (m := 1024) (bk b a.h)) (up3 (l := 1) (n := 704) (m := 1024) (sh3 3 0 0 a.wuT)) = up2 (n := 256) (m := 704) (gs 3 b a.uu) := by
  simp (config := {implicitDefEqProofs := false, proj := false}) only [k0_pay30, dot_S256x1024_S704x1024_S256x704_1_1_0_0_n_n, cast_drop, mdot_nt]
  exact up2_congr fun r hr j hj => by first | (simp only [sh3, Nat.zero_add, Nat.add_zero]; rfl) | rfl

theorem t_pay31 : k0_pay31 (F := Ideal) (up2 (n := 256) (m := 704) (gs 3 b a.gg)) = up3 (l := 1) (n := 256) (m := 704) (sh3 3 0 0 (G3 b a.gg)) := by
  simp (config := {implicitDefEqProofs := false, proj := false}) only [k0_pay31, cast_add]
  exact up3_congr fun k hk r hr j hj => by obtain rfl : k = 0 := (by omega); simp only [gs, G3, sh3, Nat.zero_add, Nat.add_zero]

theorem t_pay32 : k0_pay32 (F := Ideal) (up2 (n := 256) (m := 704) (gs 3 b a.uu)) = up3 (l := 1) (n := 256) (m := 704) (sh3 3 0 0 (G3 b a.uu)) := by
  simp (config := {implicitDefEqProofs := false, proj := false}) only [k0_pay32, cast_add]
  exact up3_congr fun k hk r hr j hj => by obtain rfl : k = 0 := (by omega); simp only [gs, G3, sh3, Nat.zero_add, Nat.add_zero]

theorem t_pay33 : k0_pay33 (F := Ideal) (up2 (n := 256) (m := 704) (gs 3 b a.gg)) (up2 (n := 256) (m := 704) (gs 3 b a.uu)) = up2 (n := 256) (m := 704) (gs 3 b a.act) := by
  simp (config := {implicitDefEqProofs := false, proj := false}) only [k0_pay33, addf_up2, subf_up2, mulf_up2, exp_up2, truncf_up2, divf_up2, splat_zero_up2, splat_one_up2, ne_eq, not_false_eq_true, implies_true, Arr.den_ne, zero_sub]
  exact up2_congr fun r hr j hj => rfl

theorem t_pay34 : k0_pay34 (F := Ideal) (up2 (n := 256) (m := 704) (gs 3 b a.gg)) (up2 (n := 256) (m := 704) (gs 3 b a.uu)) = up3 (l := 1) (n := 256) (m := 704) (sh3 3 0 0 (G3 b a.act)) := by
  simp (config := {implicitDefEqProofs := false, proj := false}) only [k0_pay34, t_pay33 a b, cast_add]
  exact up3_congr fun k hk r hr j hj => by obtain rfl : k = 0 := (by omega); simp only [gs, G3, sh3, Nat.zero_add, Nat.add_zero]

theorem t_pay35 : k0_pay35 (F := Ideal) (up2 (n := 256) (m := 1024) (bk b a.f3)) (up2 (n := 256) (m := 704) (gs 3 b a.gg)) (up2 (n := 256) (m := 704) (gs 3 b a.uu)) (up3 (l := 1) (n := 704) (m := 1024) (sh3 3 0 0 a.wdn)) = up2 (n := 256) (m := 1024) (bk b a.f) := by
  simp (config := {implicitDefEqProofs := false, proj := false}) only [k0_pay35, t_pay33 a b, dot_S256x704_S704x1024_S256x1024_1_0_0_1_n_n, addf_up2, cast_drop, mdot_nn]
  exact up2_congr fun r hr j hj => by simp only [sh3, Nat.add_zero, zero_add]; rfl

theorem t_pay36 : k0_pay36 (F := Ideal) (up2 (n := 256) (m := 1024) (bk b a.x)) (up2 (n := 1) (m := 1024) (bk 5 a.md)) (up2 (n := 256) (m := 1024) (bk b a.f3)) (up2 (n := 256) (m := 704) (gs 3 b a.gg)) (up2 (n := 256) (m := 704) (gs 3 b a.uu)) (up3 (l := 1) (n := 704) (m := 1024) (sh3 3 0 0 a.wdn)) = up2 (n := 256) (m := 1024) (bk b a.x3) := by
  simp (config := {implicitDefEqProofs := false, proj := false}) only [k0_pay36, t_pay35 a b, addf_up2, mulf_up2, bcast_row_up2]
  exact up2_congr fun r hr j hj => rfl

theorem t_pay37 : k0_pay37 (F := Ideal) (up2 (n := 256) (m := 1024) (bk b a.x)) (up2 (n := 1) (m := 1024) (bk 5 a.md)) (up2 (n := 256) (m := 1024) (bk b a.f3)) (up2 (n := 256) (m := 704) (gs 3 b a.gg)) (up2 (n := 256) (m := 704) (gs 3 b a.uu)) (up3 (l := 1) (n := 704) (m := 1024) (sh3 3 0 0 a.wdn)) = up2 (n := 256) (m := 1) (bk b fun t _ => a.r3 t) := by
  simp (config := {implicitDefEqProofs := false, proj := false}) only [k0_pay37, t_pay36 a b, addf_up2, mulf_up2, cast_1_col, sum_cols_k, divf_up2, splat_1024_up2, splat_eps_up2, ne_eq, OfNat.ofNat_ne_zero, not_false_eq_true, implies_true]
  exact rsqrt_up2 (n := 256) (m := 1) (fun r _ => a.ms3 (b + r)) fun r _ _ _ => a.ms3_pos (b + r)

theorem t_pay38 : k0_pay38 (F := Ideal) (up2 (n := 256) (m := 1024) (bk b a.x)) (up2 (n := 1) (m := 1024) (bk 5 a.md)) (up2 (n := 256) (m := 1024) (bk b a.f3)) (up2 (n := 256) (m := 704) (gs 3 b a.gg)) (up2 (n := 256) (m := 704) (gs 3 b a.uu)) (up3 (l := 1) (n := 704) (m := 1024) (sh3 3 0 0 a.wdn)) = up2 (n := 256) (m := 1024) (bk b a.xo) := by
  simp (config := {implicitDefEqProofs := false, proj := false}) only [k0_pay38, t_pay36 a b, t_pay37 a b, mulf_up2, bcast_col_up2]
  exact up2_congr fun r hr j hj => rfl

theorem t_pay39 : k0_pay39 (F := Ideal) (up2 (n := 256) (m := 1024) (bk b a.x)) (up2 (n := 1) (m := 1024) (bk 5 a.md)) (up2 (n := 1) (m := 1024) (a.gf)) (up2 (n := 256) (m := 1024) (bk b a.f3)) (up2 (n := 256) (m := 704) (gs 3 b a.gg)) (up2 (n := 256) (m := 704) (gs 3 b a.uu)) (up3 (l := 1) (n := 704) (m := 1024) (sh3 3 0 0 a.wdn)) (up2 (n := 256) (m := 1024) (bk b a.tgt)) = up2 (n := 256) (m := 1024) (bk b a.er) := by
  simp (config := {implicitDefEqProofs := false, proj := false}) only [k0_pay39, t_pay38 a b, subf_up2, mulf_up2, bcast_row_up2]
  exact up2_congr fun r hr j hj => rfl

theorem t_pay40 : k0_pay40 (F := Ideal) (up2 (n := 256) (m := 1024) (bk b a.er)) = up2 (n := 256) (m := 1024) (bk b a.dout) := by
  simp (config := {implicitDefEqProofs := false, proj := false}) only [k0_pay40, mulf_up2, splat_inv_up2]
  exact up2_congr fun r hr j hj => rfl

theorem t_pay41 : k0_pay41 (F := Ideal) (up2 (n := 1) (m := 1024) (a.gf)) (up2 (n := 256) (m := 1) (bk b fun t _ => a.r3 t)) (up2 (n := 256) (m := 1024) (bk b a.xo)) (up2 (n := 256) (m := 1024) (bk b a.er)) = up2 (n := 256) (m := 1024) (bk b a.dx3) := by
  simp (config := {implicitDefEqProofs := false, proj := false}) only [k0_pay41, t_pay40 a b, subf_up2, mulf_up2, bcast_row_up2, bcast_col_up2, cast_1_col, sum_cols_k, divf_up2, splat_1024_up2, ne_eq, OfNat.ofNat_ne_zero, not_false_eq_true, implies_true]
  exact up2_congr fun r hr j hj => rfl

theorem t_pay42 : k0_pay42 (F := Ideal) (up2 (n := 1) (m := 1024) (bk 5 a.md)) (up2 (n := 1) (m := 1024) (a.gf)) (up2 (n := 256) (m := 1) (bk b fun t _ => a.r3 t)) (up2 (n := 256) (m := 1024) (bk b a.xo)) (up2 (n := 256) (m := 1024) (bk b a.er)) = up2 (n := 256) (m := 1024) (bk b a.df) := by
  simp (config := {implicitDefEqProofs := false, proj := false}) only [k0_pay42, t_pay41 a b, mulf_up2, truncf_up2, bcast_row_up2]
  exact up2_congr fun r hr j hj => rfl

theorem t_pay43 : k0_pay43 (F := Ideal)  = up2 (n := 256) (m := 1024) (zr) := by
  simp (config := {implicitDefEqProofs := false, proj := false}) only [k0_pay43, splat_zero_up2]
  rfl

end Cert.Proof.Ffn
-- ==== Proof.FfnPrep.lean ====
/-
  PREP: the kernel's blocks in terms of the arrays, its slabs, and its sums over the tiles.
-/
module

public import proofs.«01_k».proof.Proof.FfnTileA
public import proofs.«01_k».proof.Proof.Buffers
public import proofs.«01_k».proof.Proof.Gen.Kernel2Ideal.Value

@[expose] public section

set_option maxRecDepth 16384

noncomputable section

open Idealize.ShloMosaic Idealize.ShloMosaic.TcCoe Cert.Kernel2Ideal Cert.Kernel2Ideal.Gen
open scoped BigOperators

namespace Cert.Proof.Ffn

variable (m : (ℓ : Loc nD τ sig) → Buf (Elt Ideal) ℓ) (c : Dev nD) (a : Arr)

/-- The first row of the tile visited at point `t`. -/
def lo (t : ℕ) : ℕ := 256 * t

theorem idx_0 : ∀ t : Fin cfg0.N, (cfg0.win 0).index t = ![t.val, 0] := by decide +kernel
theorem blk_0 (t : Fin cfg0.N) (A : ℕ → ℕ → ℝ) (h : V m c main_arg0 = up2 (n := 2048) (m := 1024) A) :
    iblk m c 0 t = up2 (n := 256) (m := 1024) (bk (lo t.val) A) := by
  funext y
  have e0 := congrFun (idx_0 t) 0
  have e1 := congrFun (idx_0 t) 1
  blk_simp [iblk, h, up2, bk, lo]
  refine congrArg _ (congrArg₂ A ?_ ?_)
  · rw [show win0_0.index t 0 = t.val from e0, Nat.mul_comm]
  · rw [show win0_0.index t 1 = 0 from e1, Nat.zero_mul, Nat.zero_add]
theorem idx_1 : ∀ t : Fin cfg0.N, (cfg0.win 1).index t = ![t.val, 0] := by decide +kernel
theorem blk_1 (t : Fin cfg0.N) (A : ℕ → ℕ → ℝ) (h : V m c main_arg1 = up2 (n := 2048) (m := 1024) A) :
    iblk m c 1 t = up2 (n := 256) (m := 1024) (bk (lo t.val) A) := by
  funext y
  have e0 := congrFun (idx_1 t) 0
  have e1 := congrFun (idx_1 t) 1
  blk_simp [iblk, h, up2, bk, lo]
  refine congrArg _ (congrArg₂ A ?_ ?_)
  · rw [show win0_1.index t 0 = t.val from e0, Nat.mul_comm]
  · rw [show win0_1.index t 1 = 0 from e1, Nat.zero_mul, Nat.zero_add]
theorem idx_2 : ∀ t : Fin cfg0.N, (cfg0.win 2).index t = ![0, 0] := by decide +kernel
theorem blk_2 (t : Fin cfg0.N) : iblk m c 2 t = V m c main_arg2 := by
  funext y
  have e0 := congrFun (idx_2 t) 0
  have e1 := congrFun (idx_2 t) 1
  blk_ext [iblk, e0, e1]
theorem idx_3 : ∀ t : Fin cfg0.N, (cfg0.win 3).index t = ![0, 0] := by decide +kernel
theorem blk_3 (t : Fin cfg0.N) : iblk m c 3 t = V m c main_arg3 := by
  funext y
  have e0 := congrFun (idx_3 t) 0
  have e1 := congrFun (idx_3 t) 1
  blk_ext [iblk, e0, e1]
theorem idx_4 : ∀ t : Fin cfg0.N, (cfg0.win 4).index t = ![0, 0] := by decide +kernel
theorem blk_4 (t : Fin cfg0.N) : iblk m c 4 t = V m c main_arg4 := by
  funext y
  have e0 := congrFun (idx_4 t) 0
  have e1 := congrFun (idx_4 t) 1
  blk_ext [iblk, e0, e1]
theorem idx_5 : ∀ t : Fin cfg0.N, (cfg0.win 5).index t = ![0, 0, 0] := by decide +kernel
theorem blk_5 (t : Fin cfg0.N) : iblk m c 5 t = V m c main_v2 := by
  funext y
  have e0 := congrFun (idx_5 t) 0
  have e1 := congrFun (idx_5 t) 1
  have e2 := congrFun (idx_5 t) 2
  blk_ext [iblk, e0, e1, e2]
theorem idx_6 : ∀ t : Fin cfg0.N, (cfg0.win 6).index t = ![0, 0, 0] := by decide +kernel
theorem blk_6 (t : Fin cfg0.N) : iblk m c 6 t = V m c main_v5 := by
  funext y
  have e0 := congrFun (idx_6 t) 0
  have e1 := congrFun (idx_6 t) 1
  have e2 := congrFun (idx_6 t) 2
  blk_ext [iblk, e0, e1, e2]
theorem idx_7 : ∀ t : Fin cfg0.N, (cfg0.win 7).index t = ![0, 0, 0] := by decide +kernel
theorem blk_7 (t : Fin cfg0.N) : iblk m c 7 t = V m c main_v7 := by
  funext y
  have e0 := congrFun (idx_7 t) 0
  have e1 := congrFun (idx_7 t) 1
  have e2 := congrFun (idx_7 t) 2
  blk_ext [iblk, e0, e1, e2]

/-- The buffers the kernel's blocks are cut from hold the arrays of `a`. -/
structure Ins : Prop where
  h0 : V m c main_arg0 = up2 (n := 2048) (m := 1024) a.x
  h1 : V m c main_arg1 = up2 (n := 2048) (m := 1024) a.tgt
  h2 : V m c main_arg2 = up2 (n := 6) (m := 1024) a.md
  h3 : V m c main_arg3 = up2 (n := 1) (m := 1024) a.g2
  h4 : V m c main_arg4 = up2 (n := 1) (m := 1024) a.gf
  h5 : V m c main_v2 = up3 (l := 4) (n := 704) (m := 1024) a.wgT
  h6 : V m c main_v5 = up3 (l := 4) (n := 704) (m := 1024) a.wuT
  h7 : V m c main_v7 = up3 (l := 4) (n := 704) (m := 1024) a.wdn

variable {m c a} (H : Ins m c a) (t : Fin cfg0.N)
include H
theorem ib0 : iblk m c 0 t = up2 (n := 256) (m := 1024) (bk (lo t.val) a.x) := blk_0 m c t _ H.h0
theorem ib1 : iblk m c 1 t = up2 (n := 256) (m := 1024) (bk (lo t.val) a.tgt) := blk_1 m c t _ H.h1
theorem ib2 : iblk m c 2 t = up2 (n := 6) (m := 1024) a.md := (blk_2 m c t).trans H.h2
theorem ib3 : iblk m c 3 t = up2 (n := 1) (m := 1024) a.g2 := (blk_3 m c t).trans H.h3
theorem ib4 : iblk m c 4 t = up2 (n := 1) (m := 1024) a.gf := (blk_4 m c t).trans H.h4
theorem ib5 : iblk m c 5 t = up3 (l := 4) (n := 704) (m := 1024) a.wgT := (blk_5 m c t).trans H.h5
theorem ib6 : iblk m c 6 t = up3 (l := 4) (n := 704) (m := 1024) a.wuT := (blk_6 m c t).trans H.h6
theorem ib7 : iblk m c 7 t = up3 (l := 4) (n := 704) (m := 1024) a.wdn := (blk_7 m c t).trans H.h7
omit H
theorem tlt : t.val < 8 := lt_of_lt_of_eq t.isLt N_0

/-- The sums over the rows before `b`. -/
def tot (f : ℕ → ℕ → ℕ → ℝ) (b : ℕ) : ℕ → ℕ → ℝ := fun i j => ∑ r ∈ Finset.range b, f i r j
theorem acc2_tot (f : ℕ → ℕ → ℕ → ℝ) (b : ℕ) : acc2 f b (tot f b) = tot f (b + 256) := by
  funext i j
  exact (Finset.sum_range_add (fun r => f i r j) b 256).symm
theorem acc2_zr (f : ℕ → ℕ → ℕ → ℝ) : acc2 f 0 zr = tot f 256 := by
  funext i j
  show (0 : ℝ) + ∑ r ∈ Finset.range 256, f i (0 + r) j = ∑ r ∈ Finset.range 256, f i r j
  simp only [zero_add]
theorem hF (a : Arr) (b : ℕ) (S : ℕ → ℕ → ℝ) : ∀ i j, 6 ≤ i → S i j = acc2 a.vf b S i j := fun i j hi => by
  unfold acc2
  rw [Finset.sum_eq_zero fun r _ => ?_, add_zero]
  unfold Arr.vf
  rw [if_neg (by omega), if_neg (by omega), if_neg (by omega), if_neg (by omega), if_neg (by omega), if_neg (by omega)]
theorem all14 : tot a.vf 2048 = a.vc := rfl

/-! ## slabs of 704 columns -/

theorem cov_ldb {sig : RefSig} {κ : Kind} {sp : Space} {S : Shape} (v : View sig κ sp S .bf16) (L : List (View.Piece (Elt Ideal) S .bf16)) (r : Rect S) :
    v.readCov L r.toLoadRect = View.ld (View.canon L) r := View.readCov_eq_canon' v L r.toLoadRect
theorem ld_up3c {l n m o p q : ℕ} (g a c : ℕ) (A : ℕ → ℕ → ℕ → ℝ) (h : ∀ x, (![g, a, c] : Fin 3 → ℕ) x + (![o, p, q] : Fin 3 → ℕ) x ≤ (⟨3, ![l, n, m]⟩ : Shape).size x) :
    View.ld (Val := Elt Ideal) (e' := .f32) (S := ⟨3, ![l, n, m]⟩) (up3 A) (Rect.unit ![g, a, c] ![o, p, q] h) = up3 (l := o) (n := p) (m := q) (sh3 g a c A) := ld_up3 g a c A h

section
variable {l n m o p q g a b : ℕ} (A : ℕ → ℕ → ℕ → ℝ) (h : ∀ x, (![g, a, b] : Fin 3 → ℕ) x + (![o, p, q] : Fin 3 → ℕ) x ≤ (⟨3, ![l, n, m]⟩ : Shape).size x)
  (L : List (View.Piece (Elt Ideal) (⟨3, ![l, n, m]⟩ : Shape) .bf16)) (y : (⟨3, ![l, n, m]⟩ : Shape).Idx)
theorem canon_at3b : View.canon ((⟨Rect.unit (s := ⟨3, ![l, n, m]⟩) ![g, a, b] ![o, p, q] h, up3 (l := o) (n := p) (m := q) A⟩ : View.Piece (Elt Ideal) (⟨3, ![l, n, m]⟩ : Shape) .bf16) :: L) y =
    if g ≤ (y 0).val ∧ (y 0).val < g + o ∧ a ≤ (y 1).val ∧ (y 1).val < a + p ∧ b ≤ (y 2).val ∧ (y 2).val < b + q
      then ((A ((y 0).val - g) ((y 1).val - a) ((y 2).val - b) : ℝ) : EReal) else View.canon L y := by
  split
  · rename_i hy
    obtain ⟨x, rfl⟩ := LoadRect.exists_idx_of_mem _ ((mem_unit3 h y).mpr hy)
    refine (View.canon_cons_emb _ _ L x).trans ?_
    show ((A (x 0).val (x 1).val (x 2).val : ℝ) : EReal) = ((A (g + 1 * (x 0).val - g) (a + 1 * (x 1).val - a) (b + 1 * (x 2).val - b) : ℝ) : EReal)
    rw [Nat.one_mul, Nat.one_mul, Nat.one_mul, Nat.add_sub_cancel_left, Nat.add_sub_cancel_left, Nat.add_sub_cancel_left]
  · rename_i hy
    exact View.canon_cons_of_not_mem _ L fun hm => hy ((mem_unit3 h y).mp hm)
end

theorem slabs_f (G : ℕ → ℕ → ℕ → ℝ) (h0 h1 h2 h3) : View.canon [(⟨Rect.unit (s := S4x256x704) ![3, 0, 0] ![1, 256, 704] h3, up3 (l := 1) (n := 256) (m := 704) (sh3 3 0 0 G)⟩ : View.Piece (Elt Ideal) S4x256x704 .f32), (⟨Rect.unit (s := S4x256x704) ![2, 0, 0] ![1, 256, 704] h2, up3 (l := 1) (n := 256) (m := 704) (sh3 2 0 0 G)⟩ : View.Piece (Elt Ideal) S4x256x704 .f32), (⟨Rect.unit (s := S4x256x704) ![1, 0, 0] ![1, 256, 704] h1, up3 (l := 1) (n := 256) (m := 704) (sh3 1 0 0 G)⟩ : View.Piece (Elt Ideal) S4x256x704 .f32), (⟨Rect.unit (s := S4x256x704) ![0, 0, 0] ![1, 256, 704] h0, up3 (l := 1) (n := 256) (m := 704) (sh3 0 0 0 G)⟩ : View.Piece (Elt Ideal) S4x256x704 .f32)] = up3 (l := 4) (n := 256) (m := 704) G := by
  funext y
  have hk : (y 0).val < 4 := (y 0).isLt
  have hi : (y 1).val < 256 := (y 1).isLt
  have hj : (y 2).val < 704 := (y 2).isLt
  show _ = ((G (y 0).val (y 1).val (y 2).val : ℝ) : EReal)
  rw [canon_at3, canon_at3, canon_at3, canon_at3]
  split_ifs
  · exact ec3 (A := G) (by omega) (by omega) (by omega)
  · exact ec3 (A := G) (by omega) (by omega) (by omega)
  · exact ec3 (A := G) (by omega) (by omega) (by omega)
  · exact ec3 (A := G) (by omega) (by omega) (by omega)
  · omega
theorem slabs_b (G : ℕ → ℕ → ℕ → ℝ) (h0 h1 h2 h3) : View.canon [(⟨Rect.unit (s := S4x256x704) ![3, 0, 0] ![1, 256, 704] h3, up3 (l := 1) (n := 256) (m := 704) (sh3 3 0 0 G)⟩ : View.Piece (Elt Ideal) S4x256x704 .bf16), (⟨Rect.unit (s := S4x256x704) ![2, 0, 0] ![1, 256, 704] h2, up3 (l := 1) (n := 256) (m := 704) (sh3 2 0 0 G)⟩ : View.Piece (Elt Ideal) S4x256x704 .bf16), (⟨Rect.unit (s := S4x256x704) ![1, 0, 0] ![1, 256, 704] h1, up3 (l := 1) (n := 256) (m := 704) (sh3 1 0 0 G)⟩ : View.Piece (Elt Ideal) S4x256x704 .bf16), (⟨Rect.unit (s := S4x256x704) ![0, 0, 0] ![1, 256, 704] h0, up3 (l := 1) (n := 256) (m := 704) (sh3 0 0 0 G)⟩ : View.Piece (Elt Ideal) S4x256x704 .bf16)] = up3 (l := 4) (n := 256) (m := 704) G := by
  funext y
  have hk : (y 0).val < 4 := (y 0).isLt
  have hi : (y 1).val < 256 := (y 1).isLt
  have hj : (y 2).val < 704 := (y 2).isLt
  show _ = ((G (y 0).val (y 1).val (y 2).val : ℝ) : EReal)
  rw [canon_at3b, canon_at3b, canon_at3b, canon_at3b]
  split_ifs
  · exact ec3 (A := G) (by omega) (by omega) (by omega)
  · exact ec3 (A := G) (by omega) (by omega) (by omega)
  · exact ec3 (A := G) (by omega) (by omega) (by omega)
  · exact ec3 (A := G) (by omega) (by omega) (by omega)
  · omega

end Cert.Proof.Ffn
-- ==== Proof.FfnTileB.lean ====
/-
  WHAT THE KERNEL'S TERMS OF ONE TILE ARE: the backward half.
-/
module

public import proofs.«01_k».proof.Proof.FfnTileA

@[expose] public section

set_option maxRecDepth 16384

noncomputable section

open Idealize.ShloMosaic Idealize.ShloMosaic.TcCoe Cert.Kernel2Ideal Cert.Kernel2Ideal.Gen
open scoped BigOperators

namespace Cert.Proof.Ffn

variable (a : Arr) (b : ℕ)

theorem t_pay44 : k0_pay44 (F := Ideal) (up2 (n := 1) (m := 1024) (bk 5 a.md)) (up2 (n := 1) (m := 1024) (a.gf)) (up2 (n := 256) (m := 1) (bk b fun t _ => a.r3 t)) (up2 (n := 256) (m := 1024) (bk b a.xo)) (up2 (n := 256) (m := 1024) (bk b a.er)) (up3 (l := 1) (n := 704) (m := 1024) (sh3 0 0 0 a.wdn)) = up2 (n := 256) (m := 704) (gs 0 b a.da) := by
  simp (config := {implicitDefEqProofs := false, proj := false}) only [k0_pay44, t_pay42 a b, dot_S256x1024_S704x1024_S256x704_1_1_0_0_n_n, cast_drop, mdot_nt]
  exact up2_congr fun r hr j hj => by first | (simp only [sh3, Nat.zero_add, Nat.add_zero]; rfl) | rfl

theorem t_pay45 : k0_pay45 (F := Ideal) (up3 (l := 1) (n := 256) (m := 704) (sh3 0 0 0 (G3 b a.gg))) = up2 (n := 256) (m := 704) (gs 0 b a.gg) := by
  simp (config := {implicitDefEqProofs := false, proj := false}) only [k0_pay45, cast_drop]
  exact up2_congr fun r hr j hj => by simp only [sh3, gs, G3, Nat.zero_add, Nat.add_zero]

theorem t_pay46 : k0_pay46 (F := Ideal) (up3 (l := 1) (n := 256) (m := 704) (sh3 0 0 0 (G3 b a.gg))) = up2 (n := 256) (m := 704) (gs 0 b a.sg) := by
  simp (config := {implicitDefEqProofs := false, proj := false}) only [k0_pay46, t_pay45 a b, addf_up2, subf_up2, exp_up2, divf_up2, splat_zero_up2, splat_one_up2, ne_eq, not_false_eq_true, implies_true, Arr.den_ne, zero_sub]
  exact up2_congr fun r hr j hj => rfl

theorem t_pay47 : k0_pay47 (F := Ideal) (up2 (n := 1) (m := 1024) (bk 5 a.md)) (up2 (n := 1) (m := 1024) (a.gf)) (up2 (n := 256) (m := 1) (bk b fun t _ => a.r3 t)) (up2 (n := 256) (m := 1024) (bk b a.xo)) (up2 (n := 256) (m := 1024) (bk b a.er)) (up3 (l := 1) (n := 704) (m := 1024) (sh3 0 0 0 a.wdn)) (up3 (l := 1) (n := 256) (m := 704) (sh3 0 0 0 (G3 b a.gg))) = up2 (n := 256) (m := 704) (gs 0 b a.du) := by
  simp (config := {implicitDefEqProofs := false, proj := false}) only [k0_pay47, t_pay44 a b, t_pay45 a b, t_pay46 a b, mulf_up2, truncf_up2]
  exact up2_congr fun r hr j hj => rfl

theorem t_pay48 : k0_pay48 (F := Ideal) (up2 (n := 1) (m := 1024) (bk 5 a.md)) (up2 (n := 1) (m := 1024) (a.gf)) (up2 (n := 256) (m := 1) (bk b fun t _ => a.r3 t)) (up2 (n := 256) (m := 1024) (bk b a.xo)) (up2 (n := 256) (m := 1024) (bk b a.er)) (up3 (l := 1) (n := 704) (m := 1024) (sh3 0 0 0 a.wdn)) (up3 (l := 1) (n := 256) (m := 704) (sh3 0 0 0 (G3 b a.uu))) = up2 (n := 256) (m := 704) (gs 0 b a.dau) := by
  simp (config := {implicitDefEqProofs := false, proj := false}) only [k0_pay48, t_pay44 a b, mulf_up2, cast_drop]
  exact up2_congr fun r hr j hj => by simp only [sh3, gs, G3, Nat.zero_add, Nat.add_zero]; rfl

theorem t_pay49 : k0_pay49 (F := Ideal) (up3 (l := 1) (n := 256) (m := 704) (sh3 0 0 0 (G3 b a.gg))) = up2 (n := 256) (m := 704) (fun r j => 1 - gs 0 b a.sg r j) := by
  simp (config := {implicitDefEqProofs := false, proj := false}) only [k0_pay49, t_pay46 a b, subf_up2, splat_one_up2]

theorem t_pay50 : k0_pay50 (F := Ideal) (up2 (n := 256) (m := 704) (gs 0 b a.gg)) (up2 (n := 256) (m := 704) (gs 0 b a.sg)) (up2 (n := 256) (m := 704) (gs 0 b a.dau)) (up2 (n := 256) (m := 704) (fun r j => 1 - gs 0 b a.sg r j)) = up2 (n := 256) (m := 704) (gs 0 b a.dg) := by
  simp (config := {implicitDefEqProofs := false, proj := false}) only [k0_pay50, addf_up2, mulf_up2, truncf_up2, splat_one_up2]
  exact up2_congr fun r hr j hj => rfl

theorem t_pay51 : k0_pay51 (F := Ideal) (up2 (n := 256) (m := 704) (gs 0 b a.du)) = up3 (l := 1) (n := 256) (m := 704) (sh3 0 0 0 (G3 b a.du)) := by
  simp (config := {implicitDefEqProofs := false, proj := false}) only [k0_pay51, cast_add]
  exact up3_congr fun k hk r hr j hj => by obtain rfl : k = 0 := (by omega); simp only [gs, G3, sh3, Nat.zero_add, Nat.add_zero]

theorem t_pay52 : k0_pay52 (F := Ideal) (up2 (n := 256) (m := 704) (gs 0 b a.gg)) (up2 (n := 256) (m := 704) (gs 0 b a.sg)) (up2 (n := 256) (m := 704) (gs 0 b a.dau)) (up2 (n := 256) (m := 704) (fun r j => 1 - gs 0 b a.sg r j)) = up3 (l := 1) (n := 256) (m := 704) (sh3 0 0 0 (G3 b a.dg)) := by
  simp (config := {implicitDefEqProofs := false, proj := false}) only [k0_pay52, t_pay50 a b, cast_add]
  exact up3_congr fun k hk r hr j hj => by obtain rfl : k = 0 := (by omega); simp only [gs, G3, sh3, Nat.zero_add, Nat.add_zero]

theorem t_pay53 : k0_pay53 (F := Ideal) (up2 (n := 256) (m := 1024) (zr)) (up2 (n := 256) (m := 704) (gs 0 b a.gg)) (up2 (n := 256) (m := 704) (gs 0 b a.sg)) (up2 (n := 256) (m := 704) (gs 0 b a.du)) (up2 (n := 256) (m := 704) (gs 0 b a.dau)) (up2 (n := 256) (m := 704) (fun r j => 1 - gs 0 b a.sg r j)) (up3 (l := 1) (n := 704) (m := 1024) (sh3 0 0 0 a.wgT)) (up3 (l := 1) (n := 704) (m := 1024) (sh3 0 0 0 a.wuT)) = up2 (n := 256) (m := 1024) (bk b a.dh1) := by
  simp (config := {implicitDefEqProofs := false, proj := false}) only [k0_pay53, t_pay50 a b, dot_S256x704_S704x1024_S256x1024_1_0_0_1_n_n, addf_up2, cast_drop, mdot_nn]
  exact up2_congr fun r hr j hj => by simp only [sh3, zr, zero_add]; rfl

theorem t_pay54 : k0_pay54 (F := Ideal) (up2 (n := 256) (m := 1024) (bk b a.df)) (up3 (l := 1) (n := 704) (m := 1024) (sh3 1 0 0 a.wdn)) = up2 (n := 256) (m := 704) (gs 1 b a.da) := by
  simp (config := {implicitDefEqProofs := false, proj := false}) only [k0_pay54, dot_S256x1024_S704x1024_S256x704_1_1_0_0_n_n, cast_drop, mdot_nt]
  exact up2_congr fun r hr j hj => by first | (simp only [sh3, Nat.zero_add, Nat.add_zero]; rfl) | rfl

theorem t_pay55 : k0_pay55 (F := Ideal) (up3 (l := 1) (n := 256) (m := 704) (sh3 1 0 0 (G3 b a.gg))) = up2 (n := 256) (m := 704) (gs 1 b a.gg) := by
  simp (config := {implicitDefEqProofs := false, proj := false}) only [k0_pay55, cast_drop]
  exact up2_congr fun r hr j hj => by simp only [sh3, gs, G3, Nat.zero_add, Nat.add_zero]

theorem t_pay56 : k0_pay56 (F := Ideal) (up3 (l := 1) (n := 256) (m := 704) (sh3 1 0 0 (G3 b a.uu))) = up2 (n := 256) (m := 704) (gs 1 b a.uu) := by
  simp (config := {implicitDefEqProofs := false, proj := false}) only [k0_pay56, cast_drop]
  exact up2_congr fun r hr j hj => by simp only [sh3, gs, G3, Nat.zero_add, Nat.add_zero]

theorem t_pay57 : k0_pay57 (F := Ideal) (up3 (l := 1) (n := 256) (m := 704) (sh3 1 0 0 (G3 b a.gg))) = up2 (n := 256) (m := 704) (fun r j => Real.exp (-gs 1 b a.gg r j)) := by
  simp (config := {implicitDefEqProofs := false, proj := false}) only [k0_pay57, t_pay55 a b, subf_up2, exp_up2, splat_zero_up2, zero_sub]

theorem t_pay58 : k0_pay58 (F := Ideal)  = up2 (n := 256) (m := 704) (fun _ _ => 1) := by
  simp (config := {implicitDefEqProofs := false, proj := false}) only [k0_pay58, splat_one_up2]

theorem t_pay59 : k0_pay59 (F := Ideal) (up2 (n := 256) (m := 704) (fun r j => Real.exp (-gs 1 b a.gg r j))) (up2 (n := 256) (m := 704) (fun _ _ => 1)) = up2 (n := 256) (m := 704) (gs 1 b a.sg) := by
  simp (config := {implicitDefEqProofs := false, proj := false}) only [k0_pay59, addf_up2, divf_up2, splat_one_up2, ne_eq, not_false_eq_true, implies_true, Arr.den_ne]
  exact up2_congr fun r hr j hj => rfl

theorem t_pay60 : k0_pay60 (F := Ideal) (up2 (n := 256) (m := 704) (gs 1 b a.da)) (up2 (n := 256) (m := 704) (gs 1 b a.gg)) (up2 (n := 256) (m := 704) (fun r j => Real.exp (-gs 1 b a.gg r j))) (up2 (n := 256) (m := 704) (fun _ _ => 1)) = up2 (n := 256) (m := 704) (gs 1 b a.du) := by
  simp (config := {implicitDefEqProofs := false, proj := false}) only [k0_pay60, t_pay59 a b, mulf_up2, truncf_up2]
  exact up2_congr fun r hr j hj => rfl

theorem t_pay61 : k0_pay61 (F := Ideal) (up2 (n := 256) (m := 704) (gs 1 b a.da)) (up2 (n := 256) (m := 704) (gs 1 b a.gg)) (up2 (n := 256) (m := 704) (gs 1 b a.uu)) (up2 (n := 256) (m := 704) (fun r j => Real.exp (-gs 1 b a.gg r j))) (up2 (n := 256) (m := 704) (fun _ _ => 1)) = up2 (n := 256) (m := 704) (gs 1 b a.dg) := by
  simp (config := {implicitDefEqProofs := false, proj := false}) only [k0_pay61, t_pay59 a b, addf_up2, subf_up2, mulf_up2, truncf_up2, splat_one_up2]
  exact up2_congr fun r hr j hj => rfl

theorem t_pay62 : k0_pay62 (F := Ideal) (up2 (n := 256) (m := 704) (gs 1 b a.da)) (up2 (n := 256) (m := 704) (gs 1 b a.gg)) (up2 (n := 256) (m := 704) (fun r j => Real.exp (-gs 1 b a.gg r j))) (up2 (n := 256) (m := 704) (fun _ _ => 1)) = up3 (l := 1) (n := 256) (m := 704) (sh3 1 0 0 (G3 b a.du)) := by
  simp (config := {implicitDefEqProofs := false, proj := false}) only [k0_pay62, t_pay60 a b, cast_add]
  exact up3_congr fun k hk r hr j hj => by obtain rfl : k = 0 := (by omega); simp only [gs, G3, sh3, Nat.zero_add, Nat.add_zero]

theorem t_pay63 : k0_pay63 (F := Ideal) (up2 (n := 256) (m := 704) (gs 1 b a.da)) (up2 (n := 256) (m := 704) (gs 1 b a.gg)) (up2 (n := 256) (m := 704) (gs 1 b a.uu)) (up2 (n := 256) (m := 704) (fun r j => Real.exp (-gs 1 b a.gg r j))) (up2 (n := 256) (m := 704) (fun _ _ => 1)) = up3 (l := 1) (n := 256) (m := 704) (sh3 1 0 0 (G3 b a.dg)) := by
  simp (config := {implicitDefEqProofs := false, proj := false}) only [k0_pay63, t_pay61 a b, cast_add]
  exact up3_congr fun k hk r hr j hj => by obtain rfl : k = 0 := (by omega); simp only [gs, G3, sh3, Nat.zero_add, Nat.add_zero]

theorem t_pay64 : k0_pay64 (F := Ideal) (up2 (n := 256) (m := 1024) (bk b a.dh1)) (up2 (n := 256) (m := 704) (gs 1 b a.da)) (up2 (n := 256) (m := 704) (gs 1 b a.gg)) (up2 (n := 256) (m := 704) (gs 1 b a.uu)) (up2 (n := 256) (m := 704) (fun r j => Real.exp (-gs 1 b a.gg r j))) (up2 (n := 256) (m := 704) (fun _ _ => 1)) (up3 (l := 1) (n := 704) (m := 1024) (sh3 1 0 0 a.wgT)) (up3 (l := 1) (n := 704) (m := 1024) (sh3 1 0 0 a.wuT)) = up2 (n := 256) (m := 1024) (bk b a.dh2) := by
  simp (config := {implicitDefEqProofs := false, proj := false}) only [k0_pay64, t_pay60 a b, t_pay61 a b, dot_S256x704_S704x1024_S256x1024_1_0_0_1_n_n, addf_up2, cast_drop, mdot_nn]
  exact up2_congr fun r hr j hj => by simp only [sh3, Nat.add_zero, zero_add]; rfl

theorem t_pay65 : k0_pay65 (F := Ideal) (up2 (n := 256) (m := 1024) (bk b a.df)) (up3 (l := 1) (n := 704) (m := 1024) (sh3 2 0 0 a.wdn)) = up2 (n := 256) (m := 704) (gs 2 b a.da) := by
  simp (config := {implicitDefEqProofs := false, proj := false}) only [k0_pay65, dot_S256x1024_S704x1024_S256x704_1_1_0_0_n_n, cast_drop, mdot_nt]
  exact up2_congr fun r hr j hj => by first | (simp only [sh3, Nat.zero_add, Nat.add_zero]; rfl) | rfl

theorem t_pay66 : k0_pay66 (F := Ideal) (up3 (l := 1) (n := 256) (m := 704) (sh3 2 0 0 (G3 b a.gg))) = up2 (n := 256) (m := 704) (gs 2 b a.gg) := by
  simp (config := {implicitDefEqProofs := false, proj := false}) only [k0_pay66, cast_drop]
  exact up2_congr fun r hr j hj => by simp only [sh3, gs, G3, Nat.zero_add, Nat.add_zero]

theorem t_pay67 : k0_pay67 (F := Ideal) (up2 (n := 256) (m := 704) (gs 2 b a.gg)) = up2 (n := 256) (m := 704) (gs 2 b a.sg) := by
  simp (config := {implicitDefEqProofs := false, proj := false}) only [k0_pay67, addf_up2, subf_up2, exp_up2, divf_up2, splat_zero_up2, splat_one_up2, ne_eq, not_false_eq_true, implies_true, Arr.den_ne, zero_sub]
  exact up2_congr fun r hr j hj => rfl

theorem t_pay68 : k0_pay68 (F := Ideal) (up2 (n := 256) (m := 704) (gs 2 b a.da)) (up2 (n := 256) (m := 704) (gs 2 b a.gg)) = up2 (n := 256) (m := 704) (gs 2 b a.du) := by
  simp (config := {implicitDefEqProofs := false, proj := false}) only [k0_pay68, t_pay67 a b, mulf_up2, truncf_up2]
  exact up2_congr fun r hr j hj => rfl

theorem t_pay69 : k0_pay69 (F := Ideal) (up2 (n := 256) (m := 704) (gs 2 b a.da)) (up2 (n := 256) (m := 704) (gs 2 b a.gg)) (up3 (l := 1) (n := 256) (m := 704) (sh3 2 0 0 (G3 b a.uu))) = up2 (n := 256) (m := 704) (gs 2 b a.dg) := by
  simp (config := {implicitDefEqProofs := false, proj := false}) only [k0_pay69, t_pay67 a b, addf_up2, subf_up2, mulf_up2, truncf_up2, cast_drop, splat_one_up2]
  exact up2_congr fun r hr j hj => by simp only [sh3, gs, G3, Nat.zero_add, Nat.add_zero]; rfl

theorem t_pay70 : k0_pay70 (F := Ideal) (up2 (n := 256) (m := 704) (gs 2 b a.da)) (up2 (n := 256) (m := 704) (gs 2 b a.gg)) = up3 (l := 1) (n := 256) (m := 704) (sh3 2 0 0 (G3 b a.du)) := by
  simp (config := {implicitDefEqProofs := false, proj := false}) only [k0_pay70, t_pay68 a b, cast_add]
  exact up3_congr fun k hk r hr j hj => by obtain rfl : k = 0 := (by omega); simp only [gs, G3, sh3, Nat.zero_add, Nat.add_zero]

theorem t_pay71 : k0_pay71 (F := Ideal) (up2 (n := 256) (m := 704) (gs 2 b a.da)) (up2 (n := 256) (m := 704) (gs 2 b a.gg)) (up3 (l := 1) (n := 256) (m := 704) (sh3 2 0 0 (G3 b a.uu))) = up3 (l := 1) (n := 256) (m := 704) (sh3 2 0 0 (G3 b a.dg)) := by
  simp (config := {implicitDefEqProofs := false, proj := false}) only [k0_pay71, t_pay69 a b, cast_add]
  exact up3_congr fun k hk r hr j hj => by obtain rfl : k = 0 := (by omega); simp only [gs, G3, sh3, Nat.zero_add, Nat.add_zero]

theorem t_pay72 : k0_pay72 (F := Ideal) (up2 (n := 256) (m := 1024) (bk b a.dh2)) (up2 (n := 256) (m := 704) (gs 2 b a.da)) (up2 (n := 256) (m := 704) (gs 2 b a.gg)) (up3 (l := 1) (n := 256) (m := 704) (sh3 2 0 0 (G3 b a.uu))) (up3 (l := 1) (n := 704) (m := 1024) (sh3 2 0 0 a.wgT)) (up3 (l := 1) (n := 704) (m := 1024) (sh3 2 0 0 a.wuT)) = up2 (n := 256) (m := 1024) (bk b a.dh3) := by
  simp (config := {implicitDefEqProofs := false, proj := false}) only [k0_pay72, t_pay68 a b, t_pay69 a b, dot_S256x704_S704x1024_S256x1024_1_0_0_1_n_n, addf_up2, cast_drop, mdot_nn]
  exact up2_congr fun r hr j hj => by simp only [sh3, Nat.add_zero, zero_add]; rfl

theorem t_pay73 : k0_pay73 (F := Ideal) (up2 (n := 256) (m := 1024) (bk b a.df)) (up3 (l := 1) (n := 704) (m := 1024) (sh3 3 0 0 a.wdn)) = up2 (n := 256) (m := 704) (gs 3 b a.da) := by
  simp (config := {implicitDefEqProofs := false, proj := false}) only [k0_pay73, dot_S256x1024_S704x1024_S256x704_1_1_0_0_n_n, cast_drop, mdot_nt]
  exact up2_congr fun r hr j hj => by first | (simp only [sh3, Nat.zero_add, Nat.add_zero]; rfl) | rfl

theorem t_pay74 : k0_pay74 (F := Ideal) (up3 (l := 1) (n := 256) (m := 704) (sh3 3 0 0 (G3 b a.gg))) = up2 (n := 256) (m := 704) (gs 3 b a.gg) := by
  simp (config := {implicitDefEqProofs := false, proj := false}) only [k0_pay74, cast_drop]
  exact up2_congr fun r hr j hj => by simp only [sh3, gs, G3, Nat.zero_add, Nat.add_zero]

theorem t_pay75 : k0_pay75 (F := Ideal) (up3 (l := 1) (n := 256) (m := 704) (sh3 3 0 0 (G3 b a.gg))) = up2 (n := 256) (m := 704) (gs 3 b a.sg) := by
  simp (config := {implicitDefEqProofs := false, proj := false}) only [k0_pay75, t_pay74 a b, addf_up2, subf_up2, exp_up2, divf_up2, splat_zero_up2, splat_one_up2, ne_eq, not_false_eq_true, implies_true, Arr.den_ne, zero_sub]
  exact up2_congr fun r hr j hj => rfl

theorem t_pay76 : k0_pay76 (F := Ideal) (up2 (n := 256) (m := 1024) (bk b a.df)) (up3 (l := 1) (n := 704) (m := 1024) (sh3 3 0 0 a.wdn)) (up3 (l := 1) (n := 256) (m := 704) (sh3 3 0 0 (G3 b a.gg))) = up2 (n := 256) (m := 704) (gs 3 b a.du) := by
  simp (config := {implicitDefEqProofs := false, proj := false}) only [k0_pay76, t_pay73 a b, t_pay74 a b, t_pay75 a b, mulf_up2, truncf_up2]
  exact up2_congr fun r hr j hj => rfl

theorem t_pay77 : k0_pay77 (F := Ideal) (up2 (n := 256) (m := 1024) (bk b a.df)) (up3 (l := 1) (n := 704) (m := 1024) (sh3 3 0 0 a.wdn)) (up3 (l := 1) (n := 256) (m := 704) (sh3 3 0 0 (G3 b a.gg))) (up3 (l := 1) (n := 256) (m := 704) (sh3 3 0 0 (G3 b a.uu))) = up2 (n := 256) (m := 704) (gs 3 b a.dg) := by
  simp (config := {implicitDefEqProofs := false, proj := false}) only [k0_pay77, t_pay73 a b, t_pay74 a b, t_pay75 a b, addf_up2, subf_up2, mulf_up2, truncf_up2, cast_drop, splat_one_up2]
  exact up2_congr fun r hr j hj => by simp only [sh3, gs, G3, Nat.zero_add, Nat.add_zero]; rfl

theorem t_pay78 : k0_pay78 (F := Ideal) (up2 (n := 256) (m := 1024) (bk b a.df)) (up3 (l := 1) (n := 704) (m := 1024) (sh3 3 0 0 a.wdn)) (up3 (l := 1) (n := 256) (m := 704) (sh3 3 0 0 (G3 b a.gg))) = up3 (l := 1) (n := 256) (m := 704) (sh3 3 0 0 (G3 b a.du)) := by
  simp (config := {implicitDefEqProofs := false, proj := false}) only [k0_pay78, t_pay76 a b, cast_add]
  exact up3_congr fun k hk r hr j hj => by obtain rfl : k = 0 := (by omega); simp only [gs, G3, sh3, Nat.zero_add, Nat.add_zero]

theorem t_pay79 : k0_pay79 (F := Ideal) (up2 (n := 256) (m := 1024) (bk b a.df)) (up3 (l := 1) (n := 704) (m := 1024) (sh3 3 0 0 a.wdn)) (up3 (l := 1) (n := 256) (m := 704) (sh3 3 0 0 (G3 b a.gg))) (up3 (l := 1) (n := 256) (m := 704) (sh3 3 0 0 (G3 b a.uu))) = up3 (l := 1) (n := 256) (m := 704) (sh3 3 0 0 (G3 b a.dg)) := by
  simp (config := {implicitDefEqProofs := false, proj := false}) only [k0_pay79, t_pay77 a b, cast_add]
  exact up3_congr fun k hk r hr j hj => by obtain rfl : k = 0 := (by omega); simp only [gs, G3, sh3, Nat.zero_add, Nat.add_zero]

theorem t_pay80 : k0_pay80 (F := Ideal) (up3 (l := 1) (n := 704) (m := 1024) (sh3 3 0 0 a.wgT)) = up2 (n := 704) (m := 1024) (a.wgT 3) := by
  simp (config := {implicitDefEqProofs := false, proj := false}) only [k0_pay80, cast_drop]
  exact up2_congr fun r hr j hj => by simp only [sh3, Nat.zero_add, Nat.add_zero]

theorem t_pay81 : k0_pay81 (F := Ideal) (up2 (n := 256) (m := 1024) (bk b a.dh3)) (up2 (n := 256) (m := 704) (gs 3 b a.du)) (up2 (n := 256) (m := 704) (gs 3 b a.dg)) (up2 (n := 704) (m := 1024) (a.wgT 3)) (constant (F := Ideal) S256x1024 .f32 0x00000000#32) (up3 (l := 1) (n := 704) (m := 1024) (sh3 3 0 0 a.wuT)) = up2 (n := 256) (m := 1024) (bk b a.dh) := by
  simp (config := {implicitDefEqProofs := false, proj := false}) only [k0_pay81, dot_S256x704_S704x1024_S256x1024_1_0_0_1_n_n, addf_up2, cast_drop, mdot_nn]
  exact up2_congr fun r hr j hj => by simp only [sh3, Nat.add_zero, zero_add]; rfl

theorem t_pay82 : k0_pay82 (F := Ideal) (up2 (n := 1) (m := 1024) (bk 4 a.md)) (up2 (n := 256) (m := 1024) (bk b a.dh3)) (up2 (n := 256) (m := 704) (gs 3 b a.du)) (up2 (n := 256) (m := 704) (gs 3 b a.dg)) (up2 (n := 704) (m := 1024) (a.wgT 3)) (constant (F := Ideal) S256x1024 .f32 0x00000000#32) (up3 (l := 1) (n := 704) (m := 1024) (sh3 3 0 0 a.wuT)) = up2 (n := 256) (m := 1024) (bk b a.dxs) := by
  simp (config := {implicitDefEqProofs := false, proj := false}) only [k0_pay82, t_pay81 a b, addf_up2, mulf_up2, bcast_row_up2, splat_one_up2]
  exact up2_congr fun r hr j hj => rfl

theorem t_pay83 : k0_pay83 (F := Ideal) (up2 (n := 1) (m := 1024) (bk 4 a.md)) (up2 (n := 1) (m := 1024) (a.g2)) (up2 (n := 256) (m := 1) (bk b fun t _ => a.r1 t)) (up2 (n := 256) (m := 1024) (bk b a.xh)) (up2 (n := 256) (m := 1024) (bk b a.dx3)) (up2 (n := 256) (m := 1024) (bk b a.dh3)) (up2 (n := 256) (m := 704) (gs 3 b a.du)) (up2 (n := 256) (m := 704) (gs 3 b a.dg)) (up2 (n := 704) (m := 1024) (a.wgT 3)) (constant (F := Ideal) S256x1024 .f32 0x00000000#32) (up3 (l := 1) (n := 704) (m := 1024) (sh3 3 0 0 a.wuT)) = up2 (n := 256) (m := 1024) (bk b a.dx) := by
  simp (config := {implicitDefEqProofs := false, proj := false}) only [k0_pay83, t_pay82 a b, addf_up2, subf_up2, mulf_up2, bcast_row_up2, bcast_col_up2, cast_1_col, sum_cols_k, divf_up2, splat_1024_up2, ne_eq, OfNat.ofNat_ne_zero, not_false_eq_true, implies_true]
  exact up2_congr fun r hr j hj => rfl

theorem t_pay84 (S : ℕ → ℕ → ℝ) : k0_pay84 (F := Ideal) (up2 (n := 256) (m := 1024) (bk b a.xo)) (up2 (n := 256) (m := 1024) (bk b a.dout)) (up2 (n := 1) (m := 1024) (S)) = up2 (n := 1) (m := 1024) (acc2 a.vf b S) := by
  simp (config := {implicitDefEqProofs := false, proj := false}) only [k0_pay84, addf_up2, mulf_up2, cast_self, cast_1_row, sum_rows_k]
  refine up2_congr fun r hr j hj => ?_
  obtain rfl : r = 0 := by omega
  rfl

theorem t_pay85 (S : ℕ → ℕ → ℝ) : k0_pay85 (F := Ideal) (up2 (n := 256) (m := 1024) (bk b a.f)) (up2 (n := 256) (m := 1024) (bk b a.dx3)) (up2 (n := 1) (m := 1024) (bk 1 S)) = up2 (n := 1) (m := 1024) (bk 1 (acc2 a.vf b S)) := by
  simp (config := {implicitDefEqProofs := false, proj := false}) only [k0_pay85, addf_up2, mulf_up2, cast_self, cast_1_row, sum_rows_k]
  refine up2_congr fun r hr j hj => ?_
  obtain rfl : r = 0 := by omega
  rfl

theorem t_pay86 (S : ℕ → ℕ → ℝ) : k0_pay86 (F := Ideal) (up2 (n := 256) (m := 1024) (bk b a.dh)) (up2 (n := 1) (m := 1024) (bk 2 S)) = up2 (n := 1) (m := 1024) (bk 2 (acc2 a.vf b S)) := by
  simp (config := {implicitDefEqProofs := false, proj := false}) only [k0_pay86, addf_up2, cast_self, cast_1_row, sum_rows_k]
  refine up2_congr fun r hr j hj => ?_
  obtain rfl : r = 0 := by omega
  rfl

theorem t_pay87 (S : ℕ → ℕ → ℝ) : k0_pay87 (F := Ideal) (up2 (n := 256) (m := 1024) (bk b a.n2)) (up2 (n := 256) (m := 1024) (bk b a.dh)) (up2 (n := 1) (m := 1024) (bk 3 S)) = up2 (n := 1) (m := 1024) (bk 3 (acc2 a.vf b S)) := by
  simp (config := {implicitDefEqProofs := false, proj := false}) only [k0_pay87, addf_up2, mulf_up2, cast_self, cast_1_row, sum_rows_k]
  refine up2_congr fun r hr j hj => ?_
  obtain rfl : r = 0 := by omega
  rfl

theorem t_pay88 (S : ℕ → ℕ → ℝ) : k0_pay88 (F := Ideal) (up2 (n := 256) (m := 1024) (bk b a.xh)) (up2 (n := 256) (m := 1024) (bk b a.dxs)) (up2 (n := 1) (m := 1024) (bk 4 S)) = up2 (n := 1) (m := 1024) (bk 4 (acc2 a.vf b S)) := by
  simp (config := {implicitDefEqProofs := false, proj := false}) only [k0_pay88, addf_up2, mulf_up2, cast_self, cast_1_row, sum_rows_k]
  refine up2_congr fun r hr j hj => ?_
  obtain rfl : r = 0 := by omega
  rfl

theorem t_pay89 (S : ℕ → ℕ → ℝ) : k0_pay89 (F := Ideal) (up2 (n := 256) (m := 1024) (bk b a.er)) (up2 (n := 1) (m := 1024) (bk 5 S)) = up2 (n := 1) (m := 1024) (bk 5 (acc2 a.vf b S)) := by
  simp (config := {implicitDefEqProofs := false, proj := false}) only [k0_pay89, addf_up2, mulf_up2, cast_self, cast_1_row, sum_rows_k]
  refine up2_congr fun r hr j hj => ?_
  obtain rfl : r = 0 := by omega
  rfl

end Cert.Proof.Ffn
-- ==== Proof.FfnStepA.lean ====
/-
  STEPS: what a grid point leaves in the outputs 9, 10, 11.
-/
module

public import proofs.«01_k».proof.Proof.FfnPrep
public import proofs.«01_k».proof.Proof.FfnTileB
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.Kernel2Ideal Cert.Kernel2Ideal.Gen
open scoped BigOperators

namespace Cert.Proof.Ffn

variable {m : (ℓ : Loc nD τ sig) → Buf (Elt Ideal) ℓ} {c : Dev nD} {a : Arr} (H : Ins m c a) (t : Fin cfg0.N)
include H

set_option maxHeartbeats 4000000 in
theorem step9A (h0 : t.val % 8 = 0) : (outsAt0 m c t.val t.isLt).2.1 = up2 (n := 256) (m := 1024) (bk (lo t.val) a.h) := by
  rw [outsAt0_A m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay2 a (lo t.val), t_pay3 a (lo t.val), t_pay4 a (lo t.val), t_pay5 a (lo t.val)]

set_option maxHeartbeats 4000000 in
theorem step9B (h0 : ¬t.val % 8 = 0) : (outsAt0 m c t.val t.isLt).2.1 = up2 (n := 256) (m := 1024) (bk (lo t.val) a.h) := by
  rw [outsAt0_B m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay2 a (lo t.val), t_pay3 a (lo t.val), t_pay4 a (lo t.val), t_pay5 a (lo t.val)]

set_option maxHeartbeats 4000000 in
theorem step10A (h0 : t.val % 8 = 0) : (outsAt0 m c t.val t.isLt).2.2.1 = up2 (n := 256) (m := 1024) (bk (lo t.val) a.df) := by
  rw [outsAt0_A m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay1, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val), t_pay36 a (lo t.val), t_pay37 a (lo t.val), t_pay38 a (lo t.val), t_pay39 a (lo t.val), t_pay40 a (lo t.val), t_pay41 a (lo t.val), t_pay42 a (lo t.val)]

set_option maxHeartbeats 4000000 in
theorem step10B (h0 : ¬t.val % 8 = 0) : (outsAt0 m c t.val t.isLt).2.2.1 = up2 (n := 256) (m := 1024) (bk (lo t.val) a.df) := by
  rw [outsAt0_B m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay1, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val), t_pay36 a (lo t.val), t_pay37 a (lo t.val), t_pay38 a (lo t.val), t_pay39 a (lo t.val), t_pay40 a (lo t.val), t_pay41 a (lo t.val), t_pay42 a (lo t.val)]

set_option maxHeartbeats 4000000 in
theorem step11A (h0 : t.val % 8 = 0) : (outsAt0 m c t.val t.isLt).2.2.2.1 = up3 (l := 4) (n := 256) (m := 704) (G3 (lo t.val) a.act) := by
  rw [outsAt0_A m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val)]

set_option maxHeartbeats 4000000 in
theorem step11B (h0 : ¬t.val % 8 = 0) : (outsAt0 m c t.val t.isLt).2.2.2.1 = up3 (l := 4) (n := 256) (m := 704) (G3 (lo t.val) a.act) := by
  rw [outsAt0_B m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val)]

end Cert.Proof.Ffn
-- ==== Proof.FfnStepB.lean ====
/-
  STEPS: what a grid point leaves in the outputs 12, 13.
-/
module

public import proofs.«01_k».proof.Proof.FfnPrep
public import proofs.«01_k».proof.Proof.FfnTileB
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.Kernel2Ideal Cert.Kernel2Ideal.Gen
open scoped BigOperators

namespace Cert.Proof.Ffn

variable {m : (ℓ : Loc nD τ sig) → Buf (Elt Ideal) ℓ} {c : Dev nD} {a : Arr} (H : Ins m c a) (t : Fin cfg0.N)
include H

set_option maxHeartbeats 4000000 in
theorem step12A (h0 : t.val % 8 = 0) : (outsAt0 m c t.val t.isLt).2.2.2.2.1 = up3 (l := 4) (n := 256) (m := 704) (G3 (lo t.val) a.dg) := by
  rw [outsAt0_A m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val), t_pay36 a (lo t.val), t_pay37 a (lo t.val), t_pay38 a (lo t.val), t_pay39 a (lo t.val), t_pay40 a (lo t.val), t_pay41 a (lo t.val), t_pay42 a (lo t.val), t_pay43, t_pay44 a (lo t.val), t_pay45 a (lo t.val), t_pay46 a (lo t.val), t_pay47 a (lo t.val), t_pay48 a (lo t.val), t_pay49 a (lo t.val), t_pay50 a (lo t.val), t_pay51 a (lo t.val), t_pay52 a (lo t.val), t_pay53 a (lo t.val), t_pay54 a (lo t.val), t_pay55 a (lo t.val), t_pay56 a (lo t.val), t_pay57 a (lo t.val), t_pay58, t_pay59 a (lo t.val), t_pay60 a (lo t.val), t_pay61 a (lo t.val), t_pay62 a (lo t.val), t_pay63 a (lo t.val), t_pay64 a (lo t.val), t_pay65 a (lo t.val), t_pay66 a (lo t.val), t_pay67 a (lo t.val), t_pay68 a (lo t.val), t_pay69 a (lo t.val), t_pay70 a (lo t.val), t_pay71 a (lo t.val), t_pay72 a (lo t.val), t_pay73 a (lo t.val), t_pay74 a (lo t.val), t_pay75 a (lo t.val), t_pay76 a (lo t.val), t_pay77 a (lo t.val), t_pay78 a (lo t.val), t_pay79 a (lo t.val), t_pay80 a, t_pay81 a (lo t.val), t_pay82 a (lo t.val)]

set_option maxHeartbeats 4000000 in
theorem step12B (h0 : ¬t.val % 8 = 0) : (outsAt0 m c t.val t.isLt).2.2.2.2.1 = up3 (l := 4) (n := 256) (m := 704) (G3 (lo t.val) a.dg) := by
  rw [outsAt0_B m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val), t_pay36 a (lo t.val), t_pay37 a (lo t.val), t_pay38 a (lo t.val), t_pay39 a (lo t.val), t_pay40 a (lo t.val), t_pay41 a (lo t.val), t_pay42 a (lo t.val), t_pay43, t_pay44 a (lo t.val), t_pay45 a (lo t.val), t_pay46 a (lo t.val), t_pay47 a (lo t.val), t_pay48 a (lo t.val), t_pay49 a (lo t.val), t_pay50 a (lo t.val), t_pay51 a (lo t.val), t_pay52 a (lo t.val), t_pay53 a (lo t.val), t_pay54 a (lo t.val), t_pay55 a (lo t.val), t_pay56 a (lo t.val), t_pay57 a (lo t.val), t_pay58, t_pay59 a (lo t.val), t_pay60 a (lo t.val), t_pay61 a (lo t.val), t_pay62 a (lo t.val), t_pay63 a (lo t.val), t_pay64 a (lo t.val), t_pay65 a (lo t.val), t_pay66 a (lo t.val), t_pay67 a (lo t.val), t_pay68 a (lo t.val), t_pay69 a (lo t.val), t_pay70 a (lo t.val), t_pay71 a (lo t.val), t_pay72 a (lo t.val), t_pay73 a (lo t.val), t_pay74 a (lo t.val), t_pay75 a (lo t.val), t_pay76 a (lo t.val), t_pay77 a (lo t.val), t_pay78 a (lo t.val), t_pay79 a (lo t.val), t_pay80 a, t_pay81 a (lo t.val), t_pay82 a (lo t.val)]

set_option maxHeartbeats 4000000 in
theorem step13A (h0 : t.val % 8 = 0) : (outsAt0 m c t.val t.isLt).2.2.2.2.2.1 = up3 (l := 4) (n := 256) (m := 704) (G3 (lo t.val) a.du) := by
  rw [outsAt0_A m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val), t_pay36 a (lo t.val), t_pay37 a (lo t.val), t_pay38 a (lo t.val), t_pay39 a (lo t.val), t_pay40 a (lo t.val), t_pay41 a (lo t.val), t_pay42 a (lo t.val), t_pay43, t_pay44 a (lo t.val), t_pay45 a (lo t.val), t_pay46 a (lo t.val), t_pay47 a (lo t.val), t_pay48 a (lo t.val), t_pay49 a (lo t.val), t_pay50 a (lo t.val), t_pay51 a (lo t.val), t_pay52 a (lo t.val), t_pay53 a (lo t.val), t_pay54 a (lo t.val), t_pay55 a (lo t.val), t_pay56 a (lo t.val), t_pay57 a (lo t.val), t_pay58, t_pay59 a (lo t.val), t_pay60 a (lo t.val), t_pay61 a (lo t.val), t_pay62 a (lo t.val), t_pay63 a (lo t.val), t_pay64 a (lo t.val), t_pay65 a (lo t.val), t_pay66 a (lo t.val), t_pay67 a (lo t.val), t_pay68 a (lo t.val), t_pay69 a (lo t.val), t_pay70 a (lo t.val), t_pay71 a (lo t.val), t_pay72 a (lo t.val), t_pay73 a (lo t.val), t_pay74 a (lo t.val), t_pay75 a (lo t.val), t_pay76 a (lo t.val), t_pay77 a (lo t.val), t_pay78 a (lo t.val), t_pay79 a (lo t.val), t_pay80 a, t_pay81 a (lo t.val), t_pay82 a (lo t.val)]

set_option maxHeartbeats 4000000 in
theorem step13B (h0 : ¬t.val % 8 = 0) : (outsAt0 m c t.val t.isLt).2.2.2.2.2.1 = up3 (l := 4) (n := 256) (m := 704) (G3 (lo t.val) a.du) := by
  rw [outsAt0_B m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val), t_pay36 a (lo t.val), t_pay37 a (lo t.val), t_pay38 a (lo t.val), t_pay39 a (lo t.val), t_pay40 a (lo t.val), t_pay41 a (lo t.val), t_pay42 a (lo t.val), t_pay43, t_pay44 a (lo t.val), t_pay45 a (lo t.val), t_pay46 a (lo t.val), t_pay47 a (lo t.val), t_pay48 a (lo t.val), t_pay49 a (lo t.val), t_pay50 a (lo t.val), t_pay51 a (lo t.val), t_pay52 a (lo t.val), t_pay53 a (lo t.val), t_pay54 a (lo t.val), t_pay55 a (lo t.val), t_pay56 a (lo t.val), t_pay57 a (lo t.val), t_pay58, t_pay59 a (lo t.val), t_pay60 a (lo t.val), t_pay61 a (lo t.val), t_pay62 a (lo t.val), t_pay63 a (lo t.val), t_pay64 a (lo t.val), t_pay65 a (lo t.val), t_pay66 a (lo t.val), t_pay67 a (lo t.val), t_pay68 a (lo t.val), t_pay69 a (lo t.val), t_pay70 a (lo t.val), t_pay71 a (lo t.val), t_pay72 a (lo t.val), t_pay73 a (lo t.val), t_pay74 a (lo t.val), t_pay75 a (lo t.val), t_pay76 a (lo t.val), t_pay77 a (lo t.val), t_pay78 a (lo t.val), t_pay79 a (lo t.val), t_pay80 a, t_pay81 a (lo t.val), t_pay82 a (lo t.val)]

end Cert.Proof.Ffn
-- ==== Proof.FfnStepC.lean ====
/-
  STEPS: what a grid point leaves in the outputs 8.
-/
module

public import proofs.«01_k».proof.Proof.FfnPrep
public import proofs.«01_k».proof.Proof.FfnTileB
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.Kernel2Ideal Cert.Kernel2Ideal.Gen
open scoped BigOperators

namespace Cert.Proof.Ffn

variable {m : (ℓ : Loc nD τ sig) → Buf (Elt Ideal) ℓ} {c : Dev nD} {a : Arr} (H : Ins m c a) (t : Fin cfg0.N)
include H

set_option maxHeartbeats 4000000 in
theorem step8A (h0 : t.val % 8 = 0) : (outsAt0 m c t.val t.isLt).1 = up2 (n := 256) (m := 1024) (bk (lo t.val) a.dx) := by
  rw [outsAt0_A m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay1, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val), t_pay36 a (lo t.val), t_pay37 a (lo t.val), t_pay38 a (lo t.val), t_pay39 a (lo t.val), t_pay40 a (lo t.val), t_pay41 a (lo t.val), t_pay42 a (lo t.val), t_pay43, t_pay44 a (lo t.val), t_pay45 a (lo t.val), t_pay46 a (lo t.val), t_pay47 a (lo t.val), t_pay48 a (lo t.val), t_pay49 a (lo t.val), t_pay50 a (lo t.val), t_pay51 a (lo t.val), t_pay52 a (lo t.val), t_pay53 a (lo t.val), t_pay54 a (lo t.val), t_pay55 a (lo t.val), t_pay56 a (lo t.val), t_pay57 a (lo t.val), t_pay58, t_pay59 a (lo t.val), t_pay60 a (lo t.val), t_pay61 a (lo t.val), t_pay62 a (lo t.val), t_pay63 a (lo t.val), t_pay64 a (lo t.val), t_pay65 a (lo t.val), t_pay66 a (lo t.val), t_pay67 a (lo t.val), t_pay68 a (lo t.val), t_pay69 a (lo t.val), t_pay70 a (lo t.val), t_pay71 a (lo t.val), t_pay72 a (lo t.val), t_pay73 a (lo t.val), t_pay74 a (lo t.val), t_pay75 a (lo t.val), t_pay76 a (lo t.val), t_pay77 a (lo t.val), t_pay78 a (lo t.val), t_pay79 a (lo t.val), t_pay80 a, t_pay81 a (lo t.val), t_pay82 a (lo t.val), t_pay83 a (lo t.val)]

set_option maxHeartbeats 4000000 in
theorem step8B (h0 : ¬t.val % 8 = 0) : (outsAt0 m c t.val t.isLt).1 = up2 (n := 256) (m := 1024) (bk (lo t.val) a.dx) := by
  rw [outsAt0_B m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay1, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val), t_pay36 a (lo t.val), t_pay37 a (lo t.val), t_pay38 a (lo t.val), t_pay39 a (lo t.val), t_pay40 a (lo t.val), t_pay41 a (lo t.val), t_pay42 a (lo t.val), t_pay43, t_pay44 a (lo t.val), t_pay45 a (lo t.val), t_pay46 a (lo t.val), t_pay47 a (lo t.val), t_pay48 a (lo t.val), t_pay49 a (lo t.val), t_pay50 a (lo t.val), t_pay51 a (lo t.val), t_pay52 a (lo t.val), t_pay53 a (lo t.val), t_pay54 a (lo t.val), t_pay55 a (lo t.val), t_pay56 a (lo t.val), t_pay57 a (lo t.val), t_pay58, t_pay59 a (lo t.val), t_pay60 a (lo t.val), t_pay61 a (lo t.val), t_pay62 a (lo t.val), t_pay63 a (lo t.val), t_pay64 a (lo t.val), t_pay65 a (lo t.val), t_pay66 a (lo t.val), t_pay67 a (lo t.val), t_pay68 a (lo t.val), t_pay69 a (lo t.val), t_pay70 a (lo t.val), t_pay71 a (lo t.val), t_pay72 a (lo t.val), t_pay73 a (lo t.val), t_pay74 a (lo t.val), t_pay75 a (lo t.val), t_pay76 a (lo t.val), t_pay77 a (lo t.val), t_pay78 a (lo t.val), t_pay79 a (lo t.val), t_pay80 a, t_pay81 a (lo t.val), t_pay82 a (lo t.val), t_pay83 a (lo t.val)]

end Cert.Proof.Ffn
-- ==== Proof.FfnStepD.lean ====
/-
  STEPS: what a grid point leaves in the outputs 14.
-/
module

public import proofs.«01_k».proof.Proof.FfnPrep
public import proofs.«01_k».proof.Proof.FfnTileB
public import Idealize.ShloMosaic.Lib.Pipeline.ValueKit
public import Idealize.ShloMosaic.Lib.Pipeline.ReadBack

@[expose] public section

set_option maxRecDepth 16384

noncomputable section

open Idealize.ShloMosaic Idealize.ShloMosaic.TcCoe Cert.Kernel2Ideal Cert.Kernel2Ideal.Gen
open scoped BigOperators

namespace Cert.Proof.Ffn

variable {m : (ℓ : Loc nD τ sig) → Buf (Elt Ideal) ℓ} {c : Dev nD} {a : Arr} (H : Ins m c a) (t : Fin cfg0.N)
include H

set_option maxHeartbeats 4000000 in
theorem step14A (h0 : t.val % 8 = 0) : (outsAt0 m c t.val t.isLt).2.2.2.2.2.2 = up2 (n := 8) (m := 1024) (acc2 a.vf (lo t.val) zr) := by
  rw [outsAt0_A m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay1, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val), t_pay36 a (lo t.val), t_pay37 a (lo t.val), t_pay38 a (lo t.val), t_pay39 a (lo t.val), t_pay40 a (lo t.val), t_pay41 a (lo t.val), t_pay42 a (lo t.val), t_pay43, t_pay44 a (lo t.val), t_pay45 a (lo t.val), t_pay46 a (lo t.val), t_pay47 a (lo t.val), t_pay48 a (lo t.val), t_pay49 a (lo t.val), t_pay50 a (lo t.val), t_pay51 a (lo t.val), t_pay52 a (lo t.val), t_pay53 a (lo t.val), t_pay54 a (lo t.val), t_pay55 a (lo t.val), t_pay56 a (lo t.val), t_pay57 a (lo t.val), t_pay58, t_pay59 a (lo t.val), t_pay60 a (lo t.val), t_pay61 a (lo t.val), t_pay62 a (lo t.val), t_pay63 a (lo t.val), t_pay64 a (lo t.val), t_pay65 a (lo t.val), t_pay66 a (lo t.val), t_pay67 a (lo t.val), t_pay68 a (lo t.val), t_pay69 a (lo t.val), t_pay70 a (lo t.val), t_pay71 a (lo t.val), t_pay72 a (lo t.val), t_pay73 a (lo t.val), t_pay74 a (lo t.val), t_pay75 a (lo t.val), t_pay76 a (lo t.val), t_pay77 a (lo t.val), t_pay78 a (lo t.val), t_pay79 a (lo t.val), t_pay80 a, t_pay81 a (lo t.val), t_pay82 a (lo t.val), t_pay83 a (lo t.val), t_pay84 a (lo t.val), t_pay85 a (lo t.val), t_pay86 a (lo t.val), t_pay87 a (lo t.val), t_pay88 a (lo t.val), t_pay89 a (lo t.val), ↓skip_row, fill_whole]
  refine holds_all (n := 8) (q := 1024) (k := 6) (K := 6) (le_refl 6) ?_
  refine canon_row (n := 8) (q := 1024) (k := 5) (K := 6) _ ?_
  refine canon_row (n := 8) (q := 1024) (k := 4) (K := 6) _ ?_
  refine canon_row (n := 8) (q := 1024) (k := 3) (K := 6) _ ?_
  refine canon_row (n := 8) (q := 1024) (k := 2) (K := 6) _ ?_
  refine canon_row (n := 8) (q := 1024) (k := 1) (K := 6) _ ?_
  refine canon_row0 (n := 8) (q := 1024) (K := 6) _ ?_
  exact canon_fill (hF a _ _) _

set_option maxHeartbeats 4000000 in
theorem step14B (h0 : ¬t.val % 8 = 0) (hp : t.val - 1 < cfg0.N) (S : ℕ → ℕ → ℝ) (qs : (outsAt0 m c (t.val - 1) hp).2.2.2.2.2.2 = up2 (n := 8) (m := 1024) S) : (outsAt0 m c t.val t.isLt).2.2.2.2.2.2 = up2 (n := 8) (m := 1024) (acc2 a.vf (lo t.val) S) := by
  rw [outsAt0_B m c t h0]
  frame_out
  simp (config := {implicitDefEqProofs := false, proj := false}) only [ib0 H t, ib1 H t, ib2 H t, ib3 H t, ib4 H t, ib5 H t, ib6 H t, ib7 H t, ld_up2, ld_up3, ld_up3b, cl_zero, bk_zero, ↓cov_ld, ↓cov_ldb, slabs_f, slabs_b, Nat.reduceAdd, Nat.add_zero, Nat.reduceLeDiff, le_refl, t_pay1, t_pay2 a (lo t.val), t_pay3 a (lo t.val), t_pay4 a (lo t.val), t_pay5 a (lo t.val), t_pay6, t_pay7 a, t_pay8 a (lo t.val), t_pay9 a (lo t.val), t_pay10 a (lo t.val), t_pay11 a (lo t.val), t_pay12 a (lo t.val), t_pay13 a (lo t.val), t_pay14 a (lo t.val), t_pay15 a (lo t.val), t_pay16 a (lo t.val), t_pay17 a (lo t.val), t_pay18 a (lo t.val), t_pay19 a (lo t.val), t_pay20 a (lo t.val), t_pay21 a (lo t.val), t_pay22 a (lo t.val), t_pay23 a (lo t.val), t_pay24 a (lo t.val), t_pay25 a (lo t.val), t_pay26 a (lo t.val), t_pay27 a (lo t.val), t_pay28 a (lo t.val), t_pay29 a (lo t.val), t_pay30 a (lo t.val), t_pay31 a (lo t.val), t_pay32 a (lo t.val), t_pay33 a (lo t.val), t_pay34 a (lo t.val), t_pay35 a (lo t.val), t_pay36 a (lo t.val), t_pay37 a (lo t.val), t_pay38 a (lo t.val), t_pay39 a (lo t.val), t_pay40 a (lo t.val), t_pay41 a (lo t.val), t_pay42 a (lo t.val), t_pay43, t_pay44 a (lo t.val), t_pay45 a (lo t.val), t_pay46 a (lo t.val), t_pay47 a (lo t.val), t_pay48 a (lo t.val), t_pay49 a (lo t.val), t_pay50 a (lo t.val), t_pay51 a (lo t.val), t_pay52 a (lo t.val), t_pay53 a (lo t.val), t_pay54 a (lo t.val), t_pay55 a (lo t.val), t_pay56 a (lo t.val), t_pay57 a (lo t.val), t_pay58, t_pay59 a (lo t.val), t_pay60 a (lo t.val), t_pay61 a (lo t.val), t_pay62 a (lo t.val), t_pay63 a (lo t.val), t_pay64 a (lo t.val), t_pay65 a (lo t.val), t_pay66 a (lo t.val), t_pay67 a (lo t.val), t_pay68 a (lo t.val), t_pay69 a (lo t.val), t_pay70 a (lo t.val), t_pay71 a (lo t.val), t_pay72 a (lo t.val), t_pay73 a (lo t.val), t_pay74 a (lo t.val), t_pay75 a (lo t.val), t_pay76 a (lo t.val), t_pay77 a (lo t.val), t_pay78 a (lo t.val), t_pay79 a (lo t.val), t_pay80 a, t_pay81 a (lo t.val), t_pay82 a (lo t.val), t_pay83 a (lo t.val), t_pay84 a (lo t.val), t_pay85 a (lo t.val), t_pay86 a (lo t.val), t_pay87 a (lo t.val), t_pay88 a (lo t.val), t_pay89 a (lo t.val), qs]
  refine holds_all (n := 8) (q := 1024) (k := 6) (K := 6) (le_refl 6) ?_
  refine store_row (n := 8) (q := 1024) (k := 5) (K := 6) _ ?_
  refine store_row (n := 8) (q := 1024) (k := 4) (K := 6) _ ?_
  refine store_row (n := 8) (q := 1024) (k := 3) (K := 6) _ ?_
  refine store_row (n := 8) (q := 1024) (k := 2) (K := 6) _ ?_
  refine store_row (n := 8) (q := 1024) (k := 1) (K := 6) _ ?_
  refine store_row0 (n := 8) (q := 1024) (K := 6) _ ?_
  exact store_base (hF a _ _) (Memref.IsWhole.read_unread _ _)

end Cert.Proof.Ffn
-- ==== Proof.FfnArrays.lean ====
/-
  ARRAYS: the results of the second call after its last point.
-/
module

public import proofs.«01_k».proof.Proof.FfnStepA
public import proofs.«01_k».proof.Proof.FfnStepB
public import proofs.«01_k».proof.Proof.FfnStepC
public import proofs.«01_k».proof.Proof.FfnStepD

@[expose] public section

set_option maxRecDepth 16384

noncomputable section

open Idealize.ShloMosaic Idealize.ShloMosaic.TcCoe Cert.Kernel2Ideal Cert.Kernel2Ideal.Gen
open scoped BigOperators

namespace Cert.Proof.Ffn

variable {m : (ℓ : Loc nD τ sig) → Buf (Elt Ideal) ℓ} {c : Dev nD} {a : Arr}

theorem tile8 (H : Ins m c a) (t : Fin cfg0.N) : (outsAt0 m c t.val t.isLt).1 = up2 (n := 256) (m := 1024) (bk (lo t.val) a.dx) := by
  by_cases h0 : t.val % 8 = 0
  · exact step8A H t h0
  · exact step8B H t h0

theorem tile9 (H : Ins m c a) (t : Fin cfg0.N) : (outsAt0 m c t.val t.isLt).2.1 = up2 (n := 256) (m := 1024) (bk (lo t.val) a.h) := by
  by_cases h0 : t.val % 8 = 0
  · exact step9A H t h0
  · exact step9B H t h0

theorem tile10 (H : Ins m c a) (t : Fin cfg0.N) : (outsAt0 m c t.val t.isLt).2.2.1 = up2 (n := 256) (m := 1024) (bk (lo t.val) a.df) := by
  by_cases h0 : t.val % 8 = 0
  · exact step10A H t h0
  · exact step10B H t h0

theorem tile11 (H : Ins m c a) (t : Fin cfg0.N) : (outsAt0 m c t.val t.isLt).2.2.2.1 = up3 (l := 4) (n := 256) (m := 704) (G3 (lo t.val) a.act) := by
  by_cases h0 : t.val % 8 = 0
  · exact step11A H t h0
  · exact step11B H t h0

theorem tile12 (H : Ins m c a) (t : Fin cfg0.N) : (outsAt0 m c t.val t.isLt).2.2.2.2.1 = up3 (l := 4) (n := 256) (m := 704) (G3 (lo t.val) a.dg) := by
  by_cases h0 : t.val % 8 = 0
  · exact step12A H t h0
  · exact step12B H t h0

theorem tile13 (H : Ins m c a) (t : Fin cfg0.N) : (outsAt0 m c t.val t.isLt).2.2.2.2.2.1 = up3 (l := 4) (n := 256) (m := 704) (G3 (lo t.val) a.du) := by
  by_cases h0 : t.val % 8 = 0
  · exact step13A H t h0
  · exact step13B H t h0

theorem tot14 (H : Ins m c a) (t : ℕ) (ht : t < cfg0.N) : (outsAt0 m c t ht).2.2.2.2.2.2 = up2 (n := 8) (m := 1024) (tot a.vf (lo t + 256)) := by
  induction t with
  | zero =>
    have e := step14A H ⟨0, ht⟩ rfl
    rw [show lo (⟨0, ht⟩ : Fin cfg0.N).val = 0 from rfl, acc2_zr a.vf] at e
    exact e
  | succ s ih =>
    have hp : s < cfg0.N := Nat.lt_of_succ_lt ht
    have h8 : s + 1 < 8 := tlt ⟨s + 1, ht⟩
    obtain ⟨t, et⟩ : ∃ t : Fin cfg0.N, t = ⟨s + 1, ht⟩ := ⟨_, rfl⟩
    have ev : t.val = s + 1 := congrArg Fin.val et
    have h0 : ¬t.val % 8 = 0 := by omega
    have hs : t.val - 1 = s := by omega
    have hp : t.val - 1 < cfg0.N := by omega
    have e := step14B H t h0 hp (tot a.vf (lo t.val)) (by
      rw [show lo t.val = lo s + 256 by unfold lo; omega]
      simp only [hs]
      exact ih _)
    rw [acc2_tot a.vf] at e
    subst et
    exact e

theorem ix8 : ∀ t : Fin cfg0.N, (cfg0.win 8).index t = ![t.val, 0] := by decide +kernel
theorem out8 (H : Ins m c a) : (dats m 0 c).arrAt 8 cfg0.N = up2 (n := 2048) (m := 1024) a.dx := by
  refine (dats m 0 c).arrAt_eq_of_covers 8 _ (by decide +kernel) fun t hf y => ?_
  have e0 := congrFun (ix8 t) 0
  have e1 := congrFun (ix8 t) 1
  blk_simp
  rw [after0_8, tile8 H t]
  blk_simp [up2, bk, lo]
  refine congrArg _ (congrArg₂ a.dx ?_ ?_)
  · rw [show win0_8.index t 0 = t.val from e0, Nat.mul_comm]
  · rw [show win0_8.index t 1 = 0 from e1, Nat.zero_mul, Nat.zero_add]

theorem ix9 : ∀ t : Fin cfg0.N, (cfg0.win 9).index t = ![t.val, 0] := by decide +kernel
theorem out9 (H : Ins m c a) : (dats m 0 c).arrAt 9 cfg0.N = up2 (n := 2048) (m := 1024) a.h := by
  refine (dats m 0 c).arrAt_eq_of_covers 9 _ (by decide +kernel) fun t hf y => ?_
  have e0 := congrFun (ix9 t) 0
  have e1 := congrFun (ix9 t) 1
  blk_simp
  rw [after0_9, tile9 H t]
  blk_simp [up2, bk, lo]
  refine congrArg _ (congrArg₂ a.h ?_ ?_)
  · rw [show win0_9.index t 0 = t.val from e0, Nat.mul_comm]
  · rw [show win0_9.index t 1 = 0 from e1, Nat.zero_mul, Nat.zero_add]

theorem ix10 : ∀ t : Fin cfg0.N, (cfg0.win 10).index t = ![t.val, 0] := by decide +kernel
theorem out10 (H : Ins m c a) : (dats m 0 c).arrAt 10 cfg0.N = up2 (n := 2048) (m := 1024) a.df := by
  refine (dats m 0 c).arrAt_eq_of_covers 10 _ (by decide +kernel) fun t hf y => ?_
  have e0 := congrFun (ix10 t) 0
  have e1 := congrFun (ix10 t) 1
  blk_simp
  rw [after0_10, tile10 H t]
  blk_simp [up2, bk, lo]
  refine congrArg _ (congrArg₂ a.df ?_ ?_)
  · rw [show win0_10.index t 0 = t.val from e0, Nat.mul_comm]
  · rw [show win0_10.index t 1 = 0 from e1, Nat.zero_mul, Nat.zero_add]

theorem ix11 : ∀ t : Fin cfg0.N, (cfg0.win 11).index t = ![0, t.val, 0] := by decide +kernel
theorem out11 (H : Ins m c a) : (dats m 0 c).arrAt 11 cfg0.N = up3 (l := 4) (n := 2048) (m := 704) (fun g t i => a.act t (g * 704 + i)) := by
  refine (dats m 0 c).arrAt_eq_of_covers 11 _ (by decide +kernel) fun t hf y => ?_
  have e0 := congrFun (ix11 t) 0
  have e1 := congrFun (ix11 t) 1
  have e2 := congrFun (ix11 t) 2
  blk_simp
  rw [after0_11, tile11 H t]
  blk_simp [up3, G3, lo]
  refine congrArg _ (congrArg₂ a.act ?_ ?_)
  · rw [show win0_11.index t 1 = t.val from e1, Nat.mul_comm]
  · rw [show win0_11.index t 0 = 0 from e0, show win0_11.index t 2 = 0 from e2]
    omega

theorem ix12 : ∀ t : Fin cfg0.N, (cfg0.win 12).index t = ![0, t.val, 0] := by decide +kernel
theorem out12 (H : Ins m c a) : (dats m 0 c).arrAt 12 cfg0.N = up3 (l := 4) (n := 2048) (m := 704) (fun g t i => a.dg t (g * 704 + i)) := by
  refine (dats m 0 c).arrAt_eq_of_covers 12 _ (by decide +kernel) fun t hf y => ?_
  have e0 := congrFun (ix12 t) 0
  have e1 := congrFun (ix12 t) 1
  have e2 := congrFun (ix12 t) 2
  blk_simp
  rw [after0_12, tile12 H t]
  blk_simp [up3, G3, lo]
  refine congrArg _ (congrArg₂ a.dg ?_ ?_)
  · rw [show win0_12.index t 1 = t.val from e1, Nat.mul_comm]
  · rw [show win0_12.index t 0 = 0 from e0, show win0_12.index t 2 = 0 from e2]
    omega

theorem ix13 : ∀ t : Fin cfg0.N, (cfg0.win 13).index t = ![0, t.val, 0] := by decide +kernel
theorem out13 (H : Ins m c a) : (dats m 0 c).arrAt 13 cfg0.N = up3 (l := 4) (n := 2048) (m := 704) (fun g t i => a.du t (g * 704 + i)) := by
  refine (dats m 0 c).arrAt_eq_of_covers 13 _ (by decide +kernel) fun t hf y => ?_
  have e0 := congrFun (ix13 t) 0
  have e1 := congrFun (ix13 t) 1
  have e2 := congrFun (ix13 t) 2
  blk_simp
  rw [after0_13, tile13 H t]
  blk_simp [up3, G3, lo]
  refine congrArg _ (congrArg₂ a.du ?_ ?_)
  · rw [show win0_13.index t 1 = t.val from e1, Nat.mul_comm]
  · rw [show win0_13.index t 0 = 0 from e0, show win0_13.index t 2 = 0 from e2]
    omega

theorem out14 (H : Ins m c a) : (dats m 0 c).arrAt 14 cfg0.N = up2 (n := 8) (m := 1024) a.vc := by
  refine (dats m 0 c).arrAt_eq_of_after_last 14 t0_7 (by decide +kernel) _ fun j => ?_
  blk_simp
  rw [after0_14]
  have e := tot14 H t0_7.val t0_7.isLt
  rw [show lo t0_7.val + 256 = 2048 from rfl, all14] at e
  exact congrFun e j

end Cert.Proof.Ffn
-- ==== Proof.FfnInputs.lean ====
/-
  INPUTS: what the host leaves for the kernel, from the real arguments.
-/
module

public import proofs.«01_k».proof.Proof.FfnPrep
public import Idealize.ShloMosaic.Lib.StableHlo.RunRead

@[expose] public section

set_option maxRecDepth 16384

noncomputable section

open Idealize.ShloMosaic Idealize.ShloMosaic.TcCoe Cert.Kernel2Ideal Cert.Kernel2Ideal.Gen
open scoped BigOperators

namespace Cert.Proof.Ffn

variable {m : (ℓ : Loc nD τ sig) → Buf (Elt Ideal) ℓ} {c : Dev nD} {a : Arr}

/-- Rows cut into groups. -/
theorem cast_slabs {N g n m : ℕ} (hN : N = g * n) (A : ℕ → ℕ → ℝ) (h : (⟨2, ![N, m]⟩ : Shape).ShapeCasts ⟨3, ![g, n, m]⟩) :
    shapeCast ⟨3, ![g, n, m]⟩ (up2 A) h = up3 fun q i j => A (q * n + i) j := by
  funext j
  have h0 : (j 0).val < g := (j 0).isLt
  have h1 : (j 1).val < n := (j 1).isLt
  have hlt : (j 0).val * n + (j 1).val < N := by
    rw [hN]
    calc (j 0).val * n + (j 1).val < (j 0).val * n + n := by omega
      _ = ((j 0).val + 1) * n := by ring
      _ ≤ g * n := Nat.mul_le_mul_right _ h0
  refine (shapeCast_apply (up2 A) h j (ValueIdx.ix2 ⟨(j 0).val * n + (j 1).val, hlt⟩ ⟨(j 2).val, (j 2).isLt⟩) ?_).trans rfl
  rw [Shape.rowMajor_val_two, Shape.rowMajor_val_three]
  rfl

/-- The eight arguments are the real arrays. -/
structure Args (m : (ℓ : Loc nD τ sig) → Buf (Elt Ideal) ℓ) (c : Dev nD) (a : Arr) : Prop where
  g0 : m ((c : Thread nD τ).loc main_arg0) = up2 (n := 2048) (m := 1024) a.x
  g1 : m ((c : Thread nD τ).loc main_arg1) = up2 (n := 2048) (m := 1024) a.tgt
  g2 : m ((c : Thread nD τ).loc main_arg2) = up2 (n := 6) (m := 1024) a.md
  g3 : m ((c : Thread nD τ).loc main_arg3) = up2 (n := 1) (m := 1024) a.g2
  g4 : m ((c : Thread nD τ).loc main_arg4) = up2 (n := 1) (m := 1024) a.gf
  g5 : m ((c : Thread nD τ).loc main_arg5) = up2 (n := 1024) (m := 2816) a.wg
  g6 : m ((c : Thread nD τ).loc main_arg6) = up2 (n := 1024) (m := 2816) a.wu
  g7 : m ((c : Thread nD τ).loc main_arg7) = up2 (n := 2816) (m := 1024) a.wd

section
variable (m c)
theorem V_line (b : Ref sig .tc) : V m c b = StableHlo.after hostOps0 (fun b => m (c, b)) b := by
  unfold V
  simp only [List.flatten_cons, List.flatten_nil, List.append_nil]
theorem host_arg0 : V m c main_arg0 = m ((c : Thread nD τ).loc main_arg0) := by
  rw [V_line]
  after_reads_simp
theorem host_arg1 : V m c main_arg1 = m ((c : Thread nD τ).loc main_arg1) := by
  rw [V_line]
  after_reads_simp
theorem host_arg2 : V m c main_arg2 = m ((c : Thread nD τ).loc main_arg2) := by
  rw [V_line]
  after_reads_simp
theorem host_arg3 : V m c main_arg3 = m ((c : Thread nD τ).loc main_arg3) := by
  rw [V_line]
  after_reads_simp
theorem host_arg4 : V m c main_arg4 = m ((c : Thread nD τ).loc main_arg4) := by
  rw [V_line]
  after_reads_simp
theorem host_v2 : V m c main_v2 = shapeCast S4x704x1024 (truncf (F := Ideal) .bf16 (transpose S2816x1024 [1, 0] (m ((c : Thread nD τ).loc main_arg5)) transposes_S1024x2816_S2816x1024_1_0) bitsLt_bf16_f32) shapeCasts_S2816x1024_S4x704x1024 := by
  rw [V_line]
  after_reads_simp
  rfl
theorem host_v5 : V m c main_v5 = shapeCast S4x704x1024 (truncf (F := Ideal) .bf16 (transpose S2816x1024 [1, 0] (m ((c : Thread nD τ).loc main_arg6)) transposes_S1024x2816_S2816x1024_1_0) bitsLt_bf16_f32) shapeCasts_S2816x1024_S4x704x1024 := by
  rw [V_line]
  after_reads_simp
  rfl
theorem host_v7 : V m c main_v7 = shapeCast S4x704x1024 (truncf (F := Ideal) .bf16 (m ((c : Thread nD τ).loc main_arg7)) bitsLt_bf16_f32) shapeCasts_S2816x1024_S4x704x1024 := by
  rw [V_line]
  after_reads_simp
  rfl
end

theorem ins_of (G : Args m c a) : Ins m c a where
  h0 := (host_arg0 m c).trans G.g0
  h1 := (host_arg1 m c).trans G.g1
  h2 := (host_arg2 m c).trans G.g2
  h3 := (host_arg3 m c).trans G.g3
  h4 := (host_arg4 m c).trans G.g4
  h5 := (host_v2 m c).trans (by rw [G.g5]; exact cast_slabs (N := 2816) (g := 4) (n := 704) (m := 1024) rfl (fun i j => a.wg j i) _)
  h6 := (host_v5 m c).trans (by rw [G.g6]; exact cast_slabs (N := 2816) (g := 4) (n := 704) (m := 1024) rfl (fun i j => a.wu j i) _)
  h7 := (host_v7 m c).trans (by rw [G.g7]; exact cast_slabs (N := 2816) (g := 4) (n := 704) (m := 1024) rfl a.wd _)

end Cert.Proof.Ffn
-- ==== Proof.FfnResults.lean ====
/-
  RESULTS: the seven results of the second reference's run, and of the second kernel's, as the model's arrays.
-/
module

public import proofs.«01_k».proof.Proof.FfnRefB
public import proofs.«01_k».proof.Proof.FfnArrays
public import proofs.«01_k».proof.Proof.FfnInputs
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem
open scoped BigOperators

namespace Cert.Proof.Ffn

/-- The reference's arguments are the real arrays. -/
structure RArgs (m : (ℓ : Loc Cert.Reference2Ideal.nD Cert.Reference2Ideal.τ Cert.Reference2Ideal.sig) → Buf (Elt Ideal) ℓ) (c : Dev Cert.Reference2Ideal.nD) (a : Arr) : Prop where
  g0 : m ((c.tc : Thread Cert.Reference2Ideal.nD Cert.Reference2Ideal.τ).loc Cert.Reference2Ideal.main_arg0) = up2 (n := 2048) (m := 1024) a.x
  g1 : m ((c.tc : Thread Cert.Reference2Ideal.nD Cert.Reference2Ideal.τ).loc Cert.Reference2Ideal.main_arg1) = up2 (n := 2048) (m := 1024) a.tgt
  g2 : m ((c.tc : Thread Cert.Reference2Ideal.nD Cert.Reference2Ideal.τ).loc Cert.Reference2Ideal.main_arg2) = up2 (n := 6) (m := 1024) a.md
  g3 : m ((c.tc : Thread Cert.Reference2Ideal.nD Cert.Reference2Ideal.τ).loc Cert.Reference2Ideal.main_arg3) = up2 (n := 1) (m := 1024) a.g2
  g4 : m ((c.tc : Thread Cert.Reference2Ideal.nD Cert.Reference2Ideal.τ).loc Cert.Reference2Ideal.main_arg4) = up2 (n := 1) (m := 1024) a.gf
  g5 : m ((c.tc : Thread Cert.Reference2Ideal.nD Cert.Reference2Ideal.τ).loc Cert.Reference2Ideal.main_arg5) = up2 (n := 1024) (m := 2816) a.wg
  g6 : m ((c.tc : Thread Cert.Reference2Ideal.nD Cert.Reference2Ideal.τ).loc Cert.Reference2Ideal.main_arg6) = up2 (n := 1024) (m := 2816) a.wu
  g7 : m ((c.tc : Thread Cert.Reference2Ideal.nD Cert.Reference2Ideal.τ).loc Cert.Reference2Ideal.main_arg7) = up2 (n := 2816) (m := 1024) a.wd

section
variable {m : (ℓ : Loc Cert.Reference2Ideal.nD Cert.Reference2Ideal.τ Cert.Reference2Ideal.sig) → Buf (Elt Ideal) ℓ} {c : Dev Cert.Reference2Ideal.nD} {a : Arr} (G : RArgs m c a)
include G
theorem at0 : (StableHlo.launchContents m c (Proc.devRef .tc Cert.Reference2Ideal.main_arg0)) = up2 (n := 2048) (m := 1024) a.x := G.g0
theorem at1 : (StableHlo.launchContents m c (Proc.devRef .tc Cert.Reference2Ideal.main_arg1)) = up2 (n := 2048) (m := 1024) a.tgt := G.g1
theorem at2 : (StableHlo.launchContents m c (Proc.devRef .tc Cert.Reference2Ideal.main_arg2)) = up2 (n := 6) (m := 1024) a.md := G.g2
theorem at3 : (StableHlo.launchContents m c (Proc.devRef .tc Cert.Reference2Ideal.main_arg3)) = up2 (n := 1) (m := 1024) a.g2 := G.g3
theorem at4 : (StableHlo.launchContents m c (Proc.devRef .tc Cert.Reference2Ideal.main_arg4)) = up2 (n := 1) (m := 1024) a.gf := G.g4
theorem at5 : (StableHlo.launchContents m c (Proc.devRef .tc Cert.Reference2Ideal.main_arg5)) = up2 (n := 1024) (m := 2816) a.wg := G.g5
theorem at6 : (StableHlo.launchContents m c (Proc.devRef .tc Cert.Reference2Ideal.main_arg6)) = up2 (n := 1024) (m := 2816) a.wu := G.g6
theorem at7 : (StableHlo.launchContents m c (Proc.devRef .tc Cert.Reference2Ideal.main_arg7)) = up2 (n := 2816) (m := 1024) a.wd := G.g7
theorem res_dx : Cert.Reference2Ideal.Read.val_main_v125 (F := Ideal) (StableHlo.launchContents m c (Proc.devRef .tc Cert.Reference2Ideal.main_arg0)) (StableHlo.launchContents m c (Proc.devRef .tc Cert.Reference2Ideal.main_arg1)) (StableHlo.launchContents m c (Proc.devRef .tc Cert.Reference2Ideal.main_arg2)) (StableHlo.launchContents m c (Proc.devRef .tc Cert.Reference2Ideal.main_arg3)) (StableHlo.launchContents m c (Proc.devRef .tc Cert.Reference2Ideal.main_arg4)) (StableHlo.launchContents m c (Proc.devRef .tc Cert.Reference2Ideal.main_arg5)) (StableHlo.launchContents m c (Proc.devRef .tc Cert.Reference2Ideal.main_arg6)) (StableHlo.launchContents m c (Proc.devRef .tc Cert.Reference2Ideal.main_arg7)) = (up2 (n := 2048) (m := 1024) a.dx) := by
  rw [at0 G, at1 G, at2 G, at3 G, at4 G, at5 G, at6 G, at7 G]
  exact ref_v125 a
theorem res_h : Cert.Reference2Ideal.Read.val_main_v126 (F := Ideal) (StableHlo.launchContents m c (Proc.devRef .tc Cert.Reference2Ideal.main_arg0)) (StableHlo.launchContents m c (Proc.devRef .tc Cert.Reference2Ideal.main_arg2)) (StableHlo.launchContents m c (Proc.devRef .tc Cert.Reference2Ideal.main_arg3)) = (up2 (n := 2048) (m := 1024) a.h) := by
  rw [at0 G, at2 G, at3 G]
  exact ref_v126 a
theorem res_df : Cert.Reference2Ideal.Read.val_main_v127 (F := Ideal) (StableHlo.launchContents m c (Proc.devRef .tc Cert.Reference2Ideal.main_arg0)) (StableHlo.launchContents m c (Proc.devRef .tc Cert.Reference2Ideal.main_arg1)) (StableHlo.launchContents m c (Proc.devRef .tc Cert.Reference2Ideal.main_arg2)) (StableHlo.launchContents m c (Proc.devRef .tc Cert.Reference2Ideal.main_arg3)) (StableHlo.launchContents m c (Proc.devRef .tc Cert.Reference2Ideal.main_arg4)) (StableHlo.launchContents m c (Proc.devRef .tc Cert.Reference2Ideal.main_arg5)) (StableHlo.launchContents m c (Proc.devRef .tc Cert.Reference2Ideal.main_arg6)) (StableHlo.launchContents m c (Proc.devRef .tc Cert.Reference2Ideal.main_arg7)) = (up2 (n := 2048) (m := 1024) a.df) := by
  rw [at0 G, at1 G, at2 G, at3 G, at4 G, at5 G, at6 G, at7 G]
  exact ref_v127 a
theorem res_act : Cert.Reference2Ideal.Read.val_main_v130 (F := Ideal) (StableHlo.launchContents m c (Proc.devRef .tc Cert.Reference2Ideal.main_arg0)) (StableHlo.launchContents m c (Proc.devRef .tc Cert.Reference2Ideal.main_arg2)) (StableHlo.launchContents m c (Proc.devRef .tc Cert.Reference2Ideal.main_arg3)) (StableHlo.launchContents m c (Proc.devRef .tc Cert.Reference2Ideal.main_arg5)) (StableHlo.launchContents m c (Proc.devRef .tc Cert.Reference2Ideal.main_arg6)) = (up3 (l := 4) (n := 2048) (m := 704) fun g t i => a.act t (g * 704 + i)) := by
  rw [at0 G, at2 G, at3 G, at5 G, at6 G]
  exact ref_v130 a
theorem res_dg : Cert.Reference2Ideal.Read.val_main_v133 (F := Ideal) (StableHlo.launchContents m c (Proc.devRef .tc Cert.Reference2Ideal.main_arg0)) (StableHlo.launchContents m c (Proc.devRef .tc Cert.Reference2Ideal.main_arg1)) (StableHlo.launchContents m c (Proc.devRef .tc Cert.Reference2Ideal.main_arg2)) (StableHlo.launchContents m c (Proc.devRef .tc Cert.Reference2Ideal.main_arg3)) (StableHlo.launchContents m c (Proc.devRef .tc Cert.Reference2Ideal.main_arg4)) (StableHlo.launchContents m c (Proc.devRef .tc Cert.Reference2Ideal.main_arg5)) (StableHlo.launchContents m c (Proc.devRef .tc Cert.Reference2Ideal.main_arg6)) (StableHlo.launchContents m c (Proc.devRef .tc Cert.Reference2Ideal.main_arg7)) = (up3 (l := 4) (n := 2048) (m := 704) fun g t i => a.dg t (g * 704 + i)) := by
  rw [at0 G, at1 G, at2 G, at3 G, at4 G, at5 G, at6 G, at7 G]
  exact ref_v133 a
theorem res_du : Cert.Reference2Ideal.Read.val_main_v136 (F := Ideal) (StableHlo.launchContents m c (Proc.devRef .tc Cert.Reference2Ideal.main_arg0)) (StableHlo.launchContents m c (Proc.devRef .tc Cert.Reference2Ideal.main_arg1)) (StableHlo.launchContents m c (Proc.devRef .tc Cert.Reference2Ideal.main_arg2)) (StableHlo.launchContents m c (Proc.devRef .tc Cert.Reference2Ideal.main_arg3)) (StableHlo.launchContents m c (Proc.devRef .tc Cert.Reference2Ideal.main_arg4)) (StableHlo.launchContents m c (Proc.devRef .tc Cert.Reference2Ideal.main_arg5)) (StableHlo.launchContents m c (Proc.devRef .tc Cert.Reference2Ideal.main_arg6)) (StableHlo.launchContents m c (Proc.devRef .tc Cert.Reference2Ideal.main_arg7)) = (up3 (l := 4) (n := 2048) (m := 704) fun g t i => a.du t (g * 704 + i)) := by
  rw [at0 G, at1 G, at2 G, at3 G, at4 G, at5 G, at6 G, at7 G]
  exact ref_v136 a
theorem res_vc : Cert.Reference2Ideal.Read.val_main_v124 (F := Ideal) (StableHlo.launchContents m c (Proc.devRef .tc Cert.Reference2Ideal.main_arg0)) (StableHlo.launchContents m c (Proc.devRef .tc Cert.Reference2Ideal.main_arg1)) (StableHlo.launchContents m c (Proc.devRef .tc Cert.Reference2Ideal.main_arg2)) (StableHlo.launchContents m c (Proc.devRef .tc Cert.Reference2Ideal.main_arg3)) (StableHlo.launchContents m c (Proc.devRef .tc Cert.Reference2Ideal.main_arg4)) (StableHlo.launchContents m c (Proc.devRef .tc Cert.Reference2Ideal.main_arg5)) (StableHlo.launchContents m c (Proc.devRef .tc Cert.Reference2Ideal.main_arg6)) (StableHlo.launchContents m c (Proc.devRef .tc Cert.Reference2Ideal.main_arg7)) = (up2 (n := 8) (m := 1024) a.vc) := by
  rw [at0 G, at1 G, at2 G, at3 G, at4 G, at5 G, at6 G, at7 G]
  exact ref_v124 a
end

/-- The reference's run ends with the model's arrays. -/
theorem ref_run (m : (ℓ : Loc Cert.Reference2Ideal.nD Cert.Reference2Ideal.τ Cert.Reference2Ideal.sig) → Buf (Elt Ideal) ℓ) (ρ : Dev Cert.Reference2Ideal.nD → PrngReg) (f : Dev Cert.Reference2Ideal.nD → Arr) (hf : ∀ c, RArgs m c (f c)) :
    θ_run (Cert.Reference2Ideal.defs (F := Ideal)) (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v125) = (up2 (n := 2048) (m := 1024) (f c).dx)
      ∧ r.2.mem ((c.tc : Thread Cert.Reference2Ideal.nD Cert.Reference2Ideal.τ).loc Cert.Reference2Ideal.main_v126) = (up2 (n := 2048) (m := 1024) (f c).h)
      ∧ r.2.mem ((c.tc : Thread Cert.Reference2Ideal.nD Cert.Reference2Ideal.τ).loc Cert.Reference2Ideal.main_v127) = (up2 (n := 2048) (m := 1024) (f c).df)
      ∧ r.2.mem ((c.tc : Thread Cert.Reference2Ideal.nD Cert.Reference2Ideal.τ).loc Cert.Reference2Ideal.main_v130) = (up3 (l := 4) (n := 2048) (m := 704) fun g t i => (f c).act t (g * 704 + i))
      ∧ r.2.mem ((c.tc : Thread Cert.Reference2Ideal.nD Cert.Reference2Ideal.τ).loc Cert.Reference2Ideal.main_v133) = (up3 (l := 4) (n := 2048) (m := 704) fun g t i => (f c).dg t (g * 704 + i))
      ∧ r.2.mem ((c.tc : Thread Cert.Reference2Ideal.nD Cert.Reference2Ideal.τ).loc Cert.Reference2Ideal.main_v136) = (up3 (l := 4) (n := 2048) (m := 704) fun g t i => (f c).du t (g * 704 + i))
      ∧ r.2.mem ((c.tc : Thread Cert.Reference2Ideal.nD Cert.Reference2Ideal.τ).loc Cert.Reference2Ideal.main_v124) = (up2 (n := 8) (m := 1024) (f c).vc)
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7) := by
  refine (θ_run Cert.Reference2Ideal.defs _ _).mono (fun r h c => ?_) (Cert.Reference2Ideal.Value.run (F := Ideal) m ρ)
  obtain ⟨h0, h1, h2, h3, h4, h5, h6, hr⟩ := h c
  exact ⟨(h0.trans (Cert.Reference2Ideal.Read.val_main_v125_eq (StableHlo.launchContents m c))).trans (res_dx (hf c)), (h1.trans (Cert.Reference2Ideal.Read.val_main_v126_eq (StableHlo.launchContents m c))).trans (res_h (hf c)), (h2.trans (Cert.Reference2Ideal.Read.val_main_v127_eq (StableHlo.launchContents m c))).trans (res_df (hf c)), (h3.trans (Cert.Reference2Ideal.Read.val_main_v130_eq (StableHlo.launchContents m c))).trans (res_act (hf c)), (h4.trans (Cert.Reference2Ideal.Read.val_main_v133_eq (StableHlo.launchContents m c))).trans (res_dg (hf c)), (h5.trans (Cert.Reference2Ideal.Read.val_main_v136_eq (StableHlo.launchContents m c))).trans (res_du (hf c)), (h6.trans (Cert.Reference2Ideal.Read.val_main_v124_eq (StableHlo.launchContents m c))).trans (res_vc (hf c)), hr⟩

/-- The kernel's run ends with the model's arrays. -/
theorem ker_run (m : (ℓ : Loc Cert.Kernel2Ideal.nD Cert.Kernel2Ideal.τ Cert.Kernel2Ideal.sig) → Buf (Elt Ideal) ℓ) (ρ : Dev Cert.Kernel2Ideal.nD → PrngReg) (f : Dev Cert.Kernel2Ideal.nD → Arr) (hf : ∀ c, Args m c (f c)) :
    θ_run (Cert.Kernel2Ideal.defs (F := Ideal)) (onTc (τ := Cert.Kernel2Ideal.τ) (Cert.Kernel2Ideal.main (F := Ideal))) ⟨m, fun _ => 0, ρ⟩ fun r => ∀ c : Dev Cert.Kernel2Ideal.nD,
      r.2.mem ((c.tc : Thread Cert.Kernel2Ideal.nD Cert.Kernel2Ideal.τ).loc Cert.Kernel2Ideal.main_v8_0) = (up2 (n := 2048) (m := 1024) (f c).dx)
      ∧ r.2.mem ((c.tc : Thread Cert.Kernel2Ideal.nD Cert.Kernel2Ideal.τ).loc Cert.Kernel2Ideal.main_v8_1) = (up2 (n := 2048) (m := 1024) (f c).h)
      ∧ r.2.mem ((c.tc : Thread Cert.Kernel2Ideal.nD Cert.Kernel2Ideal.τ).loc Cert.Kernel2Ideal.main_v8_2) = (up2 (n := 2048) (m := 1024) (f c).df)
      ∧ r.2.mem ((c.tc : Thread Cert.Kernel2Ideal.nD Cert.Kernel2Ideal.τ).loc Cert.Kernel2Ideal.main_v8_3) = (up3 (l := 4) (n := 2048) (m := 704) fun g t i => (f c).act t (g * 704 + i))
      ∧ r.2.mem ((c.tc : Thread Cert.Kernel2Ideal.nD Cert.Kernel2Ideal.τ).loc Cert.Kernel2Ideal.main_v8_4) = (up3 (l := 4) (n := 2048) (m := 704) fun g t i => (f c).dg t (g * 704 + i))
      ∧ r.2.mem ((c.tc : Thread Cert.Kernel2Ideal.nD Cert.Kernel2Ideal.τ).loc Cert.Kernel2Ideal.main_v8_5) = (up3 (l := 4) (n := 2048) (m := 704) fun g t i => (f c).du t (g * 704 + i))
      ∧ r.2.mem ((c.tc : Thread Cert.Kernel2Ideal.nD Cert.Kernel2Ideal.τ).loc Cert.Kernel2Ideal.main_v8_6) = (up2 (n := 8) (m := 1024) (f c).vc)
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7) := by
  refine (θ_run Cert.Kernel2Ideal.defs _ _).mono (fun r h c => ?_) (Cert.Kernel2Ideal.Value.run_blocks (F := Ideal) m ρ)
  obtain ⟨h0, h1, h2, h3, h4, h5, h6, hr⟩ := h c
  have H := ins_of (hf c)
  exact ⟨h0.trans (out8 H), h1.trans (out9 H), h2.trans (out10 H), h3.trans (out11 H), h4.trans (out12 H), h5.trans (out13 H), h6.trans (out14 H), hr⟩

end Cert.Proof.Ffn
-- ==== Proof.FfnFinite.lean ====
/-
  THE SECOND CALL'S PRECONDITION: every entry of every argument is a number.
-/
module

public import proofs.«01_k».proof.Proof.Finite
public import proofs.«01_k».proof.Proof.FfnModel
public import proofs.«01_k».proof.Pre_finite2

@[expose] public section

set_option maxRecDepth 16384

noncomputable section

open Idealize.ShloMosaic Cert.Pre_finite2
open scoped BigOperators

namespace Cert.Proof.Ffn

/-- The side conditions of the precondition's operations, each decided. -/
theorem pre_facts2 : Cert.Pre_finite2.Facts where
  bcast_S_S2048x1024 := by decide
  reducesTo_S2048x1024_S_d0_1 := by decide
  h_S_ := by decide
  bcast_S_S6x1024 := by decide
  reducesTo_S6x1024_S_d0_1 := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide

theorem real_of2 {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, (r : EReal) = x i := real_of x hb hr hu j e i

/-- The precondition gives the eight arguments as real arrays. -/
theorem arrays_of [Cert.Pre_finite2.Facts] (x0 : FVec Ideal S2048x1024 .f32) (x1 : FVec Ideal S2048x1024 .f32) (x2 : FVec Ideal S6x1024 .f32) (x3 : FVec Ideal S1x1024 .f32) (x4 : FVec Ideal S1x1024 .f32) (x5 : FVec Ideal S1024x2816 .f32) (x6 : FVec Ideal S1024x2816 .f32) (x7 : FVec Ideal S2816x1024 .f32)
    (h : Cert.Pre_finite2.fn (F := Ideal) x0 x1 x2 x3 x4 x5 x6 x7 = fun _ => 1#1) :
    ∃ a : Arr, x0 = up2 (n := 2048) (m := 1024) a.x ∧ x1 = up2 (n := 2048) (m := 1024) a.tgt ∧ x2 = up2 (n := 6) (m := 1024) a.md ∧ x3 = up2 (n := 1) (m := 1024) a.g2 ∧ x4 = up2 (n := 1) (m := 1024) a.gf ∧ x5 = up2 (n := 1024) (m := 2816) a.wg ∧ x6 = up2 (n := 1024) (m := 2816) a.wu ∧ x7 = up2 (n := 2816) (m := 1024) a.wd := by
  have e := congrFun h (Shape.Idx.first Facts.h_S_)
  unfold fn fn_part1 fn_part2 at e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e, e1⟩ := both e
  obtain ⟨a0, q0⟩ := real2 _ (real_of2 x0 _ _ _ _ e)
  obtain ⟨a1, q1⟩ := real2 _ (real_of2 x1 _ _ _ _ e1)
  obtain ⟨a2, q2⟩ := real2 _ (real_of2 x2 _ _ _ _ e2)
  obtain ⟨a3, q3⟩ := real2 _ (real_of2 x3 _ _ _ _ e3)
  obtain ⟨a4, q4⟩ := real2 _ (real_of2 x4 _ _ _ _ e4)
  obtain ⟨a5, q5⟩ := real2 _ (real_of2 x5 _ _ _ _ e5)
  obtain ⟨a6, q6⟩ := real2 _ (real_of2 x6 _ _ _ _ e6)
  obtain ⟨a7, q7⟩ := real2 _ (real_of2 x7 _ _ _ _ e7)
  exact ⟨⟨a0, a1, a2, a3, a4, a5, a6, a7⟩, q0, q1, q2, q3, q4, q5, q6, q7⟩

end Cert.Proof.Ffn
-- ==== Proof.lean ====
/-
  The certificate of two grid calls of a training step: the backward pass of a mixing layer, and the feed-forward
  layer with the loss, forward and backward.

  * the frames of the kernel and of its reading in exact arithmetic are the generated ones;
  * the reference is a straight line of host operations, its frame is its run;
  * the value claim: both runs end with the arrays of one real model (Proof/Model.lean). Proof/RefA … RefE read the
    reference's operations as that model; Proof/Host and Proof/Inputs read the host operations before the kernel;
    Proof/TileA … TileC read the kernel's payloads on a tile of rows; Proof/StepS … StepW put them together for one
    point of the grid; Proof/Points goes over the points and Proof/Arrays reads the arrays left at the end.
  * the second call (Kernel2, Reference2) is proved the same way in the modules Proof/Ffn…: one real model
    (FfnModel), the reference as it (FfnRefA, FfnRefB), the payloads (FfnTileA, FfnTileB), the points (FfnStep…),
    the arrays at the end (FfnArrays).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Results
public import proofs.«01_k».proof.Proof.Finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.FfnResults
public import proofs.«01_k».proof.Proof.FfnFinite
public import Idealize.ShloMosaic.Adequacy
public import Idealize.ShloMosaic.Init

@[expose] public section

set_option maxRecDepth 16384

noncomputable section

namespace Cert.Proof

open Idealize.ShloMosaic Idealize.SL.Sem

theorem frame_k : Cert.quiescent_Kernel (hKernel := Cert.Kernel.Gen.facts) := fun m ρ _ => Cert.Kernel.Gen.frame m ρ

theorem frame_ki : Cert.quiescent_KernelIdeal (hKernelIdeal := Cert.KernelIdeal.Gen.facts) := fun m ρ _ => Cert.KernelIdeal.Gen.frame m ρ

theorem frame_kip : Cert.quiescent_KernelIdeal_pre_finite (hKernelIdeal := Cert.KernelIdeal.Gen.facts) (hPre_finite := pre_facts) :=
  fun m ρ _ => Cert.KernelIdeal.Gen.frame m ρ

/-- The reference's run, its arguments unchanged; it declares no semaphore. -/
theorem frame_ri : Cert.quiescent_ReferenceIdeal (hReferenceIdeal := Cert.ReferenceIdeal.Gen.facts) := fun m ρ _ =>
  (θ_run Cert.ReferenceIdeal.defs _ _).mono (fun r h => And.intro (fun c => (h c).2.2.2.2.2.2.2.2.2)
      (Idealize.ShloMosaic.sem_eq_zero_of_no_sems (by decide) r.2))
    (Cert.ReferenceIdeal.Value.run (F := Ideal) m ρ)

theorem frame_rip : Cert.quiescent_ReferenceIdeal_pre_finite (hReferenceIdeal := Cert.ReferenceIdeal.Gen.facts) (hPre_finite := pre_facts) :=
  fun m ρ _ => frame_ri m ρ trivial

/-- In exact arithmetic, on arrays of real numbers, the kernel's nine results are the reference's. -/
theorem value : Cert.algebraic_KernelIdeal_ReferenceIdeal_pre_finite (hKernelIdeal := Cert.KernelIdeal.Gen.facts)
    (hReferenceIdeal := Cert.ReferenceIdeal.Gen.facts) (hPre_finite := pre_facts) := by
  intro m ρ m' ρ' hpre hag
  haveI := pre_facts
  have hE := fun c => arrays_of _ _ _ _ _ _ _ _ _ _ _ _ _ (hpre c)
  choose f fq using hE
  have hk : ∀ c, Args m c (f c) := fun c => by
    obtain ⟨q0, q1, q2, q3, q4, q5, q6, q7, q8, q9, q10, q11, q12⟩ := fq c
    exact ⟨q0, q1, q2, q3, q4, q5, q6, q7, q8, q9, q10, q11, q12⟩
  have hr : ∀ c, RArgs m' c (f c) := fun c => by
    obtain ⟨q0, q1, q2, q3, q4, q5, q6, q7, q8, q9, q10, q11, q12⟩ := fq c
    obtain ⟨e0, e1, e2, e3, e4, e5, e6, e7, e8, e9, e10, e11, e12⟩ := hag c
    exact ⟨e0.trans q0, e1.trans q1, e2.trans q2, e3.trans q3, e4.trans q4, e5.trans q5, e6.trans q6, e7.trans q7, e8.trans q8, e9.trans q9, e10.trans q10, e11.trans q11, e12.trans q12⟩
  exact ⟨fun c => up2 (n := 2048) (m := 1024) (f c).gx, fun c => up2 (n := 2048) (m := 1024) (f c).h, fun c => up2 (n := 2048) (m := 1536) (f c).du, fun c => up2 (n := 2048) (m := 1024) (f c).dy, fun c => up2 (n := 512) (m := 512) (f c).gpw, fun c => up3 (l := 4) (n := 128) (m := 128) (f c).gwg, fun c => up2 (n := 8) (m := 1024) (f c).vd, fun c => up2 (n := 8) (m := 512) (f c).vc, fun c => up2 (n := 32) (m := 512) (f c).ddw, ker_run m ρ f hk, ref_run m' ρ' f hr⟩

/-! ## the second call -/

theorem frame_k2 : Cert.quiescent_Kernel2 (hKernel2 := Cert.Kernel2.Gen.facts) := fun m ρ _ => Cert.Kernel2.Gen.frame m ρ

theorem frame_ki2 : Cert.quiescent_Kernel2Ideal (hKernel2Ideal := Cert.Kernel2Ideal.Gen.facts) := fun m ρ _ => Cert.Kernel2Ideal.Gen.frame m ρ

theorem frame_kip2 : Cert.quiescent_Kernel2Ideal_pre_finite2 (hKernel2Ideal := Cert.Kernel2Ideal.Gen.facts) (hPre_finite2 := Ffn.pre_facts2) :=
  fun m ρ _ => Cert.Kernel2Ideal.Gen.frame m ρ

theorem frame_ri2 : Cert.quiescent_Reference2Ideal (hReference2Ideal := Cert.Reference2Ideal.Gen.facts) := fun m ρ _ =>
  (θ_run Cert.Reference2Ideal.defs _ _).mono (fun r h => And.intro (fun c => (h c).2.2.2.2.2.2.2)
      (Idealize.ShloMosaic.sem_eq_zero_of_no_sems (by decide) r.2))
    (Cert.Reference2Ideal.Value.run (F := Ideal) m ρ)

theorem frame_rip2 : Cert.quiescent_Reference2Ideal_pre_finite2 (hReference2Ideal := Cert.Reference2Ideal.Gen.facts) (hPre_finite2 := Ffn.pre_facts2) :=
  fun m ρ _ => frame_ri2 m ρ trivial

/-- In exact arithmetic, on arrays of real numbers, the second kernel's seven results are the second reference's. -/
theorem value2 : Cert.algebraic_Kernel2Ideal_Reference2Ideal_pre_finite2 (hKernel2Ideal := Cert.Kernel2Ideal.Gen.facts)
    (hReference2Ideal := Cert.Reference2Ideal.Gen.facts) (hPre_finite2 := Ffn.pre_facts2) := by
  intro m ρ m' ρ' hpre hag
  haveI := Ffn.pre_facts2
  have hE := fun c => Ffn.arrays_of _ _ _ _ _ _ _ _ (hpre c)
  choose f fq using hE
  have hk : ∀ c, Ffn.Args m c (f c) := fun c => by
    obtain ⟨q0, q1, q2, q3, q4, q5, q6, q7⟩ := fq c
    exact ⟨q0, q1, q2, q3, q4, q5, q6, q7⟩
  have hr : ∀ c, Ffn.RArgs m' c (f c) := fun c => by
    obtain ⟨q0, q1, q2, q3, q4, q5, q6, q7⟩ := fq c
    obtain ⟨e0, e1, e2, e3, e4, e5, e6, e7⟩ := hag c
    exact ⟨e0.trans q0, e1.trans q1, e2.trans q2, e3.trans q3, e4.trans q4, e5.trans q5, e6.trans q6, e7.trans q7⟩
  exact ⟨fun c => up2 (n := 2048) (m := 1024) (f c).dx, fun c => up2 (n := 2048) (m := 1024) (f c).h, fun c => up2 (n := 2048) (m := 1024) (f c).df,
    fun c => up3 (l := 4) (n := 2048) (m := 704) fun g t i => (f c).act t (g * 704 + i), fun c => up3 (l := 4) (n := 2048) (m := 704) fun g t i => (f c).dg t (g * 704 + i),
    fun c => up3 (l := 4) (n := 2048) (m := 704) fun g t i => (f c).du t (g * 704 + i), fun c => up2 (n := 8) (m := 1024) (f c).vc, Ffn.ker_run m ρ f hk, Ffn.ref_run m' ρ' f hr⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, pre_facts, Ffn.pre_facts2,
    frame_k, frame_ki, frame_kip, frame_ri, frame_rip, frame_k2, frame_ki2, frame_kip2, frame_ri2, frame_rip2, trivial, value, trivial, value2⟩

end Cert.Proof

end
